-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemGradIdeal (m : (ℓ : Loc Cert.MemGradIdeal.nD Cert.MemGradIdeal.τ Cert.MemGradIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite [hPre_finite : Cert.Pre_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9))) = (fun _ => 1#1)

def Pre_MixGradIdeal (m : (ℓ : Loc Cert.MixGradIdeal.nD Cert.MixGradIdeal.τ Cert.MixGradIdeal.sig) → Buf (Elt Ideal) ℓ) : Prop :=
  True

def Pre_MixGradIdeal_finite [hPre_finite : Cert.Pre_finite.Facts] (m : (ℓ : Loc Cert.MixGradIdeal.nD Cert.MixGradIdeal.τ Cert.MixGradIdeal.sig) → Buf (Elt Ideal) ℓ) : Prop :=
  ∀ c : Dev Cert.MixGradIdeal.nD,
    (Cert.Pre_finite.fn (F := Ideal) (m ((c.tc : Thread Cert.MixGradIdeal.nD Cert.MixGradIdeal.τ).loc Cert.MixGradIdeal.main_arg0)) (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg2)) (m ((c.tc : Thread Cert.MixGradIdeal.nD Cert.MixGradIdeal.τ).loc Cert.MixGradIdeal.main_arg3)) (m ((c.tc : Thread Cert.MixGradIdeal.nD Cert.MixGradIdeal.τ).loc Cert.MixGradIdeal.main_arg4)) (m ((c.tc : Thread Cert.MixGradIdeal.nD Cert.MixGradIdeal.τ).loc Cert.MixGradIdeal.main_arg5)) (m ((c.tc : Thread Cert.MixGradIdeal.nD Cert.MixGradIdeal.τ).loc Cert.MixGradIdeal.main_arg6)) (m ((c.tc : Thread Cert.MixGradIdeal.nD Cert.MixGradIdeal.τ).loc Cert.MixGradIdeal.main_arg7)) (m ((c.tc : Thread Cert.MixGradIdeal.nD Cert.MixGradIdeal.τ).loc Cert.MixGradIdeal.main_arg8)) (m ((c.tc : Thread Cert.MixGradIdeal.nD Cert.MixGradIdeal.τ).loc Cert.MixGradIdeal.main_arg9))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InGradIdeal (m : (ℓ : Loc Cert.InGradIdeal.nD Cert.InGradIdeal.τ Cert.InGradIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_attn_finite [hPre_attn_finite : Cert.Pre_attn_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_attn_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13))) = (fun _ => 1#1)

def Pre_OutGradIdeal (m : (ℓ : Loc Cert.OutGradIdeal.nD Cert.OutGradIdeal.τ Cert.OutGradIdeal.sig) → Buf (Elt Ideal) ℓ) : Prop :=
  True

def Pre_OutGradIdeal_attn_finite [hPre_attn_finite : Cert.Pre_attn_finite.Facts] (m : (ℓ : Loc Cert.OutGradIdeal.nD Cert.OutGradIdeal.τ Cert.OutGradIdeal.sig) → Buf (Elt Ideal) ℓ) : Prop :=
  ∀ c : Dev Cert.OutGradIdeal.nD,
    (Cert.Pre_attn_finite.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3)) (m ((c.tc : Thread Cert.OutGradIdeal.nD Cert.OutGradIdeal.τ).loc Cert.OutGradIdeal.main_arg4)) (m ((c.tc : Thread Cert.OutGradIdeal.nD Cert.OutGradIdeal.τ).loc Cert.OutGradIdeal.main_arg5)) (m ((c.tc : Thread Cert.OutGradIdeal.nD Cert.OutGradIdeal.τ).loc Cert.OutGradIdeal.main_arg6)) (m ((c.tc : Thread Cert.OutGradIdeal.nD Cert.OutGradIdeal.τ).loc Cert.OutGradIdeal.main_arg7)) (m ((c.tc : Thread Cert.OutGradIdeal.nD Cert.OutGradIdeal.τ).loc Cert.OutGradIdeal.main_arg8)) (m ((c.tc : Thread Cert.OutGradIdeal.nD Cert.OutGradIdeal.τ).loc Cert.OutGradIdeal.main_arg9)) (m ((c.tc : Thread Cert.OutGradIdeal.nD Cert.OutGradIdeal.τ).loc Cert.OutGradIdeal.main_arg10)) (m ((c.tc : Thread Cert.OutGradIdeal.nD Cert.OutGradIdeal.τ).loc Cert.OutGradIdeal.main_arg11)) (m ((c.tc : Thread Cert.OutGradIdeal.nD Cert.OutGradIdeal.τ).loc Cert.OutGradIdeal.main_arg12)) (m ((c.tc : Thread Cert.OutGradIdeal.nD Cert.OutGradIdeal.τ).loc Cert.OutGradIdeal.main_arg13))) = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemKvIdeal (m : (ℓ : Loc Cert.MemKvIdeal.nD Cert.MemKvIdeal.τ Cert.MemKvIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InProjIdeal (m : (ℓ : Loc Cert.InProjIdeal.nD Cert.InProjIdeal.τ Cert.InProjIdeal.sig) → Buf (Elt Ideal) ℓ) : Prop :=
  True

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemGradIdeal [hMemGradIdeal : Cert.MemGradIdeal.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2)
      ∧ r.2.mem ((c.tc : Thread Cert.MemGradIdeal.nD Cert.MemGradIdeal.τ).loc Cert.MemGradIdeal.main_arg3) = m ((c.tc : Thread Cert.MemGradIdeal.nD Cert.MemGradIdeal.τ).loc Cert.MemGradIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixBwdIdeal_pre_finite [hMixBwdIdeal : Cert.MixBwdIdeal.Facts] [hPre_finite : Cert.Pre_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_MixGradIdeal_pre_finite [hMixGradIdeal : Cert.MixGradIdeal.Facts] [hPre_finite : Cert.Pre_finite.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal_finite m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ r.2.sem = fun _ => 0)

def quiescent_MixFwdIdeal_pre_attn_finite [hMixFwdIdeal : Cert.MixFwdIdeal.Facts] [hPre_attn_finite : Cert.Pre_attn_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_attn_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
      ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
      ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
      ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
      ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
      ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8)
      ∧ r.2.mem ((c.tc : Thread Cert.OutGradIdeal.nD Cert.OutGradIdeal.τ).loc Cert.OutGradIdeal.main_arg9) = m ((c.tc : Thread Cert.OutGradIdeal.nD Cert.OutGradIdeal.τ).loc Cert.OutGradIdeal.main_arg9)
      ∧ r.2.mem ((c.tc : Thread Cert.OutGradIdeal.nD Cert.OutGradIdeal.τ).loc Cert.OutGradIdeal.main_arg10) = m ((c.tc : Thread Cert.OutGradIdeal.nD Cert.OutGradIdeal.τ).loc Cert.OutGradIdeal.main_arg10)
      ∧ r.2.mem ((c.tc : Thread Cert.OutGradIdeal.nD Cert.OutGradIdeal.τ).loc Cert.OutGradIdeal.main_arg11) = m ((c.tc : Thread Cert.OutGradIdeal.nD Cert.OutGradIdeal.τ).loc Cert.OutGradIdeal.main_arg11)
      ∧ r.2.mem ((c.tc : Thread Cert.OutGradIdeal.nD Cert.OutGradIdeal.τ).loc Cert.OutGradIdeal.main_arg12) = m ((c.tc : Thread Cert.OutGradIdeal.nD Cert.OutGradIdeal.τ).loc Cert.OutGradIdeal.main_arg12)
      ∧ r.2.mem ((c.tc : Thread Cert.OutGradIdeal.nD Cert.OutGradIdeal.τ).loc Cert.OutGradIdeal.main_arg13) = m ((c.tc : Thread Cert.OutGradIdeal.nD Cert.OutGradIdeal.τ).loc Cert.OutGradIdeal.main_arg13))
      ∧ r.2.sem = fun _ => 0)

def quiescent_OutGradIdeal_pre_attn_finite [hOutGradIdeal : Cert.OutGradIdeal.Facts] [hPre_attn_finite : Cert.Pre_attn_finite.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal_attn_finite m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
      ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
      ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
      ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
      ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
      ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8)
      ∧ r.2.mem ((c.tc : Thread Cert.OutGradIdeal.nD Cert.OutGradIdeal.τ).loc Cert.OutGradIdeal.main_arg9) = m ((c.tc : Thread Cert.OutGradIdeal.nD Cert.OutGradIdeal.τ).loc Cert.OutGradIdeal.main_arg9)
      ∧ r.2.mem ((c.tc : Thread Cert.OutGradIdeal.nD Cert.OutGradIdeal.τ).loc Cert.OutGradIdeal.main_arg10) = m ((c.tc : Thread Cert.OutGradIdeal.nD Cert.OutGradIdeal.τ).loc Cert.OutGradIdeal.main_arg10)
      ∧ r.2.mem ((c.tc : Thread Cert.OutGradIdeal.nD Cert.OutGradIdeal.τ).loc Cert.OutGradIdeal.main_arg11) = m ((c.tc : Thread Cert.OutGradIdeal.nD Cert.OutGradIdeal.τ).loc Cert.OutGradIdeal.main_arg11)
      ∧ r.2.mem ((c.tc : Thread Cert.OutGradIdeal.nD Cert.OutGradIdeal.τ).loc Cert.OutGradIdeal.main_arg12) = m ((c.tc : Thread Cert.OutGradIdeal.nD Cert.OutGradIdeal.τ).loc Cert.OutGradIdeal.main_arg12)
      ∧ r.2.mem ((c.tc : Thread Cert.OutGradIdeal.nD Cert.OutGradIdeal.τ).loc Cert.OutGradIdeal.main_arg13) = m ((c.tc : Thread Cert.OutGradIdeal.nD Cert.OutGradIdeal.τ).loc Cert.OutGradIdeal.main_arg13))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def preserves_MemBwd_MemBwdIdeal : Prop :=
  True

def algebraic_MemBwdIdeal_MemGradIdeal [hMemBwdIdeal : Cert.MemBwdIdeal.Facts] [hMemGradIdeal : Cert.MemGradIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemGradIdeal.nD Cert.MemGradIdeal.τ Cert.MemGradIdeal.sig) → Buf (Elt Ideal) ℓ) (g' : Dev Cert.MemGradIdeal.nD → PrngReg), Pre_MemBwdIdeal m →
    (∀ c : Dev Cert.MemBwdIdeal.nD,
      m' ((c.tc : Thread Cert.MemGradIdeal.nD Cert.MemGradIdeal.τ).loc Cert.MemGradIdeal.main_arg0) = m ((c.tc : Thread Cert.MemBwdIdeal.nD Cert.MemBwdIdeal.τ).loc Cert.MemBwdIdeal.main_arg0)
      ∧ m' ((c.tc : Thread Cert.MemGradIdeal.nD Cert.MemGradIdeal.τ).loc Cert.MemGradIdeal.main_arg1) = m ((c.tc : Thread Cert.MemBwdIdeal.nD Cert.MemBwdIdeal.τ).loc Cert.MemBwdIdeal.main_arg1)
      ∧ m' ((c.tc : Thread Cert.MemGradIdeal.nD Cert.MemGradIdeal.τ).loc Cert.MemGradIdeal.main_arg2) = m ((c.tc : Thread Cert.MemBwdIdeal.nD Cert.MemBwdIdeal.τ).loc Cert.MemBwdIdeal.main_arg2)
      ∧ m' ((c.tc : Thread Cert.MemGradIdeal.nD Cert.MemGradIdeal.τ).loc Cert.MemGradIdeal.main_arg3) = m ((c.tc : Thread Cert.MemBwdIdeal.nD Cert.MemBwdIdeal.τ).loc Cert.MemBwdIdeal.main_arg3)) →
    ∃ (v0 : (c : Dev Cert.MemBwdIdeal.nD) → Buf (Elt Ideal) ((c.tc : Thread Cert.MemBwdIdeal.nD Cert.MemBwdIdeal.τ).loc Cert.MemBwdIdeal.main_v4_0)) (v1 : (c : Dev Cert.MemBwdIdeal.nD) → Buf (Elt Ideal) ((c.tc : Thread Cert.MemBwdIdeal.nD Cert.MemBwdIdeal.τ).loc Cert.MemBwdIdeal.main_v4_1)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v4_0) = v0 c
          ∧ r.2.mem ((c.tc : Thread Cert.MemBwdIdeal.nD Cert.MemBwdIdeal.τ).loc Cert.MemBwdIdeal.main_v4_1) = v1 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ θ_run (Cert.MemGradIdeal.defs (F := Ideal)) (onTc (τ := Cert.MemGradIdeal.τ) (Cert.MemGradIdeal.main (F := Ideal))) ⟨m', fun _ => 0, g'⟩ (fun r => ∀ c : Dev Cert.MemGradIdeal.nD,
          r.2.mem ((c.tc : Thread Cert.MemGradIdeal.nD Cert.MemGradIdeal.τ).loc Cert.MemGradIdeal.main_v17) = v0 c
          ∧ r.2.mem ((c.tc : Thread Cert.MemGradIdeal.nD Cert.MemGradIdeal.τ).loc Cert.MemGradIdeal.main_v23) = v1 c
          ∧ r.2.mem ((c.tc : Thread Cert.MemGradIdeal.nD Cert.MemGradIdeal.τ).loc Cert.MemGradIdeal.main_arg0) = m' ((c.tc : Thread Cert.MemGradIdeal.nD Cert.MemGradIdeal.τ).loc Cert.MemGradIdeal.main_arg0)
          ∧ r.2.mem ((c.tc : Thread Cert.MemGradIdeal.nD Cert.MemGradIdeal.τ).loc Cert.MemGradIdeal.main_arg1) = m' ((c.tc : Thread Cert.MemGradIdeal.nD Cert.MemGradIdeal.τ).loc Cert.MemGradIdeal.main_arg1)
          ∧ r.2.mem ((c.tc : Thread Cert.MemGradIdeal.nD Cert.MemGradIdeal.τ).loc Cert.MemGradIdeal.main_arg2) = m' ((c.tc : Thread Cert.MemGradIdeal.nD Cert.MemGradIdeal.τ).loc Cert.MemGradIdeal.main_arg2)
          ∧ r.2.mem ((c.tc : Thread Cert.MemGradIdeal.nD Cert.MemGradIdeal.τ).loc Cert.MemGradIdeal.main_arg3) = m' ((c.tc : Thread Cert.MemGradIdeal.nD Cert.MemGradIdeal.τ).loc Cert.MemGradIdeal.main_arg3))

def preserves_MixBwd_MixBwdIdeal : Prop :=
  IdealRules.named_const.Statement Cert.MixBwdIdeal.κ "gelu_a" .f32 0x3D372713#32 ((8943 / 200000 : ℝ) : EReal)
  ∧ IdealRules.named_const.Statement Cert.MixBwdIdeal.κ "gelu_3a" .f32 0x3E095D4F#32 ((26829 / 200000 : ℝ) : EReal)
  ∧ IdealRules.named_const.Statement Cert.MixBwdIdeal.κ "neg" .f32 0xF149F2CA#32 ⊥

def algebraic_MixBwdIdeal_MixGradIdeal_pre_finite [hMixBwdIdeal : Cert.MixBwdIdeal.Facts] [hMixGradIdeal : Cert.MixGradIdeal.Facts] [hPre_finite : Cert.Pre_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixBwdIdeal_finite m →
    (∀ c : Dev Cert.MixBwdIdeal.nD,
      m' ((c.tc : Thread Cert.MixGradIdeal.nD Cert.MixGradIdeal.τ).loc Cert.MixGradIdeal.main_arg0) = m ((c.tc : Thread Cert.MixBwdIdeal.nD Cert.MixBwdIdeal.τ).loc Cert.MixBwdIdeal.main_arg0)
      ∧ m' ((c.tc : Thread Cert.MixGradIdeal.nD Cert.MixGradIdeal.τ).loc Cert.MixGradIdeal.main_arg1) = m ((c.tc : Thread Cert.MixBwdIdeal.nD Cert.MixBwdIdeal.τ).loc Cert.MixBwdIdeal.main_arg1)
      ∧ m' ((c.tc : Thread Cert.MixGradIdeal.nD Cert.MixGradIdeal.τ).loc Cert.MixGradIdeal.main_arg2) = m ((c.tc : Thread Cert.MixBwdIdeal.nD Cert.MixBwdIdeal.τ).loc Cert.MixBwdIdeal.main_arg2)
      ∧ m' ((c.tc : Thread Cert.MixGradIdeal.nD Cert.MixGradIdeal.τ).loc Cert.MixGradIdeal.main_arg3) = m ((c.tc : Thread Cert.MixBwdIdeal.nD Cert.MixBwdIdeal.τ).loc Cert.MixBwdIdeal.main_arg3)
      ∧ m' ((c.tc : Thread Cert.MixGradIdeal.nD Cert.MixGradIdeal.τ).loc Cert.MixGradIdeal.main_arg4) = m ((c.tc : Thread Cert.MixBwdIdeal.nD Cert.MixBwdIdeal.τ).loc Cert.MixBwdIdeal.main_arg4)
      ∧ m' ((c.tc : Thread Cert.MixGradIdeal.nD Cert.MixGradIdeal.τ).loc Cert.MixGradIdeal.main_arg5) = m ((c.tc : Thread Cert.MixBwdIdeal.nD Cert.MixBwdIdeal.τ).loc Cert.MixBwdIdeal.main_arg5)
      ∧ m' ((c.tc : Thread Cert.MixGradIdeal.nD Cert.MixGradIdeal.τ).loc Cert.MixGradIdeal.main_arg6) = m ((c.tc : Thread Cert.MixBwdIdeal.nD Cert.MixBwdIdeal.τ).loc Cert.MixBwdIdeal.main_arg6)
      ∧ m' ((c.tc : Thread Cert.MixGradIdeal.nD Cert.MixGradIdeal.τ).loc Cert.MixGradIdeal.main_arg7) = m ((c.tc : Thread Cert.MixBwdIdeal.nD Cert.MixBwdIdeal.τ).loc Cert.MixBwdIdeal.main_arg7)
      ∧ m' ((c.tc : Thread Cert.MixGradIdeal.nD Cert.MixGradIdeal.τ).loc Cert.MixGradIdeal.main_arg8) = m ((c.tc : Thread Cert.MixBwdIdeal.nD Cert.MixBwdIdeal.τ).loc Cert.MixBwdIdeal.main_arg8)
      ∧ m' ((c.tc : Thread Cert.MixGradIdeal.nD Cert.MixGradIdeal.τ).loc Cert.MixGradIdeal.main_arg9) = m ((c.tc : Thread Cert.MixBwdIdeal.nD Cert.MixBwdIdeal.τ).loc Cert.MixBwdIdeal.main_arg9)) →
    ∃ (v0 : (c : Dev Cert.MixBwdIdeal.nD) → Buf (Elt Ideal) ((c.tc : Thread Cert.MixBwdIdeal.nD Cert.MixBwdIdeal.τ).loc Cert.MixBwdIdeal.main_v25_0)) (v1 : (c : Dev Cert.MixBwdIdeal.nD) → Buf (Elt Ideal) ((c.tc : Thread Cert.MixBwdIdeal.nD Cert.MixBwdIdeal.τ).loc Cert.MixBwdIdeal.main_v25_2)) (v2 : (c : Dev Cert.MixBwdIdeal.nD) → Buf (Elt Ideal) ((c.tc : Thread Cert.MixBwdIdeal.nD Cert.MixBwdIdeal.τ).loc Cert.MixBwdIdeal.main_v25_3)) (v3 : (c : Dev Cert.MixBwdIdeal.nD) → Buf (Elt Ideal) ((c.tc : Thread Cert.MixBwdIdeal.nD Cert.MixBwdIdeal.τ).loc Cert.MixBwdIdeal.main_v25_4)) (v4 : (c : Dev Cert.MixBwdIdeal.nD) → Buf (Elt Ideal) ((c.tc : Thread Cert.MixBwdIdeal.nD Cert.MixBwdIdeal.τ).loc Cert.MixBwdIdeal.main_v25_5)) (v5 : (c : Dev Cert.MixBwdIdeal.nD) → Buf (Elt Ideal) ((c.tc : Thread Cert.MixBwdIdeal.nD Cert.MixBwdIdeal.τ).loc Cert.MixBwdIdeal.main_v25_6)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v25_0) = v0 c
          ∧ r.2.mem ((c.tc : Thread Cert.MixBwdIdeal.nD Cert.MixBwdIdeal.τ).loc Cert.MixBwdIdeal.main_v25_2) = v1 c
          ∧ r.2.mem ((c.tc : Thread Cert.MixBwdIdeal.nD Cert.MixBwdIdeal.τ).loc Cert.MixBwdIdeal.main_v25_3) = v2 c
          ∧ r.2.mem ((c.tc : Thread Cert.MixBwdIdeal.nD Cert.MixBwdIdeal.τ).loc Cert.MixBwdIdeal.main_v25_4) = v3 c
          ∧ r.2.mem ((c.tc : Thread Cert.MixBwdIdeal.nD Cert.MixBwdIdeal.τ).loc Cert.MixBwdIdeal.main_v25_5) = v4 c
          ∧ r.2.mem ((c.tc : Thread Cert.MixBwdIdeal.nD Cert.MixBwdIdeal.τ).loc Cert.MixBwdIdeal.main_v25_6) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v405) = v0 c
          ∧ r.2.mem ((c.tc : Thread Cert.MixGradIdeal.nD Cert.MixGradIdeal.τ).loc Cert.MixGradIdeal.main_v253) = v1 c
          ∧ r.2.mem ((c.tc : Thread Cert.MixGradIdeal.nD Cert.MixGradIdeal.τ).loc Cert.MixGradIdeal.main_v406) = v2 c
          ∧ r.2.mem ((c.tc : Thread Cert.MixGradIdeal.nD Cert.MixGradIdeal.τ).loc Cert.MixGradIdeal.main_v407) = v3 c
          ∧ r.2.mem ((c.tc : Thread Cert.MixGradIdeal.nD Cert.MixGradIdeal.τ).loc Cert.MixGradIdeal.main_v377) = v4 c
          ∧ r.2.mem ((c.tc : Thread Cert.MixGradIdeal.nD Cert.MixGradIdeal.τ).loc Cert.MixGradIdeal.main_v376) = v5 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m' ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m' ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m' ((c.tc : Thread Cert.MixGradIdeal.nD Cert.MixGradIdeal.τ).loc Cert.MixGradIdeal.main_arg9))

def preserves_InBwd_InBwdIdeal : Prop :=
  True

def algebraic_InBwdIdeal_InGradIdeal [hInBwdIdeal : Cert.InBwdIdeal.Facts] [hInGradIdeal : Cert.InGradIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InGradIdeal.nD Cert.InGradIdeal.τ Cert.InGradIdeal.sig) → Buf (Elt Ideal) ℓ) (g' : Dev Cert.InGradIdeal.nD → PrngReg), Pre_InBwdIdeal m →
    (∀ c : Dev Cert.InBwdIdeal.nD,
      m' ((c.tc : Thread Cert.InGradIdeal.nD Cert.InGradIdeal.τ).loc Cert.InGradIdeal.main_arg0) = m ((c.tc : Thread Cert.InBwdIdeal.nD Cert.InBwdIdeal.τ).loc Cert.InBwdIdeal.main_arg0)
      ∧ m' ((c.tc : Thread Cert.InGradIdeal.nD Cert.InGradIdeal.τ).loc Cert.InGradIdeal.main_arg1) = m ((c.tc : Thread Cert.InBwdIdeal.nD Cert.InBwdIdeal.τ).loc Cert.InBwdIdeal.main_arg1)
      ∧ m' ((c.tc : Thread Cert.InGradIdeal.nD Cert.InGradIdeal.τ).loc Cert.InGradIdeal.main_arg2) = m ((c.tc : Thread Cert.InBwdIdeal.nD Cert.InBwdIdeal.τ).loc Cert.InBwdIdeal.main_arg2)
      ∧ m' ((c.tc : Thread Cert.InGradIdeal.nD Cert.InGradIdeal.τ).loc Cert.InGradIdeal.main_arg3) = m ((c.tc : Thread Cert.InBwdIdeal.nD Cert.InBwdIdeal.τ).loc Cert.InBwdIdeal.main_arg3)
      ∧ m' ((c.tc : Thread Cert.InGradIdeal.nD Cert.InGradIdeal.τ).loc Cert.InGradIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v10_0)) (v1 : (c : Dev Cert.InBwdIdeal.nD) → Buf (Elt Ideal) ((c.tc : Thread Cert.InBwdIdeal.nD Cert.InBwdIdeal.τ).loc Cert.InBwdIdeal.main_v10_1)) (v2 : (c : Dev Cert.InBwdIdeal.nD) → Buf (Elt Ideal) ((c.tc : Thread Cert.InBwdIdeal.nD Cert.InBwdIdeal.τ).loc Cert.InBwdIdeal.main_v10_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v10_0) = v0 c
          ∧ r.2.mem ((c.tc : Thread Cert.InBwdIdeal.nD Cert.InBwdIdeal.τ).loc Cert.InBwdIdeal.main_v10_1) = v1 c
          ∧ r.2.mem ((c.tc : Thread Cert.InBwdIdeal.nD Cert.InBwdIdeal.τ).loc Cert.InBwdIdeal.main_v10_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InGradIdeal.defs (F := Ideal)) (onTc (τ := Cert.InGradIdeal.τ) (Cert.InGradIdeal.main (F := Ideal))) ⟨m', fun _ => 0, g'⟩ (fun r => ∀ c : Dev Cert.InGradIdeal.nD,
          r.2.mem ((c.tc : Thread Cert.InGradIdeal.nD Cert.InGradIdeal.τ).loc Cert.InGradIdeal.main_v45) = v0 c
          ∧ r.2.mem ((c.tc : Thread Cert.InGradIdeal.nD Cert.InGradIdeal.τ).loc Cert.InGradIdeal.main_v47) = v1 c
          ∧ r.2.mem ((c.tc : Thread Cert.InGradIdeal.nD Cert.InGradIdeal.τ).loc Cert.InGradIdeal.main_v44) = v2 c
          ∧ r.2.mem ((c.tc : Thread Cert.InGradIdeal.nD Cert.InGradIdeal.τ).loc Cert.InGradIdeal.main_arg0) = m' ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m' ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m' ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m' ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m' ((c.tc : Thread Cert.InGradIdeal.nD Cert.InGradIdeal.τ).loc Cert.InGradIdeal.main_arg4))

def preserves_MixFwd_MixFwdIdeal : Prop :=
  IdealRules.named_const.Statement Cert.MixFwdIdeal.κ "gelu_a" .f32 0x3D372713#32 ((8943 / 200000 : ℝ) : EReal)
  ∧ IdealRules.named_const.Statement Cert.MixFwdIdeal.κ "neg" .f32 0xF149F2CA#32 ⊥

def algebraic_MixFwdIdeal_OutGradIdeal_pre_attn_finite [hMixFwdIdeal : Cert.MixFwdIdeal.Facts] [hOutGradIdeal : Cert.OutGradIdeal.Facts] [hPre_attn_finite : Cert.Pre_attn_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.OutGradIdeal.nD Cert.OutGradIdeal.τ Cert.OutGradIdeal.sig) → Buf (Elt Ideal) ℓ) (g' : Dev Cert.OutGradIdeal.nD → PrngReg), Pre_MixFwdIdeal_attn_finite m →
    (∀ c : Dev Cert.MixFwdIdeal.nD,
      m' ((c.tc : Thread Cert.OutGradIdeal.nD Cert.OutGradIdeal.τ).loc Cert.OutGradIdeal.main_arg0) = m ((c.tc : Thread Cert.MixFwdIdeal.nD Cert.MixFwdIdeal.τ).loc Cert.MixFwdIdeal.main_arg0)
      ∧ m' ((c.tc : Thread Cert.OutGradIdeal.nD Cert.OutGradIdeal.τ).loc Cert.OutGradIdeal.main_arg1) = m ((c.tc : Thread Cert.MixFwdIdeal.nD Cert.MixFwdIdeal.τ).loc Cert.MixFwdIdeal.main_arg1)
      ∧ m' ((c.tc : Thread Cert.OutGradIdeal.nD Cert.OutGradIdeal.τ).loc Cert.OutGradIdeal.main_arg2) = m ((c.tc : Thread Cert.MixFwdIdeal.nD Cert.MixFwdIdeal.τ).loc Cert.MixFwdIdeal.main_arg2)
      ∧ m' ((c.tc : Thread Cert.OutGradIdeal.nD Cert.OutGradIdeal.τ).loc Cert.OutGradIdeal.main_arg3) = m ((c.tc : Thread Cert.MixFwdIdeal.nD Cert.MixFwdIdeal.τ).loc Cert.MixFwdIdeal.main_arg3)
      ∧ m' ((c.tc : Thread Cert.OutGradIdeal.nD Cert.OutGradIdeal.τ).loc Cert.OutGradIdeal.main_arg4) = m ((c.tc : Thread Cert.MixFwdIdeal.nD Cert.MixFwdIdeal.τ).loc Cert.MixFwdIdeal.main_arg4)
      ∧ m' ((c.tc : Thread Cert.OutGradIdeal.nD Cert.OutGradIdeal.τ).loc Cert.OutGradIdeal.main_arg5) = m ((c.tc : Thread Cert.MixFwdIdeal.nD Cert.MixFwdIdeal.τ).loc Cert.MixFwdIdeal.main_arg5)
      ∧ m' ((c.tc : Thread Cert.OutGradIdeal.nD Cert.OutGradIdeal.τ).loc Cert.OutGradIdeal.main_arg6) = m ((c.tc : Thread Cert.MixFwdIdeal.nD Cert.MixFwdIdeal.τ).loc Cert.MixFwdIdeal.main_arg6)
      ∧ m' ((c.tc : Thread Cert.OutGradIdeal.nD Cert.OutGradIdeal.τ).loc Cert.OutGradIdeal.main_arg7) = m ((c.tc : Thread Cert.MixFwdIdeal.nD Cert.MixFwdIdeal.τ).loc Cert.MixFwdIdeal.main_arg7)
      ∧ m' ((c.tc : Thread Cert.OutGradIdeal.nD Cert.OutGradIdeal.τ).loc Cert.OutGradIdeal.main_arg8) = m ((c.tc : Thread Cert.MixFwdIdeal.nD Cert.MixFwdIdeal.τ).loc Cert.MixFwdIdeal.main_arg8)
      ∧ m' ((c.tc : Thread Cert.OutGradIdeal.nD Cert.OutGradIdeal.τ).loc Cert.OutGradIdeal.main_arg9) = m ((c.tc : Thread Cert.MixFwdIdeal.nD Cert.MixFwdIdeal.τ).loc Cert.MixFwdIdeal.main_arg9)
      ∧ m' ((c.tc : Thread Cert.OutGradIdeal.nD Cert.OutGradIdeal.τ).loc Cert.OutGradIdeal.main_arg10) = m ((c.tc : Thread Cert.MixFwdIdeal.nD Cert.MixFwdIdeal.τ).loc Cert.MixFwdIdeal.main_arg10)
      ∧ m' ((c.tc : Thread Cert.OutGradIdeal.nD Cert.OutGradIdeal.τ).loc Cert.OutGradIdeal.main_arg11) = m ((c.tc : Thread Cert.MixFwdIdeal.nD Cert.MixFwdIdeal.τ).loc Cert.MixFwdIdeal.main_arg11)
      ∧ m' ((c.tc : Thread Cert.OutGradIdeal.nD Cert.OutGradIdeal.τ).loc Cert.OutGradIdeal.main_arg12) = m ((c.tc : Thread Cert.MixFwdIdeal.nD Cert.MixFwdIdeal.τ).loc Cert.MixFwdIdeal.main_arg12)
      ∧ m' ((c.tc : Thread Cert.OutGradIdeal.nD Cert.OutGradIdeal.τ).loc Cert.OutGradIdeal.main_arg13) = m ((c.tc : Thread Cert.MixFwdIdeal.nD Cert.MixFwdIdeal.τ).loc Cert.MixFwdIdeal.main_arg13)) →
    ∃ (v0 : (c : Dev Cert.MixFwdIdeal.nD) → Buf (Elt Ideal) ((c.tc : Thread Cert.MixFwdIdeal.nD Cert.MixFwdIdeal.τ).loc Cert.MixFwdIdeal.main_v48_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v48_2) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ θ_run (Cert.OutGradIdeal.defs (F := Ideal)) (onTc (τ := Cert.OutGradIdeal.τ) (Cert.OutGradIdeal.main (F := Ideal))) ⟨m', fun _ => 0, g'⟩ (fun r => ∀ c : Dev Cert.OutGradIdeal.nD,
          r.2.mem ((c.tc : Thread Cert.OutGradIdeal.nD Cert.OutGradIdeal.τ).loc Cert.OutGradIdeal.main_v192) = v0 c
          ∧ r.2.mem ((c.tc : Thread Cert.OutGradIdeal.nD Cert.OutGradIdeal.τ).loc Cert.OutGradIdeal.main_arg0) = m' ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m' ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m' ((c.tc : Thread Cert.OutGradIdeal.nD Cert.OutGradIdeal.τ).loc Cert.OutGradIdeal.main_arg2)
          ∧ r.2.mem ((c.tc : Thread Cert.OutGradIdeal.nD Cert.OutGradIdeal.τ).loc Cert.OutGradIdeal.main_arg3) = m' ((c.tc : Thread Cert.OutGradIdeal.nD Cert.OutGradIdeal.τ).loc Cert.OutGradIdeal.main_arg3)
          ∧ r.2.mem ((c.tc : Thread Cert.OutGradIdeal.nD Cert.OutGradIdeal.τ).loc Cert.OutGradIdeal.main_arg4) = m' ((c.tc : Thread Cert.OutGradIdeal.nD Cert.OutGradIdeal.τ).loc Cert.OutGradIdeal.main_arg4)
          ∧ r.2.mem ((c.tc : Thread Cert.OutGradIdeal.nD Cert.OutGradIdeal.τ).loc Cert.OutGradIdeal.main_arg5) = m' ((c.tc : Thread Cert.OutGradIdeal.nD Cert.OutGradIdeal.τ).loc Cert.OutGradIdeal.main_arg5)
          ∧ r.2.mem ((c.tc : Thread Cert.OutGradIdeal.nD Cert.OutGradIdeal.τ).loc Cert.OutGradIdeal.main_arg6) = m' ((c.tc : Thread Cert.OutGradIdeal.nD Cert.OutGradIdeal.τ).loc Cert.OutGradIdeal.main_arg6)
          ∧ r.2.mem ((c.tc : Thread Cert.OutGradIdeal.nD Cert.OutGradIdeal.τ).loc Cert.OutGradIdeal.main_arg7) = m' ((c.tc : Thread Cert.OutGradIdeal.nD Cert.OutGradIdeal.τ).loc Cert.OutGradIdeal.main_arg7)
          ∧ r.2.mem ((c.tc : Thread Cert.OutGradIdeal.nD Cert.OutGradIdeal.τ).loc Cert.OutGradIdeal.main_arg8) = m' ((c.tc : Thread Cert.OutGradIdeal.nD Cert.OutGradIdeal.τ).loc Cert.OutGradIdeal.main_arg8)
          ∧ r.2.mem ((c.tc : Thread Cert.OutGradIdeal.nD Cert.OutGradIdeal.τ).loc Cert.OutGradIdeal.main_arg9) = m' ((c.tc : Thread Cert.OutGradIdeal.nD Cert.OutGradIdeal.τ).loc Cert.OutGradIdeal.main_arg9)
          ∧ r.2.mem ((c.tc : Thread Cert.OutGradIdeal.nD Cert.OutGradIdeal.τ).loc Cert.OutGradIdeal.main_arg10) = m' ((c.tc : Thread Cert.OutGradIdeal.nD Cert.OutGradIdeal.τ).loc Cert.OutGradIdeal.main_arg10)
          ∧ r.2.mem ((c.tc : Thread Cert.OutGradIdeal.nD Cert.OutGradIdeal.τ).loc Cert.OutGradIdeal.main_arg11) = m' ((c.tc : Thread Cert.OutGradIdeal.nD Cert.OutGradIdeal.τ).loc Cert.OutGradIdeal.main_arg11)
          ∧ r.2.mem ((c.tc : Thread Cert.OutGradIdeal.nD Cert.OutGradIdeal.τ).loc Cert.OutGradIdeal.main_arg12) = m' ((c.tc : Thread Cert.OutGradIdeal.nD Cert.OutGradIdeal.τ).loc Cert.OutGradIdeal.main_arg12)
          ∧ r.2.mem ((c.tc : Thread Cert.OutGradIdeal.nD Cert.OutGradIdeal.τ).loc Cert.OutGradIdeal.main_arg13) = m' ((c.tc : Thread Cert.OutGradIdeal.nD Cert.OutGradIdeal.τ).loc Cert.OutGradIdeal.main_arg13))

def preserves_MemFwd_MemFwdIdeal : Prop :=
  True

def algebraic_MemFwdIdeal_MemKvIdeal [hMemFwdIdeal : Cert.MemFwdIdeal.Facts] [hMemKvIdeal : Cert.MemKvIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemKvIdeal.nD Cert.MemKvIdeal.τ Cert.MemKvIdeal.sig) → Buf (Elt Ideal) ℓ) (g' : Dev Cert.MemKvIdeal.nD → PrngReg), Pre_MemFwdIdeal m →
    (∀ c : Dev Cert.MemFwdIdeal.nD,
      m' ((c.tc : Thread Cert.MemKvIdeal.nD Cert.MemKvIdeal.τ).loc Cert.MemKvIdeal.main_arg0) = m ((c.tc : Thread Cert.MemFwdIdeal.nD Cert.MemFwdIdeal.τ).loc Cert.MemFwdIdeal.main_arg0)
      ∧ m' ((c.tc : Thread Cert.MemKvIdeal.nD Cert.MemKvIdeal.τ).loc Cert.MemKvIdeal.main_arg1) = m ((c.tc : Thread Cert.MemFwdIdeal.nD Cert.MemFwdIdeal.τ).loc Cert.MemFwdIdeal.main_arg1)
      ∧ m' ((c.tc : Thread Cert.MemKvIdeal.nD Cert.MemKvIdeal.τ).loc Cert.MemKvIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v3)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v3) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemKvIdeal.defs (F := Ideal)) (onTc (τ := Cert.MemKvIdeal.τ) (Cert.MemKvIdeal.main (F := Ideal))) ⟨m', fun _ => 0, g'⟩ (fun r => ∀ c : Dev Cert.MemKvIdeal.nD,
          r.2.mem ((c.tc : Thread Cert.MemKvIdeal.nD Cert.MemKvIdeal.τ).loc Cert.MemKvIdeal.main_v17) = v0 c
          ∧ r.2.mem ((c.tc : Thread Cert.MemKvIdeal.nD Cert.MemKvIdeal.τ).loc Cert.MemKvIdeal.main_arg0) = m' ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m' ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m' ((c.tc : Thread Cert.MemKvIdeal.nD Cert.MemKvIdeal.τ).loc Cert.MemKvIdeal.main_arg2))

def preserves_InFwd_InFwdIdeal : Prop :=
  True

def algebraic_InFwdIdeal_InProjIdeal [hInFwdIdeal : Cert.InFwdIdeal.Facts] [hInProjIdeal : Cert.InProjIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InProjIdeal.nD Cert.InProjIdeal.τ Cert.InProjIdeal.sig) → Buf (Elt Ideal) ℓ) (g' : Dev Cert.InProjIdeal.nD → PrngReg), Pre_InFwdIdeal m →
    (∀ c : Dev Cert.InFwdIdeal.nD,
      m' ((c.tc : Thread Cert.InProjIdeal.nD Cert.InProjIdeal.τ).loc Cert.InProjIdeal.main_arg0) = m ((c.tc : Thread Cert.InFwdIdeal.nD Cert.InFwdIdeal.τ).loc Cert.InFwdIdeal.main_arg0)
      ∧ m' ((c.tc : Thread Cert.InProjIdeal.nD Cert.InProjIdeal.τ).loc Cert.InProjIdeal.main_arg1) = m ((c.tc : Thread Cert.InFwdIdeal.nD Cert.InFwdIdeal.τ).loc Cert.InFwdIdeal.main_arg1)
      ∧ m' ((c.tc : Thread Cert.InProjIdeal.nD Cert.InProjIdeal.τ).loc Cert.InProjIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)) (v2 : (c : Dev Cert.InFwdIdeal.nD) → Buf (Elt Ideal) ((c.tc : Thread Cert.InFwdIdeal.nD Cert.InFwdIdeal.τ).loc Cert.InFwdIdeal.main_v4_2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_v4_2) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InProjIdeal.defs (F := Ideal)) (onTc (τ := Cert.InProjIdeal.τ) (Cert.InProjIdeal.main (F := Ideal))) ⟨m', fun _ => 0, g'⟩ (fun r => ∀ c : Dev Cert.InProjIdeal.nD,
          r.2.mem ((c.tc : Thread Cert.InProjIdeal.nD Cert.InProjIdeal.τ).loc Cert.InProjIdeal.main_v19) = v0 c
          ∧ r.2.mem ((c.tc : Thread Cert.InProjIdeal.nD Cert.InProjIdeal.τ).loc Cert.InProjIdeal.main_v21) = v1 c
          ∧ r.2.mem ((c.tc : Thread Cert.InProjIdeal.nD Cert.InProjIdeal.τ).loc Cert.InProjIdeal.main_v22) = v2 c
          ∧ r.2.mem ((c.tc : Thread Cert.InProjIdeal.nD Cert.InProjIdeal.τ).loc Cert.InProjIdeal.main_arg0) = m' ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m' ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m' ((c.tc : Thread Cert.InProjIdeal.nD Cert.InProjIdeal.τ).loc Cert.InProjIdeal.main_arg2))

def Claim : Prop :=
  ∃ (hMemBwd : Cert.MemBwd.Facts) (hMemBwdIdeal : Cert.MemBwdIdeal.Facts) (hMemGradIdeal : Cert.MemGradIdeal.Facts) (hMixBwd : Cert.MixBwd.Facts) (hMixBwdIdeal : Cert.MixBwdIdeal.Facts) (hMixGradIdeal : Cert.MixGradIdeal.Facts) (hInBwd : Cert.InBwd.Facts) (hInBwdIdeal : Cert.InBwdIdeal.Facts) (hInGradIdeal : Cert.InGradIdeal.Facts) (hMixFwd : Cert.MixFwd.Facts) (hMixFwdIdeal : Cert.MixFwdIdeal.Facts) (hOutGradIdeal : Cert.OutGradIdeal.Facts) (hMemFwd : Cert.MemFwd.Facts) (hMemFwdIdeal : Cert.MemFwdIdeal.Facts) (hMemKvIdeal : Cert.MemKvIdeal.Facts) (hInFwd : Cert.InFwd.Facts) (hInFwdIdeal : Cert.InFwdIdeal.Facts) (hInProjIdeal : Cert.InProjIdeal.Facts) (hPre_finite : Cert.Pre_finite.Facts) (hPre_attn_finite : Cert.Pre_attn_finite.Facts),
    quiescent_MemBwd (hMemBwd := hMemBwd)
    ∧ quiescent_MemBwdIdeal (hMemBwdIdeal := hMemBwdIdeal)
    ∧ quiescent_MemGradIdeal (hMemGradIdeal := hMemGradIdeal)
    ∧ quiescent_MixBwd (hMixBwd := hMixBwd)
    ∧ quiescent_MixBwdIdeal (hMixBwdIdeal := hMixBwdIdeal)
    ∧ quiescent_MixBwdIdeal_pre_finite (hMixBwdIdeal := hMixBwdIdeal) (hPre_finite := hPre_finite)
    ∧ quiescent_MixGradIdeal (hMixGradIdeal := hMixGradIdeal)
    ∧ quiescent_MixGradIdeal_pre_finite (hMixGradIdeal := hMixGradIdeal) (hPre_finite := hPre_finite)
    ∧ quiescent_InBwd (hInBwd := hInBwd)
    ∧ quiescent_InBwdIdeal (hInBwdIdeal := hInBwdIdeal)
    ∧ quiescent_InGradIdeal (hInGradIdeal := hInGradIdeal)
    ∧ quiescent_MixFwd (hMixFwd := hMixFwd)
    ∧ quiescent_MixFwdIdeal (hMixFwdIdeal := hMixFwdIdeal)
    ∧ quiescent_MixFwdIdeal_pre_attn_finite (hMixFwdIdeal := hMixFwdIdeal) (hPre_attn_finite := hPre_attn_finite)
    ∧ quiescent_OutGradIdeal (hOutGradIdeal := hOutGradIdeal)
    ∧ quiescent_OutGradIdeal_pre_attn_finite (hOutGradIdeal := hOutGradIdeal) (hPre_attn_finite := hPre_attn_finite)
    ∧ quiescent_MemFwd (hMemFwd := hMemFwd)
    ∧ quiescent_MemFwdIdeal (hMemFwdIdeal := hMemFwdIdeal)
    ∧ quiescent_MemKvIdeal (hMemKvIdeal := hMemKvIdeal)
    ∧ quiescent_InFwd (hInFwd := hInFwd)
    ∧ quiescent_InFwdIdeal (hInFwdIdeal := hInFwdIdeal)
    ∧ quiescent_InProjIdeal (hInProjIdeal := hInProjIdeal)
    ∧ preserves_MemBwd_MemBwdIdeal
    ∧ algebraic_MemBwdIdeal_MemGradIdeal (hMemBwdIdeal := hMemBwdIdeal) (hMemGradIdeal := hMemGradIdeal)
    ∧ preserves_MixBwd_MixBwdIdeal
    ∧ algebraic_MixBwdIdeal_MixGradIdeal_pre_finite (hMixBwdIdeal := hMixBwdIdeal) (hMixGradIdeal := hMixGradIdeal) (hPre_finite := hPre_finite)
    ∧ preserves_InBwd_InBwdIdeal
    ∧ algebraic_InBwdIdeal_InGradIdeal (hInBwdIdeal := hInBwdIdeal) (hInGradIdeal := hInGradIdeal)
    ∧ preserves_MixFwd_MixFwdIdeal
    ∧ algebraic_MixFwdIdeal_OutGradIdeal_pre_attn_finite (hMixFwdIdeal := hMixFwdIdeal) (hOutGradIdeal := hOutGradIdeal) (hPre_attn_finite := hPre_attn_finite)
    ∧ preserves_MemFwd_MemFwdIdeal
    ∧ algebraic_MemFwdIdeal_MemKvIdeal (hMemFwdIdeal := hMemFwdIdeal) (hMemKvIdeal := hMemKvIdeal)
    ∧ preserves_InFwd_InFwdIdeal
    ∧ algebraic_InFwdIdeal_InProjIdeal (hInFwdIdeal := hInFwdIdeal) (hInProjIdeal := hInProjIdeal)
-- ==== Pre_attn_finite.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S1x1024 : Shape := ⟨2, ![1, 1024]⟩
abbrev S1x1024x1024 : Shape := ⟨3, ![1, 1024, 1024]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_
  bcast_S_S1x4 : S_.BroadcastsInDim S1x4 (![] : Fin 0 → Fin S1x4.rank)
  reducesTo_S1x4_S_d0_1 : S1x4.ReducesTo [0, 1] S_
  bcast_S_S32x4 : S_.BroadcastsInDim S32x4 (![] : Fin 0 → Fin S32x4.rank)
  reducesTo_S32x4_S_d0_1 : S32x4.ReducesTo [0, 1] S_

variable [Facts]

def fn_part1 {F : FTy → Type} [FloatOps F] (main_v14 : IVec S_ 1) (main_v15 : FVec F S32x4 .f32) (main_cst_5 : FVec F S_ .f32) : IVec S_ 1 :=
  let main_v16 : FVec F S32x4 .f32 := broadcastInDim S32x4 ![] bcast_S_S32x4 main_cst_5
  let main_v17 : IVec S32x4 1 := cmpf .olt main_v15 main_v16
  let main_c_6 : IVec S_ 1 := constantI S_ 1 1#1
  let main_v18 : IVec S_ 1 := (fun x v => Host.reduce IntOp.andi x v reducesTo_S32x4_S_d0_1 h_S_) main_v17 main_c_6
  let main_v19 : IVec S_ 1 := andi main_v14 main_v18
  main_v19

def fn {F : FTy → Type} [FloatOps F] (main_arg0 : FVec F S2x2048x1024 .f32) (main_arg1 : FVec F S2x2048x1024 .f32) (main_arg2 : FVec F S2x2048x768 .f32) (main_arg3 : FVec F S2x256x512 .f32) (main_arg4 : FVec F S2x2048x1024 .f32) (main_arg5 : FVec F S2x2048x1024 .f32) (main_arg6 : FVec F S1x512 .f32) (main_arg7 : FVec F S1x512 .f32) (main_arg8 : FVec F S1x4x128x128 .f32) (main_arg9 : FVec F S1x4x128 .f32) (main_arg10 : FVec F S1x4 .f32) (main_arg11 : FVec F S32x4 .f32) (main_arg12 : FVec F S1x1024 .f32) (main_arg13 : FVec F S1x1024x1024 .f32) : IVec S_ 1 :=
  let main_v0 : FVec F S2x2048x768 .f32 := Host.absf main_arg2
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_c_0 : IVec S_ 1 := constantI S_ 1 1#1
  let main_v4 : IVec S_ 1 := andi main_c_0 main_v3
  let main_v5 : FVec F S2x256x512 .f32 := Host.absf main_arg3
  let main_cst_1 : FVec F S_ .f32 := constant S_ .f32 0x7F800000#32
  let main_v6 : FVec F S2x256x512 .f32 := broadcastInDim S2x256x512 ![] bcast_S_S2x256x512 main_cst_1
  let main_v7 : IVec S2x256x512 1 := cmpf .olt main_v5 main_v6
  let main_c_2 : IVec S_ 1 := constantI S_ 1 1#1
  let main_v8 : IVec S_ 1 := (fun x v => Host.reduce IntOp.andi x v reducesTo_S2x256x512_S_d0_1_2 h_S_) main_v7 main_c_2
  let main_v9 : IVec S_ 1 := andi main_v4 main_v8
  let main_v10 : FVec F S1x4 .f32 := Host.absf main_arg10
  let main_cst_3 : FVec F S_ .f32 := constant S_ .f32 0x7F800000#32
  let main_v11 : FVec F S1x4 .f32 := broadcastInDim S1x4 ![] bcast_S_S1x4 main_cst_3
  let main_v12 : IVec S1x4 1 := cmpf .olt main_v10 main_v11
  let main_c_4 : IVec S_ 1 := constantI S_ 1 1#1
  let main_v13 : IVec S_ 1 := (fun x v => Host.reduce IntOp.andi x v reducesTo_S1x4_S_d0_1 h_S_) main_v12 main_c_4
  let main_v14 : IVec S_ 1 := andi main_v9 main_v13
  let main_v15 : FVec F S32x4 .f32 := Host.absf main_arg11
  let main_cst_5 : FVec F S_ .f32 := constant S_ .f32 0x7F800000#32
  fn_part1 (F := F) main_v14 main_v15 main_cst_5
-- ==== Pre_finite.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x768 : S_.BroadcastsInDim S2x2048x768 (![] : Fin 0 → Fin S2x2048x768.rank)
  reducesTo_S2x2048x768_S_d0_1_2 : S2x2048x768.ReducesTo [0, 1, 2] S_
  bcast_S_S2x256x512 : S_.BroadcastsInDim S2x256x512 (![] : Fin 0 → Fin S2x256x512.rank)
  reducesTo_S2x256x512_S_d0_1_2 : S2x256x512.ReducesTo [0, 1, 2] S_
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part2 {F : FTy → Type} [FloatOps F] (main_arg9 : FVec F S2x2048x1024 .f32) (main_v29 : IVec S_ 1) (main_v32 : IVec S1x4x128 1) (main_c_12 : IVec S_ 1) : IVec S_ 1 :=
  let main_v33 : IVec S_ 1 := (fun x v => Host.reduce IntOp.andi x v reducesTo_S1x4x128_S_d0_1_2 h_S_) main_v32 main_c_12
  let main_v34 : IVec S_ 1 := andi main_v29 main_v33
  let main_v35 : FVec F S2x2048x1024 .f32 := Host.absf main_arg9
  let main_cst_13 : FVec F S_ .f32 := constant S_ .f32 0x7F800000#32
  let main_v36 : FVec F S2x2048x1024 .f32 := broadcastInDim S2x2048x1024 ![] bcast_S_S2x2048x1024 main_cst_13
  let main_v37 : IVec S2x2048x1024 1 := cmpf .olt main_v35 main_v36
  let main_c_14 : IVec S_ 1 := constantI S_ 1 1#1
  let main_v38 : IVec S_ 1 := (fun x v => Host.reduce IntOp.andi x v reducesTo_S2x2048x1024_S_d0_1_2 h_S_) main_v37 main_c_14
  let main_v39 : IVec S_ 1 := andi main_v34 main_v38
  main_v39

def fn_part1 {F : FTy → Type} [FloatOps F] (main_arg4 : FVec F S1x512 .f32) (main_arg5 : FVec F S1x4x128x128 .f32) (main_arg6 : FVec F S1x4x128 .f32) (main_arg9 : FVec F S2x2048x1024 .f32) (main_v14 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : IVec S1x512 1 := cmpf .olt main_v15 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v14 main_v18
  let main_v20 : FVec F S1x512 .f32 := Host.absf main_arg4
  let main_cst_7 : FVec F S_ .f32 := constant S_ .f32 0x7F800000#32
  let main_v21 : FVec F S1x512 .f32 := broadcastInDim S1x512 ![] bcast_S_S1x512 main_cst_7
  let main_v22 : IVec S1x512 1 := cmpf .olt main_v20 main_v21
  let main_c_8 : IVec S_ 1 := constantI S_ 1 1#1
  let main_v23 : IVec S_ 1 := (fun x v => Host.reduce IntOp.andi x v reducesTo_S1x512_S_d0_1 h_S_) main_v22 main_c_8
  let main_v24 : IVec S_ 1 := andi main_v19 main_v23
  let main_v25 : FVec F S1x4x128x128 .f32 := Host.absf main_arg5
  let main_cst_9 : FVec F S_ .f32 := constant S_ .f32 0x7F800000#32
  let main_v26 : FVec F S1x4x128x128 .f32 := broadcastInDim S1x4x128x128 ![] bcast_S_S1x4x128x128 main_cst_9
  let main_v27 : IVec S1x4x128x128 1 := cmpf .olt main_v25 main_v26
  let main_c_10 : IVec S_ 1 := constantI S_ 1 1#1
  let main_v28 : IVec S_ 1 := (fun x v => Host.reduce IntOp.andi x v reducesTo_S1x4x128x128_S_d0_1_2_3 h_S_) main_v27 main_c_10
  let main_v29 : IVec S_ 1 := andi main_v24 main_v28
  let main_v30 : FVec F S1x4x128 .f32 := Host.absf main_arg6
  let main_cst_11 : FVec F S_ .f32 := constant S_ .f32 0x7F800000#32
  let main_v31 : FVec F S1x4x128 .f32 := broadcastInDim S1x4x128 ![] bcast_S_S1x4x128 main_cst_11
  let main_v32 : IVec S1x4x128 1 := cmpf .olt main_v30 main_v31
  let main_c_12 : IVec S_ 1 := constantI S_ 1 1#1
  fn_part2 (F := F) main_arg9 main_v29 main_v32 main_c_12

def fn {F : FTy → Type} [FloatOps F] (main_arg0 : FVec F S2x2048x1024 .f32) (main_arg1 : FVec F S2x2048x768 .f32) (main_arg2 : FVec F S2x256x512 .f32) (main_arg3 : FVec F S1x512 .f32) (main_arg4 : FVec F S1x512 .f32) (main_arg5 : FVec F S1x4x128x128 .f32) (main_arg6 : FVec F S1x4x128 .f32) (main_arg7 : FVec F S1x4 .f32) (main_arg8 : FVec F S32x4 .f32) (main_arg9 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S2x2048x768 .f32 := Host.absf main_arg1
  let main_cst_1 : FVec F S_ .f32 := constant S_ .f32 0x7F800000#32
  let main_v6 : FVec F S2x2048x768 .f32 := broadcastInDim S2x2048x768 ![] bcast_S_S2x2048x768 main_cst_1
  let main_v7 : IVec S2x2048x768 1 := cmpf .olt main_v5 main_v6
  let main_c_2 : IVec S_ 1 := constantI S_ 1 1#1
  let main_v8 : IVec S_ 1 := (fun x v => Host.reduce IntOp.andi x v reducesTo_S2x2048x768_S_d0_1_2 h_S_) main_v7 main_c_2
  let main_v9 : IVec S_ 1 := andi main_v4 main_v8
  let main_v10 : FVec F S2x256x512 .f32 := Host.absf main_arg2
  let main_cst_3 : FVec F S_ .f32 := constant S_ .f32 0x7F800000#32
  let main_v11 : FVec F S2x256x512 .f32 := broadcastInDim S2x256x512 ![] bcast_S_S2x256x512 main_cst_3
  let main_v12 : IVec S2x256x512 1 := cmpf .olt main_v10 main_v11
  let main_c_4 : IVec S_ 1 := constantI S_ 1 1#1
  let main_v13 : IVec S_ 1 := (fun x v => Host.reduce IntOp.andi x v reducesTo_S2x256x512_S_d0_1_2 h_S_) main_v12 main_c_4
  let main_v14 : IVec S_ 1 := andi main_v9 main_v13
  let main_v15 : FVec F S1x512 .f32 := Host.absf main_arg3
  let main_cst_5 : FVec F S_ .f32 := constant S_ .f32 0x7F800000#32
  fn_part1 (F := F) main_arg4 main_arg5 main_arg6 main_arg9 main_v14 main_v15 main_cst_5
-- ==== MemBwd.lean ====
abbrev S2x256x1024 : Shape := ⟨3, ![2, 256, 1024]⟩
abbrev S1x1024 : Shape := ⟨2, ![1, 1024]⟩
abbrev S1x1024x512 : Shape := ⟨3, ![1, 1024, 512]⟩
abbrev S2x256x512 : Shape := ⟨3, ![2, 256, 512]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x512, .f32⟩
  | .hbm, ⟨3, _⟩ => ⟨S2x256x512, .f32⟩
  | .hbm, ⟨4, _⟩ => ⟨S512x512, .f32⟩
  | .hbm, ⟨5, _⟩ => ⟨S512x1024, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1x1024, .f32⟩
  | .local _ .vmem, ⟨0, _⟩ => ⟨S512x512, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .f32⟩
  | .local _ .vmem, ⟨5, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemGradIdeal.lean ====
abbrev S2x256x1024 : Shape := ⟨3, ![2, 256, 1024]⟩
abbrev S1x1024 : Shape := ⟨2, ![1, 1024]⟩
abbrev S1x1024x512 : Shape := ⟨3, ![1, 1024, 512]⟩
abbrev S2x256x512 : Shape := ⟨3, ![2, 256, 512]⟩
abbrev S1024x512 : Shape := ⟨2, ![1024, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x512, .f32⟩
  | .hbm, ⟨3, _⟩ => ⟨S2x256x512, .f32⟩
  | .hbm, ⟨4, _⟩ => ⟨S1024x512, .f32⟩
  | .hbm, ⟨5, _⟩ => ⟨S1024, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S2x256x512, .f32⟩
  | .hbm, ⟨23, _⟩ => ⟨S512x1024, .f32⟩
  | .hbm, ⟨24, _⟩ => ⟨S1024x512, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S1024, .f32⟩
  | .hbm, ⟨29, _⟩ => ⟨S1x1x1024, .f32⟩
  | .hbm, ⟨30, _⟩ => ⟨S_, .f32⟩
  | .hbm, ⟨31, _⟩ => ⟨S1024, .f32⟩
  | .hbm, ⟨32, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== MixBwd.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S128x256 : Shape := ⟨2, ![128, 256]⟩
abbrev S1x128x256 : Shape := ⟨3, ![1, 128, 256]⟩
abbrev S4x128x128 : Shape := ⟨3, ![4, 128, 128]⟩
abbrev S4x128 : Shape := ⟨2, ![4, 128]⟩
abbrev S_ : Shape := ⟨0, ![]⟩
abbrev S128x256x1 : Shape := ⟨3, ![128, 256, 1]⟩
abbrev S128x256x4 : Shape := ⟨3, ![128, 256, 4]⟩
abbrev S4x128x256 : Shape := ⟨3, ![4, 128, 256]⟩
abbrev S128x128 : Shape := ⟨2, ![128, 128]⟩
abbrev S1x128x128 : Shape := ⟨3, ![1, 128, 128]⟩
abbrev S4x128x1 : Shape := ⟨3, ![4, 128, 1]⟩
abbrev S4096x1024 : Shape := ⟨2, ![4096, 1024]⟩
abbrev S4 : Shape := ⟨1, ![4]⟩
abbrev S4096x768 : Shape := ⟨2, ![4096, 768]⟩
abbrev S8x128 : Shape := ⟨2, ![8, 128]⟩
abbrev S32x128 : Shape := ⟨2, ![32, 128]⟩
abbrev S256x1024 : Shape := ⟨2, ![256, 1024]⟩
abbrev S1x2048x768 : Shape := ⟨3, ![1, 2048, 768]⟩
abbrev S1x256x512 : Shape := ⟨3, ![1, 256, 512]⟩
abbrev S256x768 : Shape := ⟨2, ![256, 768]⟩
abbrev S384x256 : Shape := ⟨2, ![384, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1 : Shape := ⟨2, ![1, 1]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩

abbrev nBuf : Space → Nat
  | .hbm => 62
  | .vmem => 31
  | .smem => 1
  | _ => 0

abbrev bufTy : (tb : Table) → Fin (tcTables nBuf tb) → BufTy
  | .hbm, ⟨0, _⟩ => ⟨S2x2048x1024, .f32⟩
  | .hbm, ⟨1, _⟩ => ⟨S2x2048x768, .f32⟩
  | .hbm, ⟨2, _⟩ => ⟨S2x256x512, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x4, .f32⟩
  | .hbm, ⟨8, _⟩ => ⟨S32x4, .f32⟩
  | .hbm, ⟨9, _⟩ => ⟨S2x2048x1024, .f32⟩
  | .hbm, ⟨10, _⟩ => ⟨S128x256, .i32⟩
  | .hbm, ⟨11, _⟩ => ⟨S128x256, .i1⟩
  | .hbm, ⟨12, _⟩ => ⟨S128x256, .i1⟩
  | .hbm, ⟨13, _⟩ => ⟨S1x128x256, .i1⟩
  | .hbm, ⟨14, _⟩ => ⟨S128x256, .i32⟩
  | .hbm, ⟨15, _⟩ => ⟨S4x128x128, .f32⟩
  | .hbm, ⟨16, _⟩ => ⟨S4x128, .f32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S128x256x1, .i32⟩
  | .hbm, ⟨22, _⟩ => ⟨S128x256x4, .f32⟩
  | .hbm, ⟨23, _⟩ => ⟨S4x128x256, .f32⟩
  | .hbm, ⟨24, _⟩ => ⟨S_, .f32⟩
  | .hbm, ⟨25, _⟩ => ⟨S_, .f32⟩
  | .hbm, ⟨26, _⟩ => ⟨S4x128x256, .i1⟩
  | .hbm, ⟨27, _⟩ => ⟨S4x128x256, .f32⟩
  | .hbm, ⟨28, _⟩ => ⟨S4x128x256, .f32⟩
  | .hbm, ⟨29, _⟩ => ⟨S_, .f32⟩
  | .hbm, ⟨30, _⟩ => ⟨S128x128, .f32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .i1⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S4x128x128, .f32⟩
  | .hbm, ⟨42, _⟩ => ⟨S4x128x128, .f32⟩
  | .hbm, ⟨43, _⟩ => ⟨S4x128x1, .f32⟩
  | .hbm, ⟨44, _⟩ => ⟨S4x128x128, .f32⟩
  | .hbm, ⟨45, _⟩ => ⟨S4x128x128, .bf16⟩
  | .hbm, ⟨46, _⟩ => ⟨S4x128x128, .f32⟩
  | .hbm, ⟨47, _⟩ => ⟨S4x128x128, .bf16⟩
  | .hbm, ⟨48, _⟩ => ⟨S4096x1024, .f32⟩
  | .hbm, ⟨49, _⟩ => ⟨S4096x1024, .f32⟩
  | .hbm, ⟨50, _⟩ => ⟨S2x2048x768, .bf16⟩
  | .hbm, ⟨51, _⟩ => ⟨S2x256x512, .bf16⟩
  | .hbm, ⟨52, _⟩ => ⟨S4, .f32⟩
  | .hbm, ⟨53, _⟩ => ⟨S4096x1024, .bf16⟩
  | .hbm, ⟨54, _⟩ => ⟨S4096x768, .bf16⟩
  | .hbm, ⟨55, _⟩ => ⟨S2x256x512, .f32⟩
  | .hbm, ⟨56, _⟩ => ⟨S4x128x128, .f32⟩
  | .hbm, ⟨57, _⟩ => ⟨S4x128, .f32⟩
  | .hbm, ⟨58, _⟩ => ⟨S1x512, .f32⟩
  | .hbm, ⟨59, _⟩ => ⟨S1x512, .f32⟩
  | .hbm, ⟨60, _⟩ => ⟨S8x128, .f32⟩
  | .hbm, ⟨61, _⟩ => ⟨S32x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x2048x768, .bf16⟩
  | .local _ .vmem, ⟨5, _⟩ => ⟨S1x2048x768, .bf16⟩
  | .local _ .vmem, ⟨6, _⟩ => ⟨S1x256x512, .bf16⟩
  | .local _ .vmem, ⟨7, _⟩ => ⟨S1x256x512, .bf16⟩
  | .local _ .vmem, ⟨8, _⟩ => ⟨S4x128x256, .f32⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S4x128x128, .bf16⟩
  | .local _ .vmem, ⟨13, _⟩ => ⟨S4x128x128, .f32⟩
  | .local _ .vmem, ⟨14, _⟩ => ⟨S128x256, .i32⟩
  | .local _ .vmem, ⟨15, _⟩ => ⟨S256x1024, .bf16⟩
  | .local _ .vmem, ⟨16, _⟩ => ⟨S256x1024, .bf16⟩
  | .local _ .vmem, ⟨17, _⟩ => ⟨S256x768, .bf16⟩
  | .local _ .vmem, ⟨18, _⟩ => ⟨S256x768, .bf16⟩
  | .local _ .vmem, ⟨19, _⟩ => ⟨S1x256x512, .f32⟩
  | .local _ .vmem, ⟨20, _⟩ => ⟨S1x256x512, .f32⟩
  | .local _ .vmem, ⟨21, _⟩ => ⟨S4x128x128, .f32⟩
  | .local _ .vmem, ⟨22, _⟩ => ⟨S4x128, .f32⟩
  | .local _ .vmem, ⟨23, _⟩ => ⟨S1x512, .f32⟩
  | .local _ .vmem, ⟨24, _⟩ => ⟨S1x512, .f32⟩
  | .local _ .vmem, ⟨25, _⟩ => ⟨S8x128, .f32⟩
  | .local _ .vmem, ⟨26, _⟩ => ⟨S32x128, .f32⟩
  | .local _ .vmem, ⟨27, _⟩ => ⟨S384x256, .f32⟩
  | .local _ .vmem, ⟨28, _⟩ => ⟨S4x128x256, .f32⟩
  | .local _ .vmem, ⟨29, _⟩ => ⟨S4x128x128, .f32⟩
  | .local _ .vmem, ⟨30, _⟩ => ⟨S8x128, .f32⟩
  | .local _ .smem, ⟨0, _⟩ => ⟨S4, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_c_2 : Ref sig .tc := ⟨.hbm, 14, rfl⟩
abbrev main_v1 : Ref sig .tc := ⟨.hbm, 15, rfl⟩
abbrev main_v2 : Ref sig .tc := ⟨.hbm, 16, rfl⟩
abbrev main_c_3 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v9 : Ref sig .tc := ⟨.hbm, 28, rfl⟩
abbrev main_cst_4 : Ref sig .tc := ⟨.hbm, 29, rfl⟩
abbrev main_v10 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_cst : Ref sig .tc := ⟨.hbm, 37, rfl⟩
abbrev main_call1_v5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v25_2 : Ref sig .tc := ⟨.hbm, 55, rfl⟩
abbrev main_v25_3 : Ref sig .tc := ⟨.hbm, 56, rfl⟩
abbrev main_v25_4 : Ref sig .tc := ⟨.hbm, 57, rfl⟩
abbrev main_v25_5 : Ref sig .tc := ⟨.hbm, 58, rfl⟩
abbrev main_v25_6 : Ref sig .tc := ⟨.hbm, 59, rfl⟩
abbrev main_v25_7 : Ref sig .tc := ⟨.hbm, 60, rfl⟩
abbrev main_v25_8 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let c0_i32_9 : BitVec 32 := 0#32
  let v24 : BitVec 32 := Scalar.addi v23 c0_i32_9
  let c128_i32 : BitVec 32 := 128#32
  let v641 : BitVec 32 := Scalar.muli v24 c128_i32
  v641
def k0_mult2 (i : grid0.Coords) : BitVec 32 :=
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let c0_i32_9 : BitVec 32 := 0#32
  let v24 : BitVec 32 := Scalar.addi v23 c0_i32_9
  let c1_i32 : BitVec 32 := 1#32
  let v643 : BitVec 32 := Scalar.subi v24 c1_i32
  let c0_i32_317 : BitVec 32 := 0#32
  let v644 : BitVec 32 := Scalar.maxsi v643 c0_i32_317
  let c128_i32_318 : BitVec 32 := 128#32
  let v645 : BitVec 32 := Scalar.muli v644 c128_i32_318
  v645
def k0_off1 (i : grid0.Coords) (c0_i32_9 : BitVec 32) : Fin 3 → Nat :=
  let c0_319 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c1_i32 : BitVec 32 := 1#32
  let v643 : BitVec 32 := Scalar.subi v24 c1_i32
  let c0_i32_317 : BitVec 32 := 0#32
  let v644 : BitVec 32 := Scalar.maxsi v643 c0_i32_317
  let c128_i32_318 : BitVec 32 := 128#32
  let v645 : BitVec 32 := Scalar.muli v644 c128_i32_318
  let v646 : BitVec 32 := v645
  let v647 : Index := Scalar.indexCast v646
  let c256_320 : Index := 256#32
  ![0, v647.toNat, 256]
def k0_off2 (i : grid0.Coords) (c0_i32_9 : BitVec 32) : Fin 3 → Nat :=
  let c0_321 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v641 : BitVec 32 := Scalar.muli v24 c128_i32
  let v642 : BitVec 32 := v641
  let v650 : Index := Scalar.indexCast v642
  let c256_322 : Index := 256#32
  ![0, v650.toNat, 256]
def k0_off3 (i : grid0.Coords) (c0_i32_9 : BitVec 32) : Fin 3 → Nat :=
  let c0_323 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c1_i32 : BitVec 32 := 1#32
  let v643 : BitVec 32 := Scalar.subi v24 c1_i32
  let c0_i32_317 : BitVec 32 := 0#32
  let v644 : BitVec 32 := Scalar.maxsi v643 c0_i32_317
  let c128_i32_318 : BitVec 32 := 128#32
  let v645 : BitVec 32 := Scalar.muli v644 c128_i32_318
  let v646 : BitVec 32 := v645
  let v654 : Index := Scalar.indexCast v646
  let c384_324 : Index := 384#32
  ![0, v654.toNat, 384]
def k0_off4 (i : grid0.Coords) (c0_i32_9 : BitVec 32) : Fin 3 → Nat :=
  let c0_325 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v641 : BitVec 32 := Scalar.muli v24 c128_i32
  let v642 : BitVec 32 := v641
  let v657 : Index := Scalar.indexCast v642
  let c384_326 : Index := 384#32
  ![0, v657.toNat, 384]
def k0_off5 (i : grid0.Coords) (c0_i32_9 : BitVec 32) : Fin 3 → Nat :=
  let c0_335 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v641 : BitVec 32 := Scalar.muli v24 c128_i32
  let v642 : BitVec 32 := v641
  let v688 : Index := Scalar.indexCast v642
  let c0_336 : Index := 0#32
  ![0, v688.toNat, 0]
def k0_off6 (i : grid0.Coords) (c0_i32_9 : BitVec 32) : Fin 3 → Nat :=
  let c0_407 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v641 : BitVec 32 := Scalar.muli v24 c128_i32
  let v642 : BitVec 32 := v641
  let v843 : Index := Scalar.indexCast v642
  let c128_408 : Index := 128#32
  ![0, v843.toNat, 128]
def k0_mult3 (i : grid0.Coords) : BitVec 32 :=
  let c7_i32 : BitVec 32 := 7#32
  let arg1 : BitVec 32 := BitVec.ofNat 32 (i 1).val
  let v0 : BitVec 32 := Scalar.subi c7_i32 arg1
  let c2_i32_487 : BitVec 32 := 2#32
  let v1010 : BitVec 32 := Scalar.muli v0 c2_i32_487
  let c1_i32_488 : BitVec 32 := 1#32
  let v1011 : BitVec 32 := Scalar.addi v1010 c1_i32_488
  let c128_i32_805 : BitVec 32 := 128#32
  let v1628 : BitVec 32 := Scalar.muli v1011 c128_i32_805
  v1628
def k0_mult4 (i : grid0.Coords) : BitVec 32 :=
  let c7_i32 : BitVec 32 := 7#32
  let arg1 : BitVec 32 := BitVec.ofNat 32 (i 1).val
  let v0 : BitVec 32 := Scalar.subi c7_i32 arg1
  let c2_i32_487 : BitVec 32 := 2#32
  let v1010 : BitVec 32 := Scalar.muli v0 c2_i32_487
  let c1_i32_488 : BitVec 32 := 1#32
  let v1011 : BitVec 32 := Scalar.addi v1010 c1_i32_488
  let c1_i32_806 : BitVec 32 := 1#32
  let v1630 : BitVec 32 := Scalar.subi v1011 c1_i32_806
  let c0_i32_807 : BitVec 32 := 0#32
  let v1631 : BitVec 32 := Scalar.maxsi v1630 c0_i32_807
  let c128_i32_808 : BitVec 32 := 128#32
  let v1632 : BitVec 32 := Scalar.muli v1631 c128_i32_808
  v1632
def k0_mult5 (i : grid0.Coords) : BitVec 32 :=
  let c7_i32 : BitVec 32 := 7#32
  let arg1 : BitVec 32 := BitVec.ofNat 32 (i 1).val
  let v0 : BitVec 32 := Scalar.subi c7_i32 arg1
  let c256_i32 : BitVec 32 := 256#32
  let v2003 : BitVec 32 := Scalar.muli v0 c256_i32
  v2003
def k0_off7 (i : grid0.Coords) : Fin 3 → Nat :=
  let c0_982 : Index := 0#32
  let c7_i32 : BitVec 32 := 7#32
  let arg1 : BitVec 32 := BitVec.ofNat 32 (i 1).val
  let v0 : BitVec 32 := Scalar.subi c7_i32 arg1
  let c256_i32 : BitVec 32 := 256#32
  let v2003 : BitVec 32 := Scalar.muli v0 c256_i32
  let v2004 : BitVec 32 := v2003
  let v2005 : Index := Scalar.indexCast v2004
  let c512_983 : Index := 512#32
  ![0, v2005.toNat, 512]
def k0_off8 (i : grid0.Coords) : Fin 3 → Nat :=
  let c0_1038 : Index := 0#32
  let c7_i32 : BitVec 32 := 7#32
  let arg1 : BitVec 32 := BitVec.ofNat 32 (i 1).val
  let v0 : BitVec 32 := Scalar.subi c7_i32 arg1
  let c256_i32 : BitVec 32 := 256#32
  let v2003 : BitVec 32 := Scalar.muli v0 c256_i32
  let v2004 : BitVec 32 := v2003
  let v2112 : Index := Scalar.indexCast v2004
  let c640_1039 : Index := 640#32
  ![0, v2112.toNat, 640]
def k0_cond3 (i : grid0.Coords) : BitVec 1 :=
  let arg0 : BitVec 32 := BitVec.ofNat 32 (i 0).val
  let c1_i32_1094 : BitVec 32 := 1#32
  let v2219 : BitVec 1 := Scalar.cmpi .eq arg0 c1_i32_1094
  let arg1 : BitVec 32 := BitVec.ofNat 32 (i 1).val
  let c7_i32_1095 : BitVec 32 := 7#32
  let v2220 : BitVec 1 := Scalar.cmpi .eq arg1 c7_i32_1095
  let v2221 : BitVec 1 := Scalar.andi v2219 v2220
  let v2222 : BitVec 32 := Scalar.extui v2221
  let c0_i32_1096 : BitVec 32 := 0#32
  let v2223 : BitVec 1 := Scalar.cmpi .ne v2222 c0_i32_1096
  v2223

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== MixBwdIdeal.lean ====
variable {F : FTy → Type} [FloatOps F] [Named F]
def κ : String → Option EReal := fun
  | "gelu_3a" => some ((26829 / 200000 : ℝ) : EReal)
  | "gelu_a" => some ((8943 / 200000 : ℝ) : EReal)
  | "neg" => some ⊥
  | _ => none
-- ==== MixGradIdeal.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S128x256 : Shape := ⟨2, ![128, 256]⟩
abbrev S16x1x256 : Shape := ⟨3, ![16, 1, 256]⟩
abbrev S2x2048x512 : Shape := ⟨3, ![2, 2048, 512]⟩
abbrev S2x2048x256 : Shape := ⟨3, ![2, 2048, 256]⟩
abbrev S2x2048x128 : Shape := ⟨3, ![2, 2048, 128]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x4x128 : Shape := ⟨4, ![1, 1, 4, 128]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S2x2048x4x64 : Shape := ⟨4, ![2, 2048, 4, 64]⟩
abbrev S2x2048x2x64 : Shape := ⟨4, ![2, 2048, 2, 64]⟩
abbrev S4 : Shape := ⟨1, ![4]⟩
abbrev S2x16x128x2x2x64 : Shape := ⟨6, ![2, 16, 128, 2, 2, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x2 : Shape := ⟨6, ![2, 16, 2, 256, 128, 2]⟩
abbrev S2x16x2x2x128x256 : Shape := ⟨6, ![2, 16, 2, 2, 128, 256]⟩
abbrev S1x128x256 : Shape := ⟨3, ![1, 128, 256]⟩
abbrev S16x128x256 : Shape := ⟨3, ![16, 128, 256]⟩
abbrev S128x256x1 : Shape := ⟨3, ![128, 256, 1]⟩
abbrev S128x256x4 : Shape := ⟨3, ![128, 256, 4]⟩
abbrev S4x128x256 : Shape := ⟨3, ![4, 128, 256]⟩
abbrev S2x2x128x256 : Shape := ⟨4, ![2, 2, 128, 256]⟩
abbrev S1x16x1x1x128x256 : Shape := ⟨6, ![1, 16, 1, 1, 128, 256]⟩
abbrev S1x1x2x2x128x256 : Shape := ⟨6, ![1, 1, 2, 2, 128, 256]⟩
abbrev S1x1x2x2x1x1 : Shape := ⟨6, ![1, 1, 2, 2, 1, 1]⟩
abbrev S2x16x2x2x128 : Shape := ⟨5, ![2, 16, 2, 2, 128]⟩
abbrev S2x16x2x2x128x1 : Shape := ⟨6, ![2, 16, 2, 2, 128, 1]⟩
abbrev S2x16x2x64x2x128 : Shape := ⟨6, ![2, 16, 2, 64, 2, 128]⟩
abbrev S2x256x256 : Shape := ⟨3, ![2, 256, 256]⟩
abbrev S2x256x4x64 : Shape := ⟨4, ![2, 256, 4, 64]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S2x16x2x64x256 : Shape := ⟨5, ![2, 16, 2, 64, 256]⟩
abbrev S2x2x1 : Shape := ⟨3, ![2, 2, 1]⟩
abbrev S2x16x2x128x2x64 : Shape := ⟨6, ![2, 16, 2, 128, 2, 64]⟩
abbrev S2x16x2x256x64 : Shape := ⟨5, ![2, 16, 2, 256, 64]⟩
abbrev S4096x1024 : Shape := ⟨2, ![4096, 1024]⟩

abbrev nBuf : Space → Nat
  | .hbm => 521
  | .vmem => 0
  | .smem => 0
  | _ => 0

abbrev hbmTy0_0 (i : Nat) : BufTy := match i % 128 with
  | 0 => ⟨S2x2048x1024, .f32⟩
  | 1 => ⟨S2x2048x768, .f32⟩
  | 2 => ⟨S2x256x512, .f32⟩
  | 3 => ⟨S1x512, .f32⟩
  | 4 => ⟨S1x512, .f32⟩
  | 5 => ⟨S1x4x128x128, .f32⟩
  | 6 => ⟨S1x4x128, .f32⟩
  | 7 => ⟨S1x4, .f32⟩
  | 8 => ⟨S32x4, .f32⟩
  | 9 => ⟨S2x2048x1024, .f32⟩
  | 10 => ⟨S128x256, .i1⟩
  | 11 => ⟨S16x1x256, .i1⟩
  | 12 => ⟨S128x256, .i32⟩
  | 13 => ⟨S128x256, .i1⟩
  | 14 => ⟨S2x2048x512, .f32⟩
  | 15 => ⟨S2x2048x512, .f32⟩
  | 16 => ⟨S2x2048x256, .f32⟩
  | 17 => ⟨S2x2048x128, .f32⟩
  | 18 => ⟨S2x2048x128, .f32⟩
  | 19 => ⟨S2x2048x256, .f32⟩
  | 20 => ⟨S_, .f32⟩
  | 21 => ⟨S_, .f32⟩
  | 22 => ⟨S_, .f32⟩
  | 23 => ⟨S2x2048x512, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S_, .f32⟩
  | 33 => ⟨S2x2048x512, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S_, .f32⟩
  | 47 => ⟨S2x2048x512, .f32⟩
  | 48 => ⟨S2x2048x512, .f32⟩
  | 49 => ⟨S2x2048x512, .f32⟩
  | 50 => ⟨S_, .f32⟩
  | 51 => ⟨S_, .f32⟩
  | 52 => ⟨S_, .f32⟩
  | 53 => ⟨S2x2048x512, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S2x2048x512, .f32⟩
  | 60 => ⟨S2x2048x512, .f32⟩
  | 61 => ⟨S2x2048x512, .f32⟩
  | 62 => ⟨S_, .f32⟩
  | 63 => ⟨S2x2048x512, .f32⟩
  | 64 => ⟨S2x2048x512, .f32⟩
  | 65 => ⟨S2x2048x512, .f32⟩
  | 66 => ⟨S_, .f32⟩
  | 67 => ⟨S2x2048x512, .f32⟩
  | 68 => ⟨S2x2048x512, .f32⟩
  | 69 => ⟨S_, .f32⟩
  | 70 => ⟨S2x2048x512, .f32⟩
  | 71 => ⟨S2x2048x512, .f32⟩
  | 72 => ⟨S2x2048x512, .f32⟩
  | 73 => ⟨S_, .f32⟩
  | 74 => ⟨S2x2048x512, .f32⟩
  | 75 => ⟨S2x2048x512, .f32⟩
  | 76 => ⟨S_, .f32⟩
  | 77 => ⟨S2x2048x512, .f32⟩
  | 78 => ⟨S2x2048x512, .f32⟩
  | 79 => ⟨S2x2048x512, .f32⟩
  | 80 => ⟨S512, .f32⟩
  | 81 => ⟨S512, .f32⟩
  | 82 => ⟨S4x128x128, .f32⟩
  | 83 => ⟨S4x128, .f32⟩
  | 84 => ⟨S2x2048x4x128, .f32⟩
  | 85 => ⟨S_, .f32⟩
  | 86 => ⟨S2x2048x4, .f32⟩
  | 87 => ⟨S2x2048x4x1, .f32⟩
  | 88 => ⟨S_, .f32⟩
  | 89 => ⟨S2x2048x4x1, .f32⟩
  | 90 => ⟨S2x2048x4x1, .f32⟩
  | 91 => ⟨S2x2048x4x128, .f32⟩
  | 92 => ⟨S2x2048x4x128, .f32⟩
  | 93 => ⟨S2x2048x4x128, .f32⟩
  | 94 => ⟨S_, .f32⟩
  | 95 => ⟨S2x2048x4x128, .f32⟩
  | 96 => ⟨S2x2048x4x128, .f32⟩
  | 97 => ⟨S_, .f32⟩
  | 98 => ⟨S2x2048x4, .f32⟩
  | 99 => ⟨S2x2048x4x1, .f32⟩
  | 100 => ⟨S_, .f32⟩
  | 101 => ⟨S2x2048x4x1, .f32⟩
  | 102 => ⟨S2x2048x4x1, .f32⟩
  | 103 => ⟨S2x2048x4x128, .f32⟩
  | 104 => ⟨S2x2048x4x128, .f32⟩
  | 105 => ⟨S_, .f32⟩
  | 106 => ⟨S2x2048x4x1, .f32⟩
  | 107 => ⟨S2x2048x4x1, .f32⟩
  | 108 => ⟨S2x2048x4x1, .f32⟩
  | 109 => ⟨S2x2048x4x1, .f32⟩
  | 110 => ⟨S_, .f32⟩
  | 111 => ⟨S2x2048x4x1, .f32⟩
  | 112 => ⟨S2x2048x4x1, .f32⟩
  | 113 => ⟨S2x2048x4x128, .f32⟩
  | 114 => ⟨S2x2048x4x128, .f32⟩
  | 115 => ⟨S4x128, .f32⟩
  | 116 => ⟨S1x1x4x128, .f32⟩
  | 117 => ⟨S2x2048x4x128, .f32⟩
  | 118 => ⟨S2x2048x4x128, .f32⟩
  | 119 => ⟨S4x128, .f32⟩
  | 120 => ⟨S1x1x4x128, .f32⟩
  | 121 => ⟨S2x2048x4x128, .f32⟩
  | 122 => ⟨S2x2048x4x128, .f32⟩
  | 123 => ⟨S2x16x128x4x128, .f32⟩
  | 124 => ⟨S_, .f32⟩
  | 125 => ⟨S128x128, .f32⟩
  | 126 => ⟨S128x128, .i32⟩
  | 127 => ⟨S_, .i32⟩
  | _ => ⟨S2x2048x1024, .f32⟩

abbrev hbmTy0_1 (i : Nat) : BufTy := match i % 128 with
  | 0 => ⟨S128x128, .i32⟩
  | 1 => ⟨S128x128, .i32⟩
  | 2 => ⟨S128x128, .i32⟩
  | 3 => ⟨S128x128, .i1⟩
  | 4 => ⟨S_, .f32⟩
  | 5 => ⟨S128x128, .f32⟩
  | 6 => ⟨S128x128, .f32⟩
  | 7 => ⟨S1x128x128, .f32⟩
  | 8 => ⟨S4x128x128, .f32⟩
  | 9 => ⟨S4x128x128, .f32⟩
  | 10 => ⟨S4x2x16x128x128, .f32⟩
  | 11 => ⟨S2x16x128x4x128, .f32⟩
  | 12 => ⟨S128x4, .f32⟩
  | 13 => ⟨S1x1x128x4x1, .f32⟩
  | 14 => ⟨S2x16x128x4x128, .f32⟩
  | 15 => ⟨S2x16x128x4x128, .f32⟩
  | 16 => ⟨S2x2048x512, .f32⟩
  | 17 => ⟨S2x2048x512, .f32⟩
  | 18 => ⟨S2x2048x4x64, .f32⟩
  | 19 => ⟨S2x2048x2x64, .f32⟩
  | 20 => ⟨S2x2048x2x64, .f32⟩
  | 21 => ⟨S4, .f32⟩
  | 22 => ⟨S2x16x128x2x2x64, .f32⟩
  | 23 => ⟨S2x16x128x2x64, .f32⟩
  | 24 => ⟨S2x1x128x2x64, .f32⟩
  | 25 => ⟨S_, .f32⟩
  | 26 => ⟨S2x1x128x2x64, .f32⟩
  | 27 => ⟨S2x15x128x2x64, .f32⟩
  | 28 => ⟨S2x16x128x2x64, .f32⟩
  | 29 => ⟨S_, .f32⟩
  | 30 => ⟨S2x1x128x2x64, .f32⟩
  | 31 => ⟨S2x16x256x2x64, .f32⟩
  | 32 => ⟨S2x16x128x2x64, .f32⟩
  | 33 => ⟨S2x1x128x2x64, .f32⟩
  | 34 => ⟨S_, .f32⟩
  | 35 => ⟨S2x1x128x2x64, .f32⟩
  | 36 => ⟨S2x15x128x2x64, .f32⟩
  | 37 => ⟨S2x16x128x2x64, .f32⟩
  | 38 => ⟨S_, .f32⟩
  | 39 => ⟨S2x1x128x2x64, .f32⟩
  | 40 => ⟨S2x16x256x2x64, .f32⟩
  | 41 => ⟨S2x16x2x256x128x2, .f32⟩
  | 42 => ⟨S2x16x2x2x128x256, .f32⟩
  | 43 => ⟨S_, .f32⟩
  | 44 => ⟨S2x16x2x2x128x256, .f32⟩
  | 45 => ⟨S2x16x2x2x128x256, .f32⟩
  | 46 => ⟨S1x128x256, .i1⟩
  | 47 => ⟨S16x128x256, .i1⟩
  | 48 => ⟨S16x128x256, .i1⟩
  | 49 => ⟨S16x128x256, .i1⟩
  | 50 => ⟨S_, .i32⟩
  | 51 => ⟨S128x256, .i32⟩
  | 52 => ⟨S128x256, .i32⟩
  | 53 => ⟨S128x256, .i32⟩
  | 54 => ⟨S128x256x1, .i32⟩
  | 55 => ⟨S128x256x4, .f32⟩
  | 56 => ⟨S4x128x256, .f32⟩
  | 57 => ⟨S2x2x128x256, .f32⟩
  | 58 => ⟨S1x16x1x1x128x256, .i1⟩
  | 59 => ⟨S1x1x2x2x128x256, .f32⟩
  | 60 => ⟨S2x16x2x2x128x256, .f32⟩
  | 61 => ⟨S2x16x2x2x128x256, .f32⟩
  | 62 => ⟨S_, .f32⟩
  | 63 => ⟨S_, .f32⟩
  | 64 => ⟨S2x16x2x2x128x256, .i1⟩
  | 65 => ⟨S2x16x2x2x128x256, .f32⟩
  | 66 => ⟨S2x16x2x2x128x256, .f32⟩
  | 67 => ⟨S_, .f32⟩
  | 68 => ⟨S2x16x2x2x128x256, .f32⟩
  | 69 => ⟨S1x1x2x2x1x1, .f32⟩
  | 70 => ⟨S_, .f32⟩
  | 71 => ⟨S2x16x2x2x128, .f32⟩
  | 72 => ⟨S2x16x2x2x128x1, .f32⟩
  | 73 => ⟨S2x16x2x2x128x256, .f32⟩
  | 74 => ⟨S2x16x2x2x128x256, .i1⟩
  | 75 => ⟨S2x16x2x2x128x256, .f32⟩
  | 76 => ⟨S_, .f32⟩
  | 77 => ⟨S2x16x2x2x128, .f32⟩
  | 78 => ⟨S2x16x2x2x128x1, .f32⟩
  | 79 => ⟨S2x16x2x2x128x1, .f32⟩
  | 80 => ⟨S2x16x2x2x128x1, .f32⟩
  | 81 => ⟨S2x16x2x2x128x1, .f32⟩
  | 82 => ⟨S2x16x2x2x128x1, .i1⟩
  | 83 => ⟨S2x16x2x2x128x1, .f32⟩
  | 84 => ⟨S2x16x2x2x128x1, .i1⟩
  | 85 => ⟨S_, .f32⟩
  | 86 => ⟨S2x16x2x2x128x1, .f32⟩
  | 87 => ⟨S_, .f32⟩
  | 88 => ⟨S2x16x2x2x128x1, .f32⟩
  | 89 => ⟨S_, .f32⟩
  | 90 => ⟨S2x16x2x2x128x1, .f32⟩
  | 91 => ⟨S2x16x2x2x128x1, .f32⟩
  | 92 => ⟨S2x16x2x2x128x1, .f32⟩
  | 93 => ⟨S2x16x2x2x128x1, .f32⟩
  | 94 => ⟨S2x16x2x2x128x1, .i1⟩
  | 95 => ⟨S2x16x2x2x128x1, .f32⟩
  | 96 => ⟨S2x16x2x2x128x1, .i1⟩
  | 97 => ⟨S_, .f32⟩
  | 98 => ⟨S2x16x2x2x128x1, .f32⟩
  | 99 => ⟨S_, .f32⟩
  | 100 => ⟨S2x16x2x2x128x1, .f32⟩
  | 101 => ⟨S_, .f32⟩
  | 102 => ⟨S2x16x2x2x128x1, .f32⟩
  | 103 => ⟨S2x16x2x2x128x1, .f32⟩
  | 104 => ⟨S2x16x2x2x128x1, .f32⟩
  | 105 => ⟨S2x16x2x2x128x256, .f32⟩
  | 106 => ⟨S2x16x2x2x128x256, .f32⟩
  | 107 => ⟨S2x16x2x2x128x256, .f32⟩
  | 108 => ⟨S_, .f32⟩
  | 109 => ⟨S2x16x2x2x128, .f32⟩
  | 110 => ⟨S2x16x2x2x128x1, .f32⟩
  | 111 => ⟨S2x16x2x2x128x1, .f32⟩
  | 112 => ⟨S2x16x2x2x128x1, .f32⟩
  | 113 => ⟨S2x16x2x2x128x1, .f32⟩
  | 114 => ⟨S2x16x2x2x128x1, .f32⟩
  | 115 => ⟨S2x16x2x2x128x256, .f32⟩
  | 116 => ⟨S2x16x2x2x128x256, .f32⟩
  | 117 => ⟨S2x16x2x2x128x1, .f32⟩
  | 118 => ⟨S_, .f32⟩
  | 119 => ⟨S2x16x2x2x128x1, .f32⟩
  | 120 => ⟨S2x16x2x2x128x1, .f32⟩
  | 121 => ⟨S2x16x2x64x2x128, .f32⟩
  | 122 => ⟨S2x16x128x2x2x64, .f32⟩
  | 123 => ⟨S2x2048x256, .f32⟩
  | 124 => ⟨S2x256x256, .f32⟩
  | 125 => ⟨S2x256x256, .f32⟩
  | 126 => ⟨S2x2048x4x64, .f32⟩
  | 127 => ⟨S2x256x4x64, .f32⟩
  | _ => ⟨S2x2048x1024, .f32⟩

abbrev hbmTy0_2 (i : Nat) : BufTy := match i % 128 with
  | 0 => ⟨S2x256x4x64, .f32⟩
  | 1 => ⟨S2x4x2048x256, .f32⟩
  | 2 => ⟨S_, .f32⟩
  | 3 => ⟨S2x4x2048x256, .f32⟩
  | 4 => ⟨S2x4x2048x256, .f32⟩
  | 5 => ⟨S_, .f32⟩
  | 6 => ⟨S2x4x2048, .f32⟩
  | 7 => ⟨S2x4x2048x1, .f32⟩
  | 8 => ⟨S2x4x2048x256, .f32⟩
  | 9 => ⟨S2x4x2048x256, .i1⟩
  | 10 => ⟨S2x4x2048x256, .f32⟩
  | 11 => ⟨S_, .f32⟩
  | 12 => ⟨S2x4x2048, .f32⟩
  | 13 => ⟨S_, .f32⟩
  | 14 => ⟨S2x4x2048, .f32⟩
  | 15 => ⟨S2x4x2048, .f32⟩
  | 16 => ⟨S_, .f32⟩
  | 17 => ⟨S2x4x2048, .f32⟩
  | 18 => ⟨S2x4x2048, .i1⟩
  | 19 => ⟨S_, .f32⟩
  | 20 => ⟨S2x4x2048, .f32⟩
  | 21 => ⟨S2x4x2048, .i1⟩
  | 22 => ⟨S_, .f32⟩
  | 23 => ⟨S2x4x2048, .f32⟩
  | 24 => ⟨S_, .f32⟩
  | 25 => ⟨S2x4x2048, .f32⟩
  | 26 => ⟨S_, .f32⟩
  | 27 => ⟨S2x4x2048, .f32⟩
  | 28 => ⟨S2x4x2048, .f32⟩
  | 29 => ⟨S2x4x2048, .f32⟩
  | 30 => ⟨S2x4x2048x1, .f32⟩
  | 31 => ⟨S2x4x2048x256, .f32⟩
  | 32 => ⟨S2x4x2048x256, .f32⟩
  | 33 => ⟨S2x4x2048x256, .f32⟩
  | 34 => ⟨S_, .f32⟩
  | 35 => ⟨S2x4x2048, .f32⟩
  | 36 => ⟨S2x4x2048x1, .f32⟩
  | 37 => ⟨S2x4x2048x256, .f32⟩
  | 38 => ⟨S2x4x2048x256, .f32⟩
  | 39 => ⟨S2x4x2048x1, .f32⟩
  | 40 => ⟨S_, .f32⟩
  | 41 => ⟨S2x4x2048x1, .f32⟩
  | 42 => ⟨S2x4x2048x1, .f32⟩
  | 43 => ⟨S2x4x64x2048, .f32⟩
  | 44 => ⟨S2x2048x4x64, .f32⟩
  | 45 => ⟨S2x2048x256, .f32⟩
  | 46 => ⟨S2x2048x1024, .f32⟩
  | 47 => ⟨S2x2048x512, .f32⟩
  | 48 => ⟨S2x2048x256, .f32⟩
  | 49 => ⟨S2x2048x256, .f32⟩
  | 50 => ⟨S2x2048x4x64, .f32⟩
  | 51 => ⟨S2x4x64x2048, .f32⟩
  | 52 => ⟨S2x4x2048x256, .f32⟩
  | 53 => ⟨S2x4x64x256, .f32⟩
  | 54 => ⟨S2x256x4x64, .f32⟩
  | 55 => ⟨S2x4x2048x256, .f32⟩
  | 56 => ⟨S2x4x2048x256, .f32⟩
  | 57 => ⟨S2x4x2048x256, .f32⟩
  | 58 => ⟨S_, .f32⟩
  | 59 => ⟨S2x4x2048, .f32⟩
  | 60 => ⟨S2x4x2048x1, .f32⟩
  | 61 => ⟨S2x4x2048x1, .f32⟩
  | 62 => ⟨S2x4x2048x256, .f32⟩
  | 63 => ⟨S2x4x2048x256, .f32⟩
  | 64 => ⟨S_, .f32⟩
  | 65 => ⟨S2x4x2048, .f32⟩
  | 66 => ⟨S2x4x2048x256, .f32⟩
  | 67 => ⟨S2x4x2048x256, .f32⟩
  | 68 => ⟨S2x4x2048x256, .f32⟩
  | 69 => ⟨S_, .f32⟩
  | 70 => ⟨S2x4x2048x256, .f32⟩
  | 71 => ⟨S2x4x2048x256, .f32⟩
  | 72 => ⟨S2x4x256x64, .f32⟩
  | 73 => ⟨S2x256x4x64, .f32⟩
  | 74 => ⟨S2x4x2048x64, .f32⟩
  | 75 => ⟨S2x2048x4x64, .f32⟩
  | 76 => ⟨S2x256x256, .f32⟩
  | 77 => ⟨S2x256x256, .f32⟩
  | 78 => ⟨S2x2048x256, .f32⟩
  | 79 => ⟨S2x256x512, .f32⟩
  | 80 => ⟨S2x16x128x2x2x64, .f32⟩
  | 81 => ⟨S2x16x2x64x2x128, .f32⟩
  | 82 => ⟨S2x16x2x2x128x256, .f32⟩
  | 83 => ⟨S2x16x2x64x256, .f32⟩
  | 84 => ⟨S2x16x256x2x64, .f32⟩
  | 85 => ⟨S2x16x2x2x128x256, .f32⟩
  | 86 => ⟨S2x16x2x2x128x256, .f32⟩
  | 87 => ⟨S2x16x2x2x128x256, .f32⟩
  | 88 => ⟨S_, .f32⟩
  | 89 => ⟨S2x16x2x2x128, .f32⟩
  | 90 => ⟨S2x16x2x2x128x1, .f32⟩
  | 91 => ⟨S2x16x2x2x128x1, .f32⟩
  | 92 => ⟨S2x16x2x2x128x256, .f32⟩
  | 93 => ⟨S2x16x2x2x128x256, .f32⟩
  | 94 => ⟨S2x16x2x2x128x1, .f32⟩
  | 95 => ⟨S_, .f32⟩
  | 96 => ⟨S2x2x1, .f32⟩
  | 97 => ⟨S1x1x2x2x1x1, .f32⟩
  | 98 => ⟨S2x16x2x2x128x1, .f32⟩
  | 99 => ⟨S_, .f32⟩
  | 100 => ⟨S2x16x2x2x128, .f32⟩
  | 101 => ⟨S2x16x2x2x128x256, .f32⟩
  | 102 => ⟨S2x16x2x2x128x256, .f32⟩
  | 103 => ⟨S2x16x2x2x128x256, .f32⟩
  | 104 => ⟨S2x16x2x2x128x256, .f32⟩
  | 105 => ⟨S_, .f32⟩
  | 106 => ⟨S2x16x2x2x128, .f32⟩
  | 107 => ⟨S2x16x2x2x128x1, .f32⟩
  | 108 => ⟨S2x16x2x2x128x1, .f32⟩
  | 109 => ⟨S2x16x2x2x128x1, .f32⟩
  | 110 => ⟨S_, .f32⟩
  | 111 => ⟨S2x2x1, .f32⟩
  | 112 => ⟨S1x1x2x2x1x1, .f32⟩
  | 113 => ⟨S1x1x2x2x1x1, .f32⟩
  | 114 => ⟨S2x16x2x2x128x1, .f32⟩
  | 115 => ⟨S_, .f32⟩
  | 116 => ⟨S2x16x2x2x128, .f32⟩
  | 117 => ⟨S2x16x2x2x128, .f32⟩
  | 118 => ⟨S2x16x2x2x128x256, .f32⟩
  | 119 => ⟨S2x16x2x2x128x256, .f32⟩
  | 120 => ⟨S2x16x2x2x128x256, .f32⟩
  | 121 => ⟨S4, .f32⟩
  | 122 => ⟨S_, .f32⟩
  | 123 => ⟨S2x16x2x2x128x256, .f32⟩
  | 124 => ⟨S2x16x2x2x128x256, .f32⟩
  | 125 => ⟨S_, .f32⟩
  | 126 => ⟨S2x2x128x256, .f32⟩
  | 127 => ⟨S1x1x2x2x128x256, .f32⟩
  | _ => ⟨S2x2048x1024, .f32⟩

abbrev hbmTy0_3 (i : Nat) : BufTy := match i % 128 with
  | 0 => ⟨S_, .f32⟩
  | 1 => ⟨S2x2x128x256, .f32⟩
  | 2 => ⟨S4x128x256, .f32⟩
  | 3 => ⟨S128x256x4, .f32⟩
  | 4 => ⟨S_, .f32⟩
  | 5 => ⟨S32x4, .f32⟩
  | 6 => ⟨S32x4, .f32⟩
  | 7 => ⟨S_, .f32⟩
  | 8 => ⟨S2x16x2x2x128x256, .f32⟩
  | 9 => ⟨S2x16x2x2x128x256, .f32⟩
  | 10 => ⟨S2x16x2x256x128x2, .f32⟩
  | 11 => ⟨S2x16x2x128x2x64, .f32⟩
  | 12 => ⟨S2x16x128x2x2x64, .f32⟩
  | 13 => ⟨S2x16x2x256x64, .f32⟩
  | 14 => ⟨S2x16x256x2x64, .f32⟩
  | 15 => ⟨S2x16x128x2x64, .f32⟩
  | 16 => ⟨S2x16x128x2x64, .f32⟩
  | 17 => ⟨S2x1x128x2x64, .f32⟩
  | 18 => ⟨S2x15x128x2x64, .f32⟩
  | 19 => ⟨S_, .f32⟩
  | 20 => ⟨S2x16x128x2x64, .f32⟩
  | 21 => ⟨S2x16x128x2x64, .f32⟩
  | 22 => ⟨S2x2048x2x64, .f32⟩
  | 23 => ⟨S2x16x128x2x64, .f32⟩
  | 24 => ⟨S2x16x128x2x64, .f32⟩
  | 25 => ⟨S2x1x128x2x64, .f32⟩
  | 26 => ⟨S2x15x128x2x64, .f32⟩
  | 27 => ⟨S_, .f32⟩
  | 28 => ⟨S2x16x128x2x64, .f32⟩
  | 29 => ⟨S2x16x128x2x64, .f32⟩
  | 30 => ⟨S2x2048x2x64, .f32⟩
  | 31 => ⟨S2x2048x4x64, .f32⟩
  | 32 => ⟨S1x4, .f32⟩
  | 33 => ⟨S2x2048x128, .f32⟩
  | 34 => ⟨S2x2048x128, .f32⟩
  | 35 => ⟨S2x2048x256, .f32⟩
  | 36 => ⟨S2x2048x512, .f32⟩
  | 37 => ⟨S2x2048x512, .f32⟩
  | 38 => ⟨S2x16x128x4x128, .f32⟩
  | 39 => ⟨S_, .f32⟩
  | 40 => ⟨S128x4, .f32⟩
  | 41 => ⟨S1x1x128x4x1, .f32⟩
  | 42 => ⟨S_, .f32⟩
  | 43 => ⟨S128x4, .f32⟩
  | 44 => ⟨S4x128, .f32⟩
  | 45 => ⟨S4x2x16x128x128, .f32⟩
  | 46 => ⟨S4x128x128, .f32⟩
  | 47 => ⟨S4x2x16x128x128, .f32⟩
  | 48 => ⟨S2x16x128x4x128, .f32⟩
  | 49 => ⟨S4x128x128, .f32⟩
  | 50 => ⟨S4x128x128, .f32⟩
  | 51 => ⟨S2x2048x4x128, .f32⟩
  | 52 => ⟨S_, .f32⟩
  | 53 => ⟨S4x128, .f32⟩
  | 54 => ⟨S1x1x4x128, .f32⟩
  | 55 => ⟨S_, .f32⟩
  | 56 => ⟨S4x128, .f32⟩
  | 57 => ⟨S512, .f32⟩
  | 58 => ⟨S2x2048x4x128, .f32⟩
  | 59 => ⟨S_, .f32⟩
  | 60 => ⟨S4x128, .f32⟩
  | 61 => ⟨S1x1x4x128, .f32⟩
  | 62 => ⟨S2x2048x4x128, .f32⟩
  | 63 => ⟨S2x2048x4x128, .f32⟩
  | 64 => ⟨S_, .f32⟩
  | 65 => ⟨S4x128, .f32⟩
  | 66 => ⟨S512, .f32⟩
  | 67 => ⟨S2x2048x4x128, .f32⟩
  | 68 => ⟨S_, .f32⟩
  | 69 => ⟨S2x2048x4, .f32⟩
  | 70 => ⟨S2x2048x4x1, .f32⟩
  | 71 => ⟨S2x2048x4x128, .f32⟩
  | 72 => ⟨S2x2048x4x128, .f32⟩
  | 73 => ⟨S2x2048x4x1, .f32⟩
  | 74 => ⟨S2x2048x4x128, .f32⟩
  | 75 => ⟨S_, .f32⟩
  | 76 => ⟨S2x2048x4, .f32⟩
  | 77 => ⟨S2x2048x4x1, .f32⟩
  | 78 => ⟨S_, .f32⟩
  | 79 => ⟨S2x2048x4x1, .f32⟩
  | 80 => ⟨S2x2048x4x1, .f32⟩
  | 81 => ⟨S_, .f32⟩
  | 82 => ⟨S2x2048x4, .f32⟩
  | 83 => ⟨S2x2048x4x128, .f32⟩
  | 84 => ⟨S2x2048x4x128, .f32⟩
  | 85 => ⟨S2x2048x4x128, .f32⟩
  | 86 => ⟨S_, .f32⟩
  | 87 => ⟨S2x2048x4, .f32⟩
  | 88 => ⟨S2x2048x4x1, .f32⟩
  | 89 => ⟨S2x2048x4x128, .f32⟩
  | 90 => ⟨S2x2048x4x1, .f32⟩
  | 91 => ⟨S_, .f32⟩
  | 92 => ⟨S2x2048x4x1, .f32⟩
  | 93 => ⟨S2x2048x4x1, .f32⟩
  | 94 => ⟨S_, .f32⟩
  | 95 => ⟨S2x2048x4, .f32⟩
  | 96 => ⟨S2x2048x4x128, .f32⟩
  | 97 => ⟨S2x2048x4x128, .f32⟩
  | 98 => ⟨S2x2048x512, .f32⟩
  | 99 => ⟨S1x4x128, .f32⟩
  | 100 => ⟨S1x4x128x128, .f32⟩
  | 101 => ⟨S1x512, .f32⟩
  | 102 => ⟨S1x512, .f32⟩
  | 103 => ⟨S2x2048x512, .f32⟩
  | 104 => ⟨S2x2048x512, .f32⟩
  | 105 => ⟨S_, .f32⟩
  | 106 => ⟨S2x2048x512, .f32⟩
  | 107 => ⟨S2x2048x512, .f32⟩
  | 108 => ⟨S2x2048x512, .f32⟩
  | 109 => ⟨S_, .f32⟩
  | 110 => ⟨S2x2048x512, .f32⟩
  | 111 => ⟨S2x2048x512, .f32⟩
  | 112 => ⟨S2x2048x512, .f32⟩
  | 113 => ⟨S2x2048x512, .f32⟩
  | 114 => ⟨S2x2048x512, .f32⟩
  | 115 => ⟨S2x2048x512, .f32⟩
  | 116 => ⟨S2x2048x512, .f32⟩
  | 117 => ⟨S2x2048x512, .f32⟩
  | 118 => ⟨S2x2048x512, .f32⟩
  | 119 => ⟨S_, .f32⟩
  | 120 => ⟨S2x2048x512, .f32⟩
  | 121 => ⟨S2x2048x512, .f32⟩
  | 122 => ⟨S2x2048x512, .f32⟩
  | 123 => ⟨S_, .f32⟩
  | 124 => ⟨S2x2048x512, .f32⟩
  | 125 => ⟨S2x2048x512, .f32⟩
  | 126 => ⟨S2x2048x512, .f32⟩
  | 127 => ⟨S2x2048x512, .f32⟩
  | _ => ⟨S2x2048x1024, .f32⟩

abbrev hbmTy0_4 (i : Nat) : BufTy := match i % 128 with
  | 0 => ⟨S2x2048x512, .f32⟩
  | 1 => ⟨S2x2048x512, .f32⟩
  | 2 => ⟨S2x2048x512, .f32⟩
  | 3 => ⟨S2x2048x768, .f32⟩
  | 4 => ⟨S2x2048x1024, .f32⟩
  | 5 => ⟨S4096x1024, .f32⟩
  | 6 => ⟨S4096x1024, .bf16⟩
  | 7 => ⟨S4x128x128, .f32⟩
  | 8 => ⟨S4x128, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_cst_3 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_cst_11 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_12 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_13 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_14 : Ref sig .tc := ⟨.hbm, 66, rfl⟩
abbrev main_v40 : Ref sig .tc := ⟨.hbm, 67, rfl⟩
abbrev main_v41 : Ref sig .tc := ⟨.hbm, 68, rfl⟩
abbrev main_cst_15 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_16 : Ref sig .tc := ⟨.hbm, 73, rfl⟩
abbrev main_v45 : Ref sig .tc := ⟨.hbm, 74, rfl⟩
abbrev main_v46 : Ref sig .tc := ⟨.hbm, 75, rfl⟩
abbrev main_cst_17 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_18 : Ref sig .tc := ⟨.hbm, 85, rfl⟩
abbrev main_v55 : Ref sig .tc := ⟨.hbm, 86, rfl⟩
abbrev main_v56 : Ref sig .tc := ⟨.hbm, 87, rfl⟩
abbrev main_cst_19 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_20 : Ref sig .tc := ⟨.hbm, 94, rfl⟩
abbrev main_v62 : Ref sig .tc := ⟨.hbm, 95, rfl⟩
abbrev main_v63 : Ref sig .tc := ⟨.hbm, 96, rfl⟩
abbrev main_cst_21 : Ref sig .tc := ⟨.hbm, 97, rfl⟩
abbrev main_v64 : Ref sig .tc := ⟨.hbm, 98, rfl⟩
abbrev main_v65 : Ref sig .tc := ⟨.hbm, 99, rfl⟩
abbrev main_cst_22 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_23 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_24 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_v87 : Ref sig .tc := ⟨.hbm, 125, rfl⟩
abbrev main_call0_v0 : Ref sig .tc := ⟨.hbm, 126, rfl⟩
abbrev main_call0_c : Ref sig .tc := ⟨.hbm, 127, rfl⟩
abbrev main_call0_v1 : Ref sig .tc := ⟨.hbm, 128, rfl⟩
abbrev main_call0_v2 : Ref sig .tc := ⟨.hbm, 129, rfl⟩
abbrev main_call0_v3 : Ref sig .tc := ⟨.hbm, 130, rfl⟩
abbrev main_call0_v4 : Ref sig .tc := ⟨.hbm, 131, rfl⟩
abbrev main_call0_cst : Ref sig .tc := ⟨.hbm, 132, rfl⟩
abbrev main_call0_v5 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_26 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_27 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_28 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_29 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_30 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_31 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_32 : Ref sig .tc := ⟨.hbm, 190, rfl⟩
abbrev main_call1_v0 : Ref sig .tc := ⟨.hbm, 191, rfl⟩
abbrev main_v138_1 : Ref sig .tc := ⟨.hbm, 192, rfl⟩
abbrev main_call1_v2 : Ref sig .tc := ⟨.hbm, 193, rfl⟩
abbrev main_v138_0 : Ref sig .tc := ⟨.hbm, 194, rfl⟩
abbrev main_call1_cst : Ref sig .tc := ⟨.hbm, 195, rfl⟩
abbrev main_v138_2 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_34 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_35 : Ref sig .tc := ⟨.hbm, 213, rfl⟩
abbrev main_v153 : Ref sig .tc := ⟨.hbm, 214, rfl⟩
abbrev main_cst_36 : Ref sig .tc := ⟨.hbm, 215, rfl⟩
abbrev main_v154 : Ref sig .tc := ⟨.hbm, 216, rfl⟩
abbrev main_cst_37 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_38 : Ref sig .tc := ⟨.hbm, 225, rfl⟩
abbrev main_v162 : Ref sig .tc := ⟨.hbm, 226, rfl⟩
abbrev main_cst_39 : Ref sig .tc := ⟨.hbm, 227, rfl⟩
abbrev main_v163 : Ref sig .tc := ⟨.hbm, 228, rfl⟩
abbrev main_cst_40 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_41 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_42 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_cst_43 : Ref sig .tc := ⟨.hbm, 258, rfl⟩
abbrev main_v190 : Ref sig .tc := ⟨.hbm, 259, rfl⟩
abbrev main_v191 : Ref sig .tc := ⟨.hbm, 260, rfl⟩
abbrev main_cst_44 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_45 : Ref sig .tc := ⟨.hbm, 267, rfl⟩
abbrev main_v197 : Ref sig .tc := ⟨.hbm, 268, rfl⟩
abbrev main_cst_46 : Ref sig .tc := ⟨.hbm, 269, rfl⟩
abbrev main_v198 : Ref sig .tc := ⟨.hbm, 270, rfl⟩
abbrev main_v199 : Ref sig .tc := ⟨.hbm, 271, rfl⟩
abbrev main_cst_47 : Ref sig .tc := ⟨.hbm, 272, rfl⟩
abbrev main_v200 : Ref sig .tc := ⟨.hbm, 273, rfl⟩
abbrev main_v201 : Ref sig .tc := ⟨.hbm, 274, rfl⟩
abbrev main_cst_48 : Ref sig .tc := ⟨.hbm, 275, rfl⟩
abbrev main_v202 : Ref sig .tc := ⟨.hbm, 276, rfl⟩
abbrev main_v203 : Ref sig .tc := ⟨.hbm, 277, rfl⟩
abbrev main_cst_49 : Ref sig .tc := ⟨.hbm, 278, rfl⟩
abbrev main_v204 : Ref sig .tc := ⟨.hbm, 279, rfl⟩
abbrev main_cst_50 : Ref sig .tc := ⟨.hbm, 280, rfl⟩
abbrev main_v205 : Ref sig .tc := ⟨.hbm, 281, rfl⟩
abbrev main_cst_51 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_cst_52 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_cst_53 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_cst_54 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_cst_55 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_cst_56 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_57 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_cst_58 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_cst_59 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_cst_60 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_cst_61 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_cst_62 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_v289 : Ref sig .tc := ⟨.hbm, 377, rfl⟩
abbrev main_call2_cst : Ref sig .tc := ⟨.hbm, 378, rfl⟩
abbrev main_call2_v0 : Ref sig .tc := ⟨.hbm, 379, rfl⟩
abbrev main_v290 : Ref sig .tc := ⟨.hbm, 380, rfl⟩
abbrev main_cst_63 : Ref sig .tc := ⟨.hbm, 381, rfl⟩
abbrev main_v291 : Ref sig .tc := ⟨.hbm, 382, rfl⟩
abbrev main_v292 : Ref sig .tc := ⟨.hbm, 383, rfl⟩
abbrev main_cst_64 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_cst_65 : Ref sig .tc := ⟨.hbm, 388, rfl⟩
abbrev main_v296 : Ref sig .tc := ⟨.hbm, 389, rfl⟩
abbrev main_v297 : Ref sig .tc := ⟨.hbm, 390, rfl⟩
abbrev main_cst_66 : Ref sig .tc := ⟨.hbm, 391, rfl⟩
abbrev main_v298 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_cst_67 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_v315 : Ref sig .tc := ⟨.hbm, 410, rfl⟩
abbrev main_cst_68 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_cst_69 : Ref sig .tc := ⟨.hbm, 423, rfl⟩
abbrev main_v327 : Ref sig .tc := ⟨.hbm, 424, rfl⟩
abbrev main_v328 : Ref sig .tc := ⟨.hbm, 425, rfl⟩
abbrev main_cst_70 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_cst_71 : Ref sig .tc := ⟨.hbm, 436, rfl⟩
abbrev main_v338 : Ref sig .tc := ⟨.hbm, 437, rfl⟩
abbrev main_v339 : Ref sig .tc := ⟨.hbm, 438, rfl⟩
abbrev main_cst_72 : Ref sig .tc := ⟨.hbm, 439, rfl⟩
abbrev main_v340 : Ref sig .tc := ⟨.hbm, 440, rfl⟩
abbrev main_v341 : Ref sig .tc := ⟨.hbm, 441, rfl⟩
abbrev main_v342 : Ref sig .tc := ⟨.hbm, 442, rfl⟩
abbrev main_cst_73 : Ref sig .tc := ⟨.hbm, 443, rfl⟩
abbrev main_v343 : Ref sig .tc := ⟨.hbm, 444, rfl⟩
abbrev main_v344 : Ref sig .tc := ⟨.hbm, 445, rfl⟩
abbrev main_v345 : Ref sig .tc := ⟨.hbm, 446, rfl⟩
abbrev main_v346 : Ref sig .tc := ⟨.hbm, 447, rfl⟩
abbrev main_cst_74 : Ref sig .tc := ⟨.hbm, 448, rfl⟩
abbrev main_v347 : Ref sig .tc := ⟨.hbm, 449, rfl⟩
abbrev main_v348 : Ref sig .tc := ⟨.hbm, 450, rfl⟩
abbrev main_v349 : Ref sig .tc := ⟨.hbm, 451, rfl⟩
abbrev main_cst_75 : Ref sig .tc := ⟨.hbm, 452, rfl⟩
abbrev main_v350 : Ref sig .tc := ⟨.hbm, 453, rfl⟩
abbrev main_v351 : Ref sig .tc := ⟨.hbm, 454, rfl⟩
abbrev main_v352 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_cst_76 : Ref sig .tc := ⟨.hbm, 459, rfl⟩
abbrev main_v356 : Ref sig .tc := ⟨.hbm, 460, rfl⟩
abbrev main_v357 : Ref sig .tc := ⟨.hbm, 461, rfl⟩
abbrev main_cst_77 : Ref sig .tc := ⟨.hbm, 462, rfl⟩
abbrev main_v358 : Ref sig .tc := ⟨.hbm, 463, rfl⟩
abbrev main_v359 : Ref sig .tc := ⟨.hbm, 464, rfl⟩
abbrev main_cst_78 : Ref sig .tc := ⟨.hbm, 465, rfl⟩
abbrev main_v360 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_cst_79 : Ref sig .tc := ⟨.hbm, 470, rfl⟩
abbrev main_v364 : Ref sig .tc := ⟨.hbm, 471, rfl⟩
abbrev main_v365 : Ref sig .tc := ⟨.hbm, 472, rfl⟩
abbrev main_v366 : Ref sig .tc := ⟨.hbm, 473, rfl⟩
abbrev main_v367 : Ref sig .tc := ⟨.hbm, 474, rfl⟩
abbrev main_cst_80 : Ref sig .tc := ⟨.hbm, 475, rfl⟩
abbrev main_v368 : Ref sig .tc := ⟨.hbm, 476, rfl⟩
abbrev main_v369 : Ref sig .tc := ⟨.hbm, 477, rfl⟩
abbrev main_cst_81 : Ref sig .tc := ⟨.hbm, 478, rfl⟩
abbrev main_v370 : Ref sig .tc := ⟨.hbm, 479, rfl⟩
abbrev main_v371 : Ref sig .tc := ⟨.hbm, 480, rfl⟩
abbrev main_v372 : Ref sig .tc := ⟨.hbm, 481, rfl⟩
abbrev main_v373 : Ref sig .tc := ⟨.hbm, 482, rfl⟩
abbrev main_v374 : Ref sig .tc := ⟨.hbm, 483, rfl⟩
abbrev main_v375 : Ref sig .tc := ⟨.hbm, 484, rfl⟩
abbrev main_v376 : Ref sig .tc := ⟨.hbm, 485, rfl⟩
abbrev main_v377 : Ref sig .tc := ⟨.hbm, 486, rfl⟩
abbrev main_v378 : Ref sig .tc := ⟨.hbm, 487, rfl⟩
abbrev main_v379 : Ref sig .tc := ⟨.hbm, 488, rfl⟩
abbrev main_cst_82 : Ref sig .tc := ⟨.hbm, 489, rfl⟩
abbrev main_v380 : Ref sig .tc := ⟨.hbm, 490, rfl⟩
abbrev main_v381 : Ref sig .tc := ⟨.hbm, 491, rfl⟩
abbrev main_v382 : Ref sig .tc := ⟨.hbm, 492, rfl⟩
abbrev main_cst_83 : Ref sig .tc := ⟨.hbm, 493, rfl⟩
abbrev main_v383 : Ref sig .tc := ⟨.hbm, 494, rfl⟩
abbrev main_v384 : Ref sig .tc := ⟨.hbm, 495, rfl⟩
abbrev main_v385 : Ref sig .tc := ⟨.hbm, 496, rfl⟩
abbrev main_v386 : Ref sig .tc := ⟨.hbm, 497, rfl⟩
abbrev main_v387 : Ref sig .tc := ⟨.hbm, 498, rfl⟩
abbrev main_v388 : Ref sig .tc := ⟨.hbm, 499, rfl⟩
abbrev main_v389 : Ref sig .tc := ⟨.hbm, 500, rfl⟩
abbrev main_v390 : Ref sig .tc := ⟨.hbm, 501, rfl⟩
abbrev main_v391 : Ref sig .tc := ⟨.hbm, 502, rfl⟩
abbrev main_cst_84 : Ref sig .tc := ⟨.hbm, 503, rfl⟩
abbrev main_v392 : Ref sig .tc := ⟨.hbm, 504, rfl⟩
abbrev main_v393 : Ref sig .tc := ⟨.hbm, 505, rfl⟩
abbrev main_v394 : Ref sig .tc := ⟨.hbm, 506, rfl⟩
abbrev main_cst_85 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩

abbrev nD : Nat := 1
abbrev τ : Topo := Topo.v7x

variable {F : FTy → Type} [FloatOps F]
-- ==== InBwd.lean ====
abbrev S2x2048x1024 : Shape := ⟨3, ![2, 2048, 1024]⟩
abbrev S1x1024 : Shape := ⟨2, ![1, 1024]⟩
abbrev S1x1024x2816 : Shape := ⟨3, ![1, 1024, 2816]⟩
abbrev S2x2048x2816 : Shape := ⟨3, ![2, 2048, 2816]⟩
abbrev S4096x2816 : Shape := ⟨2, ![4096, 2816]⟩
abbrev S4096x1024 : Shape := ⟨2, ![4096, 1024]⟩
abbrev S4096x768 : Shape := ⟨2, ![4096, 768]⟩
abbrev S1024x2816 : Shape := ⟨2, ![1024, 2816]⟩
abbrev S2816x1024 : Shape := ⟨2, ![2816, 1024]⟩
abbrev S512x1024 : Shape := ⟨2, ![512, 1024]⟩
abbrev S512x768 : Shape := ⟨2, ![512, 768]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S1024 : Shape := ⟨1, ![1024]⟩

abbrev nBuf : Space → Nat
  | .hbm => 18
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S2x2048x1024, .f32⟩
  | .hbm, ⟨4, _⟩ => ⟨S2x2048x2816, .f32⟩
  | .hbm, ⟨5, _⟩ => ⟨S4096x2816, .f32⟩
  | .hbm, ⟨6, _⟩ => ⟨S4096x2816, .bf16⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x768, .bf16⟩
  | .hbm, ⟨11, _⟩ => ⟨S4096x1024, .bf16⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S4096x1024, .f32⟩
  | .hbm, ⟨16, _⟩ => ⟨S2816x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S2816x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InGradIdeal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S2x2048x2816 : Shape := ⟨3, ![2, 2048, 2816]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S4096x1024 : Shape := ⟨2, ![4096, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S2x2048x1024, .f32⟩
  | .hbm, ⟨4, _⟩ => ⟨S2x2048x2816, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x2816, .f32⟩
  | .hbm, ⟨27, _⟩ => ⟨S2x2048x2816, .f32⟩
  | .hbm, ⟨28, _⟩ => ⟨S2816x1024, .f32⟩
  | .hbm, ⟨29, _⟩ => ⟨S1024x2816, .f32⟩
  | .hbm, ⟨30, _⟩ => ⟨S2x2048x1024, .f32⟩
  | .hbm, ⟨31, _⟩ => ⟨S1x1024x2816, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S1x1024, .f32⟩
  | .hbm, ⟨59, _⟩ => ⟨S4096x1024, .f32⟩
  | .hbm, ⟨60, _⟩ => ⟨S1024x2816, .f32⟩
  | .hbm, ⟨61, _⟩ => ⟨S2816x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== MixFwd.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S1x1024 : Shape := ⟨2, ![1, 1024]⟩
abbrev S1x1024x1024 : Shape := ⟨3, ![1, 1024, 1024]⟩
abbrev S256 : Shape := ⟨1, ![256]⟩
abbrev S4x128x128 : Shape := ⟨3, ![4, 128, 128]⟩
abbrev S4x128 : Shape := ⟨2, ![4, 128]⟩
abbrev S128x256 : Shape := ⟨2, ![128, 256]⟩
abbrev S_ : Shape := ⟨0, ![]⟩
abbrev S128x256x1 : Shape := ⟨3, ![128, 256, 1]⟩
abbrev S1x128x256 : Shape := ⟨3, ![1, 128, 256]⟩
abbrev S128x256x4 : Shape := ⟨3, ![128, 256, 4]⟩
abbrev S4x128x256 : Shape := ⟨3, ![4, 128, 256]⟩
abbrev S128x128 : Shape := ⟨2, ![128, 128]⟩
abbrev S1x128x128 : Shape := ⟨3, ![1, 128, 128]⟩
abbrev S4x128x1 : Shape := ⟨3, ![4, 128, 1]⟩
abbrev S4096x1024 : Shape := ⟨2, ![4096, 1024]⟩
abbrev S4 : Shape := ⟨1, ![4]⟩
abbrev S1024x1024 : Shape := ⟨2, ![1024, 1024]⟩
abbrev S8x128 : Shape := ⟨2, ![8, 128]⟩
abbrev S256x1024 : Shape := ⟨2, ![256, 1024]⟩
abbrev S1x2048x768 : Shape := ⟨3, ![1, 2048, 768]⟩
abbrev S1x256x512 : Shape := ⟨3, ![1, 256, 512]⟩
abbrev S128 : Shape := ⟨1, ![128]⟩
abbrev S128x1 : Shape := ⟨2, ![128, 1]⟩
abbrev S1x128 : Shape := ⟨2, ![1, 128]⟩
abbrev S256x128 : Shape := ⟨2, ![256, 128]⟩
abbrev S1 : Shape := ⟨1, ![1]⟩
abbrev S1x256x128 : Shape := ⟨3, ![1, 256, 128]⟩
abbrev S256x256 : Shape := ⟨2, ![256, 256]⟩
abbrev S256x1 : Shape := ⟨2, ![256, 1]⟩
abbrev S1x1 : Shape := ⟨2, ![1, 1]⟩
abbrev S1024 : Shape := ⟨1, ![1024]⟩

abbrev nBuf : Space → Nat
  | .hbm => 90
  | .vmem => 29
  | .smem => 1
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x768, .f32⟩
  | .hbm, ⟨3, _⟩ => ⟨S2x256x512, .f32⟩
  | .hbm, ⟨4, _⟩ => ⟨S2x2048x1024, .f32⟩
  | .hbm, ⟨5, _⟩ => ⟨S2x2048x1024, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S1x4, .f32⟩
  | .hbm, ⟨11, _⟩ => ⟨S32x4, .f32⟩
  | .hbm, ⟨12, _⟩ => ⟨S1x1024, .f32⟩
  | .hbm, ⟨13, _⟩ => ⟨S1x1024x1024, .f32⟩
  | .hbm, ⟨14, _⟩ => ⟨S256, .i32⟩
  | .hbm, ⟨15, _⟩ => ⟨S4x128x128, .f32⟩
  | .hbm, ⟨16, _⟩ => ⟨S4x128, .f32⟩
  | .hbm, ⟨17, _⟩ => ⟨S128x256, .i32⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S128x256, .i1⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S128x256x1, .i32⟩
  | .hbm, ⟨41, _⟩ => ⟨S128x256, .i32⟩
  | .hbm, ⟨42, _⟩ => ⟨S1x128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S128x256, .i32⟩
  | .hbm, ⟨50, _⟩ => ⟨S128x256x1, .i32⟩
  | .hbm, ⟨51, _⟩ => ⟨S128x256x4, .f32⟩
  | .hbm, ⟨52, _⟩ => ⟨S4x128x256, .f32⟩
  | .hbm, ⟨53, _⟩ => ⟨S_, .f32⟩
  | .hbm, ⟨54, _⟩ => ⟨S_, .f32⟩
  | .hbm, ⟨55, _⟩ => ⟨S4x128x256, .i1⟩
  | .hbm, ⟨56, _⟩ => ⟨S4x128x256, .f32⟩
  | .hbm, ⟨57, _⟩ => ⟨S4x128x256, .f32⟩
  | .hbm, ⟨58, _⟩ => ⟨S_, .f32⟩
  | .hbm, ⟨59, _⟩ => ⟨S128x128, .f32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S1x128x128, .f32⟩
  | .hbm, ⟨70, _⟩ => ⟨S4x128x128, .f32⟩
  | .hbm, ⟨71, _⟩ => ⟨S4x128x128, .f32⟩
  | .hbm, ⟨72, _⟩ => ⟨S4x128x1, .f32⟩
  | .hbm, ⟨73, _⟩ => ⟨S4x128x128, .f32⟩
  | .hbm, ⟨74, _⟩ => ⟨S4x128x128, .bf16⟩
  | .hbm, ⟨75, _⟩ => ⟨S4096x1024, .f32⟩
  | .hbm, ⟨76, _⟩ => ⟨S4096x1024, .f32⟩
  | .hbm, ⟨77, _⟩ => ⟨S2x2048x768, .bf16⟩
  | .hbm, ⟨78, _⟩ => ⟨S2x256x512, .bf16⟩
  | .hbm, ⟨79, _⟩ => ⟨S4096x1024, .f32⟩
  | .hbm, ⟨80, _⟩ => ⟨S4096x1024, .f32⟩
  | .hbm, ⟨81, _⟩ => ⟨S4, .f32⟩
  | .hbm, ⟨82, _⟩ => ⟨S1024x1024, .f32⟩
  | .hbm, ⟨83, _⟩ => ⟨S1024x1024, .bf16⟩
  | .hbm, ⟨84, _⟩ => ⟨S4096x1024, .f32⟩
  | .hbm, ⟨85, _⟩ => ⟨S4096x1024, .bf16⟩
  | .hbm, ⟨86, _⟩ => ⟨S4096x1024, .f32⟩
  | .hbm, ⟨87, _⟩ => ⟨S1024x1024, .f32⟩
  | .hbm, ⟨88, _⟩ => ⟨S1x1024, .f32⟩
  | .hbm, ⟨89, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x2048x768, .bf16⟩
  | .local _ .vmem, ⟨5, _⟩ => ⟨S1x2048x768, .bf16⟩
  | .local _ .vmem, ⟨6, _⟩ => ⟨S1x256x512, .bf16⟩
  | .local _ .vmem, ⟨7, _⟩ => ⟨S1x256x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S4x128x256, .f32⟩
  | .local _ .vmem, ⟨13, _⟩ => ⟨S1x512, .f32⟩
  | .local _ .vmem, ⟨14, _⟩ => ⟨S1x512, .f32⟩
  | .local _ .vmem, ⟨15, _⟩ => ⟨S4x128x128, .bf16⟩
  | .local _ .vmem, ⟨16, _⟩ => ⟨S4x128x128, .f32⟩
  | .local _ .vmem, ⟨17, _⟩ => ⟨S1x1024, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1024x1024, .f32⟩
  | .local _ .vmem, ⟨26, _⟩ => ⟨S1x1024, .f32⟩
  | .local _ .vmem, ⟨27, _⟩ => ⟨S8x128, .f32⟩
  | .local _ .vmem, ⟨28, _⟩ => ⟨S256x1024, .f32⟩
  | .local _ .smem, ⟨0, _⟩ => ⟨S4, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_cst : Ref sig .tc := ⟨.hbm, 66, rfl⟩
abbrev main_call1_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48_0 : Ref sig .tc := ⟨.hbm, 84, rfl⟩
abbrev main_v48_1 : Ref sig .tc := ⟨.hbm, 85, rfl⟩
abbrev main_v48_2 : Ref sig .tc := ⟨.hbm, 86, rfl⟩
abbrev main_v48_3 : Ref sig .tc := ⟨.hbm, 87, rfl⟩
abbrev main_v48_4 : Ref sig .tc := ⟨.hbm, 88, rfl⟩
abbrev main_v48_5 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c2_i32 : BitVec 32 := 2#32
  let v8 : BitVec 32 := Scalar.muli arg1 c2_i32
  let c0_i32_2 : BitVec 32 := 0#32
  let v9 : BitVec 32 := Scalar.addi v8 c0_i32_2
  let c128_i32 : BitVec 32 := 128#32
  let v262 : BitVec 32 := Scalar.muli v9 c128_i32
  v262
def k0_mult2 (i : grid0.Coords) : BitVec 32 :=
  let arg1 : BitVec 32 := BitVec.ofNat 32 (i 1).val
  let c2_i32 : BitVec 32 := 2#32
  let v8 : BitVec 32 := Scalar.muli arg1 c2_i32
  let c0_i32_2 : BitVec 32 := 0#32
  let v9 : BitVec 32 := Scalar.addi v8 c0_i32_2
  let c1_i32 : BitVec 32 := 1#32
  let v264 : BitVec 32 := Scalar.subi v9 c1_i32
  let c0_i32_111 : BitVec 32 := 0#32
  let v265 : BitVec 32 := Scalar.maxsi v264 c0_i32_111
  let c128_i32_112 : BitVec 32 := 128#32
  let v266 : BitVec 32 := Scalar.muli v265 c128_i32_112
  v266
def k0_off1 (i : grid0.Coords) (c0_i32_2 : BitVec 32) : Fin 3 → Nat :=
  let c0_113 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_2
  let c1_i32 : BitVec 32 := 1#32
  let v264 : BitVec 32 := Scalar.subi v9 c1_i32
  let c0_i32_111 : BitVec 32 := 0#32
  let v265 : BitVec 32 := Scalar.maxsi v264 c0_i32_111
  let c128_i32_112 : BitVec 32 := 128#32
  let v266 : BitVec 32 := Scalar.muli v265 c128_i32_112
  let v267 : BitVec 32 := v266
  let v268 : Index := Scalar.indexCast v267
  let c256_114 : Index := 256#32
  ![0, v268.toNat, 256]
def k0_off2 (i : grid0.Coords) (c0_i32_2 : BitVec 32) : Fin 3 → Nat :=
  let c0_115 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_2
  let c128_i32 : BitVec 32 := 128#32
  let v262 : BitVec 32 := Scalar.muli v9 c128_i32
  let v263 : BitVec 32 := v262
  let v271 : Index := Scalar.indexCast v263
  let c256_116 : Index := 256#32
  ![0, v271.toNat, 256]
def k0_off3 (i : grid0.Coords) (c0_i32_2 : BitVec 32) : Fin 3 → Nat :=
  let c0_117 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_2
  let c1_i32 : BitVec 32 := 1#32
  let v264 : BitVec 32 := Scalar.subi v9 c1_i32
  let c0_i32_111 : BitVec 32 := 0#32
  let v265 : BitVec 32 := Scalar.maxsi v264 c0_i32_111
  let c128_i32_112 : BitVec 32 := 128#32
  let v266 : BitVec 32 := Scalar.muli v265 c128_i32_112
  let v267 : BitVec 32 := v266
  let v275 : Index := Scalar.indexCast v267
  let c384_118 : Index := 384#32
  ![0, v275.toNat, 384]
def k0_off4 (i : grid0.Coords) (c0_i32_2 : BitVec 32) : Fin 3 → Nat :=
  let c0_119 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_2
  let c128_i32 : BitVec 32 := 128#32
  let v262 : BitVec 32 := Scalar.muli v9 c128_i32
  let v263 : BitVec 32 := v262
  let v278 : Index := Scalar.indexCast v263
  let c384_120 : Index := 384#32
  ![0, v278.toNat, 384]
def k0_off5 (i : grid0.Coords) (c0_i32_2 : BitVec 32) : Fin 3 → Nat :=
  let c0_129 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_2
  let c128_i32 : BitVec 32 := 128#32
  let v262 : BitVec 32 := Scalar.muli v9 c128_i32
  let v263 : BitVec 32 := v262
  let v309 : Index := Scalar.indexCast v263
  let c0_130 : Index := 0#32
  ![0, v309.toNat, 0]
def k0_off6 (i : grid0.Coords) (c0_i32_2 : BitVec 32) : Fin 3 → Nat :=
  let c0_156 : Index := 0#32
  let arg1 : BitVec 32 := BitVec.ofNat 32 (i 1).val
  let c2_i32 : BitVec 32 := 2#32
  let v8 : BitVec 32 := Scalar.muli arg1 c2_i32
  let v9 : BitVec 32 := Scalar.addi v8 c0_i32_2
  let c128_i32 : BitVec 32 := 128#32
  let v262 : BitVec 32 := Scalar.muli v9 c128_i32
  let v263 : BitVec 32 := v262
  let v379 : Index := Scalar.indexCast v263
  let c128_157 : Index := 128#32
  ![0, v379.toNat, 128]
def k0_mult3 (i : grid0.Coords) : BitVec 32 :=
  let arg1 : BitVec 32 := BitVec.ofNat 32 (i 1).val
  let c2_i32_183 : BitVec 32 := 2#32
  let v449 : BitVec 32 := Scalar.muli arg1 c2_i32_183
  let c1_i32_184 : BitVec 32 := 1#32
  let v450 : BitVec 32 := Scalar.addi v449 c1_i32_184
  let c128_i32_305 : BitVec 32 := 128#32
  let v703 : BitVec 32 := Scalar.muli v450 c128_i32_305
  v703
def k0_mult4 (i : grid0.Coords) : BitVec 32 :=
  let arg1 : BitVec 32 := BitVec.ofNat 32 (i 1).val
  let c2_i32_183 : BitVec 32 := 2#32
  let v449 : BitVec 32 := Scalar.muli arg1 c2_i32_183
  let c1_i32_184 : BitVec 32 := 1#32
  let v450 : BitVec 32 := Scalar.addi v449 c1_i32_184
  let c1_i32_306 : BitVec 32 := 1#32
  let v705 : BitVec 32 := Scalar.subi v450 c1_i32_306
  let c0_i32_307 : BitVec 32 := 0#32
  let v706 : BitVec 32 := Scalar.maxsi v705 c0_i32_307
  let c128_i32_308 : BitVec 32 := 128#32
  let v707 : BitVec 32 := Scalar.muli v706 c128_i32_308
  v707
def k0_mult5 (i : grid0.Coords) : BitVec 32 :=
  let arg1 : BitVec 32 := BitVec.ofNat 32 (i 1).val
  let c256_i32 : BitVec 32 := 256#32
  let v893 : BitVec 32 := Scalar.muli arg1 c256_i32
  v893
def k0_off7 (i : grid0.Coords) : Fin 3 → Nat :=
  let c0_380 : Index := 0#32
  let arg1 : BitVec 32 := BitVec.ofNat 32 (i 1).val
  let c256_i32 : BitVec 32 := 256#32
  let v893 : BitVec 32 := Scalar.muli arg1 c256_i32
  let v894 : BitVec 32 := v893
  let v895 : Index := Scalar.indexCast v894
  let c512_381 : Index := 512#32
  ![0, v895.toNat, 512]
def k0_off8 (i : grid0.Coords) : Fin 3 → Nat :=
  let c0_405 : Index := 0#32
  let arg1 : BitVec 32 := BitVec.ofNat 32 (i 1).val
  let c256_i32 : BitVec 32 := 256#32
  let v893 : BitVec 32 := Scalar.muli arg1 c256_i32
  let v894 : BitVec 32 := v893
  let v947 : Index := Scalar.indexCast v894
  let c640_406 : Index := 640#32
  ![0, v947.toNat, 640]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== MixFwdIdeal.lean ====
variable {F : FTy → Type} [FloatOps F] [Named F]
def κ : String → Option EReal := fun
  | "gelu_3a" => some ((26829 / 200000 : ℝ) : EReal)
  | "gelu_a" => some ((8943 / 200000 : ℝ) : EReal)
  | "neg" => some ⊥
  | _ => none
-- ==== OutGradIdeal.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S1x1024 : Shape := ⟨2, ![1, 1024]⟩
abbrev S1x1024x1024 : Shape := ⟨3, ![1, 1024, 1024]⟩
abbrev S128x256 : Shape := ⟨2, ![128, 256]⟩
abbrev S16x1x256 : Shape := ⟨3, ![16, 1, 256]⟩
abbrev S2x2048x512 : Shape := ⟨3, ![2, 2048, 512]⟩
abbrev S2x2048x256 : Shape := ⟨3, ![2, 2048, 256]⟩
abbrev S2x2048x128 : Shape := ⟨3, ![2, 2048, 128]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x4x128 : Shape := ⟨4, ![1, 1, 4, 128]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S2x2048x4x64 : Shape := ⟨4, ![2, 2048, 4, 64]⟩
abbrev S2x2048x2x64 : Shape := ⟨4, ![2, 2048, 2, 64]⟩
abbrev S4 : Shape := ⟨1, ![4]⟩
abbrev S2x16x128x2x2x64 : Shape := ⟨6, ![2, 16, 128, 2, 2, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x2 : Shape := ⟨6, ![2, 16, 2, 256, 128, 2]⟩
abbrev S2x16x2x2x128x256 : Shape := ⟨6, ![2, 16, 2, 2, 128, 256]⟩
abbrev S1x128x256 : Shape := ⟨3, ![1, 128, 256]⟩
abbrev S16x128x256 : Shape := ⟨3, ![16, 128, 256]⟩
abbrev S128x256x1 : Shape := ⟨3, ![128, 256, 1]⟩
abbrev S128x256x4 : Shape := ⟨3, ![128, 256, 4]⟩
abbrev S4x128x256 : Shape := ⟨3, ![4, 128, 256]⟩
abbrev S2x2x128x256 : Shape := ⟨4, ![2, 2, 128, 256]⟩
abbrev S1x16x1x1x128x256 : Shape := ⟨6, ![1, 16, 1, 1, 128, 256]⟩
abbrev S1x1x2x2x128x256 : Shape := ⟨6, ![1, 1, 2, 2, 128, 256]⟩
abbrev S1x1x2x2x1x1 : Shape := ⟨6, ![1, 1, 2, 2, 1, 1]⟩
abbrev S2x16x2x2x128 : Shape := ⟨5, ![2, 16, 2, 2, 128]⟩
abbrev S2x16x2x2x128x1 : Shape := ⟨6, ![2, 16, 2, 2, 128, 1]⟩
abbrev S2x16x2x64x2x128 : Shape := ⟨6, ![2, 16, 2, 64, 2, 128]⟩
abbrev S2x256x256 : Shape := ⟨3, ![2, 256, 256]⟩
abbrev S2x256x4x64 : Shape := ⟨4, ![2, 256, 4, 64]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S1024x1024 : Shape := ⟨2, ![1024, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 268
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x768, .f32⟩
  | 3 => ⟨S2x256x512, .f32⟩
  | 4 => ⟨S2x2048x1024, .f32⟩
  | 5 => ⟨S2x2048x1024, .f32⟩
  | 6 => ⟨S1x512, .f32⟩
  | 7 => ⟨S1x512, .f32⟩
  | 8 => ⟨S1x4x128x128, .f32⟩
  | 9 => ⟨S1x4x128, .f32⟩
  | 10 => ⟨S1x4, .f32⟩
  | 11 => ⟨S32x4, .f32⟩
  | 12 => ⟨S1x1024, .f32⟩
  | 13 => ⟨S1x1024x1024, .f32⟩
  | 14 => ⟨S128x256, .i1⟩
  | 15 => ⟨S16x1x256, .i1⟩
  | 16 => ⟨S128x256, .i32⟩
  | 17 => ⟨S128x256, .i1⟩
  | 18 => ⟨S2x2048x512, .f32⟩
  | 19 => ⟨S2x2048x512, .f32⟩
  | 20 => ⟨S2x2048x256, .f32⟩
  | 21 => ⟨S2x2048x128, .f32⟩
  | 22 => ⟨S2x2048x128, .f32⟩
  | 23 => ⟨S2x2048x256, .f32⟩
  | 24 => ⟨S_, .f32⟩
  | 25 => ⟨S_, .f32⟩
  | 26 => ⟨S_, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S_, .f32⟩
  | 33 => ⟨S2x2048x512, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S_, .f32⟩
  | 44 => ⟨S_, .f32⟩
  | 45 => ⟨S_, .f32⟩
  | 46 => ⟨S2x2048x512, .f32⟩
  | 47 => ⟨S2x2048x512, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S2x2048x512, .f32⟩
  | 62 => ⟨S512, .f32⟩
  | 63 => ⟨S512, .f32⟩
  | 64 => ⟨S4x128x128, .f32⟩
  | 65 => ⟨S4x128, .f32⟩
  | 66 => ⟨S2x2048x4x128, .f32⟩
  | 67 => ⟨S_, .f32⟩
  | 68 => ⟨S2x2048x4, .f32⟩
  | 69 => ⟨S2x2048x4x1, .f32⟩
  | 70 => ⟨S_, .f32⟩
  | 71 => ⟨S2x2048x4x1, .f32⟩
  | 72 => ⟨S2x2048x4x1, .f32⟩
  | 73 => ⟨S2x2048x4x128, .f32⟩
  | 74 => ⟨S2x2048x4x128, .f32⟩
  | 75 => ⟨S2x2048x4x128, .f32⟩
  | 76 => ⟨S_, .f32⟩
  | 77 => ⟨S2x2048x4, .f32⟩
  | 78 => ⟨S2x2048x4x1, .f32⟩
  | 79 => ⟨S_, .f32⟩
  | 80 => ⟨S2x2048x4x1, .f32⟩
  | 81 => ⟨S2x2048x4x1, .f32⟩
  | 82 => ⟨S2x2048x4x128, .f32⟩
  | 83 => ⟨S2x2048x4x128, .f32⟩
  | 84 => ⟨S_, .f32⟩
  | 85 => ⟨S2x2048x4x1, .f32⟩
  | 86 => ⟨S2x2048x4x1, .f32⟩
  | 87 => ⟨S2x2048x4x1, .f32⟩
  | 88 => ⟨S2x2048x4x128, .f32⟩
  | 89 => ⟨S2x2048x4x128, .f32⟩
  | 90 => ⟨S4x128, .f32⟩
  | 91 => ⟨S1x1x4x128, .f32⟩
  | 92 => ⟨S2x2048x4x128, .f32⟩
  | 93 => ⟨S2x2048x4x128, .f32⟩
  | 94 => ⟨S4x128, .f32⟩
  | 95 => ⟨S1x1x4x128, .f32⟩
  | 96 => ⟨S2x2048x4x128, .f32⟩
  | 97 => ⟨S2x2048x4x128, .f32⟩
  | 98 => ⟨S2x16x128x4x128, .f32⟩
  | 99 => ⟨S_, .f32⟩
  | 100 => ⟨S128x128, .f32⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .f32⟩
  | 108 => ⟨S128x128, .f32⟩
  | 109 => ⟨S128x128, .f32⟩
  | 110 => ⟨S1x128x128, .f32⟩
  | 111 => ⟨S4x128x128, .f32⟩
  | 112 => ⟨S4x128x128, .f32⟩
  | 113 => ⟨S4x2x16x128x128, .f32⟩
  | 114 => ⟨S2x16x128x4x128, .f32⟩
  | 115 => ⟨S128x4, .f32⟩
  | 116 => ⟨S1x1x128x4x1, .f32⟩
  | 117 => ⟨S2x16x128x4x128, .f32⟩
  | 118 => ⟨S2x16x128x4x128, .f32⟩
  | 119 => ⟨S2x2048x512, .f32⟩
  | 120 => ⟨S2x2048x512, .f32⟩
  | 121 => ⟨S2x2048x4x64, .f32⟩
  | 122 => ⟨S2x2048x2x64, .f32⟩
  | 123 => ⟨S2x2048x2x64, .f32⟩
  | 124 => ⟨S4, .f32⟩
  | 125 => ⟨S2x16x128x2x2x64, .f32⟩
  | 126 => ⟨S2x16x128x2x64, .f32⟩
  | 127 => ⟨S2x1x128x2x64, .f32⟩
  | _ => ⟨S2x2048x1024, .f32⟩

abbrev hbmTy0_1 (i : Nat) : BufTy := match i % 128 with
  | 0 => ⟨S_, .f32⟩
  | 1 => ⟨S2x1x128x2x64, .f32⟩
  | 2 => ⟨S2x15x128x2x64, .f32⟩
  | 3 => ⟨S2x16x128x2x64, .f32⟩
  | 4 => ⟨S2x16x256x2x64, .f32⟩
  | 5 => ⟨S2x16x128x2x64, .f32⟩
  | 6 => ⟨S2x1x128x2x64, .f32⟩
  | 7 => ⟨S_, .f32⟩
  | 8 => ⟨S2x1x128x2x64, .f32⟩
  | 9 => ⟨S2x15x128x2x64, .f32⟩
  | 10 => ⟨S2x16x128x2x64, .f32⟩
  | 11 => ⟨S2x16x256x2x64, .f32⟩
  | 12 => ⟨S2x16x2x256x128x2, .f32⟩
  | 13 => ⟨S2x16x2x2x128x256, .f32⟩
  | 14 => ⟨S_, .f32⟩
  | 15 => ⟨S2x16x2x2x128x256, .f32⟩
  | 16 => ⟨S2x16x2x2x128x256, .f32⟩
  | 17 => ⟨S1x128x256, .i1⟩
  | 18 => ⟨S16x128x256, .i1⟩
  | 19 => ⟨S16x128x256, .i1⟩
  | 20 => ⟨S16x128x256, .i1⟩
  | 21 => ⟨S_, .i32⟩
  | 22 => ⟨S128x256, .i32⟩
  | 23 => ⟨S128x256, .i32⟩
  | 24 => ⟨S128x256, .i32⟩
  | 25 => ⟨S128x256x1, .i32⟩
  | 26 => ⟨S128x256x4, .f32⟩
  | 27 => ⟨S4x128x256, .f32⟩
  | 28 => ⟨S2x2x128x256, .f32⟩
  | 29 => ⟨S1x16x1x1x128x256, .i1⟩
  | 30 => ⟨S1x1x2x2x128x256, .f32⟩
  | 31 => ⟨S2x16x2x2x128x256, .f32⟩
  | 32 => ⟨S2x16x2x2x128x256, .f32⟩
  | 33 => ⟨S_, .f32⟩
  | 34 => ⟨S_, .f32⟩
  | 35 => ⟨S2x16x2x2x128x256, .i1⟩
  | 36 => ⟨S2x16x2x2x128x256, .f32⟩
  | 37 => ⟨S2x16x2x2x128x256, .f32⟩
  | 38 => ⟨S1x1x2x2x1x1, .f32⟩
  | 39 => ⟨S_, .f32⟩
  | 40 => ⟨S2x16x2x2x128, .f32⟩
  | 41 => ⟨S2x16x2x2x128x1, .f32⟩
  | 42 => ⟨S2x16x2x2x128x1, .f32⟩
  | 43 => ⟨S2x16x2x2x128x1, .f32⟩
  | 44 => ⟨S2x16x2x2x128x256, .f32⟩
  | 45 => ⟨S2x16x2x2x128x256, .f32⟩
  | 46 => ⟨S2x16x2x2x128x256, .f32⟩
  | 47 => ⟨S_, .f32⟩
  | 48 => ⟨S2x16x2x2x128, .f32⟩
  | 49 => ⟨S2x16x2x2x128x1, .f32⟩
  | 50 => ⟨S2x16x2x2x128x1, .f32⟩
  | 51 => ⟨S2x16x2x2x128x1, .f32⟩
  | 52 => ⟨S2x16x2x2x128x1, .f32⟩
  | 53 => ⟨S2x16x2x2x128x1, .f32⟩
  | 54 => ⟨S2x16x2x2x128x256, .f32⟩
  | 55 => ⟨S2x16x2x2x128x256, .f32⟩
  | 56 => ⟨S2x16x2x64x2x128, .f32⟩
  | 57 => ⟨S2x16x128x2x2x64, .f32⟩
  | 58 => ⟨S2x2048x256, .f32⟩
  | 59 => ⟨S2x256x256, .f32⟩
  | 60 => ⟨S2x256x256, .f32⟩
  | 61 => ⟨S2x2048x4x64, .f32⟩
  | 62 => ⟨S2x256x4x64, .f32⟩
  | 63 => ⟨S2x256x4x64, .f32⟩
  | 64 => ⟨S2x4x2048x256, .f32⟩
  | 65 => ⟨S_, .f32⟩
  | 66 => ⟨S2x4x2048x256, .f32⟩
  | 67 => ⟨S2x4x2048x256, .f32⟩
  | 68 => ⟨S_, .f32⟩
  | 69 => ⟨S2x4x2048, .f32⟩
  | 70 => ⟨S_, .f32⟩
  | 71 => ⟨S2x4x2048, .f32⟩
  | 72 => ⟨S2x4x2048, .f32⟩
  | 73 => ⟨S2x4x2048x1, .f32⟩
  | 74 => ⟨S2x4x2048x256, .f32⟩
  | 75 => ⟨S2x4x2048x256, .f32⟩
  | 76 => ⟨S2x4x2048x256, .f32⟩
  | 77 => ⟨S_, .f32⟩
  | 78 => ⟨S2x4x2048, .f32⟩
  | 79 => ⟨S2x4x2048x1, .f32⟩
  | 80 => ⟨S2x4x2048x256, .f32⟩
  | 81 => ⟨S2x4x2048x256, .f32⟩
  | 82 => ⟨S2x4x64x2048, .f32⟩
  | 83 => ⟨S2x2048x4x64, .f32⟩
  | 84 => ⟨S2x2048x256, .f32⟩
  | 85 => ⟨S2x2048x1024, .f32⟩
  | 86 => ⟨S2x2048x1024, .f32⟩
  | 87 => ⟨S2x2048x1024, .f32⟩
  | 88 => ⟨S_, .f32⟩
  | 89 => ⟨S2x2048x1024, .f32⟩
  | 90 => ⟨S2x2048x1024, .f32⟩
  | 91 => ⟨S_, .f32⟩
  | 92 => ⟨S2x2048x1024, .f32⟩
  | 93 => ⟨S2x2048x1024, .f32⟩
  | 94 => ⟨S2x2048x1024, .f32⟩
  | 95 => ⟨S2x2048x1024, .f32⟩
  | 96 => ⟨S1024x1024, .f32⟩
  | 97 => ⟨S2x2048x1024, .f32⟩
  | 98 => ⟨S1024, .f32⟩
  | 99 => ⟨S2x2048x1024, .f32⟩
  | 100 => ⟨S_, .f32⟩
  | 101 => ⟨S2x2048, .f32⟩
  | 102 => ⟨S2x2048x1, .f32⟩
  | 103 => ⟨S_, .f32⟩
  | 104 => ⟨S2x2048x1, .f32⟩
  | 105 => ⟨S2x2048x1, .f32⟩
  | 106 => ⟨S_, .f32⟩
  | 107 => ⟨S2x2048x1, .f32⟩
  | 108 => ⟨S2x2048x1, .f32⟩
  | 109 => ⟨S2x2048x1, .f32⟩
  | 110 => ⟨S2x2048x1024, .f32⟩
  | 111 => ⟨S2x2048x1024, .f32⟩
  | 112 => ⟨S1x1x1024, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S_, .f32⟩
  | 119 => ⟨S2x2048x1024, .f32⟩
  | 120 => ⟨S2x2048x1024, .f32⟩
  | 121 => ⟨S_, .f32⟩
  | 122 => ⟨S2x2048, .f32⟩
  | 123 => ⟨S_, .f32⟩
  | 124 => ⟨S2x2048, .f32⟩
  | 125 => ⟨S2x2048, .f32⟩
  | 126 => ⟨S_, .f32⟩
  | 127 => ⟨S_, .f32⟩
  | _ => ⟨S2x2048x1024, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S2x2048, .f32⟩
  | 6 => ⟨S_, .f32⟩
  | 7 => ⟨S2x2048, .f32⟩
  | 8 => ⟨S2x2048, .f32⟩
  | 9 => ⟨S2x2048x1024, .f32⟩
  | 10 => ⟨S2x2048x1024, .f32⟩
  | 11 => ⟨S4096x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_c_2 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_cst_3 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_cst_8 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_cst_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_cst : Ref sig .tc := ⟨.hbm, 107, rfl⟩
abbrev main_call0_v5 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_20 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_21 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_22 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_v115 : Ref sig .tc := ⟨.hbm, 165, rfl⟩
abbrev main_v116 : Ref sig .tc := ⟨.hbm, 166, rfl⟩
abbrev main_cst_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_24 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_25 : Ref sig .tc := ⟨.hbm, 193, rfl⟩
abbrev main_v141 : Ref sig .tc := ⟨.hbm, 194, rfl⟩
abbrev main_v142 : Ref sig .tc := ⟨.hbm, 195, rfl⟩
abbrev main_cst_26 : Ref sig .tc := ⟨.hbm, 196, rfl⟩
abbrev main_v143 : Ref sig .tc := ⟨.hbm, 197, rfl⟩
abbrev main_cst_27 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_28 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_call2_v0 : Ref sig .tc := ⟨.hbm, 214, rfl⟩
abbrev main_call2_v1 : Ref sig .tc := ⟨.hbm, 215, rfl⟩
abbrev main_call2_cst : Ref sig .tc := ⟨.hbm, 216, rfl⟩
abbrev main_call2_v2 : Ref sig .tc := ⟨.hbm, 217, rfl⟩
abbrev main_call2_v3 : Ref sig .tc := ⟨.hbm, 218, rfl⟩
abbrev main_call2_cst_0 : Ref sig .tc := ⟨.hbm, 219, rfl⟩
abbrev main_call2_v4 : Ref sig .tc := ⟨.hbm, 220, rfl⟩
abbrev main_call2_v5 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_29 : Ref sig .tc := ⟨.hbm, 228, rfl⟩
abbrev main_v164 : Ref sig .tc := ⟨.hbm, 229, rfl⟩
abbrev main_v165 : Ref sig .tc := ⟨.hbm, 230, rfl⟩
abbrev main_cst_30 : Ref sig .tc := ⟨.hbm, 231, rfl⟩
abbrev main_v166 : Ref sig .tc := ⟨.hbm, 232, rfl⟩
abbrev main_v167 : Ref sig .tc := ⟨.hbm, 233, rfl⟩
abbrev main_cst_31 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_32 : Ref sig .tc := ⟨.hbm, 246, rfl⟩
abbrev main_v179 : Ref sig .tc := ⟨.hbm, 247, rfl⟩
abbrev main_v180 : Ref sig .tc := ⟨.hbm, 248, rfl⟩
abbrev main_cst_33 : Ref sig .tc := ⟨.hbm, 249, rfl⟩
abbrev main_v181 : Ref sig .tc := ⟨.hbm, 250, rfl⟩
abbrev main_cst_34 : Ref sig .tc := ⟨.hbm, 251, rfl⟩
abbrev main_v182 : Ref sig .tc := ⟨.hbm, 252, rfl⟩
abbrev main_v183 : Ref sig .tc := ⟨.hbm, 253, rfl⟩
abbrev main_cst_35 : Ref sig .tc := ⟨.hbm, 254, rfl⟩
abbrev main_v184 : Ref sig .tc := ⟨.hbm, 255, rfl⟩
abbrev main_cst_36 : Ref sig .tc := ⟨.hbm, 256, rfl⟩
abbrev main_v185 : Ref sig .tc := ⟨.hbm, 257, rfl⟩
abbrev main_cst_37 : Ref sig .tc := ⟨.hbm, 258, rfl⟩
abbrev main_cst_38 : Ref sig .tc := ⟨.hbm, 259, rfl⟩
abbrev main_v186 : Ref sig .tc := ⟨.hbm, 260, rfl⟩
abbrev main_v187 : Ref sig .tc := ⟨.hbm, 261, rfl⟩
abbrev main_cst_39 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩

abbrev nD : Nat := 1
abbrev τ : Topo := Topo.v7x

variable {F : FTy → Type} [FloatOps F]
-- ==== MemFwd.lean ====
abbrev S2x256x1024 : Shape := ⟨3, ![2, 256, 1024]⟩
abbrev S1x1024 : Shape := ⟨2, ![1, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x512, .f32⟩
  | .hbm, ⟨3, _⟩ => ⟨S512x1024, .f32⟩
  | .hbm, ⟨4, _⟩ => ⟨S1024x512, .f32⟩
  | .hbm, ⟨5, _⟩ => ⟨S1024x512, .bf16⟩
  | .hbm, ⟨6, _⟩ => ⟨S512x512, .bf16⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemKvIdeal.lean ====
abbrev S2x256x1024 : Shape := ⟨3, ![2, 256, 1024]⟩
abbrev S1x1024 : Shape := ⟨2, ![1, 1024]⟩
abbrev S1x1024x512 : Shape := ⟨3, ![1, 1024, 512]⟩
abbrev S1024x512 : Shape := ⟨2, ![1024, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S512x512 : Shape := ⟨2, ![512, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x512, .f32⟩
  | .hbm, ⟨3, _⟩ => ⟨S1024x512, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x256x512, .f32⟩
  | .hbm, ⟨22, _⟩ => ⟨S512x512, .f32⟩
  | .hbm, ⟨23, _⟩ => ⟨S512x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InFwd.lean ====
abbrev S2x2048x1024 : Shape := ⟨3, ![2, 2048, 1024]⟩
abbrev S1x1024 : Shape := ⟨2, ![1, 1024]⟩
abbrev S1x1024x2816 : Shape := ⟨3, ![1, 1024, 2816]⟩
abbrev S4096x1024 : Shape := ⟨2, ![4096, 1024]⟩
abbrev S1024x2816 : Shape := ⟨2, ![1024, 2816]⟩
abbrev S2816x1024 : Shape := ⟨2, ![2816, 1024]⟩
abbrev S4096x768 : Shape := ⟨2, ![4096, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S4096x1024, .f32⟩
  | .hbm, ⟨8, _⟩ => ⟨S4096x768, .bf16⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x1024, .f32⟩
  | .local _ .vmem, ⟨9, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjIdeal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2x2048x768 : Shape := ⟨3, ![2, 2048, 768]⟩
abbrev S4096x1024 : Shape := ⟨2, ![4096, 1024]⟩
abbrev S4096x768 : Shape := ⟨2, ![4096, 768]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S1024x2816, .f32⟩
  | .hbm, ⟨21, _⟩ => ⟨S2x2048x2816, .f32⟩
  | .hbm, ⟨22, _⟩ => ⟨S2x2048x1024, .f32⟩
  | .hbm, ⟨23, _⟩ => ⟨S2x2048x768, .f32⟩
  | .hbm, ⟨24, _⟩ => ⟨S2x2048x1024, .f32⟩
  | .hbm, ⟨25, _⟩ => ⟨S4096x1024, .f32⟩
  | .hbm, ⟨26, _⟩ => ⟨S4096x768, .f32⟩
  | .hbm, ⟨27, _⟩ => ⟨S4096x768, .bf16⟩
  | .hbm, ⟨28, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Common.Sums.lean ====
/- Sums over several axes at once, as a host reduction takes them, read as iterated sums; and a sum over the rows of a
   flattened array, row by row of its batches. Sizes are free, so one lemma serves every array of the step. -/
module

public import Idealize.ShloMosaic.Lib.Pointwise
public import Idealize.ShloMosaic.PureOps.Ideal.Laws

@[expose] public section

noncomputable section

namespace Cert.Common

open Idealize.ShloMosaic

/-- A host sum into a result whose index `j` is reached exactly from the sources `g k`, each once. -/
theorem hostSum_of_fiber {s t : Shape} {axes : List (Fin s.rank)} (h : s.ReducesTo axes t) {κ : Type} [Fintype κ]
    (x : s.Idx → EReal) (z : EReal) (j : t.Idx) (g : κ → s.Idx) (inj : Function.Injective g)
    (fib : ∀ i, h.drop i = j ↔ ∃ k, g k = i) : Ideal.hostReduceAdd h x z j = z + ∑ k, x (g k) := by
  unfold Ideal.hostReduceAdd
  rw [Finset.sum_filter_eq_sum_of_fiber _ g inj fib]

/-- The sum over the first two axes of three. -/
theorem hostSum_3_01 {a b n : ℕ} (h : (⟨3, ![a, b, n]⟩ : Shape).ReducesTo [0, 1] ⟨1, ![n]⟩)
    (x : (⟨3, ![a, b, n]⟩ : Shape).Idx → EReal) (z : EReal) (j : Fin n) :
    Ideal.hostReduceAdd h x z (ix1 j) = z + ∑ p : Fin a, ∑ q : Fin b, x (ix3 p q j) := by
  rw [hostSum_of_fiber h x z (ix1 j) (fun k : Fin a × Fin b => ix3 k.1 k.2 j)
    (fun k l e => Prod.ext (congrFun e 0) (congrFun e 1)), Fintype.sum_prod_type]
  intro i
  constructor
  · intro e
    exact ⟨(i 0, i 1), by rw [show j = i 2 from (congrFun e 0).symm]; exact ix3_eta i⟩
  · rintro ⟨k, rfl⟩
    funext b
    match b with
    | ⟨0, _⟩ => rfl

/-- The sum over the first two axes of four. -/
theorem hostSum_4_01 {a b c n : ℕ} (h : (⟨4, ![a, b, c, n]⟩ : Shape).ReducesTo [0, 1] ⟨2, ![c, n]⟩)
    (x : (⟨4, ![a, b, c, n]⟩ : Shape).Idx → EReal) (z : EReal) (i : Fin c) (j : Fin n) :
    Ideal.hostReduceAdd h x z (ix2 i j) = z + ∑ p : Fin a, ∑ q : Fin b, x (ix4 p q i j) := by
  rw [hostSum_of_fiber h x z (ix2 i j) (fun k : Fin a × Fin b => ix4 k.1 k.2 i j)
    (fun k l e => Prod.ext (congrFun e 0) (congrFun e 1)), Fintype.sum_prod_type]
  intro k
  constructor
  · intro e
    exact ⟨(k 0, k 1), by
      rw [show i = k 2 from (congrFun e 0).symm, show j = k 3 from (congrFun e 1).symm]; exact (eq_ix4 k).symm⟩
  · rintro ⟨k, rfl⟩
    funext b
    match b with
    | ⟨0, _⟩ => rfl
    | ⟨1, _⟩ => rfl

/-- The sum over the outer two axes and the last of five. -/
theorem hostSum_5_014 {a b c n d : ℕ} (h : (⟨5, ![a, b, c, n, d]⟩ : Shape).ReducesTo [0, 1, 4] ⟨2, ![c, n]⟩)
    (x : (⟨5, ![a, b, c, n, d]⟩ : Shape).Idx → EReal) (z : EReal) (i : Fin c) (j : Fin n) :
    Ideal.hostReduceAdd h x z (ix2 i j) = z + ∑ p : Fin a, ∑ q : Fin b, ∑ r : Fin d, x (ix5 p q i j r) := by
  rw [hostSum_of_fiber h x z (ix2 i j) (fun k : Fin a × Fin b × Fin d => ix5 k.1 k.2.1 i j k.2.2)
    (fun k l e => Prod.ext (congrFun e 0) (Prod.ext (congrFun e 1) (congrFun e 4))), Fintype.sum_prod_type]
  · simp only [Fintype.sum_prod_type]
  intro k
  constructor
  · intro e
    exact ⟨(k 0, k 1, k 4), by
      rw [show i = k 2 from (congrFun e 0).symm, show j = k 3 from (congrFun e 1).symm]; exact (eq_ix5 k).symm⟩
  · rintro ⟨k, rfl⟩
    funext b
    match b with
    | ⟨0, _⟩ => rfl
    | ⟨1, _⟩ => rfl

/-- A sum over the rows of a flattened array is the sum over batches of the sums over their rows. -/
theorem sum_rows {M : Type} [AddCommMonoid M] {a b n : ℕ} (hn : a * b = n) (f : Fin n → M) :
    ∑ r, f r = ∑ p : Fin a, ∑ q : Fin b, f ⟨b * p + q, by
      have := p.isLt; have := q.isLt; subst hn; nlinarith⟩ := by
  subst hn
  rw [← finProdFinEquiv.sum_comp, Fintype.sum_prod_type]
  exact Finset.sum_congr rfl fun p _ => Finset.sum_congr rfl fun q _ => congrArg f (Fin.ext (by
    simp [finProdFinEquiv, add_comm]))

/-- A contraction whose contracted indices are named, each once, by `e`. -/
theorem matmul_of_contr {sl sr so : Shape} (d : DotDims sl sr so) {κ : Type} [Fintype κ] (e : κ ≃ d.contr.Idx)
    (l : sl.Idx → EReal) (r : sr.Idx → EReal) (acc : so.Idx → EReal) (j : so.Idx) :
    Ideal.matmul d l r acc j = acc j + ∑ k, l (d.lhsIdx j (e k)) * r (d.rhsIdx j (e k)) :=
  congrArg (acc j + ·) (e.sum_comp fun k => l (d.lhsIdx j k) * r (d.rhsIdx j k)).symm

/-- Two double sums of extended reals agree where their terms do. -/
theorem sum_congr2 {a b : ℕ} {f g : Fin a → Fin b → EReal} (h : ∀ p q, f p q = g p q) :
    ∑ p, ∑ q, f p q = ∑ p, ∑ q, g p q :=
  Finset.sum_congr rfl fun p _ => Finset.sum_congr rfl fun q _ => h p q

end Cert.Common

end
-- ==== Proof.Mem.Spec.lean ====
/- The gradient of the memory's projection, index by index: `y = rms_norm(mem, g) @ w` with cotangent `d`. -/
module

public import Idealize.ShloMosaic.Lib.Pointwise
public import Idealize.ShloMosaic.PureOps.Ideal.Laws

@[expose] public section

noncomputable section

namespace Cert.Mem

open Idealize.ShloMosaic

/-- The memory tokens: two batches of 256 tokens of 1024 features. -/
abbrev Tokens := (⟨3, ![2, 256, 1024]⟩ : Shape).Idx → EReal
/-- The cotangent of the projection's result. -/
abbrev Cot := (⟨3, ![2, 256, 512]⟩ : Shape).Idx → EReal

/-- The inverse root mean square of token `r` of batch `b`. -/
def inv (x : Tokens) (b : Fin 2) (r : Fin 256) : EReal :=
  Ideal.rsqrt (Ideal.div (∑ k : Fin 1024, x (ix3 b r k) * x (ix3 b r k)) (Ideal.ofBits .f32 0x44800000#32) + Ideal.ofBits .f32 0x358637BD#32)

/-- The weight's gradient: normed and scaled tokens against the cotangent, summed over all tokens. -/
def dw (x : Tokens) (g : (⟨2, ![1, 1024]⟩ : Shape).Idx → EReal) (d : Cot) : (⟨2, ![1024, 512]⟩ : Shape).Idx → EReal :=
  fun i => ∑ b : Fin 2, ∑ r : Fin 256, d (ix3 b r (i 1)) * (x (ix3 b r (i 0)) * inv x b r * g (ix2 0 (i 0)))

/-- The norm's gain's gradient: the cotangent pulled back through the weight, times the normed tokens. -/
def dg (x : Tokens) (w : (⟨3, ![1, 1024, 512]⟩ : Shape).Idx → EReal) (d : Cot) : (⟨2, ![1, 1024]⟩ : Shape).Idx → EReal :=
  fun i => ∑ b : Fin 2, ∑ r : Fin 256, x (ix3 b r (i 1)) * inv x b r * ∑ n : Fin 512, d (ix3 b r n) * w (ix3 0 (i 1) n)

end Cert.Mem

end
-- ==== Proof.Mem.Kernel.lean ====
/- What the kernel's two result arrays hold after its one grid point. -/
module

public import proofs.«01_k».proof.Proof.Gen.MemBwdIdeal.Value
public import proofs.«01_k».proof.Proof.Common.Sums
public import proofs.«01_k».proof.Proof.Mem.Spec
public import Idealize.ShloMosaic.Lib.Pipeline.ValueKit

@[expose] public section

set_option maxRecDepth 16384

noncomputable section

namespace Cert.Mem

open Idealize.ShloMosaic Idealize.ShloMosaic.TcCoe Idealize.SL.Sem
open Cert.MemBwdIdeal Cert.MemBwdIdeal.Gen

variable (m : (ℓ : Loc nD τ sig) → Buf (Elt Ideal) ℓ)

theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] := by
  decide +kernel

/-- Row `256 b + r` of the flattened tokens is token `r` of batch `b`. -/
theorem read_mem (c : Dev nD) (t : Fin cfg0.N) (b : Fin 2) (r : Fin 256) (k : Fin 1024) (q : Fin 512) (hq : q.val = 256 * b + r) :
    iblk m c 1 t (ix2 q k) = m ((c : Thread nD τ).loc main_arg0) (ix3 b r k) := by
  blk_simp [iblk]; entry_read; pointwise; blk_ext [idx t]

/-- The same for the cotangent. -/
theorem read_d (c : Dev nD) (t : Fin cfg0.N) (b : Fin 2) (r : Fin 256) (k : Fin 512) (q : Fin 512) (hq : q.val = 256 * b + r) :
    iblk m c 0 t (ix2 q k) = m ((c : Thread nD τ).loc main_arg3) (ix3 b r k) := by
  blk_simp [iblk]; entry_read; pointwise; blk_ext [idx t]

theorem read_g (c : Dev nD) (t : Fin cfg0.N) (a : Fin 1) (k : Fin 1024) :
    iblk m c 2 t (ix2 a k) = m ((c : Thread nD τ).loc main_arg1) (ix2 0 k) := by
  blk_ext [iblk, V, idx t]

theorem read_w (c : Dev nD) (t : Fin cfg0.N) (k : Fin 1024) (n : Fin 512) :
    iblk m c 3 t (ix2 k n) = m ((c : Thread nD τ).loc main_arg2) (ix3 0 k n) := by
  blk_simp [iblk]; entry_read; pointwise; blk_ext [idx t]

/-- The kernel's first result is the weight's gradient. -/
theorem kernel_dw (c : Dev nD) : (dats m 0 c).arrAt 4 cfg0.N
    = dw (m ((c : Thread nD τ).loc main_arg0)) (m ((c : Thread nD τ).loc main_arg1)) (m ((c : Thread nD τ).loc main_arg3)) := by
  refine (dats m 0 c).arrAt_eq_of_covers 4 _ (by decide +kernel) fun t hf y => ?_
  obtain ⟨k, n, rfl⟩ : ∃ (k : Fin 1024) (n : Fin 512), y = ix2 k n := ⟨y 0, y 1, eq_ix2 y⟩
  have e : ((View.whole main_v4_0).slice (win0_4.rect t)).emb (ix2 k n) = ix2 k n := by
    blk_ext [idx t]
  blk_simp
  rw [after0_4]
  frame_out
  pointwise [k0_pay3, k0_pay1, k0_pay2]
  rw [e, Common.sum_rows (M := EReal) (a := 2) (b := 256) rfl]
  refine Common.sum_congr2 fun b r => ?_
  simp only [fun k h => read_mem m c t b r k ⟨256 * b + r, h⟩ rfl, fun k h => read_d m c t b r k ⟨256 * b + r, h⟩ rfl, read_g]
  exact mul_comm (G := EReal) _ _

/-- The kernel's second result is the gain's gradient. -/
theorem kernel_dg (c : Dev nD) : (dats m 0 c).arrAt 5 cfg0.N
    = dg (m ((c : Thread nD τ).loc main_arg0)) (m ((c : Thread nD τ).loc main_arg2)) (m ((c : Thread nD τ).loc main_arg3)) := by
  refine (dats m 0 c).arrAt_eq_of_covers 5 _ (by decide +kernel) fun t hf y => ?_
  obtain ⟨a, k, rfl⟩ : ∃ (a : Fin 1) (k : Fin 1024), y = ix2 a k := ⟨y 0, y 1, eq_ix2 y⟩
  have e : ((View.whole main_v4_1).slice (win0_5.rect t)).emb (ix2 a k) = ix2 a k := by
    blk_ext [idx t]
  blk_simp
  rw [after0_5]
  frame_out
  pointwise [k0_pay4, k0_pay1, k0_pay2]
  rw [e, Common.sum_rows (M := EReal) (a := 2) (b := 256) rfl]
  refine Common.sum_congr2 fun b r => ?_
  simp only [fun k h => read_mem m c t b r k ⟨256 * b + r, h⟩ rfl, fun k h => read_d m c t b r k ⟨256 * b + r, h⟩ rfl, read_w]
  exact mul_comm (G := EReal) _ _

end Cert.Mem

end
-- ==== Proof.Mem.Reference.lean ====
/- What the derivative of the plain forward lines computes. -/
module

public import proofs.«01_k».proof.Proof.Gen.MemGradIdeal.Run
public import proofs.«01_k».proof.Proof.Common.Sums
public import proofs.«01_k».proof.Proof.Mem.Spec

@[expose] public section

set_option maxRecDepth 16384

noncomputable section

namespace Cert.Mem

open Idealize.ShloMosaic Idealize.ShloMosaic.TcCoe Idealize.SL.Sem
open Cert.MemGradIdeal Cert.MemGradIdeal.Gen

/-- The normed tokens as the reference's operations compute them. -/
def nm (x : FVec Ideal S2x256x1024 .f32) : FVec Ideal S2x256x1024 .f32 :=
  mulf x (broadcastInDim S2x256x1024 ![0, 1, 2] bcast_S2x256x1_S2x256x1024_0_1_2 (Host.rsqrt (addf (Host.divf
    (broadcastInDim S2x256x1 ![0, 1] bcast_S2x256_S2x256x1_0_1
      (Host.reduceAdd (mulf x x) (constant S_ .f32 0x00000000#32) reducesTo_S2x256x1024_S2x256_d2 h_S_))
    (broadcastInDim S2x256x1 ![] bcast_S_S2x256x1 (constant S_ .f32 0x44800000#32)))
    (broadcastInDim S2x256x1 ![] bcast_S_S2x256x1 (constant S_ .f32 0x358637BD#32)))))

theorem nm_apply (x : FVec Ideal S2x256x1024 .f32) (b : Fin 2) (r : Fin 256) (k : Fin 1024) :
    nm x (ix3 b r k) = x (ix3 b r k) * inv x b r := by
  pointwise [nm]
  rfl

/-- A sum over batches and tokens, then once more over the two axes of size one that the transposed broadcast leaves. -/
theorem twice (y : FVec Ideal S2x256x1024 .f32) (a : Fin 1) (k : Fin 1024) :
    broadcastInDim S1x1024 ![1] bcast_S1024_S1x1024_1 (Host.reduceAdd (shapeCast S1x1x1024 (Host.reduceAdd y
      (constant S_ .f32 0x00000000#32) reducesTo_S2x256x1024_S1024_d0_1 h_S_) shapeCasts_S1024_S1x1x1024)
      (constant S_ .f32 0x00000000#32) reducesTo_S1x1x1024_S1024_d0_1 h_S_) (ix2 a k)
    = ∑ b : Fin 2, ∑ r : Fin 256, y (ix3 b r k) := by
  pointwise
  rw [Common.hostSum_3_01]
  simp only [Fin.sum_univ_one]
  pointwise
  rw [Common.hostSum_3_01]
  pointwise

/-- The weight's gradient as the derivative writes it. -/
theorem read_dw (x : FVec Ideal S2x256x1024 .f32) (g : FVec Ideal S1x1024 .f32) (d : FVec Ideal S2x256x512 .f32) :
    transpose S1024x512 [1, 0] (Host.dotGeneral dot_S2x256x512_S2x256x1024_S512x1024_01_01_2_2_n_n none d
      (mulf (nm x) (broadcastInDim S2x256x1024 ![0, 1, 2] bcast_S1x1x1024_S2x256x1024_0_1_2
        (broadcastInDim S1x1x1024 ![2] bcast_S1024_S1x1x1024_2 (shapeCast _ g shapeCasts_S1x1024_S1024)))))
      transposes_S512x1024_S1024x512_1_0 = dw x g d := by
  funext i
  obtain ⟨k, n, rfl⟩ : ∃ k n, i = ix2 k n := ⟨i 0, i 1, eq_ix2 i⟩
  pointwise
  simp only [nm_apply]
  rfl

/-- The gain's gradient as the derivative writes it. -/
theorem read_dg (x : FVec Ideal S2x256x1024 .f32) (w : FVec Ideal S1x1024x512 .f32) (d : FVec Ideal S2x256x512 .f32) :
    broadcastInDim S1x1024 ![1] bcast_S1024_S1x1024_1 (Host.reduceAdd (shapeCast S1x1x1024 (Host.reduceAdd
      (mulf (nm x) (Host.dotGeneral dot_S2x256x512_S1024x512_S2x256x1024_2_1_01_0_n_n none d
        (shapeCast S1024x512 w shapeCasts_S1x1024x512_S1024x512)))
      (constant S_ .f32 0x00000000#32) reducesTo_S2x256x1024_S1024_d0_1 h_S_) shapeCasts_S1024_S1x1x1024)
      (constant S_ .f32 0x00000000#32) reducesTo_S1x1x1024_S1024_d0_1 h_S_) = dg x w d := by
  funext i
  obtain ⟨a, k, rfl⟩ : ∃ a k, i = ix2 a k := ⟨i 0, i 1, eq_ix2 i⟩
  rw [twice]
  pointwise
  simp only [nm_apply]
  rfl

/-- The reference's two results after its run. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = dw (m ((c : Thread nD τ).loc main_arg0)) (m ((c : Thread nD τ).loc main_arg1)) (m ((c : Thread nD τ).loc main_arg3))
      ∧ r.2.mem ((c.tc : Thread nD τ).loc main_v23)
        = dg (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  exact ⟨(h c).1.trans (read_dw _ _ _), (h c).2.1.trans (read_dg _ _ _), (h c).2.2⟩

end Cert.Mem

end
-- ==== Proof.Mem.Claim.lean ====
/- The claims about the memory projection's gradient. -/
module

public import proofs.«01_k».proof.Defs
public import proofs.«01_k».proof.Proof.Gen.MemBwd.Frame
public import proofs.«01_k».proof.Proof.Mem.Kernel
public import proofs.«01_k».proof.Proof.Mem.Reference
public import Idealize.ShloMosaic.Lib.Claim

@[expose] public section

noncomputable section

namespace Cert.Mem

open Idealize.ShloMosaic Idealize.SL.Sem

theorem frame_kernel : Cert.quiescent_MemBwd := fun m ρ _ => Cert.MemBwd.Gen.frame m ρ

theorem frame_ideal : Cert.quiescent_MemBwdIdeal := fun m ρ _ => Cert.MemBwdIdeal.Gen.frame m ρ

theorem frame_reference : Cert.quiescent_MemGradIdeal := by
  intro m g _
  exact (θ_run Cert.MemGradIdeal.defs _ _).mono
    (fun r h => ⟨fun c => (h c).2.2, sem_eq_zero_of_no_sems (by decide) r.2⟩) (Cert.MemGradIdeal.Value.run m g)

/-- Kernel and derivative of the forward lines compute the same two gradients, on all extended reals. -/
theorem algebraic : Cert.algebraic_MemBwdIdeal_MemGradIdeal := by
  intro m g m' g' _ hagree
  refine ⟨fun c => dw (m (c.tc.loc MemBwdIdeal.main_arg0)) (m (c.tc.loc MemBwdIdeal.main_arg1)) (m (c.tc.loc MemBwdIdeal.main_arg3)),
    fun c => dg (m (c.tc.loc MemBwdIdeal.main_arg0)) (m (c.tc.loc MemBwdIdeal.main_arg2)) (m (c.tc.loc MemBwdIdeal.main_arg3)),
    (θ_run _ _ _).mono (fun r h c => ?_) (Cert.MemBwdIdeal.Value.run_blocks m g),
    (θ_run _ _ _).mono (fun r h c => ?_) (reference_run m' g')⟩
  · exact ⟨(h c).1.trans (kernel_dw m c), (h c).2.1.trans (kernel_dg m c), (h c).2.2⟩
  · obtain ⟨e0, e1, e2, e3⟩ := hagree c
    refine ⟨(h c).1.trans ?_, (h c).2.1.trans ?_, (h c).2.2⟩
    · rw [e0, e1, e3]
    · rw [e0, e2, e3]

end Cert.Mem

end
-- ==== Proof.Mix.Real.lean ====
/- The gradient of group A's gate over the reals, one block of 128 tokens and one group of 128 channels at a time: the
   tanh GELU and its derivative, the normalisation of a row, the causal mixing of the rows, and what they give back. -/
module

public import Mathlib.Analysis.SpecialFunctions.Pow.Real
public import Mathlib.Analysis.SpecialFunctions.Trigonometric.DerivHyp

@[expose] public section

noncomputable section

namespace Cert.Mix

/-- GELU's cubic coefficient, 0.044715. -/
def gA : ℝ := 8943 / 200000

/-- The float nearest to √(2/π), as a rational. -/
def gC : ℝ := 6693141 / 8388608

/-- The float nearest to 10⁻⁶, as a rational. -/
def eps : ℝ := 8796093 / 8796093022208

theorem eps_pos : 0 < eps := by unfold eps; norm_num

/-- The hyperbolic tangent inside GELU. -/
def th (x : ℝ) : ℝ := Real.tanh (gC * (x + gA * (x * x * x)))

/-- GELU, the tanh form. -/
def gel (x : ℝ) : ℝ := x * (1 / 2 * (1 + th x))

/-- Its derivative. -/
def dgel (x : ℝ) : ℝ := 1 / 2 * (1 + th x) + 1 / 2 * x * (1 - th x * th x) * (gC * (1 + 3 * gA * (x * x)))

/-- A row of 128 channels. -/
abbrev Row := Fin 128 → ℝ

/-- The mean of a row. -/
def mean (v : Row) : ℝ := (∑ j, v j) / 128

/-- One over the root of a row's variance. -/
def rs (v : Row) : ℝ := (Real.sqrt (mean (fun j => (v j - mean v) * (v j - mean v)) + eps))⁻¹

/-- A row normalised. -/
def xh (v : Row) : Row := fun j => (v j - mean v) * rs v

/-- What the normalisation gives back to its row from the cotangent `d` of its result. -/
def dln (v d : Row) : Row := fun j => rs v * (d j - mean d - xh v j * mean (fun k => d k * xh v k))

theorem var_pos (v : Row) : 0 < mean (fun j => (v j - mean v) * (v j - mean v)) + eps := by
  have h : 0 ≤ mean (fun j => (v j - mean v) * (v j - mean v)) :=
    div_nonneg (Finset.sum_nonneg fun j _ => mul_self_nonneg _) (by norm_num)
  linarith [eps_pos]

/-- A block of 128 tokens by 128 channels. -/
abbrev Blk := Fin 128 → Row

/-- One block of one group: the two halves `u`, `v` before GELU, the gain and the shift, the causal mixing weights, the
    bias of the tokens, and the cotangent. -/
structure Gate where
  u : Blk
  v : Blk
  gam : Row
  bet : Row
  w : Blk
  bs : Row
  dy : Blk

namespace Gate

variable (G : Gate)

/-- A token's row, normalised. -/
def xhat (i : Fin 128) : Row := xh fun j => gel (G.v i j)

/-- The same with gain and shift. -/
def vc (i : Fin 128) : Row := fun j => G.xhat i j * G.gam j + G.bet j

/-- The mixed rows that gate `u`. -/
def sv (i : Fin 128) : Row := fun d => (∑ j, G.w i j * G.vc j d) + G.bs i

/-- The gradient of `u`. -/
def du (i : Fin 128) : Row := fun d => G.dy i d * G.sv i d * dgel (G.u i d)

/-- The cotangent of the mixed rows. -/
def dsv (i : Fin 128) : Row := fun d => G.dy i d * gel (G.u i d)

/-- The cotangent of the normalised rows with gain and shift. -/
def dvc (j : Fin 128) : Row := fun d => ∑ i, G.w i j * G.dsv i d

/-- The gradient of `v`. -/
def dv (j : Fin 128) : Row := fun d => dln (fun k => gel (G.v j k)) (fun k => G.dvc j k * G.gam k) d * dgel (G.v j d)

/-- The block's part of the mixing weights' gradient, before the causal mask. -/
def dw (i k : Fin 128) : ℝ := ∑ d, G.dsv i d * G.vc k d

/-- The block's part of the bias's gradient. -/
def dbs (i : Fin 128) : ℝ := ∑ d, G.dsv i d

/-- The block's part of the gain's gradient. -/
def dgam (d : Fin 128) : ℝ := ∑ j, G.dvc j d * G.xhat j d

/-- The block's part of the shift's gradient. -/
def dbet (d : Fin 128) : ℝ := ∑ j, G.dvc j d

end Gate

/-- What the chain rule through mean, variance and root gives back to a row, term by term as it is taken, is `dln`. -/
theorem dln_chain (v d : Row) (j : Fin 128) :
    d j * rs v + (∑ k, (v k - mean v) * d k) * (-(1 / 2) * (rs v / (mean (fun j => (v j - mean v) * (v j - mean v)) + eps))) / 128
        * (2 * (v j - mean v))
      + ((∑ k, -(d k * rs v)) + ∑ k, -((∑ l, (v l - mean v) * d l)
        * (-(1 / 2) * (rs v / (mean (fun j => (v j - mean v) * (v j - mean v)) + eps))) / 128 * (2 * (v k - mean v)))) / 128
      = dln v d j := by
  have hV := var_pos v
  set V := mean (fun j => (v j - mean v) * (v j - mean v)) + eps with hVd
  have hr : rs v = (Real.sqrt V)⁻¹ := rfl
  have hr2 : rs v * rs v * V = 1 := by
    rw [hr, ← mul_inv, Real.mul_self_sqrt hV.le, inv_mul_cancel₀ hV.ne']
  have hrV : rs v / V = rs v * rs v * rs v := by
    rw [div_eq_iff hV.ne']; linear_combination (-(rs v)) * hr2
  have hc : ∑ k, (v k - mean v) = 0 := by
    rw [Finset.sum_sub_distrib]; simp [mean]; ring
  have hs : ∀ a b : ℝ, ∑ k, -(a / 128 * (2 * (v k - mean v))) = 0 := fun a b => by
    rw [Finset.sum_neg_distrib, ← Finset.mul_sum, ← Finset.mul_sum, hc]; ring
  rw [hrV, hs _ 0, Finset.sum_neg_distrib, ← Finset.sum_mul]
  have hm : mean (fun k => d k * xh v k) = (∑ k, (v k - mean v) * d k) * rs v / 128 := by
    rw [mean, Finset.sum_mul]; congr 1; exact Finset.sum_congr rfl fun k _ => by rw [xh]; ring
  rw [dln, hm]
  simp only [xh, mean]
  ring

/-- The chain rule through GELU, term by term as it is taken. -/
theorem dgel_chain (x ct : ℝ) :
    ct * (1 / 2 * (1 + th x)) + gC * (1 / 2 * (x * ct) * ((1 + th x) * (1 - th x)))
      + gA * (gC * (1 / 2 * (x * ct) * ((1 + th x) * (1 - th x)))) * (3 * (x * x)) = ct * dgel x := by
  rw [dgel]; ring

/-! ## Attention over the memory -/

/-- The softmax of a row of 256 scores. -/
def sm (z : Fin 256 → ℝ) (m : Fin 256) : ℝ := Real.exp (z m) / ∑ n, Real.exp (z n)

theorem sum_exp_pos (z : Fin 256 → ℝ) : 0 < ∑ n, Real.exp (z n) :=
  Finset.sum_pos (fun n _ => Real.exp_pos _) ⟨0, Finset.mem_univ _⟩

/-- Softmax does not see a shift of its row. -/
theorem sm_shift (z : Fin 256 → ℝ) (a : ℝ) (m : Fin 256) : Real.exp (z m - a) / ∑ n, Real.exp (z n - a) = sm z m := by
  have h : ∑ n, Real.exp (z n - a) = (∑ n, Real.exp (z n)) / Real.exp a := by
    simp only [Real.exp_sub, div_eq_mul_inv, ← Finset.sum_mul]
  rw [h, Real.exp_sub, sm, div_div_div_cancel_right₀ (Real.exp_pos a).ne']

/-- The chain rule through a quotient by the row's sum is the softmax's derivative. -/
theorem softmax_chain (E dp : Fin 256 → ℝ) {S : ℝ} (hs : S ≠ 0) (m : Fin 256) :
    (dp m * (1 / S) + -∑ n, dp n * (1 * (1 / (S * S))) * E n) * E m * (1 / 8)
      = E m / S * (dp m - ∑ n, E n / S * dp n) * (1 / 8) := by
  have h : ∑ n, E n / S * dp n = (∑ n, dp n * (1 * (1 / (S * S))) * E n) * S := by
    rw [Finset.sum_mul]
    exact Finset.sum_congr rfl fun n _ => by field_simp
  rw [h]; field_simp; ring

section

variable {W : ℕ} (q ct : Fin W → ℝ) (k v : Fin 256 → Fin W → ℝ)

/-- The scaled scores of one query against the 256 keys. -/
def score (m : Fin 256) : ℝ := (∑ e, q e * k m e) * (1 / 8)

/-- Its attention weights. -/
def prob : Fin 256 → ℝ := sm (score q k)

/-- The weights' cotangent from the output's. -/
def dprob (m : Fin 256) : ℝ := ∑ e, ct e * v m e

/-- The cotangent of the unscaled scores. -/
def dscore (m : Fin 256) : ℝ := prob q k m * (dprob ct v m - ∑ n, prob q k n * dprob ct v n) * (1 / 8)

end

/-! A head is a half of a block of 128 channels. -/

def half (h : Fin 2) (e : Fin 64) : Fin 128 := ⟨64 * h.val + e.val, by omega⟩
def hd (j : Fin 128) : Fin 2 := ⟨j.val / 64, by omega⟩
def hv (h : Fin 2) (x : Fin 128 → ℝ) : Fin 64 → ℝ := fun e => x (half h e)

/-- A row kept only on head `h`. -/
def keep (h : Fin 2) (x : Fin 128 → ℝ) : Fin 128 → ℝ := fun j => if hd j = h then x j else 0

/-- A product against a row kept on one head is the head's own product. -/
theorem sum_keep (h : Fin 2) (x y : Fin 128 → ℝ) : ∑ e, keep h x e * y e = ∑ e, hv h x e * hv h y e := by
  have hh : ∀ (a : Fin 2) (e : Fin 64), hd (half a e) = a := fun a e => Fin.ext (by simp [hd, half]; omega)
  have e0 : ∀ e : Fin 64, (Fin.castAdd 64 e : Fin 128) = half 0 e := fun e => Fin.ext (by simp [half])
  have e1 : ∀ e : Fin 64, (Fin.natAdd 64 e : Fin 128) = half 1 e := fun e => Fin.ext (by simp [half, Nat.add_comm])
  refine (Fin.sum_univ_add (a := 64) (b := 64) fun e => keep h x e * y e).trans ?_
  simp only [e0, e1, keep, hh]
  have : h = 0 ∨ h = 1 := by revert h; decide
  rcases this with rfl | rfl <;> simp [hv]

theorem score_keep (h : Fin 2) (q : Fin 128 → ℝ) (k : Fin 256 → Fin 128 → ℝ) :
    score (keep h q) k = score (hv h q) fun m => hv h (k m) := funext fun m => by rw [score, sum_keep]; rfl

theorem dscore_keep (h : Fin 2) (q ct : Fin 128 → ℝ) (k v : Fin 256 → Fin 128 → ℝ) :
    dscore (keep h q) (keep h ct) k v = dscore (hv h q) (hv h ct) (fun m => hv h (k m)) fun m => hv h (v m) := by
  have hp : prob (keep h q) k = prob (hv h q) fun m => hv h (k m) := by rw [prob, score_keep]; rfl
  have hd : dprob (keep h ct) v = dprob (hv h ct) fun m => hv h (v m) := funext fun m => by rw [dprob, sum_keep]; rfl
  funext m
  rw [dscore, hp, hd]; rfl

/-- The keys' gradient at channel `j` of a block, summed over a tile of queries. -/
def dkey {N : ℕ} (q ct : Fin N → Fin 128 → ℝ) (k v : Fin 256 → Fin 128 → ℝ) (m : Fin 256) (j : Fin 128) : ℝ :=
  ∑ s, dscore (hv (hd j) (q s)) (hv (hd j) (ct s)) (fun m => hv (hd j) (k m)) (fun m => hv (hd j) (v m)) m * q s j

/-- The values' gradient. -/
def dval {N : ℕ} (q ct : Fin N → Fin 128 → ℝ) (k : Fin 256 → Fin 128 → ℝ) (m : Fin 256) (j : Fin 128) : ℝ :=
  ∑ s, prob (hv (hd j) (q s)) (fun m => hv (hd j) (k m)) m * ct s j

/-- Summed over both heads, what is kept on one head each is the head's own. -/
theorem sum_heads {N : ℕ} (f : Fin 2 → Fin N → ℝ) (x : Fin N → Fin 128 → ℝ) (j : Fin 128) :
    ∑ s, f 0 s * keep 0 (x s) j + ∑ s, f 1 s * keep 1 (x s) j = ∑ s, f (hd j) s * x s j := by
  have : hd j = 0 ∨ hd j = 1 := by generalize hd j = a; revert a; decide
  rcases this with h | h <;> simp [keep, h]

end Cert.Mix

end
-- ==== Proof.Mix.Block.lean ====
/- The kernel's operations on one block of one group of the gate, as functions of the loaded blocks, and their entries over
   the reals. -/
module

public import proofs.«01_k».proof.Proof.Gen.MixBwdIdeal
public import proofs.«01_k».proof.Proof.Mix.Real
public import Idealize.ShloMosaic.Lib.Pointwise
public import Idealize.ShloMosaic.PureOps.Ideal.Laws

@[expose] public section

set_option maxRecDepth 16384

noncomputable section

namespace Cert.Mix

open Idealize.ShloMosaic Cert.MixBwdIdeal Cert.MixBwdIdeal.Gen

abbrev B128 := FVec Ideal S128x128 .f32
abbrev C128 := FVec Ideal S128x1 .f32
abbrev R128 := FVec Ideal S1x128 .f32
abbrev H128 := FVec Ideal S128x128 .bf16

def kth (x : B128) : B128 :=
  tanh (mulf (broadcast S128x128 (Scalar.ofBits .f32 0x3F4C422A#32)) (addf x (mulf (mulf (broadcast S128x128 (Named.named κ "gelu_a" 0x3D372713#32)) x) (mulf x x))))

def kgel (x : B128) : B128 :=
  mulf (mulf (broadcast S128x128 (Scalar.ofBits .f32 0x3F000000#32)) x) (addf (broadcast S128x128 (Scalar.ofBits .f32 0x3F800000#32)) (kth x))

def kdgel (x : B128) : B128 :=
  addf (mulf (broadcast S128x128 (Scalar.ofBits .f32 0x3F000000#32)) (addf (broadcast S128x128 (Scalar.ofBits .f32 0x3F800000#32)) (kth x)))
    (mulf (mulf (mulf (broadcast S128x128 (Scalar.ofBits .f32 0x3F000000#32)) x)
      (subf (broadcast S128x128 (Scalar.ofBits .f32 0x3F800000#32)) (mulf (kth x) (kth x))))
      (mulf (broadcast S128x128 (Scalar.ofBits .f32 0x3F4C422A#32)) (addf (broadcast S128x128 (Scalar.ofBits .f32 0x3F800000#32))
        (mulf (broadcast S128x128 (Named.named κ "gelu_3a" 0x3E095D4F#32)) (mulf x x)))))

def kmean (x : B128) : C128 :=
  divf (shapeCast S128x1 (multiReduction .add [1] S128 x 0x00000000#32 reduces_S128x128_S128 (.inl rfl) rfl) shapeCasts_S128_S128x1)
    (broadcast S128x1 (Scalar.ofBits .f32 0x43000000#32))

def kcen (x : B128) : B128 := subf x (broadcastTo S128x128 (kmean x) broadcasts_S128x1_S128x128)

def krs (x : B128) : C128 := rsqrt (addf (kmean (mulf (kcen x) (kcen x))) (broadcast S128x1 (Scalar.ofBits .f32 0x358637BD#32)))

def kxh (x : B128) : B128 := mulf (kcen x) (broadcastTo S128x128 (krs x) broadcasts_S128x1_S128x128)

def kvc (v : B128) (gam bet : R128) : B128 :=
  addf (mulf (kxh (kgel v)) (broadcastTo S128x128 gam broadcasts_S1x128_S128x128)) (broadcastTo S128x128 bet broadcasts_S1x128_S128x128)

def ksv (v : B128) (gam bet : R128) (w : H128) (bc : B128) : B128 :=
  addf (matmul dot_S128x128_S128x128_S128x128_1_0_0_1_n_n none w (truncf .bf16 (kvc v gam bet) bitsLt_bf16_f32) (constant S128x128 .f32 0x00000000#32)) bc

def kdu (u v : B128) (gam bet : R128) (w : H128) (bc dy : B128) : H128 :=
  truncf .bf16 (mulf (mulf dy (ksv v gam bet w bc)) (kdgel u)) bitsLt_bf16_f32

def kdsv (u dy : B128) : B128 := mulf dy (kgel u)

def kdw (u v : B128) (gam bet : R128) (dy : B128) : B128 :=
  matmul dot_S128x128_S128x128_S128x128_1_1_0_0_n_n none (truncf .bf16 (kdsv u dy) bitsLt_bf16_f32) (truncf .bf16 (kvc v gam bet) bitsLt_bf16_f32)
    (constant S128x128 .f32 0x00000000#32)

def kdvc (u : B128) (wt : H128) (dy : B128) : B128 :=
  matmul dot_S128x128_S128x128_S128x128_1_0_0_1_n_n none wt (truncf .bf16 (kdsv u dy) bitsLt_bf16_f32) (constant S128x128 .f32 0x00000000#32)

def kcol (x : B128) : R128 :=
  shapeCast S1x128 (multiReduction .add [0] S128 x 0x00000000#32 reduces_S128x128_S128_2 (.inl rfl) rfl) shapeCasts_S128_S1x128

def kdln (x d : B128) : B128 :=
  mulf (broadcastTo S128x128 (krs x) broadcasts_S128x1_S128x128)
    (subf (subf d (broadcastTo S128x128 (kmean d) broadcasts_S128x1_S128x128))
      (mulf (kxh x) (broadcastTo S128x128 (kmean (mulf d (kxh x))) broadcasts_S128x1_S128x128)))

def kdv (u v : B128) (gam : R128) (wt : H128) (dy : B128) : H128 :=
  truncf .bf16 (mulf (kdln (kgel v) (mulf (kdvc u wt dy) (broadcastTo S128x128 gam broadcasts_S1x128_S128x128))) (kdgel v)) bitsLt_bf16_f32

/-- A block holds the reals `x`. -/
def Holds {a b : ℕ} (X : (⟨2, ![a, b]⟩ : Shape).Idx → EReal) (x : Fin a → Fin b → ℝ) : Prop := ∀ i j, X (ix2 i j) = ((x i j : ℝ) : EReal)

theorem word_c : (Ideal.ofBits .f32 0x3F4C422A#32 : EReal) = ((gC : ℝ) : EReal) := by
  unfold gC; simp [Ideal.ofBits, Ideal.ieee, -EReal.coe_mul]; norm_num
theorem word_half : (Ideal.ofBits .f32 0x3F000000#32 : EReal) = ((1 / 2 : ℝ) : EReal) := by
  simp [Ideal.ofBits, Ideal.ieee, -EReal.coe_mul]; norm_num
theorem word_128 : (Ideal.ofBits .f32 0x43000000#32 : EReal) = ((128 : ℝ) : EReal) := by
  simp [Ideal.ofBits, Ideal.ieee, -EReal.coe_mul]; norm_num
theorem word_eps : (Ideal.ofBits .f32 0x358637BD#32 : EReal) = ((eps : ℝ) : EReal) := by
  unfold eps; simp [Ideal.ofBits, Ideal.ieee, -EReal.coe_mul]; norm_num

theorem named_a : (Named.named (F := Ideal) κ "gelu_a" (φ := .f32) 0x3D372713#32 : EReal) = ((gA : ℝ) : EReal) :=
  IdealRules.named_const.ideal_named_scalar _ _ _ _ rfl
theorem named_3a : (Named.named (F := Ideal) κ "gelu_3a" (φ := .f32) 0x3E095D4F#32 : EReal) = ((3 * gA : ℝ) : EReal) := by
  refine (IdealRules.named_const.ideal_named_scalar κ "gelu_3a" _ ((26829 / 200000 : ℝ) : EReal) rfl).trans ?_
  unfold gA; congr 1; norm_num

theorem coe_sum {n : ℕ} (f : Fin n → ℝ) : ((∑ i, f i : ℝ) : EReal) = ∑ i, ((f i : ℝ) : EReal) :=
  map_sum (⟨⟨Real.toEReal, EReal.coe_zero⟩, EReal.coe_add⟩ : ℝ →+ EReal) f Finset.univ

theorem kth_holds {X : B128} {x : Blk} (h : Holds X x) : Holds (kth X) (fun i j => th (x i j)) := by
  intro i j
  pointwise [kth]
  simp only [word_c, named_a, h i j, ← EReal.coe_mul, ← EReal.coe_add, Ideal.tanh_coe, th]
  ring_nf

theorem kgel_holds {X : B128} {x : Blk} (h : Holds X x) : Holds (kgel X) (fun i j => gel (x i j)) := by
  intro i j
  pointwise [kgel]
  simp only [word_half, ← EReal.coe_one, h i j, kth_holds h i j, ← EReal.coe_mul, ← EReal.coe_add, gel]
  ring_nf

theorem kdgel_holds {X : B128} {x : Blk} (h : Holds X x) : Holds (kdgel X) (fun i j => dgel (x i j)) := by
  intro i j
  pointwise [kdgel]
  simp only [word_half, ← EReal.coe_one, word_c, named_3a, h i j, kth_holds h i j, ← EReal.coe_mul, ← EReal.coe_add, ← EReal.coe_sub, dgel]

theorem kmean_holds {X : B128} {x : Blk} (h : Holds X x) : Holds (kmean X) (fun i _ => mean (x i)) := by
  intro i j
  pointwise [kmean]
  simp only [word_128, h i _, Ideal.div_coe (by norm_num : (128 : ℝ) ≠ 0), ← coe_sum, ← EReal.coe_mul, mean]
  ring_nf

theorem kcen_holds {X : B128} {x : Blk} (h : Holds X x) : Holds (kcen X) (fun i j => x i j - mean (x i)) := by
  intro i j
  pointwise [kcen]
  simp only [h i j, kmean_holds h i _, ← EReal.coe_sub]

theorem mulf_holds {X Y : B128} {x y : Blk} (h : Holds X x) (k : Holds Y y) : Holds (mulf X Y) (fun i j => x i j * y i j) := by
  intro i j
  pointwise
  simp only [h i j, k i j, ← EReal.coe_mul]

theorem krs_holds {X : B128} {x : Blk} (h : Holds X x) : Holds (krs X) (fun i _ => rs (x i)) := by
  intro i j
  pointwise [krs]
  rw [kmean_holds (mulf_holds (kcen_holds h) (kcen_holds h)) i j, word_eps, ← EReal.coe_add, Ideal.rsqrt_coe, if_neg (var_pos (x i)).not_gt,
    if_neg (var_pos (x i)).ne']
  rfl

theorem kxh_holds {X : B128} {x : Blk} (h : Holds X x) : Holds (kxh X) (fun i => xh (x i)) := by
  intro i j
  pointwise [kxh]
  simp only [kcen_holds h i j, krs_holds h i _, ← EReal.coe_mul, xh]

theorem kdln_holds {X D : B128} {x d : Blk} (h : Holds X x) (k : Holds D d) : Holds (kdln X D) (fun i => dln (x i) (d i)) := by
  intro i j
  pointwise [kdln]
  simp only [k i j, krs_holds h i _, kxh_holds h i j, kmean_holds k i _, kmean_holds (mulf_holds k (kxh_holds h)) i _, ← EReal.coe_mul,
    ← EReal.coe_sub, dln]

/-- The loaded blocks of one group hold the reals of `G`. -/
structure Loads (G : Gate) (u v : B128) (gam bet : R128) (w wt : H128) (bc dy : B128) : Prop where
  u : Holds u G.u
  v : Holds v G.v
  gam : Holds gam fun _ => G.gam
  bet : Holds bet fun _ => G.bet
  w : Holds w G.w
  wt : Holds wt fun i j => G.w j i
  bc : Holds bc fun i _ => G.bs i
  dy : Holds dy G.dy

variable {G : Gate} {u v : B128} {gam bet : R128} {w wt : H128} {bc dy : B128} (L : Loads G u v gam bet w wt bc dy)
include L

theorem kvc_holds : Holds (kvc v gam bet) G.vc := by
  intro i j
  pointwise [kvc]
  simp only [kxh_holds (kgel_holds L.v) i j, L.gam _ j, L.bet _ j, ← EReal.coe_mul, ← EReal.coe_add, Gate.vc, Gate.xhat]

theorem ksv_holds : Holds (ksv v gam bet w bc) G.sv := by
  intro i j
  pointwise [ksv]
  simp only [L.w i _, L.bc i j, fun k => kvc_holds L k j, ← EReal.coe_mul, ← coe_sum, ← EReal.coe_add, Gate.sv]

theorem kdu_holds : Holds (kdu u v gam bet w bc dy) G.du := by
  intro i j
  pointwise [kdu]
  simp only [L.dy i j, ksv_holds L i j, kdgel_holds L.u i j, ← EReal.coe_mul, Gate.du]

theorem kdsv_holds : Holds (kdsv u dy) G.dsv := mulf_holds L.dy (kgel_holds L.u)

theorem kdw_holds : Holds (kdw u v gam bet dy) G.dw := by
  intro i j
  pointwise [kdw]
  simp only [kdsv_holds L i _, kvc_holds L j _, ← EReal.coe_mul, ← coe_sum, Gate.dw]

theorem kdvc_holds : Holds (kdvc u wt dy) G.dvc := by
  intro i j
  pointwise [kdvc]
  simp only [L.wt i _, fun k => kdsv_holds L k j, ← EReal.coe_mul, ← coe_sum, Gate.dvc]

theorem kdgam_holds : Holds (kcol (mulf (kdvc u wt dy) (kxh (kgel v)))) (fun _ => G.dgam) := by
  intro i j
  pointwise [kcol]
  simp only [fun k => kdvc_holds L k j, fun k => kxh_holds (kgel_holds L.v) k j, ← EReal.coe_mul, ← coe_sum, Gate.dgam, Gate.xhat]

theorem kdbet_holds : Holds (kcol (kdvc u wt dy)) (fun _ => G.dbet) := by
  intro i j
  pointwise [kcol]
  simp only [fun k => kdvc_holds L k j, ← coe_sum, Gate.dbet]

theorem kdv_holds : Holds (kdv u v gam wt dy) G.dv := by
  intro i j
  have h : Holds (mulf (kdvc u wt dy) (broadcastTo S128x128 gam broadcasts_S1x128_S128x128)) (fun i j => G.dvc i j * G.gam j) := by
    intro a b
    pointwise
    simp only [kdvc_holds L a b, L.gam _ b, ← EReal.coe_mul]
  pointwise [kdv]
  simp only [kdln_holds (kgel_holds L.v) h i j, kdgel_holds L.v i j, ← EReal.coe_mul, Gate.dv]

omit L

/-- Weights and columns that hold the reals of `G` by their definition: for the operations that do not read them. -/
def ownW (G : Gate) : H128 := fun y => ((G.w (y 0) (y 1) : ℝ) : EReal)
def ownWt (G : Gate) : H128 := fun y => ((G.w (y 1) (y 0) : ℝ) : EReal)
def ownBet (G : Gate) : R128 := fun y => ((G.bet (y 1) : ℝ) : EReal)
def ownBc (G : Gate) : B128 := fun y => ((G.bs (y 0) : ℝ) : EReal)

section

variable (hu : Holds u G.u) (hv : Holds v G.v) (hdy : Holds dy G.dy)
include hu hv hdy

theorem kdu_of (hgam : Holds gam fun _ => G.gam) (hbet : Holds bet fun _ => G.bet) (hw : Holds w G.w) (hbc : Holds bc fun i _ => G.bs i) :
    Holds (kdu u v gam bet w bc dy) G.du :=
  kdu_holds (wt := ownWt G) ⟨hu, hv, hgam, hbet, hw, fun _ _ => rfl, hbc, hdy⟩

theorem kdv_of (hgam : Holds gam fun _ => G.gam) (hwt : Holds wt fun i j => G.w j i) : Holds (kdv u v gam wt dy) G.dv :=
  kdv_holds (bet := ownBet G) (w := ownW G) (bc := ownBc G) ⟨hu, hv, hgam, fun _ _ => rfl, fun _ _ => rfl, hwt, fun _ _ => rfl, hdy⟩

theorem kdw_of (hgam : Holds gam fun _ => G.gam) (hbet : Holds bet fun _ => G.bet) : Holds (kdw u v gam bet dy) G.dw :=
  kdw_holds (w := ownW G) (wt := ownWt G) (bc := ownBc G) ⟨hu, hv, hgam, hbet, fun _ _ => rfl, fun _ _ => rfl, fun _ _ => rfl, hdy⟩

omit hv in
theorem kdsv_of : Holds (kdsv u dy) G.dsv := mulf_holds hdy (kgel_holds hu)

omit hv in
theorem kdbet_of (hwt : Holds wt fun i j => G.w j i) : Holds (kcol (kdvc u wt dy)) (fun _ => G.dbet) :=
  kdbet_holds (v := fun y => ((G.v (y 0) (y 1) : ℝ) : EReal)) (gam := fun y => ((G.gam (y 1) : ℝ) : EReal)) (bet := ownBet G) (w := ownW G) (bc := ownBc G)
    ⟨hu, fun _ _ => rfl, fun _ _ => rfl, fun _ _ => rfl, fun _ _ => rfl, hwt, fun _ _ => rfl, hdy⟩

theorem kdgam_of (hwt : Holds wt fun i j => G.w j i) : Holds (kcol (mulf (kdvc u wt dy) (kxh (kgel v)))) (fun _ => G.dgam) :=
  kdgam_holds (gam := fun y => ((G.gam (y 1) : ℝ) : EReal)) (bet := ownBet G) (w := ownW G) (bc := ownBc G)
    ⟨hu, hv, fun _ _ => rfl, fun _ _ => rfl, fun _ _ => rfl, hwt, fun _ _ => rfl, hdy⟩

end

end Cert.Mix

end
-- ==== Proof.Mix.Spec.lean ====
/- The layer's mixing step over the reals, array by array: where each block of group A sits in the arrays, where each head of
   group C does, and the six gradients. -/
module

public import proofs.«01_k».proof.Proof.Mix.Real
public import proofs.«01_k».proof.Proof.Common.Sums
public import Idealize.ShloMosaic.Lib.Pointwise
public import Idealize.ShloMosaic.PureOps.Ideal.Laws

@[expose] public section

noncomputable section

namespace Cert.Mix

open Idealize.ShloMosaic

/-- Token `i` of block `n` of a sequence. -/
abbrev tok (n : Fin 16) (i : Fin 128) : Fin 2048 := ⟨n.val * 128 + i.val, by omega⟩
/-- Channel `j` of group `g` among the 512 of one half. -/
abbrev ch (g : Fin 4) (j : Fin 128) : Fin 512 := ⟨g.val * 128 + j.val, by omega⟩
/-- The first half of 1024 channels, and the second. -/
abbrev lo (c : Fin 512) : Fin 1024 := ⟨c.val, by omega⟩
abbrev hi (c : Fin 512) : Fin 1024 := ⟨512 + c.val, by omega⟩
/-- Channel `e` of head `h` among the 256 of group C. -/
abbrev hc (h : Fin 4) (e : Fin 64) : Fin 256 := ⟨h.val * 64 + e.val, by omega⟩

abbrev blkOf (t : Fin 2048) : Fin 16 := ⟨t.val / 128, by omega⟩
abbrev inBlk (t : Fin 2048) : Fin 128 := ⟨t.val % 128, by omega⟩
abbrev grpOf (c : Fin 512) : Fin 4 := ⟨c.val / 128, by omega⟩
abbrev inGrp (c : Fin 512) : Fin 128 := ⟨c.val % 128, by omega⟩
abbrev headOf (c : Fin 256) : Fin 4 := ⟨c.val / 64, by omega⟩
abbrev inHead (c : Fin 256) : Fin 64 := ⟨c.val % 64, by omega⟩

theorem tok_blk (t : Fin 2048) : tok (blkOf t) (inBlk t) = t := Fin.ext (Nat.div_add_mod' t.val 128)
theorem ch_grp (c : Fin 512) : ch (grpOf c) (inGrp c) = c := Fin.ext (Nat.div_add_mod' c.val 128)
theorem hc_head (c : Fin 256) : hc (headOf c) (inHead c) = c := Fin.ext (Nat.div_add_mod' c.val 64)

theorem blk_tok (n : Fin 16) (i : Fin 128) : blkOf (tok n i) = n := Fin.ext (by simp; omega)
theorem in_tok (n : Fin 16) (i : Fin 128) : inBlk (tok n i) = i := Fin.ext (by simp)

/-- A sum over the tokens of a sequence, block by block. -/
theorem sum_tok {M : Type} [AddCommMonoid M] (f : Fin 2048 → M) : ∑ t, f t = ∑ n, ∑ i, f (tok n i) := by
  rw [Common.sum_rows (a := 16) (b := 128) rfl]
  exact Finset.sum_congr rfl fun n _ => Finset.sum_congr rfl fun i _ => congrArg f (Fin.ext (by simp; omega))

/-- The step's arguments that the six gradients read. -/
structure Args where
  uv : Fin 2 → Fin 2048 → Fin 1024 → ℝ
  qkv : Fin 2 → Fin 2048 → Fin 768 → ℝ
  mkv : Fin 2 → Fin 256 → Fin 512 → ℝ
  vg : Fin 512 → ℝ
  vb : Fin 512 → ℝ
  ws : Fin 4 → Fin 128 → Fin 128 → ℝ
  bs : Fin 4 → Fin 128 → ℝ
  dy : Fin 2 → Fin 2048 → Fin 1024 → ℝ

namespace Args

variable (A : Args)

/-- Group `g` of block `n` of batch `b`. -/
def gate (b : Fin 2) (n : Fin 16) (g : Fin 4) : Gate where
  u i j := A.uv b (tok n i) (lo (ch g j))
  v i j := A.uv b (tok n i) (hi (ch g j))
  gam j := A.vg (ch g j)
  bet j := A.vb (ch g j)
  w i j := if j ≤ i then A.ws g i j else 0
  bs i := A.bs g i
  dy i j := A.dy b (tok n i) (lo (ch g j))

section

variable (b : Fin 2) (n : Fin 16) (g : Fin 4) (i j : Fin 128)

theorem gate_u : (A.gate b n g).u i j = A.uv b (tok n i) (lo (ch g j)) := rfl
theorem gate_v : (A.gate b n g).v i j = A.uv b (tok n i) (hi (ch g j)) := rfl
theorem gate_gam : (A.gate b n g).gam j = A.vg (ch g j) := rfl
theorem gate_dy : (A.gate b n g).dy i j = A.dy b (tok n i) (lo (ch g j)) := rfl

end

/-- The gradient of `uv`. -/
def duv (b : Fin 2) (t : Fin 2048) (c : Fin 1024) : ℝ :=
  if h : c.val < 512 then (A.gate b (blkOf t) (grpOf ⟨c.val, h⟩)).du (inBlk t) (inGrp ⟨c.val, h⟩)
  else (A.gate b (blkOf t) (grpOf ⟨c.val - 512, by omega⟩)).dv (inBlk t) (inGrp ⟨c.val - 512, by omega⟩)

/-- The gradient of the mixing weights. -/
def dws (g : Fin 4) (i k : Fin 128) : ℝ := if k ≤ i then ∑ b, ∑ n, (A.gate b n g).dw i k else 0

/-- The gradient of the mixing bias. -/
def dbs (g : Fin 4) (i : Fin 128) : ℝ := ∑ b, ∑ n, (A.gate b n g).dbs i

/-- The gradients of the normalisation's gain and shift. -/
def dvg (c : Fin 512) : ℝ := ∑ b, ∑ n, (A.gate b n (grpOf c)).dgam (inGrp c)
def dvb (c : Fin 512) : ℝ := ∑ b, ∑ n, (A.gate b n (grpOf c)).dbet (inGrp c)

/-- A token's query on head `h`, the memory's keys and values, and the token's cotangent. -/
def q (b : Fin 2) (h : Fin 4) (t : Fin 2048) (e : Fin 64) : ℝ := A.qkv b t ⟨512 + (hc h e).val, by omega⟩
def k (b : Fin 2) (h : Fin 4) (m : Fin 256) (e : Fin 64) : ℝ := A.mkv b m ⟨(hc h e).val, by omega⟩
def v (b : Fin 2) (h : Fin 4) (m : Fin 256) (e : Fin 64) : ℝ := A.mkv b m ⟨256 + (hc h e).val, by omega⟩
def ct (b : Fin 2) (h : Fin 4) (t : Fin 2048) (e : Fin 64) : ℝ := A.dy b t ⟨768 + (hc h e).val, by omega⟩

/-- The gradients of the memory's keys and of its values. -/
def dmk (b : Fin 2) (h : Fin 4) (m : Fin 256) (e : Fin 64) : ℝ :=
  ∑ t, dscore (A.q b h t) (A.ct b h t) (A.k b h) (A.v b h) m * A.q b h t e
def dmv (b : Fin 2) (h : Fin 4) (m : Fin 256) (e : Fin 64) : ℝ := ∑ t, prob (A.q b h t) (A.k b h) m * A.ct b h t e

/-- The gradient of the memory's keys and values, side by side. -/
def dmkv (b : Fin 2) (m : Fin 256) (c : Fin 512) : ℝ :=
  if h : c.val < 256 then A.dmk b (headOf ⟨c.val, h⟩) m (inHead ⟨c.val, h⟩)
  else A.dmv b (headOf ⟨c.val - 256, by omega⟩) m (inHead ⟨c.val - 256, by omega⟩)

end Args

end Cert.Mix

end
-- ==== Proof.Mix.Point.lean ====
/- What the kernel's input blocks hold at a grid point: the eight pairs of token blocks of a batch in turn, last first. -/
module

public import proofs.«01_k».proof.Proof.Gen.MixBwdIdeal.Value
public import proofs.«01_k».proof.Proof.Mix.Block
public import proofs.«01_k».proof.Proof.Mix.Spec
public import Idealize.ShloMosaic.Lib.Pipeline.ValueKit
public import Idealize.ShloMosaic.Lib.Pipeline.ReadBack

@[expose] public section

set_option maxRecDepth 16384

noncomputable section

namespace Cert.Mix

open Idealize.ShloMosaic Idealize.ShloMosaic.TcCoe Idealize.SL.Sem
open Cert.MixBwdIdeal Cert.MixBwdIdeal.Gen

variable (m : (ℓ : Loc nD τ sig) → Buf (Elt Ideal) ℓ) (c : Dev nD)

theorem point_lt (t : Fin cfg0.N) : t.val < 16 := t.isLt

/-- A point is the first, the first of the second batch, the last, or none of these. -/
theorem point_cases (t : Fin cfg0.N) : (t.val % 16 = 0 ∧ t.val % 8 = 0 ∧ ¬t.val % 16 = 15) ∨ (¬t.val % 16 = 0 ∧ ¬t.val % 8 = 0 ∧ ¬t.val % 16 = 15)
    ∨ (¬t.val % 16 = 0 ∧ t.val % 8 = 0 ∧ ¬t.val % 16 = 15) ∨ (¬t.val % 16 = 0 ∧ ¬t.val % 8 = 0 ∧ t.val % 16 = 15) := by
  omega

/-- The batch of a point, and the token of its row `r`. -/
def batch (t : Fin cfg0.N) : Fin 2 := ⟨t.val / 8, by have := point_lt t; omega⟩
def row (t : Fin cfg0.N) (r : Fin 256) : Fin 2048 := ⟨(7 - t.val % 8) * 256 + r.val, by omega⟩
/-- The point's block of tokens number `s`. -/
def block (t : Fin cfg0.N) (s : Fin 2) : Fin 16 := ⟨(7 - t.val % 8) * 2 + s.val, by omega⟩
/-- Its row `i`, among the rows of the point. -/
def prow (s : Fin 2) (i : Fin 128) : Fin 256 := ⟨s.val * 128 + i.val, by omega⟩

theorem row_prow (t : Fin cfg0.N) (s : Fin 2) (i : Fin 128) : row t (prow s i) = tok (block t s) i := by
  ext; simp [row, prow, tok, block]; ring

/-- The blocks at point `t` hold the reals of `A`. -/
structure At (A : Args) (t : Fin cfg0.N) : Prop where
  uv : ∀ r q, iblk m c 0 t (ix2 r q) = ((A.uv (batch t) (row t r) q : ℝ) : EReal)
  dy : ∀ r q, iblk m c 1 t (ix2 r q) = ((A.dy (batch t) (row t r) q : ℝ) : EReal)
  qkv : ∀ (a : Fin 1) s q, iblk m c 2 t (ix3 a s q) = ((A.qkv (batch t) s q : ℝ) : EReal)
  mkv : ∀ (a : Fin 1) s q, iblk m c 3 t (ix3 a s q) = ((A.mkv (batch t) s q : ℝ) : EReal)
  vg : ∀ (a : Fin 1) q, iblk m c 6 t (ix2 a q) = ((A.vg q : ℝ) : EReal)
  vb : ∀ (a : Fin 1) q, iblk m c 7 t (ix2 a q) = ((A.vb q : ℝ) : EReal)
  w : ∀ g i j, iblk m c 8 t (ix3 g i j) = (((if j ≤ i then A.ws g i j else 0) : ℝ) : EReal)
  wt : ∀ g i j, iblk m c 9 t (ix3 g i j) = (((if i ≤ j then A.ws g j i else 0) : ℝ) : EReal)
  bc : ∀ g i j, iblk m c 10 t (ix3 g i j) = ((A.bs g i : ℝ) : EReal)

end Cert.Mix

end
-- ==== Proof.Mix.Entry.lean ====
/- What the blocks hold at a grid point, out of the step's arguments. -/
module

public import proofs.«01_k».proof.Proof.Mix.Point

@[expose] public section

set_option maxRecDepth 16384

noncomputable section

namespace Cert.Mix

open Idealize.ShloMosaic Idealize.ShloMosaic.TcCoe Idealize.SL.Sem
open Cert.MixBwdIdeal Cert.MixBwdIdeal.Gen

/-- The arguments hold the reals of `A`. -/
structure Arrays (A : Args) (a0 : FVec Ideal S2x2048x1024 .f32) (a1 : FVec Ideal S2x2048x768 .f32) (a2 : FVec Ideal S2x256x512 .f32)
    (a3 a4 : FVec Ideal S1x512 .f32) (a5 : FVec Ideal S1x4x128x128 .f32) (a6 : FVec Ideal S1x4x128 .f32) (a9 : FVec Ideal S2x2048x1024 .f32) : Prop where
  uv : ∀ b t c, a0 (ix3 b t c) = ((A.uv b t c : ℝ) : EReal)
  qkv : ∀ b t c, a1 (ix3 b t c) = ((A.qkv b t c : ℝ) : EReal)
  mkv : ∀ b t c, a2 (ix3 b t c) = ((A.mkv b t c : ℝ) : EReal)
  vg : ∀ a c, a3 (ix2 a c) = ((A.vg c : ℝ) : EReal)
  vb : ∀ a c, a4 (ix2 a c) = ((A.vb c : ℝ) : EReal)
  ws : ∀ a g i j, a5 (ix4 a g i j) = ((A.ws g i j : ℝ) : EReal)
  bs : ∀ a g i, a6 (ix3 a g i) = ((A.bs g i : ℝ) : EReal)
  dy : ∀ b t c, a9 (ix3 b t c) = ((A.dy b t c : ℝ) : EReal)

variable (m : (ℓ : Loc nD τ sig) → Buf (Elt Ideal) ℓ) (c : Dev nD) (A : Args)

/-- A device's arguments hold them. -/
abbrev Held : Prop := Arrays A (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg9))

theorem idx : ∀ t : Fin grid0.N, win0_0.index t = ![t.val / 8 * 8 + (7 - t.val % 8), 0] ∧ win0_1.index t = ![t.val / 8 * 8 + (7 - t.val % 8), 0]
    ∧ win0_2.index t = ![t.val / 8, 0, 0] ∧ win0_3.index t = ![t.val / 8, 0, 0] ∧ win0_6.index t = ![0, 0] ∧ win0_7.index t = ![0, 0]
    ∧ win0_8.index t = ![0, 0, 0] ∧ win0_9.index t = ![0, 0, 0] ∧ win0_10.index t = ![0, 0, 0] := by
  decide +kernel

variable {m c A} (t : Fin cfg0.N) (H : Held m c A)
include H

theorem entry_uv (r : Fin 256) (q : Fin 1024) : iblk m c 0 t (ix2 r q) = ((A.uv (batch t) (row t r) q : ℝ) : EReal) := by
  rw [← H.uv]
  blk_simp [iblk]
  simp only [V, hostOps0, hostOps0_1, hostOps0_2, hostOps0_3, hostOps0_4, List.flatten_cons, List.flatten_nil, List.cons_append, List.nil_append, List.append_nil]
  entry_read; pointwise; blk_ext [idx t, row, batch]

theorem entry_dy (r : Fin 256) (q : Fin 1024) : iblk m c 1 t (ix2 r q) = ((A.dy (batch t) (row t r) q : ℝ) : EReal) := by
  rw [← H.dy]
  blk_simp [iblk]
  simp only [V, hostOps0, hostOps0_1, hostOps0_2, hostOps0_3, hostOps0_4, List.flatten_cons, List.flatten_nil, List.cons_append, List.nil_append, List.append_nil]
  entry_read; pointwise; blk_ext [idx t, row, batch]

theorem entry_qkv (a : Fin 1) (r : Fin 2048) (q : Fin 768) : iblk m c 2 t (ix3 a r q) = ((A.qkv (batch t) r q : ℝ) : EReal) := by
  rw [← H.qkv]
  blk_simp [iblk]
  simp only [V, hostOps0, hostOps0_1, hostOps0_2, hostOps0_3, hostOps0_4, List.flatten_cons, List.flatten_nil, List.cons_append, List.nil_append, List.append_nil]
  entry_read; pointwise; blk_ext [idx t, batch]

theorem entry_mkv (a : Fin 1) (r : Fin 256) (q : Fin 512) : iblk m c 3 t (ix3 a r q) = ((A.mkv (batch t) r q : ℝ) : EReal) := by
  rw [← H.mkv]
  blk_simp [iblk]
  simp only [V, hostOps0, hostOps0_1, hostOps0_2, hostOps0_3, hostOps0_4, List.flatten_cons, List.flatten_nil, List.cons_append, List.nil_append, List.append_nil]
  entry_read; pointwise; blk_ext [idx t, batch]

theorem entry_vg (a : Fin 1) (q : Fin 512) : iblk m c 6 t (ix2 a q) = ((A.vg q : ℝ) : EReal) := by
  rw [← H.vg a]
  blk_ext [iblk, V, idx t]

theorem entry_vb (a : Fin 1) (q : Fin 512) : iblk m c 7 t (ix2 a q) = ((A.vb q : ℝ) : EReal) := by
  rw [← H.vb a]
  blk_ext [iblk, V, idx t]

omit H in
/-- The mask keeps the entries not above the diagonal. -/
theorem tril_read (x : ℝ) (i j : Fin 128) : Scalar.select (IntOp.cmpi .sge (IntOp.addi (BitVec.ofNat 32 i.val) 0#32) (BitVec.ofNat 32 j.val)) (x : EReal) 0
    = (((if j ≤ i then x else 0) : ℝ) : EReal) := by
  rw [show IntOp.addi (BitVec.ofNat 32 i.val) 0#32 = BitVec.ofNat 32 i.val from BitVec.add_zero _,
    WordCmp.cmpi_sge_ofNat (by omega) (by omega)]
  by_cases h : j ≤ i <;> simp [h, Scalar.select]

theorem entry_w (g : Fin 4) (i j : Fin 128) : iblk m c 8 t (ix3 g i j) = (((if j ≤ i then A.ws g i j else 0) : ℝ) : EReal) := by
  have e : (win0_8.blk t).view.emb (ix3 g i j) = ix3 g i j := by blk_ext [idx t]
  blk_simp [iblk]
  refine (congrArg _ e).trans ?_
  simp only [V, hostOps0, hostOps0_1, hostOps0_2, hostOps0_3, hostOps0_4, List.flatten_cons, List.flatten_nil, List.cons_append, List.nil_append, List.append_nil]
  entry_read
  simp -implicitDefEqProofs only [StableHlo.TRef.toBuf, StableHlo.TRef.ofBuf, cast_cast, cast_eq]
  pointwise
  exact (congrArg (fun x : EReal => Scalar.select _ x 0) (H.ws 0 g i j)).trans (tril_read _ _ _)

theorem entry_wt (g : Fin 4) (i j : Fin 128) : iblk m c 9 t (ix3 g i j) = (((if i ≤ j then A.ws g j i else 0) : ℝ) : EReal) := by
  have e : (win0_9.blk t).view.emb (ix3 g i j) = ix3 g i j := by blk_ext [idx t]
  blk_simp [iblk]
  refine (congrArg _ e).trans ?_
  simp only [V, hostOps0, hostOps0_1, hostOps0_2, hostOps0_3, hostOps0_4, List.flatten_cons, List.flatten_nil, List.cons_append, List.nil_append, List.append_nil]
  entry_read
  simp -implicitDefEqProofs only [StableHlo.TRef.toBuf, StableHlo.TRef.ofBuf, cast_cast, cast_eq]
  pointwise
  exact (congrArg (fun x : EReal => Scalar.select _ x 0) (H.ws 0 g j i)).trans (tril_read _ _ _)

theorem entry_bc (g : Fin 4) (i j : Fin 128) : iblk m c 10 t (ix3 g i j) = ((A.bs g i : ℝ) : EReal) := by
  rw [← H.bs 0]
  blk_simp [iblk]
  simp only [V, hostOps0, hostOps0_1, hostOps0_2, hostOps0_3, hostOps0_4, List.flatten_cons, List.flatten_nil, List.cons_append, List.nil_append, List.append_nil]
  entry_read; pointwise; blk_ext [idx t]

theorem at_point : At m c A t where
  uv := entry_uv t H
  dy := entry_dy t H
  qkv := entry_qkv t H
  mkv := entry_mkv t H
  vg := entry_vg t H
  vb := entry_vb t H
  w := entry_w t H
  wt := entry_wt t H
  bc := entry_bc t H

end Cert.Mix

end
-- ==== Proof.Mix.Tile.lean ====
/- One group of one block of tokens, read out of a point's input blocks: what the gate's operations give on it. -/
module

public import proofs.«01_k».proof.Proof.Mix.Point

@[expose] public section

set_option maxRecDepth 16384

noncomputable section

namespace Cert.Mix

open Idealize.ShloMosaic Idealize.ShloMosaic.TcCoe Idealize.SL.Sem
open Cert.MixBwdIdeal Cert.MixBwdIdeal.Gen

/-- A block of tokens and channels, a row of a vector of channels, and the table of one group, as a point loads them. -/
abbrev ldT (M : Memref sig .tc .vmem S256x1024 .f32) (hM : M.IsWhole) (X : FVec Ideal S256x1024 .f32) (o : Fin 2 → ℕ)
    (inb : ∀ a, o a + S128x128.size a ≤ S256x1024.size a) (h : S128x128.ShapeCasts S128x128) : B128 :=
  shapeCast S128x128 (View.readAt (Elt Ideal) M.view (Rect.unit (s := S256x1024) o S128x128.size inb).toLoadRect (hM.unread X)) h

abbrev ldR (M : Memref sig .tc .vmem S1x512 .f32) (hM : M.IsWhole) (X : FVec Ideal S1x512 .f32) (o : Fin 2 → ℕ)
    (inb : ∀ a, o a + S1x128.size a ≤ S1x512.size a) : R128 :=
  View.readAt (Elt Ideal) M.view (Rect.unit (s := S1x512) o S1x128.size inb).toLoadRect (hM.unread X)

abbrev ldG {e : EltTy} (M : Memref sig .tc .vmem S4x128x128 e) (hM : M.IsWhole) (X : Vec Ideal S4x128x128 e) (o : Fin 3 → ℕ)
    (inb : ∀ a, o a + S1x128x128.size a ≤ S4x128x128.size a) (h : S1x128x128.ShapeCasts S128x128) : Vec Ideal S128x128 e :=
  shapeCast S128x128 (View.readAt (Elt Ideal) M.view (Rect.unit (s := S4x128x128) o S1x128x128.size inb).toLoadRect (hM.unread X)) h

theorem ldT_at (M : Memref sig .tc .vmem S256x1024 .f32) (hM : M.IsWhole) (X : FVec Ideal S256x1024 .f32) (r q : ℕ)
    (inb : ∀ a, ![r, q] a + S128x128.size a ≤ S256x1024.size a) (h : S128x128.ShapeCasts S128x128) (a b : Fin 128)
    (ha : r + a.val < 256) (hb : q + b.val < 1024) : ldT M hM X ![r, q] inb h (ix2 a b) = X (ix2 ⟨r + a.val, ha⟩ ⟨q + b.val, hb⟩) := by
  pointwise [View.readAt_eq_ld, Memref.IsWhole.read_unread]

theorem ldR_at (M : Memref sig .tc .vmem S1x512 .f32) (hM : M.IsWhole) (X : FVec Ideal S1x512 .f32) (q : ℕ)
    (inb : ∀ a, ![0, q] a + S1x128.size a ≤ S1x512.size a) (a : Fin 1) (b : Fin 128) (hb : q + b.val < 512) :
    ldR M hM X ![0, q] inb (ix2 a b) = X (ix2 0 ⟨q + b.val, hb⟩) := by
  pointwise [View.readAt_eq_ld, Memref.IsWhole.read_unread]

theorem drop_one {e : EltTy} (Y : Vec Ideal S1x128x128 e) (h : S1x128x128.ShapeCasts S128x128) (a b : Fin 128) :
    shapeCast S128x128 Y h (ix2 a b) = Y (ix3 0 a b) := by
  pointwise

theorem ldG_at {e : EltTy} (M : Memref sig .tc .vmem S4x128x128 e) (hM : M.IsWhole) (X : Vec Ideal S4x128x128 e) (g : ℕ)
    (inb : ∀ a, ![g, 0, 0] a + S1x128x128.size a ≤ S4x128x128.size a) (h : S1x128x128.ShapeCasts S128x128) (a b : Fin 128)
    (hg : g < 4) : ldG M hM X ![g, 0, 0] inb h (ix2 a b) = X (ix3 ⟨g, hg⟩ a b) := by
  refine (drop_one _ h a b).trans ?_
  rw [View.readAt_eq_ld, hM.read_unread]
  pointwise

variable {m : (ℓ : Loc nD τ sig) → Buf (Elt Ideal) ℓ} {c : Dev nD} {A : Args} {t : Fin cfg0.N} (P : At m c A t)
  (s : Fin 2) (g : Fin 4) {r q : ℕ}
  {M0 M1 : Memref sig .tc .vmem S256x1024 .f32} {hM0 : M0.IsWhole} {hM1 : M1.IsWhole}
  {M6 M7 : Memref sig .tc .vmem S1x512 .f32} {hM6 : M6.IsWhole} {hM7 : M7.IsWhole}
  {M8 M9 : Memref sig .tc .vmem S4x128x128 .bf16} {hM8 : M8.IsWhole} {hM9 : M9.IsWhole}
  {M10 : Memref sig .tc .vmem S4x128x128 .f32} {hM10 : M10.IsWhole}
  {inb : ∀ a, ![r, q] a + S128x128.size a ≤ S256x1024.size a} {h : S128x128.ShapeCasts S128x128}
  {inr : ∀ a, ![0, q] a + S1x128.size a ≤ S1x512.size a}
  {ing : ∀ a, ![q, 0, 0] a + S1x128x128.size a ≤ S4x128x128.size a} {h' : S1x128x128.ShapeCasts S128x128}
include P

theorem u_tile (hr : r = s.val * 128) (hq : q = g.val * 128) : Holds (ldT M0 hM0 (iblk m c 0 t) ![r, q] inb h) (A.gate (batch t) (block t s) g).u := by
  intro a b
  refine (ldT_at _ _ _ _ _ _ _ a b (by omega) (by omega)).trans ((P.uv _ _).trans ?_)
  subst hr hq
  rw [A.gate_u, ← row_prow]; rfl

theorem v_tile (hr : r = s.val * 128) (hq : q = 512 + g.val * 128) : Holds (ldT M0 hM0 (iblk m c 0 t) ![r, q] inb h) (A.gate (batch t) (block t s) g).v := by
  intro a b
  refine (ldT_at _ _ _ _ _ _ _ a b (by omega) (by omega)).trans ((P.uv _ _).trans ?_)
  subst hr hq
  rw [A.gate_v, ← row_prow]
  congr 2; ext; simp; omega

theorem dy_tile (hr : r = s.val * 128) (hq : q = g.val * 128) : Holds (ldT M1 hM1 (iblk m c 1 t) ![r, q] inb h) (A.gate (batch t) (block t s) g).dy := by
  intro a b
  refine (ldT_at _ _ _ _ _ _ _ a b (by omega) (by omega)).trans ((P.dy _ _).trans ?_)
  subst hr hq
  rw [A.gate_dy, ← row_prow]; rfl

theorem gam_tile (hq : q = g.val * 128) : Holds (ldR M6 hM6 (iblk m c 6 t) ![0, q] inr) fun _ => (A.gate (batch t) (block t s) g).gam := by
  intro a b
  refine (ldR_at _ _ _ _ _ a b (by omega)).trans ((P.vg _ _).trans ?_)
  subst hq; rfl

theorem bet_tile (hq : q = g.val * 128) : Holds (ldR M7 hM7 (iblk m c 7 t) ![0, q] inr) fun _ => (A.gate (batch t) (block t s) g).bet := by
  intro a b
  refine (ldR_at _ _ _ _ _ a b (by omega)).trans ((P.vb _ _).trans ?_)
  subst hq; rfl

theorem w_tile (hq : q = g.val) : Holds (ldG M8 hM8 (iblk m c 8 t) ![q, 0, 0] ing h') (A.gate (batch t) (block t s) g).w := by
  intro a b
  refine (ldG_at _ _ _ _ _ _ a b (by omega)).trans ((P.w _ _ _).trans ?_)
  subst hq; rfl

theorem wt_tile (hq : q = g.val) : Holds (ldG M9 hM9 (iblk m c 9 t) ![q, 0, 0] ing h') fun i j => (A.gate (batch t) (block t s) g).w j i := by
  intro a b
  refine (ldG_at _ _ _ _ _ _ a b (by omega)).trans ((P.wt _ _ _).trans ?_)
  subst hq; rfl

theorem bc_tile (hq : q = g.val) : Holds (ldG M10 hM10 (iblk m c 10 t) ![q, 0, 0] ing h') fun i _ => (A.gate (batch t) (block t s) g).bs i := by
  intro a b
  refine (ldG_at _ _ _ _ _ _ a b (by omega)).trans ((P.bc _ _ _).trans ?_)
  subst hq; rfl

end Cert.Mix

end
-- ==== Proof.Mix.Carried.lean ====
/- Tables and rows carried from grid point to grid point: a block read, added to, masked, summed and put back. -/
module

public import proofs.«01_k».proof.Proof.Mix.Tile

@[expose] public section

set_option maxRecDepth 16384
set_option maxHeartbeats 4000000

noncomputable section

namespace Cert.Mix

open Idealize.ShloMosaic Idealize.ShloMosaic.TcCoe Idealize.SL.Sem
open Cert.MixBwdIdeal Cert.MixBwdIdeal.Gen

/-- A block of a carried table: what was there, and the term added. -/
theorem add_blk {W : FVec Ideal S1x128x128 .f32} {D : B128} {p d : Blk} {h : S1x128x128.ShapeCasts S128x128} {h' : S128x128.ShapeCasts S1x128x128}
    (hW : ∀ i j, W (ix3 0 i j) = ((p i j : ℝ) : EReal)) (hD : Holds D d) (i j : Fin 128) :
    shapeCast S1x128x128 (addf (shapeCast S128x128 W h) D) h' (ix3 0 i j) = ((p i j + d i j : ℝ) : EReal) := by
  pointwise
  simp only [hW i j, hD i j, ← EReal.coe_add]

/-- A block of a table, read. -/
theorem read_blk {X : Vec Ideal S4x128x128 .f32} {p : Fin 4 → Blk} (hX : ∀ g i j, X (ix3 g i j) = ((p g i j : ℝ) : EReal)) (g : Fin 4)
    {q : ℕ} (hq : q = g.val) {inb : ∀ a, ![q, 0, 0] a + S1x128x128.size a ≤ S4x128x128.size a} (i j : Fin 128) :
    View.ld X (Rect.unit (s := S4x128x128) ![q, 0, 0] S1x128x128.size inb) (ix3 0 i j) = ((p g i j : ℝ) : EReal) := by
  subst hq
  rw [← hX]
  pointwise

/-- A whole block's buffer read at a rectangle is its contents there. -/
theorem read_at {sh : Shape} {e : EltTy} {M : Memref sig .tc .vmem sh e} {hM : M.IsWhole} {X : Vec Ideal sh e} {r : Rect sh} :
    View.readAt (Elt Ideal) M.view r.toLoadRect (hM.unread X) = View.ld X r := by
  rw [View.readAt_eq_ld, hM.read_unread]

theorem read_dsv {hM : scM0_2.IsWhole} {X : Vec Ideal S4x128x128 .f32} {r : Rect S4x128x128} :
    View.readAt (Elt Ideal) (View.whole cc0_scratch2) r.toLoadRect (hM.unread X) = View.ld X r := read_at (M := scM0_2)

/-- The table of zeros that the first point writes. -/
theorem zero_tab (g : Fin 4) (i j : Fin 128) : (k0_pay185 : FVec Ideal S4x128x128 .f32) (ix3 g i j) = ((0 : ℝ) : EReal) := by
  pointwise [k0_pay185]
  exact EReal.coe_zero.symm

/-- A table of four blocks, as an array. -/
def tab (p : Fin 4 → Blk) : Vec Ideal S4x128x128 .f32 := fun y => ((p (y 0) (y 1) (y 2) : ℝ) : EReal)

/-- A block put where it goes in a table. -/
theorem put_blk {p : Fin 4 → Blk} {W : FVec Ideal S1x128x128 .f32} (g : Fin 4) {q : ℕ} (hq : q = g.val)
    {inb : ∀ a, ![q, 0, 0] a + S1x128x128.size a ≤ S4x128x128.size a}
    (hW : ∀ i j, W (ix3 0 i j) = ((p g i j : ℝ) : EReal)) (x : S1x128x128.Idx) :
    W x = tab p ((Rect.unit (s := S4x128x128) ![q, 0, 0] S1x128x128.size inb).emb x) := by
  subst hq
  obtain ⟨a, i, j, rfl⟩ : ∃ (a : Fin 1) (i j : Fin 128), x = ix3 a i j := ⟨x 0, x 1, x 2, eq_ix3 x⟩
  obtain rfl : a = 0 := Subsingleton.elim _ _
  refine (hW i j).trans ?_
  change tab p (ix3 g i j) = _
  congr 1
  blk_ext []

/-- A block of a table with what lies above the diagonal dropped. -/
theorem mask_blk {W : FVec Ideal S1x128x128 .f32} {p : Blk} {h : S1x128x128.ShapeCasts S128x128} {h' : S128x128.ShapeCasts S1x128x128}
    {q0 q1} (hW : ∀ i j, W (ix3 0 i j) = ((p i j : ℝ) : EReal)) (i j : Fin 128) :
    shapeCast S1x128x128 (select (cmpi .sge (iota .tc S128x128 32 [0] q0) (iota .tc S128x128 32 [1] q1)) (shapeCast S128x128 W h)
      (broadcast S128x128 (Scalar.ofBits (F := Ideal) .f32 0x00000000#32))) h' (ix3 0 i j) = (((if j ≤ i then p i j else 0 : ℝ)) : EReal) := by
  pointwise
  rw [hW]
  have key : ∀ i j : Fin 128, IntOp.cmpi .sge (BitVec.ofNat 32 i.val) (BitVec.ofNat 32 j.val) = BitVec.ofBool (decide (j ≤ i)) := by
    decide +kernel
  rw [key]
  by_cases hij : j ≤ i
  · simp [hij, Scalar.select]
  · simp [hij, Scalar.select]

/-- The sums of a block's rows, laid out as a row. -/
theorem sums_blk {W : FVec Ideal S1x128x128 .f32} {p : Blk} {h : S1x128x128.ShapeCasts S128x128} (hW : ∀ i j, W (ix3 0 i j) = ((p i j : ℝ) : EReal))
    {h1 h2 h3 h4} {h' : S128.ShapeCasts S1x128} (i : Fin 128) :
    shapeCast S1x128 (multiReduction (F := Ideal) .add [0] S128 (transpose S128x128 [1, 0] (shapeCast S128x128 W h) h1)
      0#32 h2 h3 h4) h' (ix2 0 i) = ((∑ k, p i k : ℝ) : EReal) := by
  pointwise
  simp only [hW, ← coe_sum]

/-- Four rows of 128, as an array of one row; and as an array of four. -/
def seg (p : Fin 4 → Fin 128 → ℝ) : Vec Ideal S1x512 .f32 := fun y => ((p (grpOf (y 1)) (inGrp (y 1)) : ℝ) : EReal)
def rows (p : Fin 4 → Fin 128 → ℝ) : Vec Ideal S4x128 .f32 := fun y => ((p (y 0) (y 1) : ℝ) : EReal)

theorem seg_ch (p : Fin 4 → Fin 128 → ℝ) (g : Fin 4) (j : Fin 128) : seg p (ix2 0 (ch g j)) = ((p g j : ℝ) : EReal) := by
  have e1 : grpOf (ch g j) = g := Fin.ext (by simp; omega)
  have e2 : inGrp (ch g j) = j := Fin.ext (by simp)
  change ((p (grpOf (ch g j)) (inGrp (ch g j)) : ℝ) : EReal) = _
  rw [e1, e2]

theorem add_seg {W D : R128} {p d : Fin 128 → ℝ} {h : S1x128.ShapeCasts S1x128} (hW : ∀ j, W (ix2 0 j) = ((p j : ℝ) : EReal))
    (hD : Holds D fun _ => d) (j : Fin 128) : addf (shapeCast S1x128 W h) D (ix2 0 j) = ((p j + d j : ℝ) : EReal) := by
  pointwise
  simp only [hW j, hD 0 j, ← EReal.coe_add]

theorem read_seg {X : Vec Ideal S1x512 .f32} {p : Fin 4 → Fin 128 → ℝ} (hX : ∀ g j, X (ix2 0 (ch g j)) = ((p g j : ℝ) : EReal)) (g : Fin 4)
    {q : ℕ} (hq : q = g.val * 128) {inb : ∀ a, ![0, q] a + S1x128.size a ≤ S1x512.size a} (j : Fin 128) :
    View.ld X (Rect.unit (s := S1x512) ![0, q] S1x128.size inb) (ix2 0 j) = ((p g j : ℝ) : EReal) := by
  subst hq
  rw [← hX]
  pointwise

theorem put_seg {p : Fin 4 → Fin 128 → ℝ} {W : R128} (g : Fin 4) {q : ℕ} (hq : q = g.val * 128)
    {inb : ∀ a, ![0, q] a + S1x128.size a ≤ S1x512.size a} (hW : ∀ j, W (ix2 0 j) = ((p g j : ℝ) : EReal)) (x : S1x128.Idx) :
    W x = seg p ((Rect.unit (s := S1x512) ![0, q] S1x128.size inb).emb x) := by
  subst hq
  obtain ⟨a, j, rfl⟩ : ∃ (a : Fin 1) (j : Fin 128), x = ix2 a j := ⟨x 0, x 1, eq_ix2 x⟩
  obtain rfl : a = 0 := Subsingleton.elim _ _
  refine (hW j).trans ((seg_ch p g j).symm.trans ?_)
  congr 1
  blk_ext []

theorem put_rows {p : Fin 4 → Fin 128 → ℝ} {W : R128} (g : Fin 4) {q : ℕ} (hq : q = g.val)
    {inb : ∀ a, ![q, 0] a + S1x128.size a ≤ S4x128.size a} (hW : ∀ j, W (ix2 0 j) = ((p g j : ℝ) : EReal)) (x : S1x128.Idx) :
    W x = rows p ((Rect.unit (s := S4x128) ![q, 0] S1x128.size inb).emb x) := by
  subst hq
  obtain ⟨a, j, rfl⟩ : ∃ (a : Fin 1) (j : Fin 128), x = ix2 a j := ⟨x 0, x 1, eq_ix2 x⟩
  obtain rfl : a = 0 := Subsingleton.elim _ _
  refine (hW j).trans ?_
  change rows p (ix2 g j) = _
  congr 1
  blk_ext []

/-- The two rows of zeros that the first point writes. -/
theorem zero_seg (j : Fin 512) : (k0_pay186 : FVec Ideal S1x512 .f32) (ix2 0 j) = ((0 : ℝ) : EReal)
    ∧ (k0_pay187 : FVec Ideal S1x512 .f32) (ix2 0 j) = ((0 : ℝ) : EReal) := by
  constructor
  · pointwise [k0_pay186]
    exact EReal.coe_zero.symm
  · pointwise [k0_pay187]
    exact EReal.coe_zero.symm

end Cert.Mix

end
-- ==== Proof.Mix.Cross.lean ====
/- The kernel's operations on one tile of 256 tokens and one head of the attention over the memory, as functions of the loaded
   blocks, and their entries over the reals. A head is a half of a block of 128 channels: the other half is masked out. -/
module

public import proofs.«01_k».proof.Proof.Mix.Block

@[expose] public section

set_option maxRecDepth 16384

noncomputable section

namespace Cert.Mix

open Idealize.ShloMosaic Cert.MixBwdIdeal Cert.MixBwdIdeal.Gen

abbrev T128 := FVec Ideal S256x128 .f32
abbrev T256 := FVec Ideal S256x256 .f32
abbrev K128 := FVec Ideal S256x128 .bf16

def zeroT : T128 := broadcast S256x128 (Scalar.ofBits .f32 0x00000000#32)

/-- The channels of the first head of a block. -/
def lowT : IVec S256x128 1 := cmpi .slt (iota .tc S256x128 32 [1] iota_S256x128_d1_w32) (broadcast S256x128 64#32)

/-- The channels of the second. -/
def highT : IVec S256x128 1 := xori lowT (constantI S256x128 1 1#1)

def cq (h : IVec S256x128 1) (q : K128) : K128 := truncf .bf16 (select h (extf .f32 q bitsLt_bf16_f32) zeroT) bitsLt_bf16_f32
def cdo (h : IVec S256x128 1) (ct : T128) : K128 := truncf .bf16 (select h ct zeroT) bitsLt_bf16_f32

def cscore (h : IVec S256x128 1) (q k : K128) : T256 :=
  mulf (matmul dot_S256x128_S256x128_S256x256_1_1_0_0_n_n none (cq h q) k (constant S256x256 .f32 0x00000000#32))
    (broadcast S256x256 (Scalar.ofBits .f32 0x3E000000#32))

def cmax (z : T256) : FVec Ideal S256x1 .f32 :=
  shapeCast S256x1 (multiReduction .maximumf [1] S256 z 0xFF800000#32 reduces_S256x256_S256 (.inl rfl) rfl) shapeCasts_S256_S256x1

def csum (z : T256) : FVec Ideal S256x1 .f32 :=
  shapeCast S256x1 (multiReduction .add [1] S256 z 0x00000000#32 reduces_S256x256_S256 (.inl rfl) rfl) shapeCasts_S256_S256x1

def cexp (z : T256) : T256 := exp (subf z (broadcastTo S256x256 (cmax z) broadcasts_S256x1_S256x256))

def csm (z : T256) : T256 :=
  mulf (cexp z) (broadcastTo S256x256 (divf (broadcast S256x1 (Scalar.ofBits .f32 0x3F800000#32)) (csum (cexp z))) broadcasts_S256x1_S256x256)

def cdp (h : IVec S256x128 1) (ct : T128) (v : K128) : T256 :=
  matmul dot_S256x128_S256x128_S256x256_1_1_0_0_n_n none (cdo h ct) v (constant S256x256 .f32 0x00000000#32)

def cds (h : IVec S256x128 1) (q k v : K128) (ct : T128) : T256 :=
  mulf (mulf (csm (cscore h q k)) (subf (cdp h ct v) (broadcastTo S256x256 (csum (mulf (csm (cscore h q k)) (cdp h ct v))) broadcasts_S256x1_S256x256)))
    (broadcast S256x256 (Scalar.ofBits .f32 0x3E000000#32))

def cdk (h : IVec S256x128 1) (q k v : K128) (ct : T128) : T128 :=
  matmul dot_S256x256_S256x128_S256x128_0_0_1_1_n_n none (truncf .bf16 (cds h q k v ct) bitsLt_bf16_f32) (cq h q) (constant S256x128 .f32 0x00000000#32)

def cdv (h : IVec S256x128 1) (q k : K128) (ct : T128) : T128 :=
  matmul dot_S256x256_S256x128_S256x128_0_0_1_1_n_n none (truncf .bf16 (csm (cscore h q k)) bitsLt_bf16_f32) (cdo h ct) (constant S256x128 .f32 0x00000000#32)

/-- The tile's part of the keys' gradient, both heads of a block of channels. -/
def cdk2 (q k v : K128) (ct : T128) : T128 := addf (addf zeroT (cdk lowT q k v ct)) (cdk highT q k v ct)

/-- The same for the values. -/
def cdv2 (q k : K128) (ct : T128) : T128 := addf (addf zeroT (cdv lowT q k ct)) (cdv highT q k ct)

/-- The mask `m` is true exactly on the channels of head `h`. -/
def Mask (m : IVec S256x128 1) (h : Fin 2) : Prop := ∀ i j, m (ix2 i j) = BitVec.ofBool (decide (hd j = h))

theorem lowT_mask : Mask lowT 0 := by
  have key : ∀ j : Fin 128, IntOp.cmpi .slt (BitVec.ofNat 32 j.val) 64#32 = BitVec.ofBool (decide (hd j = 0)) := by decide
  intro i j
  pointwise [lowT]
  exact key j

theorem highT_mask : Mask highT 1 := by
  have key : ∀ j : Fin 128, IntOp.xori (BitVec.ofBool (decide (hd j = 0))) 1#1 = BitVec.ofBool (decide (hd j = 1)) := by decide
  intro i j
  pointwise [highT]
  rw [lowT_mask i j, key]

theorem word_8th : (Ideal.ofBits .f32 0x3E000000#32 : EReal) = ((1 / 8 : ℝ) : EReal) := by
  simp [Ideal.ofBits, Ideal.ieee, -EReal.coe_mul]; norm_num

theorem word_bot : (Ideal.ofBits .f32 0xFF800000#32 : EReal) = ⊥ := by simp [Ideal.ofBits, Ideal.ieee]

/-- The largest of finitely many reals, taken from the bottom up, is a real. -/
theorem fold_max_real {ι : Type} (s : Finset ι) {f : ι → EReal} {z : EReal} (hz : z = ⊥) (hf : ∀ i, ∃ r : ℝ, f i = r) (hs : s.Nonempty) :
    ∃ a : ℝ, Finset.fold max z f s = a := by
  obtain ⟨i, hi⟩ := hs
  subst hz
  obtain ⟨r, hr⟩ := hf i
  have h1 : f i ≤ Finset.fold max ⊥ f s := (Finset.le_fold_max _).2 (.inr ⟨i, hi, le_rfl⟩)
  have h2 : Finset.fold max ⊥ f s < ⊤ := (Finset.fold_max_lt _).2 ⟨bot_lt_top, fun x _ => by
    obtain ⟨q, hq⟩ := hf x
    exact hq ▸ EReal.coe_lt_top _⟩
  rw [hr] at h1
  exact ⟨_, (EReal.coe_toReal h2.ne ((EReal.bot_lt_coe _).trans_le h1).ne').symm⟩

section

variable {m : IVec S256x128 1} {h : Fin 2} {Q K V : K128} {D : T128} {q k v d : Fin 256 → Fin 128 → ℝ}

theorem cq_holds (hm : Mask m h) (hq : Holds Q q) : Holds (cq m Q) fun i => keep h (q i) := by
  intro i j
  pointwise [cq, zeroT]
  rw [hm i j, hq i j, keep]
  by_cases e : hd j = h <;> simp [e, Scalar.select]

theorem cdo_holds (hm : Mask m h) (hd' : Holds D d) : Holds (cdo m D) fun i => keep h (d i) := by
  intro i j
  pointwise [cdo, zeroT]
  rw [hm i j, hd' i j, keep]
  by_cases e : hd j = h <;> simp [e, Scalar.select]

theorem cscore_holds (hm : Mask m h) (hq : Holds Q q) (hk : Holds K k) : Holds (cscore m Q K) fun i => score (keep h (q i)) k := by
  intro i j
  pointwise [cscore]
  simp only [cq_holds hm hq i _, hk j _, word_8th, ← EReal.coe_mul, ← coe_sum, score]

theorem csm_holds {Z : T256} {z : Fin 256 → Fin 256 → ℝ} (hz : Holds Z z) : Holds (csm Z) fun i => sm (z i) := by
  intro i j
  pointwise [csm, cexp, cmax, csum]
  simp only [hz i _]
  obtain ⟨a, ha⟩ := fold_max_real Finset.univ word_bot (f := fun n => ((z i n : ℝ) : EReal)) (fun n => ⟨_, rfl⟩) ⟨0, Finset.mem_univ _⟩
  have hs : (∑ n, Real.exp (z i n - a)) ≠ 0 := (sum_exp_pos fun n => z i n - a).ne'
  simp only [ha, ← EReal.coe_sub, Ideal.exp_coe, ← coe_sum]
  rw [Ideal.div_coe hs, ← EReal.coe_one, ← EReal.coe_mul, ← EReal.coe_mul, ← sm_shift (z i) a j]
  congr 1; ring

theorem cdp_holds (hm : Mask m h) (hd' : Holds D d) (hv : Holds V v) : Holds (cdp m D V) fun i => dprob (keep h (d i)) v := by
  intro i j
  pointwise [cdp]
  simp only [cdo_holds hm hd' i _, hv j _, ← EReal.coe_mul, ← coe_sum, dprob]

theorem cds_holds (hm : Mask m h) (hq : Holds Q q) (hk : Holds K k) (hv : Holds V v) (hd' : Holds D d) :
    Holds (cds m Q K V D) fun i => dscore (keep h (q i)) (keep h (d i)) k v := by
  intro i j
  pointwise [cds, csum]
  simp only [csm_holds (cscore_holds hm hq hk) i _, cdp_holds hm hd' hv i _, word_8th, ← EReal.coe_mul, ← coe_sum, ← EReal.coe_sub]
  rfl

theorem cdk_holds (hm : Mask m h) (hq : Holds Q q) (hk : Holds K k) (hv : Holds V v) (hd' : Holds D d) :
    Holds (cdk m Q K V D) fun n j => ∑ s, dscore (keep h (q s)) (keep h (d s)) k v n * keep h (q s) j := by
  intro i j
  pointwise [cdk]
  simp only [cds_holds hm hq hk hv hd' _ i, cq_holds hm hq _ j, ← EReal.coe_mul, ← coe_sum]

theorem cdv_holds (hm : Mask m h) (hq : Holds Q q) (hk : Holds K k) (hd' : Holds D d) :
    Holds (cdv m Q K D) fun n j => ∑ s, prob (keep h (q s)) k n * keep h (d s) j := by
  intro i j
  pointwise [cdv]
  simp only [csm_holds (cscore_holds hm hq hk) _ i, cdo_holds hm hd' _ j, ← EReal.coe_mul, ← coe_sum]
  rfl

theorem cdk2_holds (hq : Holds Q q) (hk : Holds K k) (hv : Holds V v) (hd' : Holds D d) : Holds (cdk2 Q K V D) (dkey q d k v) := by
  intro i j
  pointwise [cdk2, zeroT]
  rw [cdk_holds lowT_mask hq hk hv hd' i j, cdk_holds highT_mask hq hk hv hd' i j, ← EReal.coe_add]
  simp only [dscore_keep]
  exact congrArg _ (sum_heads (fun h s => dscore (Mix.hv h (q s)) (Mix.hv h (d s)) (fun m => Mix.hv h (k m)) (fun m => Mix.hv h (v m)) i) q j)

theorem cdv2_holds (hq : Holds Q q) (hk : Holds K k) (hd' : Holds D d) : Holds (cdv2 Q K D) (dval q d k) := by
  intro i j
  pointwise [cdv2, zeroT]
  rw [cdv_holds lowT_mask hq hk hd' i j, cdv_holds highT_mask hq hk hd' i j, ← EReal.coe_add]
  simp only [prob, score_keep]
  exact congrArg _ (sum_heads (fun h s => prob (hv h (q s)) (fun m => hv h (k m)) i) d j)

end

end Cert.Mix

end
-- ==== Proof.Mix.KernelMem.lean ====
/- The memory's gradient at one grid point: what the point's tile adds to what the point before left. -/
module

public import proofs.«01_k».proof.Proof.Mix.Carried
public import proofs.«01_k».proof.Proof.Mix.Cross

@[expose] public section

set_option maxRecDepth 16384
set_option maxHeartbeats 4000000

noncomputable section

namespace Cert.Mix

open Idealize.ShloMosaic Idealize.ShloMosaic.TcCoe Idealize.SL.Sem
open Cert.MixBwdIdeal Cert.MixBwdIdeal.Gen

/-- The four column blocks of the memory's gradient, as an array. -/
def mtab (p : Fin 4 → Fin 256 → Fin 128 → ℝ) : Vec Ideal S1x256x512 .f32 := fun y => ((p (grpOf (y 2)) (y 1) (inGrp (y 2)) : ℝ) : EReal)

theorem mtab_ch (p : Fin 4 → Fin 256 → Fin 128 → ℝ) (g : Fin 4) (i : Fin 256) (j : Fin 128) : mtab p (ix3 0 i (ch g j)) = ((p g i j : ℝ) : EReal) := by
  have e1 : grpOf (ch g j) = g := Fin.ext (by simp; omega)
  have e2 : inGrp (ch g j) = j := Fin.ext (by simp)
  change ((p (grpOf (ch g j)) i (inGrp (ch g j)) : ℝ) : EReal) = _
  rw [e1, e2]

theorem add_mem {W : FVec Ideal S1x256x128 .f32} {D : T128} {p d : Fin 256 → Fin 128 → ℝ} {h : S1x256x128.ShapeCasts S256x128}
    {h' : S256x128.ShapeCasts S1x256x128} (hW : ∀ i j, W (ix3 0 i j) = ((p i j : ℝ) : EReal)) (hD : Holds D d) (i : Fin 256) (j : Fin 128) :
    shapeCast S1x256x128 (addf (shapeCast S256x128 W h) D) h' (ix3 0 i j) = ((p i j + d i j : ℝ) : EReal) := by
  pointwise
  simp only [hW i j, hD i j, ← EReal.coe_add]

theorem read_mem {X : Vec Ideal S1x256x512 .f32} {p : Fin 4 → Fin 256 → Fin 128 → ℝ} (hX : ∀ g i j, X (ix3 0 i (ch g j)) = ((p g i j : ℝ) : EReal))
    (g : Fin 4) {q : ℕ} (hq : q = g.val * 128) {inb : ∀ a, ![0, 0, q] a + S1x256x128.size a ≤ S1x256x512.size a} (i : Fin 256) (j : Fin 128) :
    View.ld X (Rect.unit (s := S1x256x512) ![0, 0, q] S1x256x128.size inb) (ix3 0 i j) = ((p g i j : ℝ) : EReal) := by
  subst hq
  rw [← hX]
  pointwise

theorem put_mem {p : Fin 4 → Fin 256 → Fin 128 → ℝ} {W : FVec Ideal S1x256x128 .f32} (g : Fin 4) {q : ℕ} (hq : q = g.val * 128)
    {inb : ∀ a, ![0, 0, q] a + S1x256x128.size a ≤ S1x256x512.size a} (hW : ∀ i j, W (ix3 0 i j) = ((p g i j : ℝ) : EReal)) (x : S1x256x128.Idx) :
    W x = mtab p ((Rect.unit (s := S1x256x512) ![0, 0, q] S1x256x128.size inb).emb x) := by
  subst hq
  obtain ⟨a, i, j, rfl⟩ : ∃ (a : Fin 1) (i : Fin 256) (j : Fin 128), x = ix3 a i j := ⟨x 0, x 1, x 2, eq_ix3 x⟩
  obtain rfl : a = 0 := Subsingleton.elim _ _
  refine (hW i j).trans ((mtab_ch p g i j).symm.trans ?_)
  congr 1
  blk_ext []

theorem zero_mem (i : Fin 256) (j : Fin 512) : (k0_pay191 : FVec Ideal S1x256x512 .f32) (ix3 0 i j) = ((0 : ℝ) : EReal) := by
  pointwise [k0_pay191]
  exact EReal.coe_zero.symm

namespace Args

variable (A : Args) (t : Fin cfg0.N) (g : Fin 2) (r : Fin 256) (j : Fin 128)

/-- The point's queries and cotangents on a pair of heads, and the memory's keys and values there. -/
def tq : ℝ := A.qkv (batch t) (row t r) ⟨512 + (g.val * 128 + j.val), by omega⟩
def td : ℝ := A.dy (batch t) (row t r) ⟨768 + (g.val * 128 + j.val), by omega⟩
def tk : ℝ := A.mkv (batch t) r ⟨g.val * 128 + j.val, by omega⟩
def tv : ℝ := A.mkv (batch t) r ⟨256 + (g.val * 128 + j.val), by omega⟩

/-- What the point's tile gives to the memory's gradient. -/
def tmem : Fin 4 → Fin 256 → Fin 128 → ℝ :=
  ![dkey (A.tq t 0) (A.td t 0) (A.tk t 0) (A.tv t 0), dkey (A.tq t 1) (A.td t 1) (A.tk t 1) (A.tv t 1),
    dval (A.tq t 0) (A.td t 0) (A.tk t 0), dval (A.tq t 1) (A.td t 1) (A.tk t 1)]

end Args

/-- Where a point's queries start. -/
theorem off7 : ∀ t : Fin cfg0.N, k0_off7 (grid0.coords t) = ![0, (7 - t.val % 8) * 256, 512 + (0 : Fin 2).val * 128] := by decide +kernel
theorem off8 : ∀ t : Fin cfg0.N, k0_off8 (grid0.coords t) = ![0, (7 - t.val % 8) * 256, 512 + (1 : Fin 2).val * 128] := by decide +kernel

theorem drop_mem {e : EltTy} (Y : Vec Ideal S1x256x128 e) (h : S1x256x128.ShapeCasts S256x128) (a : Fin 256) (b : Fin 128) :
    shapeCast S256x128 Y h (ix2 a b) = Y (ix3 0 a b) := by
  pointwise

variable {m : (ℓ : Loc nD τ sig) → Buf (Elt Ideal) ℓ} {c : Dev nD} {A : Args} {t : Fin cfg0.N} (P : At m c A t) (g : Fin 2)
include P

theorem q_tile {M : Memref sig .tc .vmem S1x2048x768 .bf16} {hM : M.IsWhole} {h : S1x256x128.ShapeCasts S256x128} {o : Fin 3 → ℕ}
    (ho : o = ![0, (7 - t.val % 8) * 256, 512 + g.val * 128]) {inb : ∀ a, o a + S1x256x128.size a ≤ S1x2048x768.size a} :
    Holds (shapeCast S256x128 (View.readAt (Elt Ideal) M.view (Rect.unit (s := S1x2048x768) o S1x256x128.size inb).toLoadRect (hM.unread (iblk m c 2 t))) h)
      (A.tq t g) := by
  subst ho
  intro a b
  refine (drop_mem _ h a b).trans ?_
  rw [read_at]
  refine Eq.trans ?_ (P.qkv 0 (row t a) ⟨512 + (g.val * 128 + b.val), by omega⟩)
  pointwise
  congr 1
  blk_ext [row]

theorem k_tile {M : Memref sig .tc .vmem S1x256x512 .bf16} {hM : M.IsWhole} {h : S1x256x128.ShapeCasts S256x128} {q : ℕ} (hq : q = g.val * 128)
    {inb : ∀ a, ![0, 0, q] a + S1x256x128.size a ≤ S1x256x512.size a} :
    Holds (shapeCast S256x128 (View.readAt (Elt Ideal) M.view (Rect.unit (s := S1x256x512) ![0, 0, q] S1x256x128.size inb).toLoadRect (hM.unread (iblk m c 3 t))) h)
      (A.tk t g) := by
  subst hq
  intro a b
  refine (drop_mem _ h a b).trans ?_
  rw [read_at]
  refine Eq.trans ?_ (P.mkv 0 a ⟨g.val * 128 + b.val, by omega⟩)
  pointwise

theorem vm_tile {M : Memref sig .tc .vmem S1x256x512 .bf16} {hM : M.IsWhole} {h : S1x256x128.ShapeCasts S256x128} {q : ℕ} (hq : q = 256 + g.val * 128)
    {inb : ∀ a, ![0, 0, q] a + S1x256x128.size a ≤ S1x256x512.size a} :
    Holds (shapeCast S256x128 (View.readAt (Elt Ideal) M.view (Rect.unit (s := S1x256x512) ![0, 0, q] S1x256x128.size inb).toLoadRect (hM.unread (iblk m c 3 t))) h)
      (A.tv t g) := by
  subst hq
  intro a b
  refine (drop_mem _ h a b).trans ?_
  rw [read_at]
  refine Eq.trans ?_ (P.mkv 0 a ⟨256 + (g.val * 128 + b.val), by omega⟩)
  pointwise
  blk_ext []

theorem d_tile {M : Memref sig .tc .vmem S256x1024 .f32} {hM : M.IsWhole} {h : S256x128.ShapeCasts S256x128} {q : ℕ} (hq : q = 768 + g.val * 128)
    {inb : ∀ a, ![0, q] a + S256x128.size a ≤ S256x1024.size a} :
    Holds (shapeCast S256x128 (View.readAt (Elt Ideal) M.view (Rect.unit (s := S256x1024) ![0, q] S256x128.size inb).toLoadRect (hM.unread (iblk m c 1 t))) h)
      (A.td t g) := by
  subst hq
  intro a b
  rw [read_at]
  refine Eq.trans ?_ (P.dy a ⟨768 + (g.val * 128 + b.val), by omega⟩)
  pointwise
  blk_ext []

/-- What a point adds to the memory's gradient. -/
theorem dmem_step (p : Fin 4 → Fin 256 → Fin 128 → ℝ) (h0 : t.val % 8 = 0 → p = 0)
    (hp : ¬t.val % 8 = 0 → ∀ g i j, (outsAt0 m c (t.val - 1) (by omega)).2.2.1 (ix3 0 i (ch g j)) = ((p g i j : ℝ) : EReal))
    (g : Fin 4) (i : Fin 256) (j : Fin 128) :
    (outsAt0 m c t.val t.isLt).2.2.1 (ix3 0 i (ch g j)) = ((p g i j + A.tmem t g i j : ℝ) : EReal) := by
  obtain ⟨c0, c1, c2⟩ | ⟨c0, c1, c2⟩ | ⟨c0, c1, c2⟩ | ⟨c0, c1, c2⟩ := point_cases t
  all_goals
    first
      | replace hp := hp c1
      | replace hp : ∀ g i j, _ = ((p g i j : ℝ) : EReal) := fun g i j => (zero_mem i (ch g j)).trans (by rw [h0 c1]; rfl)
    first | rw [outsAt0_A m c t c0 c1 c2] | rw [outsAt0_B m c t c0 c1 c2] | rw [outsAt0_C m c t c0 c1 c2] | rw [outsAt0_D m c t c0 c1 c2]
    frame_open
    rw [View.read_writes_junk_eq_canon]
    simp (disch := decide) only [↓ View.readCov_skip, ↓ View.readCov_cons_toLoadRect, ↓ View.readCov_fill, read_at (M := ms0_14 t) (hM := hs0_14 t)]
    refine (View.canon_append_of_piecesOf (Val := Elt Ideal) (s := S1x256x512) (e := .f32)
      (mtab fun g i j => p g i j + A.tmem t g i j) _ [_, _, _, _] ⟨?_, ?_, ?_, ?_, trivial⟩ (ix3 0 i (ch g j)) ?_).trans (mtab_ch _ g i j)
    pick_goal 5
    · refine View.cover_of_tiledL (Val := Elt Ideal) (s := S1x256x512) (e := .f32) _ S1x256x128.size ?_ (ix3 0 i (ch g j))
      sl_kernel_rfl
    all_goals dsimp only
    · exact put_mem 3 rfl (add_mem (read_mem hp 3 rfl) (cdv2_holds (q_tile P 1 (off8 t)) (k_tile P 1 rfl) (d_tile P 1 rfl)))
    · exact put_mem 1 rfl (add_mem (read_mem hp 1 rfl) (cdk2_holds (q_tile P 1 (off8 t)) (k_tile P 1 rfl) (vm_tile P 1 rfl) (d_tile P 1 rfl)))
    · exact put_mem 2 rfl (add_mem (read_mem hp 2 rfl) (cdv2_holds (q_tile P 0 (off7 t)) (k_tile P 0 rfl) (d_tile P 0 rfl)))
    · exact put_mem 0 rfl (add_mem (read_mem hp 0 rfl) (cdk2_holds (q_tile P 0 (off7 t)) (k_tile P 0 rfl) (vm_tile P 0 rfl) (d_tile P 0 rfl)))

end Cert.Mix

end
-- ==== Proof.Mix.Total.lean ====
/- Sums over the grid: what a carried output holds after a run of points, and the whole run as a sum over batches and blocks of
   tokens, the last block first. -/
module

public import proofs.«01_k».proof.Proof.Mix.KernelMem

@[expose] public section

set_option maxRecDepth 16384

noncomputable section

namespace Cert.Mix

open Idealize.ShloMosaic Idealize.ShloMosaic.TcCoe Idealize.SL.Sem
open Cert.MixBwdIdeal Cert.MixBwdIdeal.Gen

/-- What the points from the last multiple of `r` up to `n` add up to. -/
def upTo (d : Fin cfg0.N → ℝ) (r n : ℕ) : ℝ := ∑ k ∈ Finset.range (n % r + 1), if h : n / r * r + k < 16 then d ⟨n / r * r + k, h⟩ else 0

/-- An output that starts anew at each multiple of `r` and gains `d` at each point holds those sums. -/
theorem carried {ι : Type} {N r : ℕ} (hN : N ≤ 16) (hr : r = 8 ∨ r = 16) (X : (n : ℕ) → n < N → ι → EReal) (d : Fin cfg0.N → ι → ℝ)
    (step : ∀ (n : ℕ) (h : n < N) (p : ι → ℝ), (n % r = 0 → p = 0) → (¬n % r = 0 → ∀ i, X (n - 1) (by omega) i = ((p i : ℝ) : EReal)) →
      ∀ i, X n h i = ((p i + d ⟨n, lt_of_lt_of_le h hN⟩ i : ℝ) : EReal)) (n : ℕ) (h : n < N) (i : ι) :
    X n h i = ((upTo (fun t => d t i) r n : ℝ) : EReal) := by
  induction n generalizing i with
  | zero =>
    refine (step 0 h 0 (fun _ => rfl) (fun e => absurd (Nat.zero_mod r) e) i).trans ?_
    rcases hr with rfl | rfl <;> simp [upTo]
  | succ n ih =>
    by_cases h0 : (n + 1) % r = 0
    · refine (step (n + 1) h 0 (fun _ => rfl) (fun e => absurd h0 e) i).trans ?_
      have e : (n + 1) / r * r = n + 1 := Nat.div_mul_cancel (Nat.dvd_of_mod_eq_zero h0)
      simp [upTo, h0, e, show n + 1 < 16 by omega]
    · refine (step (n + 1) h (fun i => upTo (fun t => d t i) r n) (fun e => absurd e h0) (fun _ i => ih (by omega) i) i).trans ?_
      have e1 : (n + 1) % r = n % r + 1 := by rcases hr with rfl | rfl <;> omega
      have e2 : (n + 1) / r = n / r := by rcases hr with rfl | rfl <;> omega
      have e3 : n / r * r + (n % r + 1) = n + 1 := by rcases hr with rfl | rfl <;> omega
      congr 1
      rw [upTo, upTo, e1, e2, Finset.sum_range_succ _ (n % r + 1), dif_pos (show n / r * r + (n % r + 1) < 16 by omega)]
      congr 2
      exact Fin.ext e3.symm

theorem sum_rev (f : Fin 8 → ℝ) : ∑ q : Fin 8, f ⟨7 - q.val, by omega⟩ = ∑ q, f q :=
  (Finset.sum_congr rfl fun q _ => congrArg f (show (⟨7 - q.val, _⟩ : Fin 8) = Fin.revPerm q from Fin.ext (by simp))).trans
    (Equiv.sum_comp Fin.revPerm f)

/-- All sixteen points, each with its two blocks of tokens. -/
theorem total (F : Fin 2 → Fin 16 → ℝ) : upTo (fun t => F (batch t) (block t 0) + F (batch t) (block t 1)) 16 15 = ∑ b, ∑ n, F b n := by
  rw [upTo, Finset.sum_range, Common.sum_rows (a := 2) (b := 8) rfl]
  refine Finset.sum_congr rfl fun b _ => ?_
  rw [Common.sum_rows (a := 8) (b := 2) rfl]
  refine Eq.trans ?_ (sum_rev _)
  refine Finset.sum_congr rfl fun q _ => ?_
  rw [Fin.sum_univ_two]
  refine (dif_pos (show 15 / 16 * 16 + (8 * b.val + q.val) < 16 by omega)).trans ?_
  have eb : batch (⟨15 / 16 * 16 + (8 * b.val + q.val), show _ < 16 by omega⟩ : Fin cfg0.N) = b := Fin.ext (by simp [batch]; omega)
  have es : ∀ s : Fin 2, block (⟨15 / 16 * 16 + (8 * b.val + q.val), show _ < 16 by omega⟩ : Fin cfg0.N) s = ⟨2 * (7 - q.val) + s.val, by omega⟩ :=
    fun s => Fin.ext (by simp [block]; omega)
  rw [eb, es, es]

/-- The eight points of a batch, each with its 256 tokens. -/
theorem total_rows (t : Fin cfg0.N) (ht : t.val % 8 = 7) (f : Fin 2 → Fin 2048 → ℝ) :
    upTo (fun t => ∑ s : Fin 256, f (batch t) (row t s)) 8 t.val = ∑ x, f (batch t) x := by
  rw [upTo, ht, Finset.sum_range, Common.sum_rows (a := 8) (b := 256) rfl]
  refine Eq.trans ?_ (sum_rev _)
  refine Finset.sum_congr rfl fun q _ => ?_
  have lt := point_lt t
  refine (dif_pos (show t.val / 8 * 8 + q.val < 16 by omega)).trans ?_
  have eb : batch (⟨t.val / 8 * 8 + q.val, show _ < 16 by omega⟩ : Fin cfg0.N) = batch t := Fin.ext (by simp [batch]; omega)
  refine Finset.sum_congr rfl fun s _ => ?_
  rw [eb]
  exact congrArg _ (Fin.ext (by simp [row]; omega))

variable (A : Args) (t : Fin cfg0.N) (g : Fin 2) (i : Fin 256) (j : Fin 128) {h : Fin 4} {e : Fin 64}
  (hh : h.val = 2 * g.val + j.val / 64) (he : e.val = j.val % 64)
include hh

theorem tq_head (s : Fin 256) : hv (hd j) (A.tq t g s) = A.q (batch t) h (row t s) :=
  funext fun e => congrArg (A.qkv _ _) (Fin.ext (by simp [half, hd]; omega))
theorem td_head (s : Fin 256) : hv (hd j) (A.td t g s) = A.ct (batch t) h (row t s) :=
  funext fun e => congrArg (A.dy _ _) (Fin.ext (by simp [half, hd]; omega))
theorem tk_head : (fun m => hv (hd j) (A.tk t g m)) = A.k (batch t) h :=
  funext fun m => funext fun e => congrArg (A.mkv _ _) (Fin.ext (by simp [half, hd]; omega))
theorem tv_head : (fun m => hv (hd j) (A.tv t g m)) = A.v (batch t) h :=
  funext fun m => funext fun e => congrArg (A.mkv _ _) (Fin.ext (by simp [half, hd]; omega))

include he

/-- The point's part of the keys' gradient, and of the values'. -/
theorem dkey_rows : dkey (A.tq t g) (A.td t g) (A.tk t g) (A.tv t g) i j
    = ∑ s, (fun b x => dscore (A.q b h x) (A.ct b h x) (A.k b h) (A.v b h) i * A.q b h x e) (batch t) (row t s) := by
  rw [dkey, tk_head A t g j hh, tv_head A t g j hh]
  refine Finset.sum_congr rfl fun s _ => ?_
  rw [tq_head A t g j hh, td_head A t g j hh]
  exact congrArg _ (congrArg (A.qkv _ _) (Fin.ext (by simp; omega)))

theorem dval_rows : dval (A.tq t g) (A.td t g) (A.tk t g) i j
    = ∑ s, (fun b x => prob (A.q b h x) (A.k b h) i * A.ct b h x e) (batch t) (row t s) := by
  rw [dval, tk_head A t g j hh]
  refine Finset.sum_congr rfl fun s _ => ?_
  rw [tq_head A t g j hh]
  exact congrArg _ (congrArg (A.dy _ _) (Fin.ext (by simp; omega)))

omit hh he in
/-- After a batch's last point the block holds the memory's gradient. -/
theorem total_mem (ht : t.val % 8 = 7) (x : Fin 512) :
    upTo (fun t => A.tmem t (grpOf x) i (inGrp x)) 8 t.val = A.dmkv (batch t) i x := by
  rw [Args.dmkv]
  split
  · rename_i hx
    rw [Args.dmk, ← total_rows t ht fun b y => dscore (A.q b _ y) (A.ct b _ y) (A.k b _) (A.v b _) i * A.q b _ y _]
    congr 1
    funext t
    obtain hg | hg : grpOf x = 0 ∨ grpOf x = 1 := by simp only [Fin.ext_iff]; simp; omega
    all_goals
      rw [hg]
      refine dkey_rows A t _ i _ ?_ ?_
      all_goals
        have := congrArg Fin.val hg; simp at this ⊢
        first | done | omega
  · rename_i hx
    rw [Args.dmv, ← total_rows t ht fun b y => prob (A.q b _ y) (A.k b _) i * A.ct b _ y _]
    congr 1
    funext t
    obtain hg | hg : grpOf x = 2 ∨ grpOf x = 3 := by simp only [Fin.ext_iff]; simp; omega
    all_goals
      rw [hg]
      refine dval_rows A t _ i _ ?_ ?_
      all_goals
        have := congrArg Fin.val hg; simp at this ⊢
        first | done | omega

end Cert.Mix

end
-- ==== Proof.Mix.KernelGate.lean ====
/- The gate's two halves of the first result at one grid point. -/
module

public import proofs.«01_k».proof.Proof.Mix.Tile

@[expose] public section

set_option maxRecDepth 16384
set_option maxHeartbeats 4000000

noncomputable section

namespace Cert.Mix

open Idealize.ShloMosaic Idealize.ShloMosaic.TcCoe Idealize.SL.Sem
open Cert.MixBwdIdeal Cert.MixBwdIdeal.Gen

variable {m : (ℓ : Loc nD τ sig) → Buf (Elt Ideal) ℓ} {c : Dev nD} {A : Args} {t : Fin cfg0.N} (P : At m c A t)
include P

/-- What a point leaves in the first half of its block of the first result. -/
theorem du_point (s : Fin 2) (g : Fin 4) (i j : Fin 128) :
    (outsAt0 m c t.val t.isLt).1 (ix2 (prow s i) (lo (ch g j))) = (((A.gate (batch t) (block t s) g).du i j : ℝ) : EReal) := by
  obtain ⟨c0, c1, c2⟩ | ⟨c0, c1, c2⟩ | ⟨c0, c1, c2⟩ | ⟨c0, c1, c2⟩ := point_cases t
  all_goals
    first | rw [outsAt0_A m c t c0 c1 c2] | rw [outsAt0_B m c t c0 c1 c2] | rw [outsAt0_C m c t c0 c1 c2] | rw [outsAt0_D m c t c0 c1 c2]
    frame_open
    rw [View.read_writes_junk_eq_canon]
    clear c0 c1 c2
    canon_tiles x h
    all_goals
      obtain ⟨a, b, rfl⟩ : ∃ (a b : Fin 128), x = ix2 a b := ⟨x 0, x 1, eq_ix2 x⟩
      dsimp [prow] at h0 h1
    case piece1 | piece3 | piece5 | piece7 | piece9 | piece11 | piece13 | piece15 =>
      refine (kdu_of (u_tile P s g ?_ ?_) (v_tile P s g ?_ ?_) (dy_tile P s g ?_ ?_) (gam_tile P s g ?_) (bet_tile P s g ?_)
        (w_tile P s g ?_) (bc_tile P s g ?_) a b).trans ?_
      all_goals first | omega | rw [show a = i by omega, show b = j by omega]
    all_goals (exfalso; omega)

/-- And in the second half. -/
theorem dv_point (s : Fin 2) (g : Fin 4) (i j : Fin 128) :
    (outsAt0 m c t.val t.isLt).1 (ix2 (prow s i) (hi (ch g j))) = (((A.gate (batch t) (block t s) g).dv i j : ℝ) : EReal) := by
  obtain ⟨c0, c1, c2⟩ | ⟨c0, c1, c2⟩ | ⟨c0, c1, c2⟩ | ⟨c0, c1, c2⟩ := point_cases t
  all_goals
    first | rw [outsAt0_A m c t c0 c1 c2] | rw [outsAt0_B m c t c0 c1 c2] | rw [outsAt0_C m c t c0 c1 c2] | rw [outsAt0_D m c t c0 c1 c2]
    frame_open
    rw [View.read_writes_junk_eq_canon]
    clear c0 c1 c2
    canon_tiles x h
    all_goals
      obtain ⟨a, b, rfl⟩ : ∃ (a b : Fin 128), x = ix2 a b := ⟨x 0, x 1, eq_ix2 x⟩
      dsimp [prow] at h0 h1
    case piece0 | piece2 | piece4 | piece6 | piece8 | piece10 | piece12 | piece14 =>
      refine (kdv_of (u_tile P s g ?_ ?_) (v_tile P s g ?_ ?_) (dy_tile P s g ?_ ?_) (gam_tile P s g ?_) (wt_tile P s g ?_) a b).trans ?_
      all_goals first | omega | rw [show a = i by omega, show b = j by omega]
    all_goals (exfalso; omega)

end Cert.Mix

end
-- ==== Proof.Mix.KernelRows.lean ====
/- The gate's carried rows at one grid point, and what the last point makes of the carried tables. -/
module

public import proofs.«01_k».proof.Proof.Mix.Carried

@[expose] public section

set_option maxRecDepth 16384
set_option maxHeartbeats 4000000

noncomputable section

namespace Cert.Mix

open Idealize.ShloMosaic Idealize.ShloMosaic.TcCoe Idealize.SL.Sem
open Cert.MixBwdIdeal Cert.MixBwdIdeal.Gen

variable {m : (ℓ : Loc nD τ sig) → Buf (Elt Ideal) ℓ} {c : Dev nD} {A : Args} {t : Fin cfg0.N} (P : At m c A t)
include P

/-- What a point adds to the carried gradient of the normalisation's gain. -/
theorem dvg_step (p : Fin 4 → Fin 128 → ℝ) (h0 : t.val % 16 = 0 → p = 0)
    (hp : ¬t.val % 16 = 0 → ∀ g j, (outsAt0 m c (t.val - 1) (by omega)).2.2.2.2.2.1 (ix2 0 (ch g j)) = ((p g j : ℝ) : EReal)) (g : Fin 4) (j : Fin 128) :
    (outsAt0 m c t.val t.isLt).2.2.2.2.2.1 (ix2 0 (ch g j)) = ((p g j + (A.gate (batch t) (block t 0) g).dgam j + (A.gate (batch t) (block t 1) g).dgam j : ℝ) : EReal) := by
  obtain ⟨c0, c1, c2⟩ | ⟨c0, c1, c2⟩ | ⟨c0, c1, c2⟩ | ⟨c0, c1, c2⟩ := point_cases t
  all_goals
    first
      | replace hp := hp c0
      | replace hp : ∀ g j, _ = ((p g j : ℝ) : EReal) := fun g j => (zero_seg (ch g j)).1.trans (by rw [h0 c0]; rfl)
    first | rw [outsAt0_A m c t c0 c1 c2] | rw [outsAt0_B m c t c0 c1 c2] | rw [outsAt0_C m c t c0 c1 c2] | rw [outsAt0_D m c t c0 c1 c2]
    frame_open
    rw [View.read_writes_junk_eq_canon]
    simp (disch := decide) only [↓ View.readCov_skip, ↓ View.readCov_cons_toLoadRect, ↓ View.readCov_fill, read_at (M := ms0_17 t) (hM := hs0_17 t)]
    refine (View.canon_append_of_piecesOf (Val := Elt Ideal) (s := S1x512) (e := .f32)
      (seg fun g j => p g j + (A.gate (batch t) (block t 0) g).dgam j + (A.gate (batch t) (block t 1) g).dgam j)
      _ [_, _, _, _] ⟨?_, ?_, ?_, ?_, trivial⟩ (ix2 0 (ch g j)) ?_).trans (seg_ch _ g j)
    pick_goal 5
    · refine View.cover_of_tiledL (Val := Elt Ideal) (s := S1x512) (e := .f32) _ S1x128.size ?_ (ix2 0 (ch g j))
      sl_kernel_rfl
    all_goals
      dsimp only
      refine put_seg ?g ?_ (add_seg (add_seg (read_seg hp ?g ?_)
        (kdgam_of (u_tile P 0 ?g ?_ ?_) (v_tile P 0 ?g ?_ ?_) (dy_tile P 0 ?g ?_ ?_) (wt_tile P 0 ?g ?_)))
        (kdgam_of (u_tile P 1 ?g ?_ ?_) (v_tile P 1 ?g ?_ ?_) (dy_tile P 1 ?g ?_ ?_) (wt_tile P 1 ?g ?_)))
      first
        | (case g => exact 0); all_goals rfl
        | (case g => exact 1); all_goals rfl
        | (case g => exact 2); all_goals rfl
        | (case g => exact 3); all_goals rfl

/-- What a point adds to the carried gradient of its shift. -/
theorem dvb_step (p : Fin 4 → Fin 128 → ℝ) (h0 : t.val % 16 = 0 → p = 0)
    (hp : ¬t.val % 16 = 0 → ∀ g j, (outsAt0 m c (t.val - 1) (by omega)).2.2.2.2.2.2.1 (ix2 0 (ch g j)) = ((p g j : ℝ) : EReal)) (g : Fin 4) (j : Fin 128) :
    (outsAt0 m c t.val t.isLt).2.2.2.2.2.2.1 (ix2 0 (ch g j)) = ((p g j + (A.gate (batch t) (block t 0) g).dbet j + (A.gate (batch t) (block t 1) g).dbet j : ℝ) : EReal) := by
  obtain ⟨c0, c1, c2⟩ | ⟨c0, c1, c2⟩ | ⟨c0, c1, c2⟩ | ⟨c0, c1, c2⟩ := point_cases t
  all_goals
    first
      | replace hp := hp c0
      | replace hp : ∀ g j, _ = ((p g j : ℝ) : EReal) := fun g j => (zero_seg (ch g j)).2.trans (by rw [h0 c0]; rfl)
    first | rw [outsAt0_A m c t c0 c1 c2] | rw [outsAt0_B m c t c0 c1 c2] | rw [outsAt0_C m c t c0 c1 c2] | rw [outsAt0_D m c t c0 c1 c2]
    frame_open
    rw [View.read_writes_junk_eq_canon]
    simp (disch := decide) only [↓ View.readCov_skip, ↓ View.readCov_cons_toLoadRect, ↓ View.readCov_fill, read_at (M := ms0_18 t) (hM := hs0_18 t)]
    refine (View.canon_append_of_piecesOf (Val := Elt Ideal) (s := S1x512) (e := .f32)
      (seg fun g j => p g j + (A.gate (batch t) (block t 0) g).dbet j + (A.gate (batch t) (block t 1) g).dbet j)
      _ [_, _, _, _] ⟨?_, ?_, ?_, ?_, trivial⟩ (ix2 0 (ch g j)) ?_).trans (seg_ch _ g j)
    pick_goal 5
    · refine View.cover_of_tiledL (Val := Elt Ideal) (s := S1x512) (e := .f32) _ S1x128.size ?_ (ix2 0 (ch g j))
      sl_kernel_rfl
    all_goals
      dsimp only
      refine put_seg ?g ?_ (add_seg (add_seg (read_seg hp ?g ?_)
        (kdbet_of (u_tile P 0 ?g ?_ ?_) (dy_tile P 0 ?g ?_ ?_) (wt_tile P 0 ?g ?_)))
        (kdbet_of (u_tile P 1 ?g ?_ ?_) (dy_tile P 1 ?g ?_ ?_) (wt_tile P 1 ?g ?_)))
      first
        | (case g => exact 0); all_goals rfl
        | (case g => exact 1); all_goals rfl
        | (case g => exact 2); all_goals rfl
        | (case g => exact 3); all_goals rfl

/-- What the last point leaves of the gradient of the mixing weights: the part on and below the diagonal. -/
theorem dws_last (c0 : ¬t.val % 16 = 0) (c1 : ¬t.val % 8 = 0) (c2 : t.val % 16 = 15) (p : Fin 4 → Blk)
    (hp : ∀ g i j, (outsAt0 m c (t.val - 1) (by omega)).2.2.2.1 (ix3 g i j) = ((p g i j : ℝ) : EReal)) (g : Fin 4) (i j : Fin 128) :
    (outsAt0 m c t.val t.isLt).2.2.2.1 (ix3 g i j)
      = ((if j ≤ i then p g i j + (A.gate (batch t) (block t 0) g).dw i j + (A.gate (batch t) (block t 1) g).dw i j else 0 : ℝ) : EReal) := by
  rw [outsAt0_D m c t c0 c1 c2]
  frame_open
  rw [View.read_writes_junk_eq_canon]
  simp (disch := decide) only [↓ View.readCov_skip, ↓ View.readCov_cons_toLoadRect, read_at (M := ms0_15 t) (hM := hs0_15 t)]
  refine View.canon_append_of_piecesOf (Val := Elt Ideal) (s := S4x128x128) (e := .f32)
    (tab fun g i j => if j ≤ i then p g i j + (A.gate (batch t) (block t 0) g).dw i j + (A.gate (batch t) (block t 1) g).dw i j else 0)
    _ [_, _, _, _] ⟨?_, ?_, ?_, ?_, trivial⟩ (ix3 g i j) ?_
  pick_goal 5
  · refine View.cover_of_tiledL (Val := Elt Ideal) (s := S4x128x128) (e := .f32) _ S1x128x128.size ?_ (ix3 g i j)
    sl_kernel_rfl
  all_goals
    dsimp only
    refine put_blk ?g ?_ (mask_blk (add_blk (add_blk (read_blk hp ?g ?_)
      (kdw_of (u_tile P 0 ?g ?_ ?_) (v_tile P 0 ?g ?_ ?_) (dy_tile P 0 ?g ?_ ?_) (gam_tile P 0 ?g ?_) (bet_tile P 0 ?g ?_)))
      (kdw_of (u_tile P 1 ?g ?_ ?_) (v_tile P 1 ?g ?_ ?_) (dy_tile P 1 ?g ?_ ?_) (gam_tile P 1 ?g ?_) (bet_tile P 1 ?g ?_))))
    first
      | (case g => exact 0); all_goals rfl
      | (case g => exact 1); all_goals rfl
      | (case g => exact 2); all_goals rfl
      | (case g => exact 3); all_goals rfl

/-- What the last point leaves of the gradient of the mixing bias: the row sums of the carried cotangents. -/
theorem dbs_last (c0 : ¬t.val % 16 = 0) (c1 : ¬t.val % 8 = 0) (c2 : t.val % 16 = 15) (p : Fin 4 → Blk)
    (hp : ∀ g i j, (outsAt0 m c (t.val - 1) (by omega)).2.2.2.2.2.2.2.2.2.2.2.1 (ix3 g i j) = ((p g i j : ℝ) : EReal)) (g : Fin 4) (i : Fin 128) :
    (outsAt0 m c t.val t.isLt).2.2.2.2.1 (ix2 g i)
      = ((∑ j, (p g i j + (A.gate (batch t) (block t 0) g).dsv i j + (A.gate (batch t) (block t 1) g).dsv i j) : ℝ) : EReal) := by
  rw [outsAt0_D m c t c0 c1 c2]
  frame_open
  rw [View.read_writes_junk_eq_canon]
  simp (disch := decide) only [↓ View.readCov_skip, ↓ View.readCov_cons_toLoadRect, read_dsv]
  refine View.canon_append_of_piecesOf (Val := Elt Ideal) (s := S4x128) (e := .f32)
    (rows fun g i => ∑ j, (p g i j + (A.gate (batch t) (block t 0) g).dsv i j + (A.gate (batch t) (block t 1) g).dsv i j))
    _ [_, _, _, _] ⟨?_, ?_, ?_, ?_, trivial⟩ (ix2 g i) ?_
  pick_goal 5
  · refine View.cover_of_tiledL (Val := Elt Ideal) (s := S4x128) (e := .f32) _ S1x128.size ?_ (ix2 g i)
    sl_kernel_rfl
  all_goals
    dsimp only
    refine put_rows ?g ?_ (sums_blk (add_blk (add_blk (read_blk hp ?g ?_)
      (kdsv_of (u_tile P 0 ?g ?_ ?_) (dy_tile P 0 ?g ?_ ?_)))
      (kdsv_of (u_tile P 1 ?g ?_ ?_) (dy_tile P 1 ?g ?_ ?_))))
    first
      | (case g => exact 0); all_goals rfl
      | (case g => exact 1); all_goals rfl
      | (case g => exact 2); all_goals rfl
      | (case g => exact 3); all_goals rfl

end Cert.Mix

end
-- ==== Proof.Mix.KernelSums.lean ====
/- The gate's carried sums at one grid point: what the point adds to what the point before left. -/
module

public import proofs.«01_k».proof.Proof.Mix.Carried

@[expose] public section

set_option maxRecDepth 16384
set_option maxHeartbeats 4000000

noncomputable section

namespace Cert.Mix

open Idealize.ShloMosaic Idealize.ShloMosaic.TcCoe Idealize.SL.Sem
open Cert.MixBwdIdeal Cert.MixBwdIdeal.Gen

variable {m : (ℓ : Loc nD τ sig) → Buf (Elt Ideal) ℓ} {c : Dev nD} {A : Args} {t : Fin cfg0.N} (P : At m c A t)
include P

/-- What a point adds to the carried gradient of the mixing weights. -/
theorem dws_step (c2 : ¬t.val % 16 = 15) (p : Fin 4 → Blk) (h0 : t.val % 16 = 0 → p = 0)
    (hp : ¬t.val % 16 = 0 → ∀ g i j, (outsAt0 m c (t.val - 1) (by omega)).2.2.2.1 (ix3 g i j) = ((p g i j : ℝ) : EReal)) (g : Fin 4) (i j : Fin 128) :
    (outsAt0 m c t.val t.isLt).2.2.2.1 (ix3 g i j) = ((p g i j + (A.gate (batch t) (block t 0) g).dw i j + (A.gate (batch t) (block t 1) g).dw i j : ℝ) : EReal) := by
  obtain ⟨c0, c1, c2⟩ | ⟨c0, c1, c2⟩ | ⟨c0, c1, c2⟩ | ⟨c0, c1, c2⟩ := point_cases t
  pick_goal 4
  · omega
  all_goals
    first
      | replace hp := hp c0
      | replace hp : ∀ g i j, _ = ((p g i j : ℝ) : EReal) := fun g i j => (zero_tab g i j).trans (by rw [h0 c0]; rfl)
    first | rw [outsAt0_A m c t c0 c1 c2] | rw [outsAt0_B m c t c0 c1 c2] | rw [outsAt0_C m c t c0 c1 c2]
    frame_open
    rw [View.read_writes_junk_eq_canon]
    simp (disch := decide) only [↓ View.readCov_skip, ↓ View.readCov_cons_toLoadRect, ↓ View.readCov_fill, read_at (M := ms0_15 t) (hM := hs0_15 t)]
    refine View.canon_append_of_piecesOf (Val := Elt Ideal) (s := S4x128x128) (e := .f32)
      (tab fun g i j => p g i j + (A.gate (batch t) (block t 0) g).dw i j + (A.gate (batch t) (block t 1) g).dw i j)
      _ [_, _, _, _] ⟨?_, ?_, ?_, ?_, trivial⟩ (ix3 g i j) ?_
    pick_goal 5
    · refine View.cover_of_tiledL (Val := Elt Ideal) (s := S4x128x128) (e := .f32) _ S1x128x128.size ?_ (ix3 g i j)
      sl_kernel_rfl
    all_goals
      dsimp only
      refine put_blk ?g ?_ (add_blk (add_blk (read_blk hp ?g ?_)
        (kdw_of (u_tile P 0 ?g ?_ ?_) (v_tile P 0 ?g ?_ ?_) (dy_tile P 0 ?g ?_ ?_) (gam_tile P 0 ?g ?_) (bet_tile P 0 ?g ?_)))
        (kdw_of (u_tile P 1 ?g ?_ ?_) (v_tile P 1 ?g ?_ ?_) (dy_tile P 1 ?g ?_ ?_) (gam_tile P 1 ?g ?_) (bet_tile P 1 ?g ?_)))
      first
        | (case g => exact 0); all_goals rfl
        | (case g => exact 1); all_goals rfl
        | (case g => exact 2); all_goals rfl
        | (case g => exact 3); all_goals rfl

/-- What a point adds to the carried cotangent of the mixed values. -/
theorem dsv_step (p : Fin 4 → Blk) (h0 : t.val % 16 = 0 → p = 0)
    (hp : ¬t.val % 16 = 0 → ∀ g i j, (outsAt0 m c (t.val - 1) (by omega)).2.2.2.2.2.2.2.2.2.2.2.1 (ix3 g i j) = ((p g i j : ℝ) : EReal)) (g : Fin 4) (i j : Fin 128) :
    (outsAt0 m c t.val t.isLt).2.2.2.2.2.2.2.2.2.2.2.1 (ix3 g i j) = ((p g i j + (A.gate (batch t) (block t 0) g).dsv i j + (A.gate (batch t) (block t 1) g).dsv i j : ℝ) : EReal) := by
  obtain ⟨c0, c1, c2⟩ | ⟨c0, c1, c2⟩ | ⟨c0, c1, c2⟩ | ⟨c0, c1, c2⟩ := point_cases t
  all_goals
    first
      | replace hp := hp c0
      | replace hp : ∀ g i j, _ = ((p g i j : ℝ) : EReal) := fun g i j => (zero_tab g i j).trans (by rw [h0 c0]; rfl)
    first | rw [outsAt0_A m c t c0 c1 c2] | rw [outsAt0_B m c t c0 c1 c2] | rw [outsAt0_C m c t c0 c1 c2] | rw [outsAt0_D m c t c0 c1 c2]
    frame_open
    rw [View.read_writes_junk_eq_canon]
    simp (disch := decide) only [↓ View.readCov_skip, ↓ View.readCov_cons_toLoadRect, ↓ View.readCov_fill, read_dsv]
    refine View.canon_append_of_piecesOf (Val := Elt Ideal) (s := S4x128x128) (e := .f32)
      (tab fun g i j => p g i j + (A.gate (batch t) (block t 0) g).dsv i j + (A.gate (batch t) (block t 1) g).dsv i j)
      _ [_, _, _, _] ⟨?_, ?_, ?_, ?_, trivial⟩ (ix3 g i j) ?_
    pick_goal 5
    · refine View.cover_of_tiledL (Val := Elt Ideal) (s := S4x128x128) (e := .f32) _ S1x128x128.size ?_ (ix3 g i j)
      sl_kernel_rfl
    all_goals
      dsimp only
      refine put_blk ?g ?_ (add_blk (add_blk (read_blk hp ?g ?_)
        (kdsv_of (u_tile P 0 ?g ?_ ?_) (dy_tile P 0 ?g ?_ ?_)))
        (kdsv_of (u_tile P 1 ?g ?_ ?_) (dy_tile P 1 ?g ?_ ?_)))
      first
        | (case g => exact 0); all_goals rfl
        | (case g => exact 1); all_goals rfl
        | (case g => exact 2); all_goals rfl
        | (case g => exact 3); all_goals rfl

end Cert.Mix

end
-- ==== Proof.Mix.Outputs.lean ====
/- The kernel's six results, as arrays: each block at the point that leaves it for good. -/
module

public import proofs.«01_k».proof.Proof.Mix.Entry
public import proofs.«01_k».proof.Proof.Mix.Total
public import proofs.«01_k».proof.Proof.Mix.KernelGate
public import proofs.«01_k».proof.Proof.Mix.KernelRows
public import proofs.«01_k».proof.Proof.Mix.KernelSums

@[expose] public section

set_option maxRecDepth 16384

noncomputable section

namespace Cert.Mix

open Idealize.ShloMosaic Idealize.ShloMosaic.TcCoe Idealize.SL.Sem
open Cert.MixBwdIdeal Cert.MixBwdIdeal.Gen

variable {m : (ℓ : Loc nD τ sig) → Buf (Elt Ideal) ℓ} {c : Dev nD} {A : Args} (H : Held m c A)
include H

/-- The carried outputs point by point. -/
theorem dws_at (n : ℕ) (h : n < 15) (g : Fin 4) (i j : Fin 128) : (outsAt0 m c n (show n < 16 by omega)).2.2.2.1 (ix3 g i j)
    = ((upTo (fun t => (A.gate (batch t) (block t 0) g).dw i j + (A.gate (batch t) (block t 1) g).dw i j) 16 n : ℝ) : EReal) :=
  carried (N := 15) (by omega) (.inr rfl) (fun n h (x : Fin 4 × Fin 128 × Fin 128) => (outsAt0 m c n (show n < 16 by omega)).2.2.2.1 (ix3 x.1 x.2.1 x.2.2))
    (fun t x => (A.gate (batch t) (block t 0) x.1).dw x.2.1 x.2.2 + (A.gate (batch t) (block t 1) x.1).dw x.2.1 x.2.2)
    (fun n h p h0 hp x => (dws_step (at_point ⟨n, show n < 16 by omega⟩ H) (show ¬n % 16 = 15 by omega) (fun g i j => p (g, i, j)) (fun e => by rw [h0 e]; rfl)
      (fun e g i j => hp e (g, i, j)) x.1 x.2.1 x.2.2).trans (congrArg _ (add_assoc _ _ _))) n h (g, i, j)

theorem dsv_at (n : ℕ) (h : n < 16) (g : Fin 4) (i j : Fin 128) : (outsAt0 m c n h).2.2.2.2.2.2.2.2.2.2.2.1 (ix3 g i j)
    = ((upTo (fun t => (A.gate (batch t) (block t 0) g).dsv i j + (A.gate (batch t) (block t 1) g).dsv i j) 16 n : ℝ) : EReal) :=
  carried (N := 16) le_rfl (.inr rfl) (fun n h (x : Fin 4 × Fin 128 × Fin 128) => (outsAt0 m c n h).2.2.2.2.2.2.2.2.2.2.2.1 (ix3 x.1 x.2.1 x.2.2))
    (fun t x => (A.gate (batch t) (block t 0) x.1).dsv x.2.1 x.2.2 + (A.gate (batch t) (block t 1) x.1).dsv x.2.1 x.2.2)
    (fun n h p h0 hp x => (dsv_step (at_point ⟨n, h⟩ H) (fun g i j => p (g, i, j)) (fun e => by rw [h0 e]; rfl)
      (fun e g i j => hp e (g, i, j)) x.1 x.2.1 x.2.2).trans (congrArg _ (add_assoc _ _ _))) n h (g, i, j)

theorem dvg_at (n : ℕ) (h : n < 16) (g : Fin 4) (j : Fin 128) : (outsAt0 m c n h).2.2.2.2.2.1 (ix2 0 (ch g j))
    = ((upTo (fun t => (A.gate (batch t) (block t 0) g).dgam j + (A.gate (batch t) (block t 1) g).dgam j) 16 n : ℝ) : EReal) :=
  carried (N := 16) le_rfl (.inr rfl) (fun n h (x : Fin 4 × Fin 128) => (outsAt0 m c n h).2.2.2.2.2.1 (ix2 0 (ch x.1 x.2)))
    (fun t x => (A.gate (batch t) (block t 0) x.1).dgam x.2 + (A.gate (batch t) (block t 1) x.1).dgam x.2)
    (fun n h p h0 hp x => (dvg_step (at_point ⟨n, h⟩ H) (fun g j => p (g, j)) (fun e => by rw [h0 e]; rfl)
      (fun e g j => hp e (g, j)) x.1 x.2).trans (congrArg _ (add_assoc _ _ _))) n h (g, j)

theorem dvb_at (n : ℕ) (h : n < 16) (g : Fin 4) (j : Fin 128) : (outsAt0 m c n h).2.2.2.2.2.2.1 (ix2 0 (ch g j))
    = ((upTo (fun t => (A.gate (batch t) (block t 0) g).dbet j + (A.gate (batch t) (block t 1) g).dbet j) 16 n : ℝ) : EReal) :=
  carried (N := 16) le_rfl (.inr rfl) (fun n h (x : Fin 4 × Fin 128) => (outsAt0 m c n h).2.2.2.2.2.2.1 (ix2 0 (ch x.1 x.2)))
    (fun t x => (A.gate (batch t) (block t 0) x.1).dbet x.2 + (A.gate (batch t) (block t 1) x.1).dbet x.2)
    (fun n h p h0 hp x => (dvb_step (at_point ⟨n, h⟩ H) (fun g j => p (g, j)) (fun e => by rw [h0 e]; rfl)
      (fun e g j => hp e (g, j)) x.1 x.2).trans (congrArg _ (add_assoc _ _ _))) n h (g, j)

theorem dmem_at (n : ℕ) (h : n < 16) (g : Fin 4) (i : Fin 256) (j : Fin 128) : (outsAt0 m c n h).2.2.1 (ix3 0 i (ch g j))
    = ((upTo (fun t => A.tmem t g i j) 8 n : ℝ) : EReal) :=
  carried (N := 16) le_rfl (.inl rfl) (fun n h (x : Fin 4 × Fin 256 × Fin 128) => (outsAt0 m c n h).2.2.1 (ix3 0 x.2.1 (ch x.1 x.2.2)))
    (fun t x => A.tmem t x.1 x.2.1 x.2.2)
    (fun n h p h0 hp x => dmem_step (at_point ⟨n, h⟩ H) (fun g i j => p (g, i, j)) (fun e => by rw [h0 e]; rfl)
      (fun e g i j => hp e (g, i, j)) x.1 x.2.1 x.2.2) n h (g, i, j)

omit H in
/-- The sums over all points but the last, and the last. -/
theorem last_step (d : Fin cfg0.N → ℝ) : upTo d 16 14 + d t0_15 = upTo d 16 15 := by
  rw [upTo, upTo, Finset.sum_range_succ _ (15 % 16)]
  rfl

/-- The weights' gradient. -/
theorem kernel_dws : (dats m 0 c).arrAt 15 cfg0.N = fun i : S4x128x128.Idx => ((A.dws (i 0) (i 1) (i 2) : ℝ) : EReal) := by
  refine (dats m 0 c).arrAt_eq_of_after_last 15 t0_15 (by decide +kernel) _ fun j => ?_
  rw [after0_15]
  obtain ⟨g, i, k, rfl⟩ : ∃ (g : Fin 4) (i k : Fin 128), j = ix3 g i k := ⟨j 0, j 1, j 2, eq_ix3 j⟩
  refine (dws_last (at_point t0_15 H) (by decide) (by decide) (by decide) _ (fun g i j => dws_at H 14 (by omega) g i j) g i k).trans ?_
  change _ = ((A.dws g i k : ℝ) : EReal)
  rw [Args.dws, add_assoc, last_step, total fun b n => (A.gate b n g).dw i k]

/-- The bias's gradient. -/
theorem kernel_dbs : (dats m 0 c).arrAt 16 cfg0.N = fun i : S4x128.Idx => ((A.dbs (i 0) (i 1) : ℝ) : EReal) := by
  refine (dats m 0 c).arrAt_eq_of_after_last 16 t0_15 (by decide +kernel) _ fun j => ?_
  rw [after0_16]
  obtain ⟨g, i, rfl⟩ : ∃ (g : Fin 4) (i : Fin 128), j = ix2 g i := ⟨j 0, j 1, eq_ix2 j⟩
  refine (dbs_last (at_point t0_15 H) (by decide) (by decide) (by decide) _ (fun g i j => dsv_at H 14 (by omega) g i j) g i).trans ?_
  change _ = ((A.dbs g i : ℝ) : EReal)
  congr 1
  simp only [add_assoc]
  simp only [last_step]
  refine (Finset.sum_congr rfl fun j _ => total fun b n => (A.gate b n g).dsv i j).trans ?_
  exact Finset.sum_comm.trans (Finset.sum_congr rfl fun b _ => Finset.sum_comm)

/-- The gain's and the shift's. -/
theorem kernel_dvg : (dats m 0 c).arrAt 17 cfg0.N = fun i : S1x512.Idx => ((A.dvg (i 1) : ℝ) : EReal) := by
  refine (dats m 0 c).arrAt_eq_of_after_last 17 t0_15 (by decide +kernel) _ fun j => ?_
  rw [after0_17]
  obtain ⟨a, x, rfl⟩ : ∃ (a : Fin 1) (x : Fin 512), j = ix2 a x := ⟨j 0, j 1, eq_ix2 j⟩
  obtain rfl : a = 0 := Subsingleton.elim _ _
  have key := dvg_at H 15 (by omega) (grpOf x) (inGrp x)
  rw [ch_grp, total fun b n => (A.gate b n (grpOf x)).dgam (inGrp x)] at key
  exact key

theorem kernel_dvb : (dats m 0 c).arrAt 18 cfg0.N = fun i : S1x512.Idx => ((A.dvb (i 1) : ℝ) : EReal) := by
  refine (dats m 0 c).arrAt_eq_of_after_last 18 t0_15 (by decide +kernel) _ fun j => ?_
  rw [after0_18]
  obtain ⟨a, x, rfl⟩ : ∃ (a : Fin 1) (x : Fin 512), j = ix2 a x := ⟨j 0, j 1, eq_ix2 j⟩
  obtain rfl : a = 0 := Subsingleton.elim _ _
  have key := dvb_at H 15 (by omega) (grpOf x) (inGrp x)
  rw [ch_grp, total fun b n => (A.gate b n (grpOf x)).dbet (inGrp x)] at key
  exact key

omit H in
theorem idx_out : ∀ t : Fin grid0.N, win0_12.index t = ![t.val / 8 * 8 + (7 - t.val % 8), 0] ∧ win0_14.index t = ![t.val / 8, 0, 0] := by
  decide +kernel

omit H in
theorem flush_mem : ∀ t : Fin cfg0.N, (cfg0.win 14).flush t = true → t.val % 8 = 7 := by
  decide +kernel

/-- The memory's gradient. -/
theorem kernel_dmkv : (dats m 0 c).arrAt 14 cfg0.N = fun i : S2x256x512.Idx => ((A.dmkv (i 0) (i 1) (i 2) : ℝ) : EReal) := by
  refine (dats m 0 c).arrAt_eq_of_covers 14 _ (by decide +kernel) fun t hf y => ?_
  obtain ⟨a, i, x, rfl⟩ : ∃ (a : Fin 1) (i : Fin 256) (x : Fin 512), y = ix3 a i x := ⟨y 0, y 1, y 2, eq_ix3 y⟩
  obtain rfl : a = 0 := Subsingleton.elim _ _
  have e : ((View.whole main_v25_2).slice (win0_14.rect t)).emb (ix3 0 i x) = ix3 (batch t) i x := by
    blk_ext [idx_out t, batch]
  have key := dmem_at H t.val t.isLt (grpOf x) i (inGrp x)
  rw [ch_grp, total_mem A t i (flush_mem t hf) x] at key
  blk_simp
  rw [after0_14, e]
  exact key

omit H in
/-- The gradient of `uv` over the flattened tokens. -/
def flat (A : Args) (i : S4096x1024.Idx) : EReal :=
  ((A.duv ⟨(i 0).val / 2048, by have : (i 0).val < 4096 := (i 0).isLt; omega⟩ ⟨(i 0).val % 2048, by omega⟩ (i 1) : ℝ) : EReal)

/-- The gradient of `uv`. -/
theorem kernel_duv : (dats m 0 c).arrAt 12 cfg0.N = flat A := by
  refine (dats m 0 c).arrAt_eq_of_covers 12 _ (by decide +kernel) fun t hf y => ?_
  obtain ⟨r, x, rfl⟩ : ∃ (r : Fin 256) (x : Fin 1024), y = ix2 r x := ⟨y 0, y 1, eq_ix2 y⟩
  have lt := point_lt t
  have e : ((View.whole main_v25_0).slice (win0_12.rect t)).emb (ix2 r x) = ix2 ⟨(t.val / 8 * 8 + (7 - t.val % 8)) * 256 + r.val, by omega⟩ x := by
    blk_ext [idx_out t]
  blk_simp
  rw [after0_12]
  refine Eq.trans ?_ (congrArg (flat A) e).symm
  change _ = ((A.duv ⟨((t.val / 8 * 8 + (7 - t.val % 8)) * 256 + r.val) / 2048, _⟩ ⟨((t.val / 8 * 8 + (7 - t.val % 8)) * 256 + r.val) % 2048, _⟩ x : ℝ) : EReal)
  have eb : (⟨((t.val / 8 * 8 + (7 - t.val % 8)) * 256 + r.val) / 2048, by omega⟩ : Fin 2) = batch t := Fin.ext (by simp [batch]; omega)
  have er : (⟨((t.val / 8 * 8 + (7 - t.val % 8)) * 256 + r.val) % 2048, by omega⟩ : Fin 2048) = row t r := Fin.ext (by simp [row]; omega)
  rw [eb, er, Args.duv]
  obtain ⟨s, i, rfl⟩ : ∃ (s : Fin 2) (i : Fin 128), r = prow s i :=
    ⟨⟨r.val / 128, by omega⟩, ⟨r.val % 128, by omega⟩, Fin.ext (by simp [prow]; omega)⟩
  rw [row_prow, blk_tok, in_tok]
  split
  · rename_i hx
    have key := du_point (at_point t H) s (grpOf ⟨x.val, hx⟩) i (inGrp ⟨x.val, hx⟩)
    rwa [ch_grp] at key
  · rename_i hx
    have key := dv_point (at_point t H) s (grpOf ⟨x.val - 512, by omega⟩) i (inGrp ⟨x.val - 512, by omega⟩)
    rwa [ch_grp, show hi (⟨x.val - 512, by omega⟩ : Fin 512) = x from Fin.ext (by simp; omega)] at key

end Cert.Mix

end
-- ==== Proof.Mix.Finite.lean ====
/- What the precondition says: every entry of the arrays it reads is a real number. -/
module

public import proofs.«01_k».proof.Pre_finite
public import Idealize.ShloMosaic.Lib.ReduceAll
public import Idealize.ShloMosaic.PureOps.Ideal.Laws

@[expose] public section

set_option maxRecDepth 16384

noncomputable section

namespace Cert.Mix

open Idealize.ShloMosaic Cert.Pre_finite

instance finite_facts : Cert.Pre_finite.Facts := by
  constructor <;> decide +kernel

/-- A number below infinity in absolute value is real. -/
theorem real_of_lt (x : Ideal .f32) (h : FloatOps.cmpf .olt (FloatOps.hostAbsf x) (FloatOps.ofBits (F := Ideal) .f32 0x7F800000#32) = 1#1) :
    x = ((EReal.toReal x : ℝ) : EReal) := by
  have top : Ideal.ofBits .f32 0x7F800000#32 = ⊤ := by simp [Ideal.ofBits, Ideal.ieee]
  change Ideal.cmp .olt (max (x : EReal) (-(x : EReal))) (Ideal.ofBits .f32 0x7F800000#32) = 1#1 at h
  rw [top, Ideal.cmp] at h
  have lt : max (x : EReal) (-(x : EReal)) < ⊤ := by
    by_contra hn
    simp [hn] at h
  obtain ⟨h1, h2⟩ := max_lt_iff.1 lt
  refine (EReal.coe_toReal h1.ne ?_).symm
  rintro rfl
  simp at h2

/-- All of an array's entries at once. -/
theorem real_of_all {s : Shape} {axes : List (Fin s.rank)} (x : FVec Ideal s .f32) {b : S_.BroadcastsInDim s (![] : Fin 0 → Fin s.rank)}
    {init : S_.Idx → BitVec 1} {h : s.ReducesTo axes S_} {hu : 0 < S_.numel} {j : S_.Idx}
    (e : Host.reduce IntOp.andi (cmpf .olt (Host.absf x) (broadcastInDim s ![] b (constant S_ .f32 0x7F800000#32))) init h hu j = 1#1) (i : s.Idx) :
    x i = ((EReal.toReal (x i) : ℝ) : EReal) :=
  real_of_lt _ (Host.reduce_andi_all _ _ _ _ j e i)

theorem and_one : ∀ {a b : BitVec 1}, IntOp.andi a b = 1#1 → a = 1#1 ∧ b = 1#1 := by decide

variable {a0 : FVec Ideal S2x2048x1024 .f32} {a1 : FVec Ideal S2x2048x768 .f32} {a2 : FVec Ideal S2x256x512 .f32} {a3 a4 : FVec Ideal S1x512 .f32}
  {a5 : FVec Ideal S1x4x128x128 .f32} {a6 : FVec Ideal S1x4x128 .f32} {a7 : FVec Ideal S1x4 .f32} {a8 : FVec Ideal S32x4 .f32} {a9 : FVec Ideal S2x2048x1024 .f32}

theorem real_of_finite (e : Cert.Pre_finite.fn a0 a1 a2 a3 a4 a5 a6 a7 a8 a9 = fun _ => 1#1) :
    (∀ i, a0 i = ((EReal.toReal (a0 i) : ℝ) : EReal)) ∧ (∀ i, a1 i = ((EReal.toReal (a1 i) : ℝ) : EReal))
    ∧ (∀ i, a2 i = ((EReal.toReal (a2 i) : ℝ) : EReal)) ∧ (∀ i, a3 i = ((EReal.toReal (a3 i) : ℝ) : EReal))
    ∧ (∀ i, a4 i = ((EReal.toReal (a4 i) : ℝ) : EReal)) ∧ (∀ i, a5 i = ((EReal.toReal (a5 i) : ℝ) : EReal))
    ∧ (∀ i, a6 i = ((EReal.toReal (a6 i) : ℝ) : EReal)) ∧ (∀ i, a9 i = ((EReal.toReal (a9 i) : ℝ) : EReal)) := by
  have h := congrFun e (fun a => nomatch a)
  dsimp only [fn, fn_part1, fn_part2] at h
  obtain ⟨h, h9⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h, h1⟩ := and_one h
  obtain ⟨h, h0⟩ := and_one h
  exact ⟨real_of_all _ h0, real_of_all _ h1, real_of_all _ h2, real_of_all _ h3, real_of_all _ h4, real_of_all _ h5, real_of_all _ h6, real_of_all _ h9⟩

end Cert.Mix

end
-- ==== Proof.Mix.Reference.lean ====
/- What the derivative of the plain forward lines holds, buffer by buffer, over real arguments: group A. -/
module

public import proofs.«01_k».proof.Proof.Gen.MixGradIdeal.Run
public import proofs.«01_k».proof.Proof.Common.Sums
public import proofs.«01_k».proof.Proof.Mix.Spec
public import proofs.«01_k».proof.Proof.Mix.Block
public import Idealize.ShloMosaic.Lib.WordCmp

@[expose] public section

set_option maxRecDepth 16384

noncomputable section

namespace Cert.Mix

open Idealize.ShloMosaic Idealize.ShloMosaic.TcCoe Idealize.SL.Sem
open Cert.MixGradIdeal Cert.MixGradIdeal.Gen Cert.MixGradIdeal.Value

/-- The reference's arguments are the reals `A`. -/
structure Reads (A : Args) (V : Valuation τ sig (Elt Ideal)) : Prop where
  uv : ∀ b t c, (V (Proc.devRef .tc main_arg0) : FVec Ideal S2x2048x1024 .f32) (ix3 b t c) = ((A.uv b t c : ℝ) : EReal)
  qkv : ∀ b t c, (V (Proc.devRef .tc main_arg1) : FVec Ideal S2x2048x768 .f32) (ix3 b t c) = ((A.qkv b t c : ℝ) : EReal)
  mkv : ∀ b t c, (V (Proc.devRef .tc main_arg2) : FVec Ideal S2x256x512 .f32) (ix3 b t c) = ((A.mkv b t c : ℝ) : EReal)
  vg : ∀ a c, (V (Proc.devRef .tc main_arg3) : FVec Ideal S1x512 .f32) (ix2 a c) = ((A.vg c : ℝ) : EReal)
  vb : ∀ a c, (V (Proc.devRef .tc main_arg4) : FVec Ideal S1x512 .f32) (ix2 a c) = ((A.vb c : ℝ) : EReal)
  ws : ∀ a g i j, (V (Proc.devRef .tc main_arg5) : FVec Ideal S1x4x128x128 .f32) (ix4 a g i j) = ((A.ws g i j : ℝ) : EReal)
  bs : ∀ a g i, (V (Proc.devRef .tc main_arg6) : FVec Ideal S1x4x128 .f32) (ix3 a g i) = ((A.bs g i : ℝ) : EReal)
  dy : ∀ b t c, (V (Proc.devRef .tc main_arg9) : FVec Ideal S2x2048x1024 .f32) (ix3 b t c) = ((A.dy b t c : ℝ) : EReal)

namespace Args

variable (A : Args)

/-- Token `t`'s row of group `g` after GELU, before the normalisation. -/
def row (b : Fin 2) (t : Fin 2048) (g : Fin 4) : Row := fun j => gel (A.uv b t (hi (ch g j)))

/-- The cotangent of its normalised row. -/
def drow (b : Fin 2) (t : Fin 2048) (g : Fin 4) : Row :=
  fun j => (A.gate b (blkOf t) g).dvc (inBlk t) j * A.vg (ch g j)

end Args

theorem word_nhalf : (Ideal.ofBits .f32 0xBF000000#32 : EReal) = ((-(1 / 2) : ℝ) : EReal) := by
  simp [Ideal.ofBits, Ideal.ieee, -EReal.coe_mul]; norm_num
theorem word_2 : (Ideal.ofBits .f32 0x40000000#32 : EReal) = ((2 : ℝ) : EReal) := by
  simp [Ideal.ofBits, Ideal.ieee, -EReal.coe_mul]; norm_num
theorem word_3 : (Ideal.ofBits .f32 0x40400000#32 : EReal) = ((3 : ℝ) : EReal) := by
  simp [Ideal.ofBits, Ideal.ieee, -EReal.coe_mul]; norm_num

/-- GELU's coefficient as the forward lines write it, one exact number over another. -/
theorem coeff : Ideal.div (Ideal.ofBits .f32 0x472EAB00#32) (Ideal.ofBits .f32 0x49742400#32) = ((gA : ℝ) : EReal) := by
  have h1 : (Ideal.ofBits .f32 0x472EAB00#32 : EReal) = ((44715 : ℝ) : EReal) := by
    simp [Ideal.ofBits, Ideal.ieee, -EReal.coe_mul]; norm_num
  have h2 : (Ideal.ofBits .f32 0x49742400#32 : EReal) = ((1000000 : ℝ) : EReal) := by
    simp [Ideal.ofBits, Ideal.ieee, -EReal.coe_mul]; norm_num
  rw [h1, h2, Ideal.div_coe (by norm_num), ← EReal.coe_mul, gA]
  congr 1; norm_num

variable {A : Args} {V : Valuation τ sig (Elt Ideal)} (R : Reads A V)
include R

variable (b : Fin 2) (t : Fin 2048) (c : Fin 512) (g : Fin 4) (n : Fin 16) (i j : Fin 128)

theorem v0_at : res_main_v0 V (ix3 b t c) = ((A.uv b t (lo c) : ℝ) : EReal) := by
  pointwise [res_main_v0]
  exact R.uv b t _

theorem v1_at : res_main_v1 V (ix3 b t c) = ((A.uv b t (hi c) : ℝ) : EReal) := by
  pointwise [res_main_v1]
  exact R.uv b t _

omit R in
theorem v6_at : res_main_v6 V ix0 = ((gA : ℝ) : EReal) := by
  pointwise [res_main_v6]
  exact coeff

omit R in
theorem v28_at : res_main_v28 V ix0 = ((gA : ℝ) : EReal) := by
  pointwise [res_main_v28]
  exact coeff

theorem v17_at : res_main_v17 V (ix3 b t c) = ((th (A.uv b t (lo c)) : ℝ) : EReal) := by
  pointwise [res_main_v17]
  simp only [v0_at R, v6_at, word_c, ← EReal.coe_mul, ← EReal.coe_add, Ideal.tanh_coe]
  rfl

theorem v39_at : res_main_v39 V (ix3 b t c) = ((th (A.uv b t (hi c)) : ℝ) : EReal) := by
  pointwise [res_main_v39]
  simp only [v1_at R, v28_at, word_c, ← EReal.coe_mul, ← EReal.coe_add, Ideal.tanh_coe]
  rfl

theorem v26_at : res_main_v26 V (ix3 b t c) = ((1 / 2 * (1 + th (A.uv b t (lo c))) : ℝ) : EReal) := by
  pointwise [res_main_v26]
  simp only [v17_at R, word_half, ← EReal.coe_one, ← EReal.coe_mul, ← EReal.coe_add]

theorem v48_at : res_main_v48 V (ix3 b t c) = ((1 / 2 * (1 + th (A.uv b t (hi c))) : ℝ) : EReal) := by
  pointwise [res_main_v48]
  simp only [v39_at R, word_half, ← EReal.coe_one, ← EReal.coe_mul, ← EReal.coe_add]

theorem v27_at : res_main_v27 V (ix3 b t c) = ((gel (A.uv b t (lo c)) : ℝ) : EReal) := by
  pointwise [res_main_v27]
  simp only [v0_at R, v26_at R, ← EReal.coe_mul, gel]

theorem v54_at : res_main_v54 V (ix4 b t g j) = ((A.row b t g j : ℝ) : EReal) := by
  pointwise [res_main_v54]
  simp only [v1_at R, v48_at R, ← EReal.coe_mul, gel, Args.row]

theorem v58_at (z : Fin 1) : res_main_v58 V (ix4 b t g z) = ((mean (A.row b t g) : ℝ) : EReal) := by
  pointwise [res_main_v58]
  simp only [v54_at R, ← coe_sum, word_128, Ideal.div_coe (show (128 : ℝ) ≠ 0 by norm_num), ← EReal.coe_mul, mean]
  congr 1; ring

theorem v60_at : res_main_v60 V (ix4 b t g j) = ((A.row b t g j - mean (A.row b t g) : ℝ) : EReal) := by
  pointwise [res_main_v60]
  simp only [v54_at R, v58_at R, ← EReal.coe_sub]

theorem v71_at (z : Fin 1) : res_main_v71 V (ix4 b t g z)
    = ((mean (fun j => (A.row b t g j - mean (A.row b t g)) * (A.row b t g j - mean (A.row b t g))) + eps : ℝ) : EReal) := by
  pointwise [res_main_v71]
  simp only [v60_at R, ← coe_sum, word_128, word_eps, Ideal.div_coe (show (128 : ℝ) ≠ 0 by norm_num), ← EReal.coe_mul, ← EReal.coe_add, mean]
  congr 1; ring

theorem v72_at (z : Fin 1) : res_main_v72 V (ix4 b t g z) = ((rs (A.row b t g) : ℝ) : EReal) := by
  pointwise [res_main_v72]
  have := var_pos (A.row b t g)
  rw [v71_at R, Ideal.rsqrt_coe, if_neg this.not_gt, if_neg this.ne']
  rfl

theorem v77_at : res_main_v77 V (ix4 b t g j) = ((xh (A.row b t g) j : ℝ) : EReal) := by
  pointwise [res_main_v77]
  simp only [show ∀ j, res_main_v69 V (ix4 b t g j) = _ from v60_at R b t g, v72_at R, ← EReal.coe_mul, xh]

theorem v79_at (y z : Fin 1) : res_main_v79 V (ix4 y z g j) = ((A.vg (ch g j) : ℝ) : EReal) := by
  pointwise [res_main_v79]
  exact R.vg _ _

theorem v86_at : res_main_v86 V (ix5 b n i g j) = (((A.gate b n g).vc i j : ℝ) : EReal) := by
  pointwise [res_main_v86]
  simp only [v77_at R, v79_at R, R.vb, ← EReal.coe_mul, ← EReal.coe_add]
  rfl

omit R in
theorem v89_at (z : Fin 1) : res_main_v89 V (ix3 z i j) = (((if j ≤ i then 1 else 0 : ℝ) : ℝ) : EReal) := by
  pointwise [res_main_v89]
  rw [show IntOp.addi (BitVec.ofNat 32 i.val) 0#32 = BitVec.ofNat 32 i.val from BitVec.add_zero _,
    WordCmp.cmpi_sge_ofNat (by omega) (by omega)]
  by_cases h : j ≤ i <;> simp [h, Scalar.select]

theorem v91_at : res_main_v91 V (ix3 g i j) = (((A.gate b n g).w i j : ℝ) : EReal) := by
  pointwise [res_main_v91]
  simp only [v89_at, R.ws, ← EReal.coe_mul]
  congr 1
  simp [Args.gate]

theorem v98_at : res_main_v98 V (ix3 b t c) = (((A.gate b (blkOf t) (grpOf c)).sv (inBlk t) (inGrp c) : ℝ) : EReal) := by
  pointwise [res_main_v98]
  simp only [v86_at R, fun g i j => v91_at R b g (blkOf t) i j, R.bs, ← EReal.coe_mul, ← coe_sum, ← EReal.coe_add]
  rw [Gate.sv]
  simp only [mul_comm (Gate.w _ _ _)]
  rfl

theorem v224_at : res_main_v224 V (ix3 b t c) = ((A.dy b t (lo c) : ℝ) : EReal) := by
  pointwise [res_main_v224]
  exact R.dy b t _

theorem v325_at : res_main_v325 V (ix3 b t c)
    = ((A.dy b t (lo c) * (A.gate b (blkOf t) (grpOf c)).sv (inBlk t) (inGrp c) : ℝ) : EReal) := by
  pointwise [res_main_v325]
  simp only [v224_at R, v98_at R, ← EReal.coe_mul]

theorem v326_at : res_main_v326 V (ix5 b n i g j) = (((A.gate b n g).dsv i j : ℝ) : EReal) := by
  pointwise [res_main_v326]
  simp only [v27_at R, v224_at R, ← EReal.coe_mul, Gate.dsv]
  rw [mul_comm]
  rfl

theorem v331_at : res_main_v331 V (ix5 g b n j i) = (((A.gate b n g).dsv i j : ℝ) : EReal) := by
  pointwise [res_main_v331]
  exact v326_at R ..

theorem v337_at : res_main_v337 V (ix4 b t g j) = (((A.gate b (blkOf t) g).dvc (inBlk t) j : ℝ) : EReal) := by
  pointwise [res_main_v337]
  simp only [v331_at R, fun g i j => v91_at R b g (blkOf t) i j, ← EReal.coe_mul, ← coe_sum]
  rw [Gate.dvc]
  simp only [mul_comm (Gate.w _ _ _)]

theorem v346_at : res_main_v346 V (ix4 b t g j) = ((A.drow b t g j : ℝ) : EReal) := by
  pointwise [res_main_v346]
  simp only [v337_at R, v79_at R, ← EReal.coe_mul, Args.drow]

theorem v353_at : res_main_v353 V (ix4 b t g j) = ((A.drow b t g j * rs (A.row b t g) : ℝ) : EReal) := by
  pointwise [res_main_v353]
  simp only [v346_at R, v72_at R, ← EReal.coe_mul]

theorem v362_at : res_main_v362 V (ix4 b t g j) = (((∑ k, (A.row b t g k - mean (A.row b t g)) * A.drow b t g k)
    * (-(1 / 2) * (rs (A.row b t g) / (mean (fun j => (A.row b t g j - mean (A.row b t g)) * (A.row b t g j - mean (A.row b t g))) + eps))) / 128
    * (2 * (A.row b t g j - mean (A.row b t g))) : ℝ) : EReal) := by
  pointwise [res_main_v362]
  have hV := var_pos (A.row b t g)
  simp only [Fin.sum_univ_one, show ∀ j, res_main_v69 V (ix4 b t g j) = _ from v60_at R b t g, v60_at R, v346_at R, v72_at R, v71_at R,
    word_nhalf, word_128, word_2, ← EReal.coe_mul, ← coe_sum, Ideal.div_coe hV.ne', Ideal.div_coe (show (128 : ℝ) ≠ 0 by norm_num)]
  congr 1; ring

theorem v373_at : res_main_v373 V (ix3 b t c) = ((dln (A.row b t (grpOf c)) (A.drow b t (grpOf c)) (inGrp c) : ℝ) : EReal) := by
  pointwise [res_main_v373]
  rw [← dln_chain]
  simp only [Fin.sum_univ_one, v353_at R, v362_at R, word_128, ← EReal.coe_mul, ← EReal.coe_neg, ← coe_sum, ← EReal.coe_add,
    Ideal.div_coe (show (128 : ℝ) ≠ 0 by norm_num)]
  congr 1; ring

theorem v396_at : res_main_v396 V (ix3 b t c) = ((gC * (1 / 2 * (A.uv b t (lo c) * (A.dy b t (lo c)
    * (A.gate b (blkOf t) (grpOf c)).sv (inBlk t) (inGrp c))) * ((1 + th (A.uv b t (lo c))) * (1 - th (A.uv b t (lo c))))) : ℝ) : EReal) := by
  pointwise [res_main_v396]
  simp only [v0_at R, v325_at R, v17_at R, word_c, word_half, ← EReal.coe_one, ← EReal.coe_mul, ← EReal.coe_add, ← EReal.coe_sub]

theorem v384_at : res_main_v384 V (ix3 b t c) = ((gC * (1 / 2 * (A.uv b t (hi c) * dln (A.row b t (grpOf c)) (A.drow b t (grpOf c)) (inGrp c))
    * ((1 + th (A.uv b t (hi c))) * (1 - th (A.uv b t (hi c))))) : ℝ) : EReal) := by
  pointwise [res_main_v384]
  simp only [v1_at R, v373_at R, v39_at R, word_c, word_half, ← EReal.coe_one, ← EReal.coe_mul, ← EReal.coe_add, ← EReal.coe_sub]

end Cert.Mix

end
-- ==== Proof.Mix.Gradients.lean ====
/- The derivative's results for group A, as the run's terms write them: five gradients, entry by entry. -/
module

public import proofs.«01_k».proof.Proof.Mix.Reference

@[expose] public section

set_option maxRecDepth 16384

noncomputable section

namespace Cert.Mix

open Idealize.ShloMosaic Idealize.ShloMosaic.TcCoe Idealize.SL.Sem
open Cert.MixGradIdeal Cert.MixGradIdeal.Gen Cert.MixGradIdeal.Value

variable {A : Args} {V : Valuation τ sig (Elt Ideal)} (R : Reads A V)
include R

variable (b : Fin 2) (t : Fin 2048) (c : Fin 512) (g : Fin 4) (n : Fin 16) (i j : Fin 128)

theorem du_at : addf (addf (mulf (res_main_v325 V) (res_main_v26 V)) (res_main_v396 V)) (mulf (mulf (broadcastInDim S2x2048x512 ![] bcast_S_S2x2048x512 (res_main_v6 V)) (res_main_v396 V)) (mulf (broadcastInDim S2x2048x512 ![] bcast_S_S2x2048x512 (constant S_ .f32 0x40400000#32)) (mulf (res_main_v0 V) (res_main_v0 V)))) (ix3 b t c)
    = (((A.gate b (blkOf t) (grpOf c)).du (inBlk t) (inGrp c) : ℝ) : EReal) := by
  pointwise
  simp only [v0_at R, v325_at R, v396_at R, v26_at R, v6_at, word_3, ← EReal.coe_mul, ← EReal.coe_add]
  rw [dgel_chain, Gate.du]
  simp only [Args.gate_u, Args.gate_dy, tok_blk, ch_grp]

theorem dv_at : addf (addf (mulf (res_main_v373 V) (res_main_v48 V)) (res_main_v384 V)) (mulf (mulf (broadcastInDim S2x2048x512 ![] bcast_S_S2x2048x512 (res_main_v28 V)) (res_main_v384 V)) (mulf (broadcastInDim S2x2048x512 ![] bcast_S_S2x2048x512 (constant S_ .f32 0x40400000#32)) (mulf (res_main_v1 V) (res_main_v1 V)))) (ix3 b t c)
    = (((A.gate b (blkOf t) (grpOf c)).dv (inBlk t) (inGrp c) : ℝ) : EReal) := by
  pointwise
  simp only [v1_at R, v373_at R, v384_at R, v48_at R, v28_at, word_3, ← EReal.coe_mul, ← EReal.coe_add]
  rw [dgel_chain, Gate.dv]
  simp only [Args.gate_v, Args.gate_gam, tok_blk, ch_grp]
  rfl

theorem duv_eq : truncf .bf16 (shapeCast S4096x1024 (concatenate S2x2048x1024 2 [⟨S2x2048x512, (addf (addf (mulf (res_main_v325 V) (res_main_v26 V)) (res_main_v396 V)) (mulf (mulf (broadcastInDim S2x2048x512 ![] bcast_S_S2x2048x512 (res_main_v6 V)) (res_main_v396 V)) (mulf (broadcastInDim S2x2048x512 ![] bcast_S_S2x2048x512 (constant S_ .f32 0x40400000#32)) (mulf (res_main_v0 V) (res_main_v0 V)))))⟩, ⟨S2x2048x512, (addf (addf (mulf (res_main_v373 V) (res_main_v48 V)) (res_main_v384 V)) (mulf (mulf (broadcastInDim S2x2048x512 ![] bcast_S_S2x2048x512 (res_main_v28 V)) (res_main_v384 V)) (mulf (broadcastInDim S2x2048x512 ![] bcast_S_S2x2048x512 (constant S_ .f32 0x40400000#32)) (mulf (res_main_v1 V) (res_main_v1 V)))))⟩] concatenates_S2x2048x512_S2x2048x512_S2x2048x1024_d2) shapeCasts_S2x2048x1024_S4096x1024) bitsLt_bf16_f32
    = fun i => ((A.duv ⟨(i 0).val / 2048, by have : (i 0).val < 4096 := (i 0).isLt; omega⟩ ⟨(i 0).val % 2048, by omega⟩ (i 1) : ℝ) : EReal) := by
  funext i
  obtain ⟨r, c, rfl⟩ : ∃ (r : Fin 4096) (c : Fin 1024), i = ix2 r c := ⟨i 0, i 1, eq_ix2 i⟩
  have hu := du_at R
  have hv := dv_at R
  generalize addf (addf (mulf (res_main_v325 V) (res_main_v26 V)) (res_main_v396 V)) _ = U at hu ⊢
  generalize addf (addf (mulf (res_main_v373 V) (res_main_v48 V)) (res_main_v384 V)) _ = W at hv ⊢
  pointwise
  simp only [hu, hv]
  rw [Args.duv]
  split <;> rfl

/-- The contracted axes of the mixing weights' gradient: batch, block, channel. -/
def contr : Fin 2 × Fin 16 × Fin 128 ≃ dot_S4x2x16x128x128_S2x16x128x4x128_S4x128x128_123_014_4_2_0_3.contr.Idx where
  toFun k p := match p with
    | ⟨0, _⟩ => k.1
    | ⟨1, _⟩ => k.2.1
    | ⟨2, _⟩ => k.2.2
  invFun k := (k ⟨0, by decide⟩, k ⟨1, by decide⟩, k ⟨2, by decide⟩)
  left_inv _ := rfl
  right_inv k := by
    funext p
    match p with
    | ⟨0, _⟩ => rfl
    | ⟨1, _⟩ => rfl
    | ⟨2, _⟩ => rfl

omit R in
theorem contr_l (g : Fin 4) (i j : Fin 128) (k : Fin 2 × Fin 16 × Fin 128) :
    dot_S4x2x16x128x128_S2x16x128x4x128_S4x128x128_123_014_4_2_0_3.lhsIdx (ix3 g i j) (contr k) = ix5 g k.1 k.2.1 k.2.2 i := by
  funext p
  match p with
  | ⟨0, _⟩ => rfl
  | ⟨1, _⟩ => rfl
  | ⟨2, _⟩ => rfl
  | ⟨3, _⟩ => rfl
  | ⟨4, _⟩ => rfl

omit R in
theorem contr_r (g : Fin 4) (i j : Fin 128) (k : Fin 2 × Fin 16 × Fin 128) :
    dot_S4x2x16x128x128_S2x16x128x4x128_S4x128x128_123_014_4_2_0_3.rhsIdx (ix3 g i j) (contr k) = ix5 k.1 k.2.1 j g k.2.2 := by
  funext p
  match p with
  | ⟨0, _⟩ => rfl
  | ⟨1, _⟩ => rfl
  | ⟨2, _⟩ => rfl
  | ⟨3, _⟩ => rfl
  | ⟨4, _⟩ => rfl

theorem dws_eq : shapeCast S4x128x128 (broadcastInDim S1x4x128x128 ![1, 2, 3] bcast_S4x128x128_S1x4x128x128_1_2_3 (mulf (Host.dotGeneral dot_S4x2x16x128x128_S2x16x128x4x128_S4x128x128_123_014_4_2_0_3 none (φ₁ := .f32) (φ₂ := .f32) (res_main_v331 V) (res_main_v86 V)) (broadcastInDim S4x128x128 ![0, 1, 2] bcast_S1x128x128_S4x128x128_0_1_2 (res_main_v89 V)))) shapeCasts_S1x4x128x128_S4x128x128
    = fun i => ((A.dws (i 0) (i 1) (i 2) : ℝ) : EReal) := by
  funext i
  obtain ⟨g, i, k, rfl⟩ : ∃ (g : Fin 4) (j k : Fin 128), i = ix3 g j k := ⟨i 0, i 1, i 2, eq_ix3 i⟩
  pointwise
  rw [Common.matmul_of_contr _ contr]
  simp only [contr_l g i k, contr_r g i k, v331_at R, v86_at R, v89_at, Fintype.sum_prod_type, ← EReal.coe_mul, ← coe_sum, zero_add]
  rw [Args.dws]
  congr 1
  simp only [Gate.dw, mul_ite, mul_one, mul_zero]

theorem dbs_eq : shapeCast S4x128 (broadcastInDim S1x4x128 ![1, 2] bcast_S4x128_S1x4x128_1_2 (transpose S4x128 [1, 0] (Host.reduceAdd (shapeCast S1x1x128x4x1 (Host.reduceAdd (φ := .f32) (res_main_v326 V) (constant S_ .f32 0x00000000#32) reducesTo_S2x16x128x4x128_S128x4_d0_1_4 h_S_) shapeCasts_S128x4_S1x1x128x4x1) (constant S_ .f32 0x00000000#32) reducesTo_S1x1x128x4x1_S128x4_d0_1_4 h_S_) transposes_S128x4_S4x128_1_0)) shapeCasts_S1x4x128_S4x128
    = fun i => ((A.dbs (i 0) (i 1) : ℝ) : EReal) := by
  funext i
  obtain ⟨g, i, rfl⟩ : ∃ (g : Fin 4) (j : Fin 128), i = ix2 g j := ⟨i 0, i 1, eq_ix2 i⟩
  pointwise
  rw [Common.hostSum_5_014]
  simp only [Fin.sum_univ_one]
  pointwise
  rw [Common.hostSum_5_014]
  simp only [v326_at R, ← coe_sum, zero_add]
  rfl

theorem dvg_eq : broadcastInDim S1x512 ![1] bcast_S512_S1x512_1 (shapeCast S512 (Host.reduceAdd (shapeCast S1x1x4x128 (Host.reduceAdd (φ := .f32) (mulf (res_main_v77 V) (res_main_v337 V)) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S512)
    = fun i => ((A.dvg (i 1) : ℝ) : EReal) := by
  funext i
  obtain ⟨a, c, rfl⟩ : ∃ (a : Fin 1) (c : Fin 512), i = ix2 a c := ⟨i 0, i 1, eq_ix2 i⟩
  pointwise
  rw [Common.hostSum_4_01]
  simp only [Fin.sum_univ_one]
  pointwise
  rw [Common.hostSum_4_01]
  simp only [mulf_apply, Ideal.mulf_def, v77_at R, v337_at R, zero_add, ← EReal.coe_mul, ← coe_sum]
  rw [Args.dvg]
  simp only [sum_tok, blk_tok, in_tok, mul_comm (xh _ _)]
  rfl

theorem dvb_eq : broadcastInDim S1x512 ![1] bcast_S512_S1x512_1 (shapeCast S512 (Host.reduceAdd (shapeCast S1x1x4x128 (Host.reduceAdd (φ := .f32) (res_main_v337 V) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S512)
    = fun i => ((A.dvb (i 1) : ℝ) : EReal) := by
  funext i
  obtain ⟨a, c, rfl⟩ : ∃ (a : Fin 1) (c : Fin 512), i = ix2 a c := ⟨i 0, i 1, eq_ix2 i⟩
  pointwise
  rw [Common.hostSum_4_01]
  simp only [Fin.sum_univ_one]
  pointwise
  rw [Common.hostSum_4_01]
  simp only [v337_at R, zero_add, ← coe_sum]
  rw [Args.dvb]
  simp only [sum_tok, blk_tok, in_tok]
  rfl

end Cert.Mix

end
-- ==== Proof.Mix.CrossReference.lean ====
/- What the derivative of the plain forward lines holds, buffer by buffer, over real arguments: group C. -/
module

public import proofs.«01_k».proof.Proof.Mix.Cross
public import proofs.«01_k».proof.Proof.Mix.Reference

@[expose] public section

set_option maxRecDepth 16384

noncomputable section

namespace Cert.Mix

open Idealize.ShloMosaic Idealize.ShloMosaic.TcCoe Idealize.SL.Sem
open Cert.MixGradIdeal Cert.MixGradIdeal.Gen Cert.MixGradIdeal.Value

variable {A : Args} {V : Valuation τ sig (Elt Ideal)} (R : Reads A V)
include R

variable (b : Fin 2) (t : Fin 2048)
variable (h : Fin 4) (m : Fin 256) (e : Fin 64)

theorem v186_at : res_main_v186 V (ix4 b t h e) = ((A.q b h t e : ℝ) : EReal) := by
  pointwise [res_main_v186]
  exact R.qkv ..

theorem v187_at : res_main_v187 V (ix4 b m h e) = ((A.k b h m e : ℝ) : EReal) := by
  pointwise [res_main_v187]
  exact R.mkv ..

theorem v188_at : res_main_v188 V (ix4 b m h e) = ((A.v b h m e : ℝ) : EReal) := by
  pointwise [res_main_v188]
  exact R.mkv ..

theorem v191_at : res_main_v191 V (ix4 b h t m) = ((score (A.q b h t) (A.k b h) m : ℝ) : EReal) := by
  pointwise [res_main_v191]
  simp only [v186_at R, v187_at R, word_8th, ← EReal.coe_mul, ← coe_sum, score]

/-- A row's largest score is a real. -/
theorem v192_at : ∃ a : ℝ, res_main_v192 V (ix3 b h t) = ((a : ℝ) : EReal) := by
  pointwise [res_main_v192]
  refine fold_max_real _ (word_bot) (fun i => ?_) ⟨ix4 b h t 0, ?_⟩
  · exact ⟨_, (congrArg _ (eq_ix4 i)).trans (v191_at R (i 0) (i 2) (i 1) (i 3))⟩
  · refine Finset.mem_filter.2 ⟨Finset.mem_univ _, ?_⟩
    funext a
    match a with
    | ⟨0, _⟩ => rfl
    | ⟨1, _⟩ => rfl
    | ⟨2, _⟩ => rfl

omit R in
/-- A row of exponentials, shifted by the larger of two numbers. -/
theorem shifted (z : FVec Ideal S_ .f32) (x : FVec Ideal S2x4x2048x256 .f32) (y : FVec Ideal S2x4x2048 .f32) :
    Host.exp (subf x (broadcastInDim S2x4x2048x256 ![0, 1, 2, 3] bcast_S2x4x2048x1_S2x4x2048x256_0_1_2_3
      (broadcastInDim S2x4x2048x1 ![0, 1, 2] bcast_S2x4x2048_S2x4x2048x1_0_1_2
        (maximumf (broadcastInDim S2x4x2048 ![] bcast_S_S2x4x2048 z) y)))) (ix4 b h t m)
      = Ideal.exp (x (ix4 b h t m) - max (z ix0) (y (ix3 b h t))) := by
  pointwise

/-- Every row is shifted by some real, its largest score. -/
theorem v212_at : ∃ a : ℝ, ∀ m, res_main_v212 V (ix4 b h t m) = ((Real.exp (score (A.q b h t) (A.k b h) m - a) : ℝ) : EReal) := by
  obtain ⟨a, ha⟩ := v192_at R b t h
  refine ⟨a, fun m => (shifted b t h m (constant S_ .f32 0xFF800000#32) (res_main_v191 V) (res_main_v192 V)).trans ?_⟩
  have hz : (constant S_ .f32 0xFF800000#32 : FVec Ideal S_ .f32) ix0 = (⊥ : EReal) := word_bot
  rw [ha, hz, max_eq_right bot_le, v191_at R, ← EReal.coe_sub, Ideal.exp_coe]

theorem v228_at : res_main_v228 V (ix4 b h e t) = ((A.ct b h t e : ℝ) : EReal) := by
  pointwise [res_main_v228]
  exact R.dy ..

theorem v229_at : res_main_v229 V (ix4 b h t m) = ((dprob (A.ct b h t) (A.v b h) m : ℝ) : EReal) := by
  pointwise [res_main_v229]
  simp only [v228_at R, v188_at R, ← EReal.coe_mul, ← coe_sum, dprob]

theorem v216_at : res_main_v216 V (ix4 b h t m) = ((prob (A.q b h t) (A.k b h) m : ℝ) : EReal) := by
  obtain ⟨a, ha⟩ := v212_at R b t h
  pointwise [res_main_v216, res_main_v214]
  have hs := (sum_exp_pos fun n => score (A.q b h t) (A.k b h) n - a).ne'
  simp only [ha, ← coe_sum, Ideal.div_coe hs, ← EReal.coe_mul, prob, ← sm_shift _ a m]
  congr 1; ring

theorem v245_at : res_main_v245 V (ix4 b h t m) = ((dscore (A.q b h t) (A.ct b h t) (A.k b h) (A.v b h) m : ℝ) : EReal) := by
  obtain ⟨a, ha⟩ := v212_at R b t h
  pointwise [res_main_v245, res_main_v214]
  have hs := (sum_exp_pos fun n => score (A.q b h t) (A.k b h) n - a).ne'
  simp only [Fin.sum_univ_one, v229_at R, ha, ← coe_sum, word_8th, ← EReal.coe_one, ← EReal.coe_mul, Ideal.div_coe hs, Ideal.div_coe (mul_ne_zero hs hs),
    ← EReal.coe_neg, ← EReal.coe_add]
  have hp : ∀ n, prob (A.q b h t) (A.k b h) n = Real.exp (score (A.q b h t) (A.k b h) n - a) / ∑ n, Real.exp (score (A.q b h t) (A.k b h) n - a) :=
    fun n => (sm_shift _ a n).symm
  simp only [dscore, hp]
  exact congrArg _ (softmax_chain (fun n => Real.exp (score (A.q b h t) (A.k b h) n - a)) _ hs m)

variable (c : Fin 512)

/-- The gradient of the memory's keys and values as the derivative writes it. -/
theorem dmkv_at : concatenate S2x256x512 2 [⟨S2x256x256, (shapeCast _ (transpose S2x256x4x64 [0, 2, 1, 3]
      (Host.dotGeneral dot_S2x4x2048x256_S2x2048x4x64_S2x4x256x64_2_1_3_3_01_02 none (φ₁ := .f32) (φ₂ := .f32) (res_main_v245 V) (res_main_v186 V))
      transposes_S2x4x256x64_S2x256x4x64_0_2_1_3) shapeCasts_S2x256x4x64_S2x256x256)⟩,
    ⟨S2x256x256, (shapeCast _ (transpose S2x256x4x64 [0, 3, 1, 2]
      (Host.dotGeneral dot_S2x4x64x2048_S2x4x2048x256_S2x4x64x256_3_2_2_3_01_01 none (φ₁ := .f32) (φ₂ := .f32) (res_main_v228 V) (res_main_v216 V))
      transposes_S2x4x64x256_S2x256x4x64_0_3_1_2) shapeCasts_S2x256x4x64_S2x256x256)⟩] concatenates_S2x256x256_S2x256x256_S2x256x512_d2 (ix3 b m c)
    = ((A.dmkv b m c : ℝ) : EReal) := by
  pointwise
  simp only [v245_at R, v186_at R, v228_at R, v216_at R, ← EReal.coe_mul, ← coe_sum]
  rw [Args.dmkv]
  split
  · rfl
  · simp only [mul_comm (Args.ct _ _ _ _ _)]
    rfl

end Cert.Mix

end
-- ==== Proof.Mix.Claim.lean ====
/- The mixing step's backward call: its frames and its six gradients. -/
module

public import proofs.«01_k».proof.Defs
public import proofs.«01_k».proof.Proof.Mix.Outputs
public import proofs.«01_k».proof.Proof.Mix.Finite
public import proofs.«01_k».proof.Proof.Mix.Gradients
public import proofs.«01_k».proof.Proof.Mix.CrossReference
public import proofs.«01_k».proof.Proof.Gen.MixBwd.Frame

@[expose] public section

set_option maxRecDepth 16384

noncomputable section

namespace Cert.Mix

open Idealize.ShloMosaic Idealize.ShloMosaic.TcCoe Idealize.SL.Sem

/-- The reals that arrays of finite numbers hold. -/
def reals (a0 : FVec Ideal MixBwdIdeal.S2x2048x1024 .f32) (a1 : FVec Ideal MixBwdIdeal.S2x2048x768 .f32) (a2 : FVec Ideal MixBwdIdeal.S2x256x512 .f32)
    (a3 a4 : FVec Ideal MixBwdIdeal.S1x512 .f32) (a5 : FVec Ideal MixBwdIdeal.S1x4x128x128 .f32) (a6 : FVec Ideal MixBwdIdeal.S1x4x128 .f32)
    (a9 : FVec Ideal MixBwdIdeal.S2x2048x1024 .f32) : Args where
  uv b t c := EReal.toReal (a0 (ix3 b t c))
  qkv b t c := EReal.toReal (a1 (ix3 b t c))
  mkv b t c := EReal.toReal (a2 (ix3 b t c))
  vg c := EReal.toReal (a3 (ix2 0 c))
  vb c := EReal.toReal (a4 (ix2 0 c))
  ws g i j := EReal.toReal (a5 (ix4 0 g i j))
  bs g i := EReal.toReal (a6 (ix3 0 g i))
  dy b t c := EReal.toReal (a9 (ix3 b t c))

abbrev realsOf (m : (ℓ : Loc MixBwdIdeal.nD MixBwdIdeal.τ MixBwdIdeal.sig) → Buf (Elt Ideal) ℓ) (c : Dev MixBwdIdeal.nD) : Args :=
  reals (m (c.tc.loc MixBwdIdeal.main_arg0)) (m (c.tc.loc MixBwdIdeal.main_arg1)) (m (c.tc.loc MixBwdIdeal.main_arg2)) (m (c.tc.loc MixBwdIdeal.main_arg3))
    (m (c.tc.loc MixBwdIdeal.main_arg4)) (m (c.tc.loc MixBwdIdeal.main_arg5)) (m (c.tc.loc MixBwdIdeal.main_arg6)) (m (c.tc.loc MixBwdIdeal.main_arg9))

/-- Under the precondition the arguments hold them. -/
theorem held (m : (ℓ : Loc MixBwdIdeal.nD MixBwdIdeal.τ MixBwdIdeal.sig) → Buf (Elt Ideal) ℓ) (h : Pre_MixBwdIdeal_finite m) (c : Dev MixBwdIdeal.nD) :
    Held m c (realsOf m c) := by
  obtain ⟨h0, h1, h2, h3, h4, h5, h6, h9⟩ := real_of_finite (h c)
  refine ⟨fun _ _ _ => h0 _, fun _ _ _ => h1 _, fun _ _ _ => h2 _, fun a _ => ?_, fun a _ => ?_, fun a _ _ _ => ?_, fun a _ _ => ?_, fun _ _ _ => h9 _⟩
  all_goals obtain rfl : a = 0 := Subsingleton.elim _ _
  · exact h3 _
  · exact h4 _
  · exact h5 _
  · exact h6 _

theorem frame_kernel : Cert.quiescent_MixBwd := fun m ρ _ => Cert.MixBwd.Gen.frame m ρ

theorem frame_ideal : Cert.quiescent_MixBwdIdeal := fun m ρ _ => Cert.MixBwdIdeal.Gen.frame m ρ

theorem frame_ideal_finite : Cert.quiescent_MixBwdIdeal_pre_finite := fun m ρ _ => Cert.MixBwdIdeal.Gen.frame m ρ

theorem frame_reference : Cert.quiescent_MixGradIdeal := by
  intro m g _
  exact (θ_run Cert.MixGradIdeal.defs _ _).mono
    (fun r h => ⟨fun c => (h c).2.2.2.2.2.2, sem_eq_zero_of_no_sems (by decide) r.2⟩) (Cert.MixGradIdeal.Value.run m g)

theorem frame_reference_finite : Cert.quiescent_MixGradIdeal_pre_finite := fun m g _ => frame_reference m g trivial

theorem preserves : Cert.preserves_MixBwd_MixBwdIdeal :=
  ⟨IdealRules.named_const.statement MixBwdIdeal.κ "gelu_a" .f32 0x3D372713#32 _ rfl,
    IdealRules.named_const.statement MixBwdIdeal.κ "gelu_3a" .f32 0x3E095D4F#32 _ rfl,
    IdealRules.named_const.statement MixBwdIdeal.κ "neg" .f32 0xF149F2CA#32 _ rfl⟩

/-- Kernel and derivative of the forward lines compute the same six gradients where the arguments are finite. -/
theorem algebraic : Cert.algebraic_MixBwdIdeal_MixGradIdeal_pre_finite := by
  intro m g m' g' hpre hagree
  refine ⟨fun c => flat (realsOf m c), fun c i => (((realsOf m c).dmkv (i 0) (i 1) (i 2) : ℝ) : EReal),
    fun c i => (((realsOf m c).dws (i 0) (i 1) (i 2) : ℝ) : EReal), fun c i => (((realsOf m c).dbs (i 0) (i 1) : ℝ) : EReal),
    fun c i => (((realsOf m c).dvg (i 1) : ℝ) : EReal), fun c i => (((realsOf m c).dvb (i 1) : ℝ) : EReal),
    (θ_run _ _ _).mono (fun r h c => ?_) (Cert.MixBwdIdeal.Value.run_blocks m g),
    (θ_run _ _ _).mono (fun r h c => ?_) (Cert.MixGradIdeal.Value.run m' g')⟩
  · have H := held m hpre c
    obtain ⟨h0, -, h2, h3, h4, h5, h6, -, -, hargs⟩ := h c
    exact ⟨h0.trans (kernel_duv H), h2.trans (kernel_dmkv H), h3.trans (kernel_dws H), h4.trans (kernel_dbs H), h5.trans (kernel_dvg H),
      h6.trans (kernel_dvb H), hargs⟩
  · have H := held m hpre c
    obtain ⟨e0, e1, e2, e3, e4, e5, e6, -, -, e9⟩ := hagree c
    have R : Reads (realsOf m c) (StableHlo.launchContents m' c) := by
      refine ⟨fun b t x => ?_, fun b t x => ?_, fun b t x => ?_, fun a x => ?_, fun a x => ?_, fun a g i j => ?_, fun a g i => ?_, fun b t x => ?_⟩
      · exact (congrFun e0 _).trans (H.uv b t x)
      · exact (congrFun e1 _).trans (H.qkv b t x)
      · exact (congrFun e2 _).trans (H.mkv b t x)
      · exact (congrFun e3 _).trans (H.vg a x)
      · exact (congrFun e4 _).trans (H.vb a x)
      · exact (congrFun e5 _).trans (H.ws a g i j)
      · exact (congrFun e6 _).trans (H.bs a g i)
      · exact (congrFun e9 _).trans (H.dy b t x)
    obtain ⟨h0, h1, h2, h3, h4, h5, hargs⟩ := h c
    exact ⟨h0.trans (duv_eq R), h1.trans (funext fun i => (congrArg _ (eq_ix3 i)).trans (dmkv_at R _ _ _)), h2.trans (dws_eq R), h3.trans (dbs_eq R),
      h4.trans (dvg_eq R), h5.trans (dvb_eq R), hargs⟩

end Cert.Mix

end
-- ==== Proof.In.Spec.lean ====
/- The gradient of the layer's input projection: `rms_norm(x, g) @ w` beside the residual `x`, a row of 1024 features at a time,
   over all extended reals. -/
module

public import proofs.«01_k».proof.Proof.Mix.Block

@[expose] public section

noncomputable section

namespace Cert.In

open Idealize.ShloMosaic
open Cert.Mix (eps eps_pos word_eps coe_sum)

/-- A row of 1024 features. -/
abbrev Feat := Fin 1024 → EReal

/-- The mean of a row. -/
def mean (v : Feat) : EReal := Ideal.div (∑ k, v k) (Ideal.ofBits .f32 0x44800000#32)

/-- A row's mean square, kept above zero. -/
def msq (x : Feat) : EReal := mean (fun k => x k * x k) + Ideal.ofBits .f32 0x358637BD#32

/-- One over the root mean square of a row. -/
def rs (x : Feat) : EReal := Ideal.rsqrt (msq x)

/-- A row normed. -/
def nx (x : Feat) : Feat := fun k => x k * rs x

/-- What the norm gives back to its row from the cotangent `d` of the normed row. -/
def dnx (x d : Feat) : Feat := fun k => rs x * (d k - nx x k * mean (fun j => d j * nx x j))

/-- The part of it that goes through the mean square, as the chain rule writes it. -/
def via (x d : Feat) : EReal :=
  Ideal.div ((∑ j, x j * d j) * (Ideal.ofBits .f32 0xBF000000#32 * Ideal.div (rs x) (msq x))) (Ideal.ofBits .f32 0x44800000#32)

theorem word_1024 : (Ideal.ofBits .f32 0x44800000#32 : EReal) = ((1024 : ℝ) : EReal) := by
  simp [Ideal.ofBits, Ideal.ieee, -EReal.coe_mul]; norm_num

theorem word_nhalf : (Ideal.ofBits .f32 0xBF000000#32 : EReal) = ((-(1 / 2) : ℝ) : EReal) := by
  simp [Ideal.ofBits, Ideal.ieee, -EReal.coe_mul]; norm_num

theorem mean_eq (v : Feat) : mean v = (∑ k, v k) * ((1 / 1024 : ℝ) : EReal) := by
  rw [mean, word_1024, Ideal.div_coe (by norm_num)]

/-- A nonnegative real times a sum, whatever the summands. -/
theorem mul_sum {r : ℝ} (h : 0 ≤ r) {ι : Type} (s : Finset ι) (f : ι → EReal) : ∑ j ∈ s, (r : EReal) * f j = r * ∑ j ∈ s, f j := by
  classical
  induction s using Finset.induction_on with
  | empty => simp
  | insert a s ha ih =>
    rw [Finset.sum_insert ha, Finset.sum_insert ha, ih,
      EReal.left_distrib_of_nonneg_of_ne_top (EReal.coe_nonneg.2 h) (EReal.coe_ne_top r)]

/-- Twice a real multiple. -/
theorem twice (a : ℝ) (S : EReal) : (a : EReal) * S + a * S = ((2 * a : ℝ) : EReal) * S := by
  have h : ((2 : ℝ) : EReal) = 1 + 1 := by rw [← EReal.coe_one, ← EReal.coe_add]; norm_num
  rw [EReal.coe_mul, h, mul_assoc, EReal.right_distrib_of_nonneg zero_le_one zero_le_one, one_mul]

/-- The chain rule's two equal terms are the norm's one, on a real row. -/
theorem chain_real (y : Fin 1024 → ℝ) (d : Feat) (k : Fin 1024) :
    d k * rs (fun k => y k) + ((y k : EReal) * via (fun k => y k) d + (y k : EReal) * via (fun k => y k) d) = dnx (fun k => y k) d k := by
  obtain ⟨M, hM, hm⟩ : ∃ M : ℝ, 0 < M ∧ msq (fun k => (y k : EReal)) = (M : EReal) := by
    refine ⟨(∑ k, y k * y k) * (1 / 1024) + eps, ?_, ?_⟩
    · have h : 0 ≤ ∑ k, y k * y k := Finset.sum_nonneg fun k _ => mul_self_nonneg _
      have := eps_pos
      positivity
    · rw [msq, mean_eq, word_eps]
      simp only [← EReal.coe_mul, ← coe_sum, ← EReal.coe_add]
  obtain ⟨r, hr, hrM, hs⟩ : ∃ r : ℝ, 0 ≤ r ∧ r * r = 1 / M ∧ rs (fun k => (y k : EReal)) = (r : EReal) := by
    refine ⟨(Real.sqrt M)⁻¹, inv_nonneg.2 (Real.sqrt_nonneg _), ?_, ?_⟩
    · rw [← mul_inv, Real.mul_self_sqrt hM.le, one_div]
    · rw [rs, hm, Ideal.rsqrt_coe, if_neg hM.not_gt, if_neg hM.ne']
  have hd : mean (fun j => d j * nx (fun k => (y k : EReal)) j) = ((r * (1 / 1024) : ℝ) : EReal) * ∑ j, (y j : EReal) * d j := by
    rw [mean_eq, EReal.coe_mul, mul_assoc, mul_comm _ (∑ j, (y j : EReal) * d j), ← mul_assoc, ← mul_sum hr]
    congr 1
    refine Finset.sum_congr rfl fun j _ => ?_
    rw [nx, hs]
    ac_rfl
  have hv : (y k : EReal) * via (fun k => y k) d = ((y k * (-(1 / 2) * (r * (1 / M))) * (1 / 1024) : ℝ) : EReal) * ∑ j, (y j : EReal) * d j := by
    rw [via, hs, hm, word_1024, word_nhalf, Ideal.div_coe (by norm_num), Ideal.div_coe hM.ne']
    simp only [EReal.coe_mul]
    ac_rfl
  rw [hv, twice, dnx, hd, nx, hs, sub_eq_add_neg, EReal.left_distrib_of_nonneg_of_ne_top (EReal.coe_nonneg.2 hr) (EReal.coe_ne_top r), mul_comm (d k)]
  congr 1
  rw [← EReal.coe_mul, ← EReal.neg_mul, ← EReal.coe_neg, ← mul_assoc (r : EReal), ← EReal.coe_mul r,
    ← mul_assoc ((r * _ : ℝ) : EReal), ← EReal.coe_mul (r * _)]
  congr 2
  rw [← hrM]
  ring

/-- A row with an infinite entry is normed to zero. -/
theorem rs_infinite (x : Feat) (j : Fin 1024) (h : x j = ⊤ ∨ x j = ⊥) : msq x = ⊤ ∧ rs x = 0 := by
  have sq : ∀ a : EReal, 0 ≤ a * a := fun a => by
    induction a with
    | bot => simp
    | top => simp
    | coe a => rw [← EReal.coe_mul]; exact EReal.coe_nonneg.2 (mul_self_nonneg a)
  have top : ∑ k, x k * x k = ⊤ := by
    rw [← Finset.add_sum_erase _ _ (Finset.mem_univ j), show x j * x j = ⊤ by rcases h with h | h <;> simp [h]]
    exact EReal.top_add_of_ne_bot (ne_of_gt (lt_of_lt_of_le EReal.bot_lt_zero (Finset.sum_nonneg fun k _ => sq _)))
  have hm : msq x = ⊤ := by
    rw [msq, mean_eq, top, EReal.top_mul_coe_of_pos (by norm_num), word_eps]
    exact EReal.top_add_coe _
  exact ⟨hm, by rw [rs, hm]; rfl⟩

/-- The chain rule's terms are the norm's, whatever the row and its cotangent. -/
theorem dnx_chain (x d : Feat) (k : Fin 1024) : d k * rs x + (x k * via x d + x k * via x d) = dnx x d k := by
  by_cases h : ∃ j, x j = ⊤ ∨ x j = ⊥
  · obtain ⟨j, h⟩ := h
    obtain ⟨hm, hr⟩ := rs_infinite x j h
    have hv : via x d = 0 := by
      rw [via, hm, hr, word_1024, Ideal.div_coe (by norm_num), Ideal.div, if_neg (by simp)]
      simp
    rw [dnx, hr, hv]
    simp
  · push Not at h
    have hx : x = fun k => (((x k).toReal : ℝ) : EReal) := funext fun k => (EReal.coe_toReal (h k).1 (h k).2).symm
    generalize (fun k => (x k).toReal) = y at hx
    obtain ⟨y, rfl⟩ : ∃ y : Fin 1024 → ℝ, x = fun k => (y k : EReal) := ⟨_, hx⟩
    exact chain_real y d k

/-- What the call reads: the layer's input, the norm's gain, the projection's weight, and the cotangent of its result. -/
structure Args where
  x : Fin 2 → Fin 2048 → Feat
  g : Feat
  w : Fin 2816 → Feat
  d : Fin 2 → Fin 2048 → Fin 2816 → EReal

/-- The cotangent of one token's projection, pulled back through the weight. -/
def dh (w : Fin 2816 → Feat) (d : Fin 2816 → EReal) : Feat := fun k => ∑ n, d n * w n k

namespace Args

variable (A : Args)

/-- What token `t` of batch `b` adds to the weight's gradient. -/
def dwt (b : Fin 2) (t : Fin 2048) (n : Fin 2816) (k : Fin 1024) : EReal := A.d b t n * (nx (A.x b t) k * A.g k)

/-- What it adds to the gain's. -/
def dgt (b : Fin 2) (t : Fin 2048) (k : Fin 1024) : EReal := dh A.w (A.d b t) k * nx (A.x b t) k

def dw (n : Fin 2816) (k : Fin 1024) : EReal := ∑ b, ∑ t, A.dwt b t n k

def dg (k : Fin 1024) : EReal := ∑ b, ∑ t, A.dgt b t k

/-- The input's gradient through the projection. -/
def dx (b : Fin 2) (t : Fin 2048) : Feat := dnx (A.x b t) fun k => dh A.w (A.d b t) k * A.g k

end Args

/-- The projection's columns come in three groups. -/
def colU (j : Fin 1024) : Fin 2816 := ⟨j, by omega⟩
def colQ (j : Fin 768) : Fin 2816 := ⟨1024 + j, by omega⟩
def colZ (j : Fin 1024) : Fin 2816 := ⟨1792 + j, by omega⟩

theorem sum_cols (f : Fin 2816 → EReal) : ∑ j, f (colU j) + ∑ j, f (colQ j) + ∑ j, f (colZ j) = ∑ n, f n := by
  refine Eq.symm ((Fin.sum_univ_add (a := 1792) (b := 1024) f).trans ?_)
  congr 1
  exact Fin.sum_univ_add (a := 1024) (b := 768) fun i => f (Fin.castAdd 1024 i)

end Cert.In

end
-- ==== Proof.In.Block.lean ====
/- The kernel's operations on a block of 512 tokens, over the reals. -/
module

public import proofs.«01_k».proof.Proof.Gen.InBwdIdeal.Skeleton
public import proofs.«01_k».proof.Proof.In.Spec
public import proofs.«01_k».proof.Proof.Mix.Block

@[expose] public section

set_option maxRecDepth 16384

noncomputable section

namespace Cert.In

open Idealize.ShloMosaic Cert.InBwdIdeal Cert.InBwdIdeal.Gen

/-- The loaded blocks hold the reals: tokens `x`, gain `g`, weight `w`, cotangent `d`. -/
structure Loads (x : Fin 512 → Feat) (g : Feat) (w : Fin 2816 → Feat) (d : Fin 512 → Fin 2816 → EReal)
    (X : FVec Ideal S512x1024 .f32) (G : FVec Ideal S1x1024 .f32) (U : FVec Ideal S512x1024 .bf16) (Q : FVec Ideal S512x768 .bf16)
    (Z : FVec Ideal S512x1024 .bf16) (WU : FVec Ideal S1024x1024 .bf16) (WQ : FVec Ideal S768x1024 .bf16) (WZ : FVec Ideal S1024x1024 .bf16) : Prop where
  x : ∀ s k, X (ix2 s k) = (x s k)
  g : ∀ a k, G (ix2 a k) = (g k)
  u : ∀ s j, U (ix2 s j) = (d s (colU j))
  q : ∀ s j, Q (ix2 s j) = (d s (colQ j))
  z : ∀ s j, Z (ix2 s j) = (d s (colZ j))
  wu : ∀ j k, WU (ix2 j k) = (w (colU j) k)
  wq : ∀ j k, WQ (ix2 j k) = (w (colQ j) k)
  wz : ∀ j k, WZ (ix2 j k) = (w (colZ j) k)

variable {x : Fin 512 → Feat} {g : Feat} {w : Fin 2816 → Feat} {d : Fin 512 → Fin 2816 → EReal}
  {X : FVec Ideal S512x1024 .f32} {G : FVec Ideal S1x1024 .f32} {U : FVec Ideal S512x1024 .bf16} {Q : FVec Ideal S512x768 .bf16}
  {Z : FVec Ideal S512x1024 .bf16} {WU : FVec Ideal S1024x1024 .bf16} {WQ : FVec Ideal S768x1024 .bf16} {WZ : FVec Ideal S1024x1024 .bf16}
  (L : Loads x g w d X G U Q Z WU WQ WZ)
include L

theorem inv_at (s : Fin 512) (a : Fin 1) : k0_pay5 (F := Ideal) X (ix2 s a) = (rs (x s)) := by
  pointwise [k0_pay5, k0_pay4]
  simp only [L.x s _]
  rfl

theorem nx_at (s : Fin 512) (k : Fin 1024) : k0_pay6 (F := Ideal) X (ix2 s k) = (nx (x s) k) := by
  pointwise [k0_pay6, k0_pay4]
  simp only [L.x s k, inv_at L s _, nx]

theorem h_at (s : Fin 512) (k : Fin 1024) : k0_pay7 (F := Ideal) X G (ix2 s k) = (nx (x s) k * g k) := by
  pointwise [k0_pay7]
  simp only [nx_at L s k, L.g _ k]

theorem accU_at {P : FVec Ideal S1024x1024 .f32} {p : Fin 1024 → Feat} (hP : ∀ j k, P (ix2 j k) = (p j k)) (j k : Fin 1024) :
    k0_pay11 (F := Ideal) X G U P (ix2 j k) = (p j k + ∑ s, d s (colU j) * (nx (x s) k * g k)) := by
  pointwise [k0_pay11, k0_pay8]
  simp only [hP j k, L.u _ j, fun s => h_at L s k]

theorem accQ_at {P : FVec Ideal S768x1024 .f32} {p : Fin 768 → Feat} (hP : ∀ j k, P (ix2 j k) = (p j k)) (j : Fin 768) (k : Fin 1024) :
    k0_pay13 (F := Ideal) (k0_pay12 X G Q P) (ix2 j k) = (p j k + ∑ s, d s (colQ j) * (nx (x s) k * g k)) := by
  pointwise [k0_pay13, k0_pay12, k0_pay9]
  simp only [hP j k, L.q _ j, fun s => h_at L s k]

theorem accZ_at {P : FVec Ideal S1024x1024 .f32} {p : Fin 1024 → Feat} (hP : ∀ j k, P (ix2 j k) = (p j k)) (j k : Fin 1024) :
    k0_pay14 (F := Ideal) (k0_pay7 X G) (k0_pay10 Z) P (ix2 j k) = (p j k + ∑ s, d s (colZ j) * (nx (x s) k * g k)) := by
  pointwise [k0_pay14, k0_pay10]
  simp only [hP j k, L.z _ j, fun s => h_at L s k]

theorem dh_at (s : Fin 512) (k : Fin 1024) : k0_pay15 (F := Ideal) (k0_pay8 U) (k0_pay9 Q) (k0_pay10 Z) WU WQ WZ (ix2 s k) = (dh w (d s) k) := by
  pointwise [k0_pay15, k0_pay8, k0_pay9, k0_pay10]
  simp only [L.u s _, L.q s _, L.z s _, L.wu _ k, L.wq _ k, L.wz _ k]
  rw [sum_cols fun n => d s n * w n k, dh]

theorem dg_at {P : FVec Ideal S1x1024 .f32} {p : Feat} (hP : ∀ k, P (ix2 0 k) = (p k)) (k : Fin 1024) :
    k0_pay16 (F := Ideal) (k0_pay6 X) (k0_pay8 U) (k0_pay9 Q) (k0_pay10 Z) WU WQ WZ P (ix2 0 k) = (p k + ∑ s, dh w (d s) k * nx (x s) k) := by
  pointwise [k0_pay16]
  simp only [hP k, fun s => dh_at L s k, fun s => nx_at L s k]

theorem dn_at (s : Fin 512) (k : Fin 1024) : k0_pay17 (F := Ideal) G (k0_pay8 U) (k0_pay9 Q) (k0_pay10 Z) WU WQ WZ (ix2 s k) = (dh w (d s) k * g k) := by
  pointwise [k0_pay17]
  simp only [dh_at L s k, L.g _ k]

theorem dot_at (s : Fin 512) : k0_pay19 (F := Ideal) (k0_pay6 X) G (k0_pay8 U) (k0_pay9 Q) (k0_pay10 Z) WU WQ WZ (ix1 s)
    = (∑ k, dh w (d s) k * g k * nx (x s) k) := by
  pointwise [k0_pay19]
  simp only [dn_at L s _, nx_at L s _]

theorem gx_at (Y : FVec Ideal S512x1024 .f32) (s : Fin 512) (k : Fin 1024) :
    k0_pay1 (F := Ideal) (k0_pay5 X) (k0_pay6 X) (k0_pay17 G (k0_pay8 U) (k0_pay9 Q) (k0_pay10 Z) WU WQ WZ) (k0_pay18 Y)
      (k0_pay19 (k0_pay6 X) G (k0_pay8 U) (k0_pay9 Q) (k0_pay10 Z) WU WQ WZ) (ix2 s k)
    = Y (ix2 s k) + (dnx (x s) (fun k => dh w (d s) k * g k) k) := by
  pointwise [k0_pay1, k0_pay18]
  simp only [dn_at L s k, nx_at L s k, inv_at L s _, dot_at L s]
  rfl

end Cert.In

end
-- ==== Proof.In.Entry.lean ====
/- What the blocks hold at a grid point, out of the call's arguments: point `t` has the 512 tokens from `512 t` on. -/
module

public import proofs.«01_k».proof.Proof.Gen.InBwdIdeal.Value
public import proofs.«01_k».proof.Proof.In.Block
public import Idealize.ShloMosaic.Lib.Pipeline.ValueKit

@[expose] public section

set_option maxRecDepth 16384

noncomputable section

namespace Cert.In

open Idealize.ShloMosaic Idealize.ShloMosaic.TcCoe Idealize.SL.Sem
open Cert.InBwdIdeal Cert.InBwdIdeal.Gen

/-- The arguments hold the reals of `A`. -/
structure Arrays (A : Args) (a0 : FVec Ideal S2x2048x1024 .f32) (a1 : FVec Ideal S1x1024 .f32) (a2 : FVec Ideal S1x1024x2816 .f32)
    (a4 : FVec Ideal S2x2048x2816 .f32) : Prop where
  x : ∀ b t k, a0 (ix3 b t k) = (A.x b t k)
  g : ∀ a k, a1 (ix2 a k) = (A.g k)
  w : ∀ a k n, a2 (ix3 a k n) = (A.w n k)
  d : ∀ b t n, a4 (ix3 b t n) = (A.d b t n)

variable (m : (ℓ : Loc nD τ sig) → Buf (Elt Ideal) ℓ) (c : Dev nD) (A : Args)

/-- A device's arguments hold them. -/
abbrev Held : Prop := Arrays A (m ((c : Thread nD τ).loc main_arg0)) (m ((c : Thread nD τ).loc main_arg1)) (m ((c : Thread nD τ).loc main_arg2))
  (m ((c : Thread nD τ).loc main_arg4))

theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] := by
  decide +kernel

theorem point_lt (t : Fin cfg0.N) : t.val < 8 := t.isLt

/-- The batch of a point, and the token of its row `s`. -/
def batch (t : Fin cfg0.N) : Fin 2 := ⟨t.val / 4, by have := point_lt t; omega⟩
def row (t : Fin cfg0.N) (s : Fin 512) : Fin 2048 := ⟨t.val % 4 * 512 + s.val, by omega⟩

variable {m c A} (t : Fin cfg0.N) (H : Held m c A)

theorem entry_y (s : Fin 512) (k : Fin 1024) : iblk m c 1 t (ix2 s k) = m ((c : Thread nD τ).loc main_arg3) (ix3 (batch t) (row t s) k) := by
  blk_simp [iblk]; entry_read; pointwise; blk_ext [idx t, row, batch]

include H

theorem entry_x (s : Fin 512) (k : Fin 1024) : iblk m c 0 t (ix2 s k) = (A.x (batch t) (row t s) k) := by
  rw [← H.x]
  blk_simp [iblk]; entry_read; pointwise; blk_ext [idx t, row, batch]

theorem entry_u (s : Fin 512) (j : Fin 1024) : iblk m c 2 t (ix2 s j) = (A.d (batch t) (row t s) (colU j)) := by
  rw [← H.d]
  blk_simp [iblk]; entry_read; pointwise; blk_ext [idx t, row, batch, colU]

theorem entry_q (s : Fin 512) (j : Fin 768) : iblk m c 3 t (ix2 s j) = (A.d (batch t) (row t s) (colQ j)) := by
  rw [← H.d]
  blk_simp [iblk]; entry_read; pointwise; blk_ext [idx t, row, batch, colQ]

theorem entry_z (s : Fin 512) (j : Fin 1024) : iblk m c 4 t (ix2 s j) = (A.d (batch t) (row t s) (colZ j)) := by
  rw [← H.d]
  blk_simp [iblk]; entry_read; pointwise; blk_ext [idx t, row, batch, colZ]

theorem entry_g (a : Fin 1) (k : Fin 1024) : iblk m c 5 t (ix2 a k) = (A.g k) := by
  rw [← H.g a]
  blk_ext [iblk, V, idx t]

theorem entry_w (n : Fin 2816) (k : Fin 1024) : iblk m c 6 t (ix2 n k) = (A.w n k) := by
  rw [← H.w 0]
  blk_simp [iblk]; entry_read; pointwise; blk_ext [idx t]

/-- The body's loads at a point. -/
theorem loads : Loads (fun s => A.x (batch t) (row t s)) A.g A.w (fun s => A.d (batch t) (row t s)) (iblk m c 0 t) (iblk m c 5 t) (iblk m c 2 t) (iblk m c 3 t)
    (iblk m c 4 t) (View.ld (iblk m c 6 t : Vec Ideal S2816x1024 .bf16) (Rect.unit (s := S2816x1024) ![0, 0] S1024x1024.size (by decide)))
    (View.ld (iblk m c 6 t : Vec Ideal S2816x1024 .bf16) (Rect.unit (s := S2816x1024) ![1024, 0] S768x1024.size (by decide)))
    (View.ld (iblk m c 6 t : Vec Ideal S2816x1024 .bf16) (Rect.unit (s := S2816x1024) ![1792, 0] S1024x1024.size (by decide))) where
  x := entry_x t H
  g := entry_g t H
  u := entry_u t H
  q := entry_q t H
  z := entry_z t H
  wu j k := by rw [← entry_w t H]; pointwise; blk_ext [colU]
  wq j k := by rw [← entry_w t H]; pointwise; blk_ext [colQ]
  wz j k := by rw [← entry_w t H]; pointwise; blk_ext [colZ]

end Cert.In

end
-- ==== Proof.In.Point.lean ====
/- What one grid point leaves: the input's gradient of its tokens, and the two carried sums with its tokens added. -/
module

public import proofs.«01_k».proof.Proof.In.Entry
public import Idealize.ShloMosaic.Lib.Pipeline.ReadBack

@[expose] public section

set_option maxRecDepth 16384
set_option maxHeartbeats 400000

noncomputable section

namespace Cert.In

open Idealize.ShloMosaic Idealize.ShloMosaic.TcCoe Idealize.SL.Sem
open Cert.InBwdIdeal Cert.InBwdIdeal.Gen

/-- A whole block's buffer read at a rectangle is its contents there. -/
theorem read_at {sh : Shape} {e : EltTy} {M : Memref sig .tc .vmem sh e} {hM : M.IsWhole} {X : Vec Ideal sh e} {r : Rect sh} :
    View.readAt (Elt Ideal) M.view r.toLoadRect (hM.unread X) = View.ld X r := by
  rw [View.readAt_eq_ld, hM.read_unread]

theorem read_acc {hM : scM0_0.IsWhole} {X : Vec Ideal S2816x1024 .f32} {r : Rect S2816x1024} :
    View.readAt (Elt Ideal) (View.whole cc0_scratch0) r.toLoadRect (hM.unread X) = View.ld X r := read_at (M := scM0_0)

/-- The zeros that the first point writes. -/
theorem zero_acc (n : Fin 2816) (k : Fin 1024) : (k0_pay2 : FVec Ideal S2816x1024 .f32) (ix2 n k) = 0 := by
  pointwise [k0_pay2]

theorem zero_row (k : Fin 1024) : (k0_pay3 : FVec Ideal S1x1024 .f32) (ix2 0 k) = 0 := by
  pointwise [k0_pay3]

/-- The weight's gradient, as an array. -/
def tab (p : Fin 2816 → Feat) : Vec Ideal S2816x1024 .f32 := fun y => (p (y 0) (y 1))

theorem idx2 {a b : ℕ} (x : (⟨2, ![a, b]⟩ : Shape).Idx) : ∃ (i : Fin a) (j : Fin b), x = ix2 i j := ⟨x 0, x 1, eq_ix2 x⟩

/-- Rows `o` to `o + r` of the table. -/
theorem mem_rows {o r : ℕ} {inb : ∀ a, ![o, 0] a + ![r, 1024] a ≤ S2816x1024.size a} (n : Fin 2816) (k : Fin 1024) (h1 : o ≤ n.val) (h2 : n.val < o + r) :
    ix2 n k ∈ (Rect.unit (s := S2816x1024) ![o, 0] ![r, 1024] inb).set := by
  refine (LoadRect.mem_set _).mpr fun a => ?_
  match a with
  | ⟨0, _⟩ => exact ⟨n.val - o, by change n.val - o < r; omega, by change n.val = o + 1 * (n.val - o); omega⟩
  | ⟨1, _⟩ => exact ⟨k.val, k.isLt, by change k.val = 0 + 1 * k.val; omega⟩

/-- Three groups of rows cover the table. -/
theorem cover_rows {p1 p2 p3 : View.Piece (Elt Ideal) S2816x1024 .f32} (n : Fin 2816) (k : Fin 1024) (h1 : 1792 ≤ n.val → ix2 n k ∈ p1.1.set)
    (h2 : 1024 ≤ n.val → n.val < 1792 → ix2 n k ∈ p2.1.set) (h3 : n.val < 1024 → ix2 n k ∈ p3.1.set) : ∃ p ∈ [p1, p2, p3], ix2 n k ∈ p.1.set := by
  by_cases e1 : n.val < 1024
  · exact ⟨_, .tail _ (.tail _ (.head _)), h3 e1⟩
  by_cases e2 : n.val < 1792
  · exact ⟨_, .tail _ (.head _), h2 (by omega) e2⟩
  · exact ⟨_, .head _, h1 (by omega)⟩

theorem point_cases (t : Fin cfg0.N) : (t.val % 8 = 0 ∧ ¬t.val % 8 = 7) ∨ (¬t.val % 8 = 0 ∧ ¬t.val % 8 = 7) ∨ (¬t.val % 8 = 0 ∧ t.val % 8 = 7) := by omega

variable {m : (ℓ : Loc nD τ sig) → Buf (Elt Ideal) ℓ} {c : Dev nD} {A : Args} (t : Fin cfg0.N) (H : Held m c A)
include H

theorem gx_point {Y : FVec Ideal S512x1024 .f32} (hY : iblk m c 1 t = Y) (s : Fin 512) (k : Fin 1024) : (outsAt0 m c t.val t.isLt).1 (ix2 s k)
    = Y (ix2 s k) + (A.dx (batch t) (row t s) k) := by
  subst hY
  obtain ⟨c0, c1⟩ | ⟨c0, c1⟩ | ⟨c0, c1⟩ := point_cases t
  all_goals
    first | rw [outsAt0_A m c t c0 c1] | rw [outsAt0_B m c t c0 c1] | rw [outsAt0_C m c t c0 c1]
    frame_out
    exact gx_at (loads t H) _ s k

theorem dg_step (p : Feat) (h0 : t.val % 8 = 0 → p = 0)
    (hp : ¬t.val % 8 = 0 → ∀ k, (outsAt0 m c (t.val - 1) (by omega)).2.1 (ix2 0 k) = (p k)) (k : Fin 1024) :
    (outsAt0 m c t.val t.isLt).2.1 (ix2 0 k) = (p k + ∑ s, A.dgt (batch t) (row t s) k) := by
  obtain ⟨c0, c1⟩ | ⟨c0, c1⟩ | ⟨c0, c1⟩ := point_cases t
  all_goals
    first
      | replace hp := hp c0
      | replace hp : ∀ k, _ = (p k) := fun k => (zero_row k).trans (by rw [h0 c0]; rfl)
    first | rw [outsAt0_A m c t c0 c1] | rw [outsAt0_B m c t c0 c1] | rw [outsAt0_C m c t c0 c1]
    frame_out
    exact dg_at (loads t H) hp k

theorem acc_step (p : Fin 2816 → Feat) (h0 : t.val % 8 = 0 → p = 0)
    (hp : ¬t.val % 8 = 0 → ∀ n k, (outsAt0 m c (t.val - 1) (by omega)).2.2.1 (ix2 n k) = (p n k)) (n : Fin 2816) (k : Fin 1024) :
    (outsAt0 m c t.val t.isLt).2.2.1 (ix2 n k) = (p n k + ∑ s, A.dwt (batch t) (row t s) n k) := by
  obtain ⟨c0, c1⟩ | ⟨c0, c1⟩ | ⟨c0, c1⟩ := point_cases t
  all_goals
    first
      | replace hp := hp c0
      | replace hp : ∀ n k, _ = (p n k) := fun n k => (zero_acc n k).trans (by rw [h0 c0]; rfl)
    first | rw [outsAt0_A m c t c0 c1] | rw [outsAt0_B m c t c0 c1] | rw [outsAt0_C m c t c0 c1]
    frame_open
    rw [View.read_writes_junk_eq_canon]
    simp (disch := decide) only [↓ View.readCov_skip, ↓ View.readCov_cons_toLoadRect, ↓ View.readCov_fill, View.ld_unit_lit', read_acc,
      read_at (M := ms0_0 t) (hM := hs0_0 t), read_at (M := ms0_2 t) (hM := hs0_2 t), read_at (M := ms0_3 t) (hM := hs0_3 t),
      read_at (M := ms0_4 t) (hM := hs0_4 t), read_at (M := ms0_5 t) (hM := hs0_5 t)]
    refine View.canon_append_of_piecesOf (Val := Elt Ideal) (s := S2816x1024) (e := .f32)
      (tab fun n k => p n k + ∑ s, A.dwt (batch t) (row t s) n k) _ [_, _, _] ⟨?_, ?_, ?_, trivial⟩ (ix2 n k) ?_
    pick_goal 4
    · refine cover_rows n k ?_ ?_ ?_
      · intro h; exact mem_rows (inb := by decide) n k h (by omega)
      · intro h h'; exact mem_rows (inb := by decide) n k h (by omega)
      · intro h; exact mem_rows (inb := by decide) n k (by omega) (by omega)
    all_goals
      intro x
      obtain ⟨j, k, rfl⟩ := idx2 x
      dsimp only
    · refine (accZ_at (loads t H) (p := fun j => p (colZ j)) (fun a b => ?_) j k).trans ?_
      · rw [← hp]; pointwise; blk_ext [colZ]
      · change tab (fun n k => p n k + ∑ s, A.dwt (batch t) (row t s) n k) (ix2 (colZ j) k) = _
        congr 1; blk_ext [colZ]
    · refine (accQ_at (loads t H) (p := fun j => p (colQ j)) (fun a b => ?_) j k).trans ?_
      · rw [← hp]; pointwise; blk_ext [colQ]
      · change tab (fun n k => p n k + ∑ s, A.dwt (batch t) (row t s) n k) (ix2 (colQ j) k) = _
        congr 1; blk_ext [colQ]
    · refine (accU_at (loads t H) (p := fun j => p (colU j)) (fun a b => ?_) j k).trans ?_
      · rw [← hp]; pointwise; blk_ext [colU]
      · change tab (fun n k => p n k + ∑ s, A.dwt (batch t) (row t s) n k) (ix2 (colU j) k) = _
        congr 1; blk_ext [colU]

theorem dw_last (c0 : ¬t.val % 8 = 0) (c1 : t.val % 8 = 7) : (outsAt0 m c t.val t.isLt).2.2.2 = (outsAt0 m c t.val t.isLt).2.2.1 := by
  rw [outsAt0_C m c t c0 c1]
  dsimp only
  unfold hbw0_C_0 sout0_C_0
  rw [View.read_writes_junk_eq_canon]
  dsimp only [kernelRun0_C]
  refine (View.write_whole_univ ..).trans ?_
  unfold kernelRun0_C.sl.dma23
  refine View.read_writes_eq_canon _ _ _ fun y => ?_
  obtain ⟨n, k, rfl⟩ := idx2 y
  unfold kernelRun0_C.sl.HS0_3
  refine cover_rows n k ?_ ?_ ?_
  · intro h; exact mem_rows (inb := by decide) n k h (by omega)
  · intro h h'; exact mem_rows (inb := by decide) n k h (by omega)
  · intro h; exact mem_rows (inb := by decide) n k (by omega) (by omega)

end Cert.In

end
-- ==== Proof.In.Outputs.lean ====
/- The kernel's three results, as arrays. -/
module

public import proofs.«01_k».proof.Proof.In.Point
public import proofs.«01_k».proof.Proof.Common.Sums

@[expose] public section

set_option maxRecDepth 16384

noncomputable section

namespace Cert.In

open Idealize.ShloMosaic Idealize.ShloMosaic.TcCoe Idealize.SL.Sem
open Cert.InBwdIdeal Cert.InBwdIdeal.Gen

/-- What the points up to `n` add up to. -/
def upTo (d : Fin cfg0.N → EReal) (n : ℕ) : EReal := ∑ k ∈ Finset.range (n + 1), if h : k < 8 then d ⟨k, h⟩ else 0

/-- A sum that starts at the first point and gains `d` at each point. -/
theorem carried {ι : Type} (X : (n : ℕ) → n < 8 → ι → EReal) (d : Fin cfg0.N → ι → EReal)
    (step : ∀ (n : ℕ) (h : n < 8) (p : ι → EReal), (n % 8 = 0 → p = 0) → (¬n % 8 = 0 → ∀ i, X (n - 1) (by omega) i = (p i)) →
      ∀ i, X n h i = (p i + d ⟨n, h⟩ i)) (n : ℕ) (h : n < 8) (i : ι) : X n h i = (upTo (fun t => d t i) n) := by
  induction n generalizing i with
  | zero =>
    refine (step 0 h 0 (fun _ => rfl) (fun e => absurd rfl e) i).trans ?_
    simp [upTo]
  | succ n ih =>
    refine (step (n + 1) h (fun i => upTo (fun t => d t i) n) (fun e => absurd e (by omega)) (fun _ i => ih (by omega) i) i).trans ?_
    rw [upTo, upTo, Finset.sum_range_succ _ (n + 1), dif_pos h]

/-- All eight points, each with its 512 tokens. -/
theorem total (f : Fin 2 → Fin 2048 → EReal) : upTo (fun t => ∑ s, f (batch t) (row t s)) 7 = ∑ b, ∑ x, f b x := by
  rw [upTo, Finset.sum_range, Common.sum_rows (a := 2) (b := 4) rfl]
  refine Finset.sum_congr rfl fun b _ => ?_
  rw [Common.sum_rows (a := 4) (b := 512) rfl]
  refine Finset.sum_congr rfl fun q _ => ?_
  refine (dif_pos (show 4 * b.val + q.val < 8 by omega)).trans ?_
  refine Finset.sum_congr rfl fun s _ => congrArg₂ f (Fin.ext ?_) (Fin.ext ?_)
  · simp only [batch]; omega
  · simp only [row]; omega

variable {m : (ℓ : Loc nD τ sig) → Buf (Elt Ideal) ℓ} {c : Dev nD} {A : Args} (H : Held m c A)
include H

theorem acc_at (n : ℕ) (h : n < 8) (j : Fin 2816) (k : Fin 1024) : (outsAt0 m c n h).2.2.1 (ix2 j k)
    = (upTo (fun t => ∑ s, A.dwt (batch t) (row t s) j k) n) :=
  carried (fun n h (x : Fin 2816 × Fin 1024) => (outsAt0 m c n h).2.2.1 (ix2 x.1 x.2)) (fun t x => ∑ s, A.dwt (batch t) (row t s) x.1 x.2)
    (fun n h p h0 hp x => acc_step ⟨n, h⟩ H (fun j k => p (j, k)) (fun e => by rw [h0 e]; rfl) (fun e j k => hp e (j, k)) x.1 x.2) n h (j, k)

theorem dg_at_point (n : ℕ) (h : n < 8) (k : Fin 1024) : (outsAt0 m c n h).2.1 (ix2 0 k)
    = (upTo (fun t => ∑ s, A.dgt (batch t) (row t s) k) n) :=
  carried (fun n h (k : Fin 1024) => (outsAt0 m c n h).2.1 (ix2 0 k)) (fun t k => ∑ s, A.dgt (batch t) (row t s) k)
    (fun n h p h0 hp k => dg_step ⟨n, h⟩ H p h0 hp k) n h k

/-- The input's gradient, beside what reaches it directly. -/
def gx (A : Args) (y : S2x2048x1024.Idx → EReal) : S4096x1024.Idx → EReal := fun i =>
  y (ix3 (⟨(i 0).val / 2048, by have : (i 0).val < 4096 := (i 0).isLt; omega⟩ : Fin 2) (⟨(i 0).val % 2048, by omega⟩ : Fin 2048) (i 1 : Fin 1024))
    + (A.dx ⟨(i 0).val / 2048, by have : (i 0).val < 4096 := (i 0).isLt; omega⟩ ⟨(i 0).val % 2048, by omega⟩ (i 1))

theorem kernel_gx : (dats m 0 c).arrAt 7 cfg0.N = gx A (m ((c : Thread nD τ).loc main_arg3)) := by
  refine (dats m 0 c).arrAt_eq_of_covers 7 _ (by decide +kernel) fun t hf y => ?_
  obtain ⟨s, k, rfl⟩ : ∃ (s : Fin 512) (k : Fin 1024), y = ix2 s k := ⟨y 0, y 1, eq_ix2 y⟩
  have lt := point_lt t
  have e : ((View.whole main_v10_0).slice (win0_7.rect t)).emb (ix2 s k) = ix2 (⟨512 * t.val + s.val, by omega⟩ : Fin 4096) k := by blk_ext [idx t]
  blk_simp
  rw [after0_7, e]
  refine (gx_point t H rfl s k).trans ?_
  rw [entry_y t]
  have e1 : batch t = ⟨(512 * t.val + s.val) / 2048, by omega⟩ := Fin.ext (by simp only [batch]; omega)
  have e2 : row t s = ⟨(512 * t.val + s.val) % 2048, by omega⟩ := Fin.ext (by simp only [row]; omega)
  rw [e1, e2]
  rfl

theorem kernel_dw : (outsAt0 m c 7 (show 7 < 8 by omega)).2.2.2 = fun i : S2816x1024.Idx => (A.dw (i 0) (i 1)) := by
  refine (dw_last t0_7 H (by decide) (by decide)).trans (funext fun i => ?_)
  obtain ⟨j, k, rfl⟩ : ∃ (j : Fin 2816) (k : Fin 1024), i = ix2 j k := ⟨i 0, i 1, eq_ix2 i⟩
  exact (acc_at H 7 (by omega) j k).trans (total fun b x => A.dwt b x j k)

theorem kernel_dg : (dats m 0 c).arrAt 8 cfg0.N = fun i : S1x1024.Idx => (A.dg (i 1)) := by
  refine (dats m 0 c).arrAt_eq_of_after_last 8 t0_7 (by decide +kernel) _ fun j => ?_
  obtain ⟨a, k, rfl⟩ : ∃ (a : Fin 1) (k : Fin 1024), j = ix2 a k := ⟨j 0, j 1, eq_ix2 j⟩
  obtain rfl : a = 0 := Subsingleton.elim _ _
  rw [after0_8]
  exact (dg_at_point H 7 (by omega) k).trans (total fun b x => A.dgt b x k)

end Cert.In

end
-- ==== Proof.In.Reference.lean ====
/- What the derivative of the plain forward lines computes: three gradients, entry by entry, over the reals. -/
module

public import proofs.«01_k».proof.Proof.Gen.InGradIdeal.Run
public import proofs.«01_k».proof.Proof.In.Outputs

@[expose] public section

set_option maxRecDepth 16384

noncomputable section

namespace Cert.In

open Idealize.ShloMosaic Idealize.ShloMosaic.TcCoe Idealize.SL.Sem
open Cert.InGradIdeal Cert.InGradIdeal.Gen

variable (a0 : FVec Ideal S2x2048x1024 .f32) (a1 : FVec Ideal S1x1024 .f32) (a2 : FVec Ideal S1x1024x2816 .f32) (a3 : FVec Ideal S2x2048x1024 .f32)
  (a4 : FVec Ideal S2x2048x2816 .f32)

/-- The mean square of each token, kept above zero. -/
def meansq : FVec Ideal S2x2048x1 .f32 :=
  addf (Host.divf (broadcastInDim S2x2048x1 ![0, 1] bcast_S2x2048_S2x2048x1_0_1
    (Host.reduceAdd (mulf a0 a0) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

/-- The normed tokens. -/
def normed : FVec Ideal S2x2048x1024 .f32 := mulf a0 (broadcastInDim S2x2048x1024 ![0, 1, 2] bcast_S2x2048x1_S2x2048x1024_0_1_2 (Host.rsqrt (meansq a0)))

/-- The gain along the tokens. -/
def gain : FVec Ideal S2x2048x1024 .f32 := broadcastInDim S2x2048x1024 ![0, 1, 2] bcast_S1x1x1024_S2x2048x1024_0_1_2
  (broadcastInDim S1x1x1024 ![2] bcast_S1024_S1x1x1024_2 (shapeCast S1024 a1 shapeCasts_S1x1024_S1024))

/-- The cotangent pulled back through the weight. -/
def pulled : FVec Ideal S2x2048x1024 .f32 := Host.dotGeneral dot_S2x2048x2816_S1024x2816_S2x2048x1024_2_1_01_0_n_n none a4
  (shapeCast S1024x2816 a2 shapeCasts_S1x1024x2816_S1024x2816)

/-- The part of the norm's derivative that goes through the mean square. -/
def through (d : FVec Ideal S2x2048x1024 .f32) : FVec Ideal S2x2048x1024 .f32 :=
  broadcastInDim S2x2048x1024 ![0, 1] bcast_S2x2048_S2x2048x1024_0_1 (Host.reduceAdd (Host.divf (mulf
    (shapeCast S2x2048x1 (Host.reduceAdd (mulf a0 d) (constant S_ .f32 0x00000000#32) reducesTo_S2x2048x1024_S2x2048_d2 h_S_) shapeCasts_S2x2048_S2x2048x1)
    (mulf (broadcastInDim S2x2048x1 ![] bcast_S_S2x2048x1 (constant S_ .f32 0xBF000000#32)) (Host.divf (Host.rsqrt (meansq a0)) (meansq a0))))
    (broadcastInDim S2x2048x1 ![] bcast_S_S2x2048x1 (constant S_ .f32 0x44800000#32))) (constant S_ .f32 0x00000000#32) reducesTo_S2x2048x1_S2x2048_d2 h_S_)

variable {a0 a1 a2 a4} {A : Args} (R : Arrays A a0 a1 a2 a4)
include R

variable (b : Fin 2) (t : Fin 2048) (k : Fin 1024)

theorem meansq_at (z : Fin 1) : meansq a0 (ix3 b t z) = msq (A.x b t) := by
  pointwise [meansq]
  simp only [R.x b t _]
  rfl

theorem rs_at (z : Fin 1) : Host.rsqrt (meansq a0) (ix3 b t z) = rs (A.x b t) := by
  pointwise
  rw [meansq_at R, rs]

theorem normed_at : normed a0 (ix3 b t k) = (nx (A.x b t) k) := by
  have h := rs_at R b t
  unfold normed
  generalize Host.rsqrt (meansq a0) = r at h ⊢
  pointwise
  simp only [h, R.x b t k, nx]

theorem gain_at : gain a1 (ix3 b t k) = (A.g k) := by
  rw [← R.g 0]
  pointwise [gain]

theorem pulled_at : pulled a2 a4 (ix3 b t k) = (dh A.w (A.d b t) k) := by
  pointwise [pulled]
  simp only [R.d b t _, R.w _ k _, dh]

theorem through_at {y : FVec Ideal S2x2048x1024 .f32} {d : Fin 2 → Fin 2048 → Feat} (hy : ∀ b t k, y (ix3 b t k) = d b t k) :
    through a0 y (ix3 b t k) = via (A.x b t) (d b t) := by
  have h := rs_at R b t
  have hm := meansq_at R b t
  unfold through
  generalize Host.rsqrt (meansq a0) = r at h ⊢
  generalize meansq a0 = q at hm ⊢
  pointwise
  simp only [Fin.sum_univ_one]
  pointwise
  simp only [h, hm, hy b t _, R.x b t _]
  rfl

/-- The input's gradient as the derivative writes it. -/
theorem read_dx : shapeCast S4096x1024 (addf (addf (addf a3 (mulf (mulf (pulled a2 a4) (gain a1)) (broadcastInDim S2x2048x1024 ![0, 1, 2] bcast_S2x2048x1_S2x2048x1024_0_1_2
      (Host.rsqrt (meansq a0))))) (mulf a0 (through a0 (mulf (pulled a2 a4) (gain a1))))) (mulf (through a0 (mulf (pulled a2 a4) (gain a1))) a0))
      shapeCasts_S2x2048x1024_S4096x1024 = gx A a3 := by
  funext i
  obtain ⟨s, k, rfl⟩ : ∃ (s : Fin 4096) (k : Fin 1024), i = ix2 s k := ⟨i 0, i 1, eq_ix2 i⟩
  have h := rs_at R
  have hy : ∀ b t k, mulf (pulled a2 a4) (gain a1) (ix3 b t k) = (dh A.w (A.d b t) k * A.g k) := fun b t k => by
    pointwise
    rw [pulled_at R, gain_at R]
  generalize mulf (pulled a2 a4) (gain a1) = y at hy ⊢
  have ht := fun b t k => through_at R b t k hy
  generalize through a0 y = u at ht ⊢
  generalize Host.rsqrt (meansq a0) = r at h ⊢
  pointwise
  simp only [h, hy, ht, R.x]
  rw [add_assoc, add_assoc, mul_comm _ (A.x _ _ _)]
  exact congrArg (a3 _ + ·) (dnx_chain (A.x _ _) (fun k => dh A.w (A.d _ _) k * A.g k) k)

/-- The weight's gradient as the derivative writes it. -/
theorem read_dw : transpose S2816x1024 [1, 0] (shapeCast S1024x2816 (broadcastInDim S1x1024x2816 ![1, 2] bcast_S1024x2816_S1x1024x2816_1_2
      (transpose S1024x2816 [1, 0] (Host.dotGeneral dot_S2x2048x2816_S2x2048x1024_S2816x1024_01_01_2_2_n_n none a4 (mulf (normed a0) (gain a1)))
        transposes_S2816x1024_S1024x2816_1_0)) shapeCasts_S1x1024x2816_S1024x2816) transposes_S1024x2816_S2816x1024_1_0
    = fun i => (A.dw (i 0) (i 1)) := by
  funext i
  obtain ⟨n, k, rfl⟩ : ∃ (n : Fin 2816) (k : Fin 1024), i = ix2 n k := ⟨i 0, i 1, eq_ix2 i⟩
  pointwise
  simp only [normed_at R, gain_at R, R.d]
  rfl

/-- The gain's. -/
theorem read_dg : broadcastInDim S1x1024 ![1] bcast_S1024_S1x1024_1 (Host.reduceAdd (shapeCast S1x1x1024 (Host.reduceAdd
      (mulf (normed a0) (pulled a2 a4)) (constant S_ .f32 0x00000000#32) reducesTo_S2x2048x1024_S1024_d0_1 h_S_) shapeCasts_S1024_S1x1x1024)
      (constant S_ .f32 0x00000000#32) reducesTo_S1x1x1024_S1024_d0_1 h_S_) = fun i => (A.dg (i 1)) := by
  funext i
  obtain ⟨z, k, rfl⟩ : ∃ (z : Fin 1) (k : Fin 1024), i = ix2 z k := ⟨i 0, i 1, eq_ix2 i⟩
  pointwise
  rw [Common.hostSum_3_01]
  simp only [Fin.sum_univ_one]
  pointwise
  rw [Common.hostSum_3_01]
  pointwise
  simp only [normed_at R, pulled_at R]
  simp only [Args.dg, Args.dgt, mul_comm]

end Cert.In

end
-- ==== Proof.In.Claim.lean ====
/- The input projection's backward call: its frames and its three gradients. -/
module

public import proofs.«01_k».proof.Defs
public import proofs.«01_k».proof.Proof.In.Reference
public import proofs.«01_k».proof.Proof.Gen.InBwd.Frame

@[expose] public section

set_option maxRecDepth 16384

noncomputable section

namespace Cert.In

open Idealize.ShloMosaic Idealize.ShloMosaic.TcCoe Idealize.SL.Sem

/-- What a device's arguments hold. -/
def argsOf (m : (ℓ : Loc InBwdIdeal.nD InBwdIdeal.τ InBwdIdeal.sig) → Buf (Elt Ideal) ℓ) (c : Dev InBwdIdeal.nD) : Args where
  x b t k := (m (c.tc.loc InBwdIdeal.main_arg0) : FVec Ideal InBwdIdeal.S2x2048x1024 .f32) (ix3 b t k)
  g k := (m (c.tc.loc InBwdIdeal.main_arg1) : FVec Ideal InBwdIdeal.S1x1024 .f32) (ix2 0 k)
  w n k := (m (c.tc.loc InBwdIdeal.main_arg2) : FVec Ideal InBwdIdeal.S1x1024x2816 .f32) (ix3 0 k n)
  d b t n := (m (c.tc.loc InBwdIdeal.main_arg4) : FVec Ideal InBwdIdeal.S2x2048x2816 .f32) (ix3 b t n)

theorem held (m : (ℓ : Loc InBwdIdeal.nD InBwdIdeal.τ InBwdIdeal.sig) → Buf (Elt Ideal) ℓ) (c : Dev InBwdIdeal.nD) : Held m c (argsOf m c) := by
  refine ⟨fun _ _ _ => rfl, fun a _ => ?_, fun a _ _ => ?_, fun _ _ _ => rfl⟩
  all_goals obtain rfl : a = 0 := Subsingleton.elim _ _
  · rfl
  · rfl

theorem frame_kernel : Cert.quiescent_InBwd := fun m ρ _ => Cert.InBwd.Gen.frame m ρ

theorem frame_ideal : Cert.quiescent_InBwdIdeal := fun m ρ _ => Cert.InBwdIdeal.Gen.frame m ρ

theorem frame_reference : Cert.quiescent_InGradIdeal := by
  intro m g _
  exact (θ_run Cert.InGradIdeal.defs _ _).mono
    (fun r h => ⟨fun c => (h c).2.2.2, sem_eq_zero_of_no_sems (by decide) r.2⟩) (Cert.InGradIdeal.Value.run m g)

/-- Kernel and derivative of the forward lines compute the same three gradients. -/
theorem algebraic : Cert.algebraic_InBwdIdeal_InGradIdeal := by
  intro m g m' g' _ hagree
  refine ⟨fun c => gx (argsOf m c) (m (c.tc.loc InBwdIdeal.main_arg3)), fun c i => ((argsOf m c).dw (i 0) (i 1)),
    fun c i => ((argsOf m c).dg (i 1)),
    (θ_run _ _ _).mono (fun r h c => ?_) (Cert.InBwdIdeal.Value.run_blocks m g),
    (θ_run _ _ _).mono (fun r h c => ?_) (Cert.InGradIdeal.Value.run m' g')⟩
  · have H := held m c
    obtain ⟨h0, h2, k0, k1, k2, k3, k4, h1⟩ := h c
    exact ⟨h0.trans (kernel_gx H), h1.trans (kernel_dw H), h2.trans (kernel_dg H), k0, k1, k2, k3, k4⟩
  · have H := held m c
    obtain ⟨e0, e1, e2, e3, e4⟩ := hagree c
    have R : Arrays (argsOf m c) (m' (c.tc.loc InGradIdeal.main_arg0)) (m' (c.tc.loc InGradIdeal.main_arg1)) (m' (c.tc.loc InGradIdeal.main_arg2))
        (m' (c.tc.loc InGradIdeal.main_arg4)) := by
      refine ⟨fun b t x => ?_, fun a x => ?_, fun a k n => ?_, fun b t x => ?_⟩
      · exact (congrFun e0 _).trans (H.x b t x)
      · exact (congrFun e1 _).trans (H.g a x)
      · exact (congrFun e2 _).trans (H.w a k n)
      · exact (congrFun e4 _).trans (H.d b t x)
    obtain ⟨h0, h1, h2, hargs⟩ := h c
    exact ⟨h0.trans ((read_dx _ R).trans (congrArg _ e3)), h1.trans (read_dw R), h2.trans (read_dg R), hargs⟩

end Cert.In

end
-- ==== Proof.Out.Spec.lean ====
/- The forward step's mixers and the loss's gradient with respect to the step's output, as functions of the arguments on the
   extended reals: the gate on blocks of 128 tokens, the attention over a window of 128 tokens with a sink, the attention over
   the memory, and the normalised projection of their product with the gated input. -/
module

public import Idealize.ShloMosaic.Lib.Pointwise
public import Idealize.ShloMosaic.PureOps.Ideal.Laws

@[expose] public section

noncomputable section

namespace Cert.Out

open Idealize.ShloMosaic

def gA : EReal := ((8943 / 200000 : ℝ) : EReal)
def gC : EReal := Ideal.ofBits .f32 0x3F4C422A#32
def eps : EReal := Ideal.ofBits .f32 0x358637BD#32
def half : EReal := Ideal.ofBits .f32 0x3F000000#32
def eighth : EReal := Ideal.ofBits .f32 0x3E000000#32

/-- The gate's activation. -/
def gel (x : EReal) : EReal := half * x * (1 + Ideal.tanh (gC * (x + gA * x * (x * x))))

/-- The mean of a row, the row centred, and normalised. -/
def mean (v : Fin 128 → EReal) : EReal := Ideal.div (∑ i, v i) (Ideal.ofBits .f32 0x43000000#32)
def cen (v : Fin 128 → EReal) (j : Fin 128) : EReal := v j - mean v
def nrm (v : Fin 128 → EReal) (j : Fin 128) : EReal := cen v j * Ideal.rsqrt (mean (fun i => cen v i * cen v i) + eps)

abbrev Blk := Fin 128 → Fin 128 → EReal

/-- The gate on one block of tokens and one group of channels. -/
def gate (u v : Blk) (gam bet : Fin 128 → EReal) (w : Blk) (bs : Fin 128 → EReal) (i j : Fin 128) : EReal :=
  gel (u i j) * ((∑ k, w i k * (nrm (fun q => gel (v k q)) j * gam j + bet j)) + bs i)

/-- A query's scores against a row of keys. -/
def score {n : ℕ} (q : Fin 64 → EReal) (k : Fin n → Fin 64 → EReal) (j : Fin n) : EReal := (∑ d, q d * k j d) * eighth

def top {n : ℕ} (z : Fin n → EReal) : EReal := Finset.univ.fold max (Ideal.ofBits .f32 0xFF800000#32) z

/-- The average of the values, weighted by the exponentials of the logits, with a sink among the weights. -/
def sinkAvg (z : Fin 256 → EReal) (s : EReal) (v : Fin 256 → EReal) : EReal :=
  ∑ j, Ideal.exp (z j - max (top z) s) * Ideal.div 1 ((∑ i, Ideal.exp (z i - max (top z) s)) + Ideal.exp (s - max (top z) s)) * v j

/-- The same without a sink. -/
def softAvg (z : Fin 256 → EReal) (v : Fin 256 → EReal) : EReal :=
  ∑ j, Ideal.exp (z j - top z) * Ideal.div 1 (∑ i, Ideal.exp (z i - top z)) * v j

/-- The bucket of a distance: below sixteen its own, above one for each of the bounds that it reaches. -/
def bounds : List ℕ := [19, 21, 24, 27, 31, 35, 40, 46, 52, 59, 67, 77, 87, 99, 113]
def bucketN (d : ℕ) : ℕ := if d < 16 then d else 16 + (bounds.filter (· ≤ d)).length

theorem bucketN_lt (d : ℕ) : bucketN d < 32 := by
  have := List.length_filter_le (fun x => decide (x ≤ d)) bounds
  have e : bounds.length = 15 := rfl
  unfold bucketN
  split_ifs <;> omega

def bucket (d : ℕ) : Fin 32 := ⟨bucketN d, bucketN_lt d⟩

/-- The arguments. -/
structure Args where
  uv : Fin 2 → Fin 2048 → Fin 1024 → EReal
  z : Fin 2 → Fin 2048 → Fin 1024 → EReal
  qkv : Fin 2 → Fin 2048 → Fin 768 → EReal
  mkv : Fin 2 → Fin 256 → Fin 512 → EReal
  x : Fin 2 → Fin 2048 → Fin 1024 → EReal
  tgt : Fin 2 → Fin 2048 → Fin 1024 → EReal
  vg : Fin 512 → EReal
  vb : Fin 512 → EReal
  ws : Fin 4 → Fin 128 → Fin 128 → EReal
  bs : Fin 4 → Fin 128 → EReal
  sink : Fin 4 → EReal
  rel : Fin 32 → Fin 4 → EReal
  g2 : Fin 1024 → EReal
  wo : Fin 1024 → Fin 1024 → EReal

/-- Token `i` of block `n`. -/
def tok (n : Fin 16) (i : Fin 128) : Fin 2048 := ⟨n.val * 128 + i.val, by omega⟩

/-- Row `j` of the band of block `n`: the block before it, then the block itself. -/
def band (n : Fin 16) (j : Fin 256) : Fin 2048 := if h : j.val < 128 then ⟨(n.val - 1) * 128 + j.val, by omega⟩ else ⟨n.val * 128 + (j.val - 128), by omega⟩

def ch (g : Fin 4) (j : Fin 128) : Fin 512 := ⟨g.val * 128 + j.val, by omega⟩
def lo (c : Fin 512) : Fin 1024 := ⟨c.val, by omega⟩
def hi (c : Fin 512) : Fin 1024 := ⟨512 + c.val, by omega⟩

namespace Args

variable (A : Args) (b : Fin 2)

/-- The lower part of the mixing weights. -/
def w (g : Fin 4) (i k : Fin 128) : EReal := A.ws g i k * (if k ≤ i then 1 else 0)

/-- The gate's output. -/
def ya (n : Fin 16) (g : Fin 4) : Blk :=
  gate (fun i j => A.uv b (tok n i) (lo (ch g j))) (fun i j => A.uv b (tok n i) (hi (ch g j))) (fun j => A.vg (ch g j)) (fun j => A.vb (ch g j))
    (A.w g) (A.bs g)

/-- The window: `j` of the band is seen by `i` of the block. -/
def bias (h : Fin 4) (i : Fin 128) (j : Fin 256) : EReal := if i.val < j.val ∧ j.val ≤ i.val + 128 then A.rel (bucket (i.val + 128 - j.val)) h else ⊥

/-- The first block has no block before it. -/
def first (n : Fin 16) (j : Fin 256) : EReal := if j.val < 128 ∧ n.val = 0 then ⊥ else 0

def q (s : Fin 2048) (h : Fin 4) (d : Fin 64) : EReal := A.qkv b s ⟨h.val * 64 + d.val, by omega⟩
def k (s : Fin 2048) (h : Fin 2) (d : Fin 64) : EReal := A.qkv b s ⟨256 + (h.val * 64 + d.val), by omega⟩
def v (s : Fin 2048) (h : Fin 2) (d : Fin 64) : EReal := A.qkv b s ⟨384 + (h.val * 64 + d.val), by omega⟩
def cq (s : Fin 2048) (h : Fin 4) (d : Fin 64) : EReal := A.qkv b s ⟨512 + (h.val * 64 + d.val), by omega⟩
def mkey (s : Fin 256) (h : Fin 4) (d : Fin 64) : EReal := A.mkv b s ⟨h.val * 64 + d.val, by omega⟩
def mval (s : Fin 256) (h : Fin 4) (d : Fin 64) : EReal := A.mkv b s ⟨256 + (h.val * 64 + d.val), by omega⟩

/-- The head of keys and values that a head of queries reads. -/
def kvh (h : Fin 4) : Fin 2 := ⟨h.val / 2, by omega⟩

def logit (n : Fin 16) (h : Fin 4) (i : Fin 128) (j : Fin 256) : EReal :=
  score (A.q b (tok n i) h) (fun j => A.k b (band n j) (kvh h)) j + A.bias h i j + first n j

/-- The window attention's output. -/
def yw (n : Fin 16) (h : Fin 4) (i : Fin 128) (d : Fin 64) : EReal := sinkAvg (A.logit b n h i) (A.sink h) (fun j => A.v b (band n j) (kvh h) d)

/-- The memory attention's output. -/
def yc (s : Fin 2048) (h : Fin 4) (d : Fin 64) : EReal := softAvg (score (A.cq b s h) (fun j => A.mkey b j h)) (fun j => A.mval b j h d)

/-- The three outputs side by side. -/
def ycat (s : Fin 2048) (c : Fin 1024) : EReal :=
  if h : c.val < 512 then A.ya b ⟨s.val / 128, by omega⟩ ⟨c.val / 128, by omega⟩ ⟨s.val % 128, by omega⟩ ⟨c.val % 128, by omega⟩
  else if h' : c.val < 768 then A.yw b ⟨s.val / 128, by omega⟩ ⟨(c.val - 512) / 64, by omega⟩ ⟨s.val % 128, by omega⟩ ⟨c.val % 64, by omega⟩
  else A.yc b s ⟨(c.val - 768) / 64, by omega⟩ ⟨c.val % 64, by omega⟩

/-- Their product with the gated input, projected. -/
def y (s : Fin 2048) (c : Fin 1024) : EReal := A.ycat b s c * (A.z b s c * Ideal.div 1 (1 + Ideal.exp (-A.z b s c)))
def o (s : Fin 2048) (j : Fin 1024) : EReal := ∑ c, A.y b s c * A.wo c j
def r2 (s : Fin 2048) : EReal := Ideal.rsqrt (Ideal.div (∑ j, A.o b s j * A.o b s j) (Ideal.ofBits .f32 0x44800000#32) + eps)
def err (s : Fin 2048) (j : Fin 1024) : EReal := A.x b s j + A.o b s j * A.r2 b s * A.g2 j - A.tgt b s j

/-- The loss's gradient with respect to the step's output. -/
def dxo (s : Fin 2048) (j : Fin 1024) : EReal := A.err b s j * Ideal.ofBits .f32 0x3A800000#32

end Args

end Cert.Out

end
-- ==== Proof.Out.Block.lean ====
/- The kernel's operations on one block of tokens as functions of the loaded blocks, and their entries on the extended reals: the
   gate on a group of channels, and the window attention on a pair of heads. A head is a half of a block of 128 channels, the
   other half masked out of the queries; the keys and values of one head stand in both halves. -/
module

public import proofs.«01_k».proof.Proof.Gen.MixFwdIdeal
public import proofs.«01_k».proof.Proof.Out.Spec

@[expose] public section

set_option maxRecDepth 16384

noncomputable section

namespace Cert.Out

open Idealize.ShloMosaic Cert.MixFwdIdeal Cert.MixFwdIdeal.Gen

abbrev B128 := FVec Ideal S128x128 .f32
abbrev C128 := FVec Ideal S128x1 .f32
abbrev R128 := FVec Ideal S1x128 .f32
abbrev H128 := FVec Ideal S128x128 .bf16
abbrev W256 := FVec Ideal S128x256 .f32
abbrev K128 := FVec Ideal S256x128 .bf16
abbrev T128 := FVec Ideal S256x128 .f32

def kgel (x : B128) : B128 :=
  mulf (mulf (broadcast S128x128 (Scalar.ofBits .f32 0x3F000000#32)) x) (addf (broadcast S128x128 (Scalar.ofBits .f32 0x3F800000#32))
    (tanh (mulf (broadcast S128x128 (Scalar.ofBits .f32 0x3F4C422A#32)) (addf x (mulf (mulf (broadcast S128x128 (Named.named κ "gelu_a" 0x3D372713#32)) x) (mulf x x))))))

def kmean (x : B128) : C128 :=
  divf (shapeCast S128x1 (multiReduction .add [1] S128 x 0x00000000#32 reduces_S128x128_S128 (.inl rfl) rfl) shapeCasts_S128_S128x1)
    (broadcast S128x1 (Scalar.ofBits .f32 0x43000000#32))

def kcen (x : B128) : B128 := subf x (broadcastTo S128x128 (kmean x) broadcasts_S128x1_S128x128)

def knrm (x : B128) : B128 :=
  mulf (kcen x) (broadcastTo S128x128 (rsqrt (addf (kmean (mulf (kcen x) (kcen x))) (broadcast S128x1 (Scalar.ofBits .f32 0x358637BD#32)))) broadcasts_S128x1_S128x128)

def kgate (u v : B128) (gam bet : R128) (w : H128) (bc : B128) : B128 :=
  mulf (kgel u) (addf (matmul dot_S128x128_S128x128_S128x128_1_0_0_1_n_n none w (truncf .bf16 (addf (mulf (knrm (kgel v))
    (broadcastTo S128x128 gam broadcasts_S1x128_S128x128)) (broadcastTo S128x128 bet broadcasts_S1x128_S128x128)) bitsLt_bf16_f32)
    (constant S128x128 .f32 0x00000000#32)) bc)

/-- A block holds the entries `x`. -/
def Holds {a b : ℕ} (X : (⟨2, ![a, b]⟩ : Shape).Idx → EReal) (x : Fin a → Fin b → EReal) : Prop := ∀ i j, X (ix2 i j) = x i j

theorem word_one : (Ideal.ofBits .f32 0x3F800000#32 : EReal) = 1 := by
  simp [Ideal.ofBits, Ideal.ieee, -EReal.coe_mul]; norm_num

theorem named_a : (Named.named (F := Ideal) κ "gelu_a" (φ := .f32) 0x3D372713#32 : EReal) = gA :=
  IdealRules.named_const.ideal_named_scalar _ _ _ _ rfl

theorem named_neg : (Named.named (F := Ideal) κ "neg" (φ := .f32) 0xF149F2CA#32 : EReal) = ⊥ :=
  IdealRules.named_const.ideal_named_scalar _ _ _ _ rfl

theorem kgel_holds {X : B128} {x : Blk} (h : Holds X x) : Holds (kgel X) (fun i j => gel (x i j)) := by
  intro i j
  pointwise [kgel]
  simp only [named_a, h i j]
  rfl

theorem kmean_holds {X : B128} {x : Blk} (h : Holds X x) : Holds (kmean X) (fun i _ => mean (x i)) := by
  intro i j
  pointwise [kmean]
  simp only [h i _]
  rfl

theorem kcen_holds {X : B128} {x : Blk} (h : Holds X x) : Holds (kcen X) (fun i j => cen (x i) j) := by
  intro i j
  pointwise [kcen]
  simp only [h i j, kmean_holds h i _, cen]

theorem mulf_holds {X Y : B128} {x y : Blk} (h : Holds X x) (k : Holds Y y) : Holds (mulf X Y) (fun i j => x i j * y i j) := by
  intro i j
  pointwise
  simp only [h i j, k i j]

theorem knrm_holds {X : B128} {x : Blk} (h : Holds X x) : Holds (knrm X) (fun i => nrm (x i)) := by
  intro i j
  pointwise [knrm]
  rw [kcen_holds h i j, kmean_holds (mulf_holds (kcen_holds h) (kcen_holds h)) i _]
  rfl

theorem kgate_holds {u v : B128} {gam bet : R128} {w : H128} {bc : B128} {U V Wt : Blk} {G Be bs : Fin 128 → EReal} (hu : Holds u U) (hv : Holds v V)
    (hg : Holds gam fun _ => G) (hb : Holds bet fun _ => Be) (hw : Holds w Wt) (hc : Holds bc fun i _ => bs i) :
    Holds (kgate u v gam bet w bc) (gate U V G Be Wt bs) := by
  intro i j
  pointwise [kgate]
  simp only [kgel_holds hu i j, hw i _, hc i j, fun k => knrm_holds (kgel_holds hv) k j, hg _ j, hb _ j]
  rfl

/-- The channels of the first head of a block, and of the second. -/
def lowB : IVec S128x128 1 := cmpi .slt (iota .tc S128x128 32 [1] iota_S128x128_d1_w32) (broadcast S128x128 64#32)
def highB : IVec S128x128 1 := xori lowB (constantI S128x128 1 1#1)
def lowT : IVec S256x128 1 := cmpi .slt (iota .tc S256x128 32 [1] iota_S256x128_d1_w32) (broadcast S256x128 64#32)
def highT : IVec S256x128 1 := xori lowT (constantI S256x128 1 1#1)

/-- The head of a channel, and its place in the head. -/
def hd (c : Fin 128) : Fin 2 := ⟨c.val / 64, by omega⟩
def inHd (c : Fin 128) : Fin 64 := ⟨c.val % 64, by omega⟩
def ofHd (h : Fin 2) (d : Fin 64) : Fin 128 := ⟨h.val * 64 + d.val, by omega⟩

/-- The mask `m` is true exactly on the channels of head `h`. -/
def Mask {a : ℕ} (m : IVec ⟨2, ![a, 128]⟩ 1) (h : Fin 2) : Prop := ∀ i j, m (ix2 i j) = BitVec.ofBool (decide (hd j = h))

theorem low_bit : ∀ j : Fin 128, IntOp.cmpi .slt (BitVec.ofNat 32 j.val) 64#32 = BitVec.ofBool (decide (hd j = 0)) := by decide
theorem high_bit : ∀ j : Fin 128, IntOp.xori (BitVec.ofBool (decide (hd j = 0))) 1#1 = BitVec.ofBool (decide (hd j = 1)) := by decide

theorem lowB_mask : Mask lowB 0 := by
  intro i j
  pointwise [lowB]
  exact low_bit j

theorem highB_mask : Mask highB 1 := by
  intro i j
  pointwise [highB]
  rw [lowB_mask i j, high_bit]

theorem lowT_mask : Mask lowT 0 := by
  intro i j
  pointwise [lowT]
  exact low_bit j

theorem highT_mask : Mask highT 1 := by
  intro i j
  pointwise [highT]
  rw [lowT_mask i j, high_bit]

theorem hd_ofHd (h : Fin 2) (d : Fin 64) : hd (ofHd h d) = h := Fin.ext (by simp [hd, ofHd]; omega)

/-- A sum over the channels of one head. -/
theorem sum_head (h : Fin 2) (f : Fin 128 → EReal) : (∑ c, if hd c = h then f c else 0) = ∑ d, f (ofHd h d) := by
  rw [Fin.sum_univ_add (a := 64) (b := 64) (fun c : Fin 128 => if hd c = h then f c else 0)]
  have e0 : ∀ d : Fin 64, hd (Fin.castAdd 64 d) = 0 := fun d => Fin.ext (by simp [hd])
  have e1 : ∀ d : Fin 64, hd (Fin.natAdd 64 d) = 1 := fun d => Fin.ext (by simp [hd])
  have f0 : ∀ d : Fin 64, (Fin.castAdd 64 d : Fin 128) = ofHd 0 d := fun d => Fin.ext (by simp [ofHd])
  have f1 : ∀ d : Fin 64, (Fin.natAdd 64 d : Fin 128) = ofHd 1 d := fun d => Fin.ext (by simp [ofHd]; omega)
  obtain rfl | rfl : h = 0 ∨ h = 1 := by omega
  · simp only [e0, e1, f0, hd_ofHd, if_true, if_neg (by decide : ¬(1 : Fin 2) = 0), Finset.sum_const_zero, add_zero]
  · simp only [e0, e1, f1, hd_ofHd, if_true, if_neg (by decide : ¬(0 : Fin 2) = 1), Finset.sum_const_zero, zero_add]

theorem sum_keep (h : Fin 2) (q k : Fin 128 → EReal) : (∑ c, (if hd c = h then q c else 0) * k c) = ∑ d, q (ofHd h d) * k (ofHd h d) := by
  rw [← sum_head h fun c => q c * k c]
  exact Finset.sum_congr rfl fun c _ => by split_ifs <;> simp

def wq (m : IVec S128x128 1) (q : H128) : H128 :=
  truncf .bf16 (select m (extf .f32 q bitsLt_bf16_f32) (broadcast S128x128 (Scalar.ofBits .f32 0x00000000#32))) bitsLt_bf16_f32

def wband (a b : H128) : K128 := concatenate S256x128 0 [⟨S128x128, a⟩, ⟨S128x128, b⟩] concatenates_S128x128_S128x128_S256x128_d0

def wroll (x : K128) : T128 := dynamicRotate 1 64#32 none (extf .f32 x bitsLt_bf16_f32) rotates_S256x128_d1
def wdup0 (x : K128) : K128 := truncf .bf16 (select lowT (extf .f32 x bitsLt_bf16_f32) (wroll x)) bitsLt_bf16_f32
def wdup1 (x : K128) : K128 := truncf .bf16 (select lowT (wroll x) (extf .f32 x bitsLt_bf16_f32)) bitsLt_bf16_f32

def wlog (m : IVec S128x128 1) (q : H128) (kd : K128) (bias fa : W256) : W256 :=
  addf (addf (mulf (matmul dot_S128x128_S256x128_S128x256_1_1_0_0_n_n none (wq m q) kd (constant S128x256 .f32 0x00000000#32))
    (broadcast S128x256 (Scalar.ofBits .f32 0x3E000000#32))) bias) fa

def wmax (z : W256) (s : Elt Ideal .f32) : C128 :=
  maximumf (shapeCast S128x1 (multiReduction .maximumf [1] S128 z 0xFF800000#32 reduces_S128x256_S128 (.inl rfl) rfl) shapeCasts_S128_S128x1) (broadcast S128x1 s)

def wexp (z : W256) (s : Elt Ideal .f32) : W256 := exp (subf z (broadcastTo S128x256 (wmax z s) broadcasts_S128x1_S128x256))

def wprob (z : W256) (s : Elt Ideal .f32) : W256 :=
  mulf (wexp z s) (broadcastTo S128x256 (divf (broadcast S128x1 (Scalar.ofBits .f32 0x3F800000#32))
    (addf (shapeCast S128x1 (multiReduction .add [1] S128 (wexp z s) 0x00000000#32 reduces_S128x256_S128 (.inl rfl) rfl) shapeCasts_S128_S128x1)
      (exp (subf (broadcast S128x1 s) (wmax z s))))) broadcasts_S128x1_S128x256)

def wout (z : W256) (s : Elt Ideal .f32) (vd : K128) : B128 :=
  matmul dot_S128x256_S256x128_S128x128_1_0_0_1_n_n none (truncf .bf16 (wprob z s) bitsLt_bf16_f32) vd (constant S128x128 .f32 0x00000000#32)

/-- The window attention on a pair of heads. -/
def wpair (q : H128) (kd vd : K128) (b0 b1 : W256) (s0 s1 : Elt Ideal .f32) (fa : W256) : B128 :=
  select lowB (wout (wlog lowB q kd b0 fa) s0 vd) (wout (wlog highB q kd b1 fa) s1 vd)

theorem wq_holds {m : IVec S128x128 1} {h : Fin 2} {Q : H128} {q : Blk} (hm : Mask m h) (hq : Holds Q q) :
    Holds (wq m Q) fun i c => if hd c = h then q i c else 0 := by
  intro i j
  pointwise [wq]
  rw [hm i j, hq i j]
  by_cases e : hd j = h <;> simp [e, Scalar.select]

theorem wband_holds {X Y : H128} {x y : Blk} (hx : Holds X x) (hy : Holds Y y) :
    Holds (wband X Y) fun j c => if h : j.val < 128 then x ⟨j.val, h⟩ c else y ⟨j.val - 128, by omega⟩ c := by
  intro i j
  pointwise [wband]
  by_cases h : i.val < 128
  · simp only [dif_pos h, hx _ j]
  · simp only [dif_neg h, hy _ j]

theorem wroll_holds {X : K128} {x : Fin 256 → Fin 128 → EReal} (hx : Holds X x) : Holds (wroll X) fun i c => x i ⟨(c.val + 64) % 128, by omega⟩ := by
  intro i j
  pointwise [wroll]
  rw [hx]
  congr 1

theorem wdup0_holds {X : K128} {x : Fin 256 → Fin 128 → EReal} (hx : Holds X x) : Holds (wdup0 X) fun i c => x i (ofHd 0 (inHd c)) := by
  have key : ∀ c : Fin 128, (hd c = 0 → c = ofHd 0 (inHd c)) ∧ (¬hd c = 0 → (⟨(c.val + 64) % 128, by omega⟩ : Fin 128) = ofHd 0 (inHd c)) := by decide
  intro i j
  pointwise [wdup0]
  rw [lowT_mask i j, hx i j, wroll_holds hx i j]
  by_cases e : hd j = 0
  · refine Eq.trans ?_ (congrArg (x i) ((key j).1 e))
    simp [e, Scalar.select]
  · refine Eq.trans ?_ (congrArg (x i) ((key j).2 e))
    simp [e, Scalar.select]

theorem wdup1_holds {X : K128} {x : Fin 256 → Fin 128 → EReal} (hx : Holds X x) : Holds (wdup1 X) fun i c => x i (ofHd 1 (inHd c)) := by
  have key : ∀ c : Fin 128, (¬hd c = 0 → c = ofHd 1 (inHd c)) ∧ (hd c = 0 → (⟨(c.val + 64) % 128, by omega⟩ : Fin 128) = ofHd 1 (inHd c)) := by decide
  intro i j
  pointwise [wdup1]
  rw [lowT_mask i j, hx i j, wroll_holds hx i j]
  by_cases e : hd j = 0
  · refine Eq.trans ?_ (congrArg (x i) ((key j).2 e))
    simp [e, Scalar.select]
  · refine Eq.trans ?_ (congrArg (x i) ((key j).1 e))
    simp [e, Scalar.select]

theorem wlog_holds {m : IVec S128x128 1} {h : Fin 2} {Q : H128} {q : Blk} {K : K128} {k : Fin 256 → Fin 128 → EReal} {B FA : W256}
    {b fa : Fin 128 → Fin 256 → EReal} (hm : Mask m h) (hq : Holds Q q) (hk : Holds K k) (hb : Holds B b) (hf : Holds FA fa) :
    Holds (wlog m Q K B FA) fun i j => (∑ d, q i (ofHd h d) * k j (ofHd h d)) * eighth + b i j + fa i j := by
  intro i j
  pointwise [wlog]
  simp only [wq_holds hm hq i _, hk j _, hb i j, hf i j, sum_keep]
  rfl

theorem wout_holds {Z : W256} {z : Fin 128 → Fin 256 → EReal} {s : Elt Ideal .f32} {V : K128} {v : Fin 256 → Fin 128 → EReal} (hz : Holds Z z) (hv : Holds V v) :
    Holds (wout Z s V) fun i c => sinkAvg (z i) s (fun j => v j c) := by
  intro i j
  pointwise [wout, wprob, wexp, wmax]
  simp only [hz i _, hv _ j]
  rfl

/-- The two heads of a pair, each from its own logits. -/
theorem wpair_holds {Q : H128} {q : Blk} {K V : K128} {k v : Fin 256 → Fin 64 → EReal} {B0 B1 FA : W256} {b : Fin 2 → Fin 128 → Fin 256 → EReal}
    {fa : Fin 256 → EReal} {s0 s1 : Elt Ideal .f32} {s : Fin 2 → EReal} (hq : Holds Q q) (hk : Holds K fun j c => k j (inHd c)) (hv : Holds V fun j c => v j (inHd c))
    (h0 : Holds B0 (b 0)) (h1 : Holds B1 (b 1)) (e0 : s0 = s 0) (e1 : s1 = s 1) (hf : Holds FA fun _ => fa) :
    Holds (wpair Q K V B0 B1 s0 s1 FA) fun i c =>
      sinkAvg (fun j => score (fun d => q i (ofHd (hd c) d)) k j + b (hd c) i j + fa j) (s (hd c)) (fun j => v j (inHd c)) := by
  have key : ∀ (h : Fin 2) (d : Fin 64), inHd (ofHd h d) = d := fun h d => Fin.ext (by simp [inHd, ofHd])
  subst e0 e1
  intro i j
  pointwise [wpair]
  rw [lowB_mask i j, wout_holds (wlog_holds lowB_mask hq hk h0 hf) hv i j, wout_holds (wlog_holds highB_mask hq hk h1 hf) hv i j]
  simp only [key, score]
  obtain e | e : hd j = 0 ∨ hd j = 1 := by omega
  · simp [e, Scalar.select]
  · simp [e, Scalar.select]

end Cert.Out

end
-- ==== Proof.Out.Tile.lean ====
/- The kernel's operations on a tile of 256 tokens as functions of the loaded blocks, and their entries on the extended reals: the
   attention over the memory on a pair of heads, and the gradient of the loss out of the three mixers' outputs. -/
module

public import proofs.«01_k».proof.Proof.Out.Block

@[expose] public section

set_option maxRecDepth 16384

noncomputable section

namespace Cert.Out

open Idealize.ShloMosaic Cert.MixFwdIdeal Cert.MixFwdIdeal.Gen

abbrev T256 := FVec Ideal S256x256 .f32
abbrev F1024 := FVec Ideal S256x1024 .f32

def cq (m : IVec S256x128 1) (q : K128) : K128 :=
  truncf .bf16 (select m (extf .f32 q bitsLt_bf16_f32) (broadcast S256x128 (Scalar.ofBits .f32 0x00000000#32))) bitsLt_bf16_f32

def clog (m : IVec S256x128 1) (q k : K128) : T256 :=
  mulf (matmul dot_S256x128_S256x128_S256x256_1_1_0_0_n_n none (cq m q) k (constant S256x256 .f32 0x00000000#32)) (broadcast S256x256 (Scalar.ofBits .f32 0x3E000000#32))

def cexp (z : T256) : T256 :=
  exp (subf z (broadcastTo S256x256 (shapeCast S256x1 (multiReduction .maximumf [1] S256 z 0xFF800000#32 reduces_S256x256_S256 (.inl rfl) rfl) shapeCasts_S256_S256x1)
    broadcasts_S256x1_S256x256))

def cprob (z : T256) : T256 :=
  mulf (cexp z) (broadcastTo S256x256 (divf (broadcast S256x1 (Scalar.ofBits .f32 0x3F800000#32))
    (shapeCast S256x1 (multiReduction .add [1] S256 (cexp z) 0x00000000#32 reduces_S256x256_S256 (.inl rfl) rfl) shapeCasts_S256_S256x1)) broadcasts_S256x1_S256x256)

def cout (z : T256) (v : K128) : T128 :=
  matmul dot_S256x256_S256x128_S256x128_1_0_0_1_n_n none (truncf .bf16 (cprob z) bitsLt_bf16_f32) v (constant S256x128 .f32 0x00000000#32)

/-- The attention over the memory on a pair of heads. -/
def cpair (q k v : K128) : T128 := select lowT (cout (clog lowT q k) v) (cout (clog highT q k) v)

variable {Q K V : K128} {q k v : Fin 256 → Fin 128 → EReal}

theorem cq_holds {m : IVec S256x128 1} {h : Fin 2} (hm : Mask m h) (hq : Holds Q q) : Holds (cq m Q) fun i c => if hd c = h then q i c else 0 := by
  intro i j
  pointwise [cq]
  rw [hm i j, hq i j]
  by_cases e : hd j = h <;> simp [e, Scalar.select]

theorem clog_holds {m : IVec S256x128 1} {h : Fin 2} (hm : Mask m h) (hq : Holds Q q) (hk : Holds K k) :
    Holds (clog m Q K) fun i => score (fun d => q i (ofHd h d)) fun j d => k j (ofHd h d) := by
  intro i j
  pointwise [clog]
  simp only [cq_holds hm hq i _, hk j _, sum_keep]
  rfl

theorem cout_holds {Z : T256} {z : Fin 256 → Fin 256 → EReal} (hz : Holds Z z) (hv : Holds V v) : Holds (cout Z V) fun i c => softAvg (z i) (fun j => v j c) := by
  intro i j
  pointwise [cout, cprob, cexp]
  simp only [hz i _, hv _ j]
  rfl

theorem cpair_holds (hq : Holds Q q) (hk : Holds K k) (hv : Holds V v) :
    Holds (cpair Q K V) fun i c => softAvg (score (fun d => q i (ofHd (hd c) d)) fun j d => k j (ofHd (hd c) d)) fun j => v j c := by
  intro i j
  pointwise [cpair]
  rw [lowT_mask i j, cout_holds (clog_holds lowT_mask hq hk) hv i j, cout_holds (clog_holds highT_mask hq hk) hv i j]
  obtain e | e : hd j = 0 ∨ hd j = 1 := by omega
  · simp [e, Scalar.select]
  · simp [e, Scalar.select]

def ksilu (z : F1024) : F1024 :=
  mulf z (divf (broadcast S256x1024 (Scalar.ofBits .f32 0x3F800000#32)) (addf (broadcast S256x1024 (Scalar.ofBits .f32 0x3F800000#32))
    (exp (subf (broadcast S256x1024 (Scalar.ofBits .f32 0x00000000#32)) z))))

def kout (z y : F1024) (wo : FVec Ideal S1024x1024 .bf16) : F1024 :=
  matmul dot_S256x1024_S1024x1024_S256x1024_1_0_0_1_n_n none (truncf .bf16 (mulf y (ksilu z)) bitsLt_bf16_f32) wo (constant S256x1024 .f32 0x00000000#32)

def kr2 (o : F1024) : FVec Ideal S256x1 .f32 :=
  rsqrt (addf (divf (shapeCast S256x1 (multiReduction .add [1] S256 (mulf o o) 0x00000000#32 reduces_S256x1024_S256 (.inl rfl) rfl) shapeCasts_S256_S256x1)
    (broadcast S256x1 (Scalar.ofBits .f32 0x44800000#32))) (broadcast S256x1 (Scalar.ofBits .f32 0x358637BD#32)))

/-- The loss's gradient out of the projected product `o`. -/
def kdxo (o : F1024) (g2 : FVec Ideal S1x1024 .f32) (x t : F1024) : F1024 :=
  mulf (subf (addf x (mulf (mulf o (broadcastTo S256x1024 (kr2 o) broadcasts_S256x1_S256x1024)) (broadcastTo S256x1024 g2 broadcasts_S1x1024_S256x1024))) t)
    (broadcast S256x1024 (Scalar.ofBits .f32 0x3A800000#32))

variable {Z Y X T : F1024} {z y x t o : Fin 256 → Fin 1024 → EReal} {W : FVec Ideal S1024x1024 .bf16} {w : Fin 1024 → Fin 1024 → EReal}

theorem kout_holds (hz : Holds Z z) (hy : Holds Y y) (hw : Holds W w) :
    Holds (kout Z Y W) fun i j => ∑ c, y i c * (z i c * Ideal.div 1 (1 + Ideal.exp (-z i c))) * w c j := by
  intro i j
  pointwise [kout, ksilu]
  simp only [hz i _, hy i _, hw _ j, zero_sub]

theorem kdxo_holds {O : F1024} {G : FVec Ideal S1x1024 .f32} {g : Fin 1024 → EReal} (ho : Holds O o) (hg : Holds G fun _ => g) (hx : Holds X x) (ht : Holds T t) :
    Holds (kdxo O G X T) fun i j => (x i j + o i j * Ideal.rsqrt (Ideal.div (∑ j, o i j * o i j) (Ideal.ofBits .f32 0x44800000#32) + eps) * g j - t i j)
      * Ideal.ofBits .f32 0x3A800000#32 := by
  intro i j
  pointwise [kdxo, kr2]
  simp only [ho i _, hg _ j, hx i j, ht i j]
  rfl

end Cert.Out

end
-- ==== Proof.Out.Point.lean ====
/- What the kernel's input blocks hold at a grid point: the eight pairs of token blocks of a batch in turn. -/
module

public import proofs.«01_k».proof.Proof.Gen.MixFwdIdeal.Value
public import proofs.«01_k».proof.Proof.Out.Tile
public import Idealize.ShloMosaic.Lib.Pipeline.ValueKit
public import Idealize.ShloMosaic.Lib.Pipeline.ReadBack

@[expose] public section

set_option maxRecDepth 16384

noncomputable section

namespace Cert.Out

open Idealize.ShloMosaic Idealize.ShloMosaic.TcCoe Idealize.SL.Sem
open Cert.MixFwdIdeal Cert.MixFwdIdeal.Gen

/-- The arguments out of the arrays. -/
def argsOf (a0 a1 : FVec Ideal S2x2048x1024 .f32) (a2 : FVec Ideal S2x2048x768 .f32) (a3 : FVec Ideal S2x256x512 .f32) (a4 a5 : FVec Ideal S2x2048x1024 .f32)
    (a6 a7 : FVec Ideal S1x512 .f32) (a8 : FVec Ideal S1x4x128x128 .f32) (a9 : FVec Ideal S1x4x128 .f32) (a10 : FVec Ideal S1x4 .f32)
    (a11 : FVec Ideal S32x4 .f32) (a12 : FVec Ideal S1x1024 .f32) (a13 : FVec Ideal S1x1024x1024 .f32) : Args where
  uv b s q := a0 (ix3 b s q)
  z b s q := a1 (ix3 b s q)
  qkv b s q := a2 (ix3 b s q)
  mkv b s q := a3 (ix3 b s q)
  x b s q := a4 (ix3 b s q)
  tgt b s q := a5 (ix3 b s q)
  vg q := a6 (ix2 0 q)
  vb q := a7 (ix2 0 q)
  ws g i j := a8 (ix4 0 g i j)
  bs g i := a9 (ix3 0 g i)
  sink h := a10 (ix2 0 h)
  rel k h := a11 (ix2 k h)
  g2 q := a12 (ix2 0 q)
  wo q j := a13 (ix3 0 q j)

variable (m : (ℓ : Loc nD τ sig) → Buf (Elt Ideal) ℓ) (c : Dev nD)

/-- A device's arguments. -/
abbrev args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))

theorem point_lt (t : Fin cfg0.N) : t.val < 16 := t.isLt

/-- The batch of a point, and the token of its row `r`. -/
def batch (t : Fin cfg0.N) : Fin 2 := ⟨t.val / 8, by have := point_lt t; omega⟩
def row (t : Fin cfg0.N) (r : Fin 256) : Fin 2048 := ⟨t.val % 8 * 256 + r.val, by omega⟩
/-- The point's block of tokens number `s`. -/
def block (t : Fin cfg0.N) (s : Fin 2) : Fin 16 := ⟨t.val % 8 * 2 + s.val, by omega⟩
/-- Its row `i`, among the rows of the point. -/
def prow (s : Fin 2) (i : Fin 128) : Fin 256 := ⟨s.val * 128 + i.val, by omega⟩

theorem row_prow (t : Fin cfg0.N) (s : Fin 2) (i : Fin 128) : row t (prow s i) = tok (block t s) i := by
  ext; simp [row, prow, tok, block]; ring

/-- The blocks at point `t` hold the values of `A`. -/
structure At (A : Args) (t : Fin cfg0.N) : Prop where
  uv : ∀ r q, iblk m c 0 t (ix2 r q) = A.uv (batch t) (row t r) q
  z : ∀ r q, iblk m c 1 t (ix2 r q) = A.z (batch t) (row t r) q
  qkv : ∀ (a : Fin 1) s q, iblk m c 2 t (ix3 a s q) = A.qkv (batch t) s q
  mkv : ∀ (a : Fin 1) s q, iblk m c 3 t (ix3 a s q) = A.mkv (batch t) s q
  x : ∀ r q, iblk m c 4 t (ix2 r q) = A.x (batch t) (row t r) q
  tgt : ∀ r q, iblk m c 5 t (ix2 r q) = A.tgt (batch t) (row t r) q
  bias : ∀ h i j, iblk m c 6 t (ix3 h i j) = A.bias h i j
  sink : ∀ h, iblk m c 7 t (ix1 h) = A.sink h
  vg : ∀ (a : Fin 1) q, iblk m c 8 t (ix2 a q) = A.vg q
  vb : ∀ (a : Fin 1) q, iblk m c 9 t (ix2 a q) = A.vb q
  w : ∀ g i j, iblk m c 10 t (ix3 g i j) = A.w g i j
  bc : ∀ g i j, iblk m c 11 t (ix3 g i j) = A.bs g i
  g2 : ∀ (a : Fin 1) q, iblk m c 12 t (ix2 a q) = A.g2 q
  wo : ∀ q j, iblk m c 13 t (ix2 q j) = A.wo q j

end Cert.Out

end
-- ==== Proof.Out.Pieces.lean ====
/- The pieces of the mixers' output that a grid point writes: the gate's, the window attention's and the memory attention's, each as
   the block of the output it is. -/
module

public import proofs.«01_k».proof.Proof.Out.Point

@[expose] public section

set_option maxRecDepth 16384
set_option maxHeartbeats 400000

noncomputable section

namespace Cert.Out

open Idealize.ShloMosaic Idealize.ShloMosaic.TcCoe Idealize.SL.Sem
open Cert.MixFwdIdeal Cert.MixFwdIdeal.Gen

/-- A load of an input is the block read at the load's place. -/
theorem read_at {sp : Space} {sh : Shape} {e : EltTy} {M : Memref sig .tc sp sh e} {hM : M.IsWhole} {X : Vec Ideal sh e} {r : Rect sh} :
    View.readAt (Elt Ideal) M.view r.toLoadRect (hM.unread X) = View.ld X r := by
  rw [View.readAt_eq_ld, hM.read_unread]

theorem same128 {X : B128} {x : Blk} {h : S128x128.ShapeCasts S128x128} (hX : Holds X x) : Holds (shapeCast S128x128 X h) x := by
  intro i j
  pointwise
  exact hX i j

theorem same256 {X : T128} {x : Fin 256 → Fin 128 → EReal} {h : S256x128.ShapeCasts S256x128} (hX : Holds X x) : Holds (shapeCast S256x128 X h) x := by
  intro i j
  pointwise
  exact hX i j

/-- Loads, entry by entry. -/
theorem ldT_at {X : Vec Ideal S256x1024 .f32} {r q : ℕ} {inb : ∀ a, ![r, q] a + S128x128.size a ≤ S256x1024.size a} {h : S128x128.ShapeCasts S128x128}
    (a b : Fin 128) (ha : r + a.val < 256) (hb : q + b.val < 1024) :
    shapeCast S128x128 (View.ld X (Rect.unit (s := S256x1024) ![r, q] S128x128.size inb)) h (ix2 a b) = X (ix2 ⟨r + a.val, ha⟩ ⟨q + b.val, hb⟩) := by
  pointwise

theorem ldR_at {X : Vec Ideal S1x512 .f32} {q : ℕ} {inb : ∀ a, ![0, q] a + S1x128.size a ≤ S1x512.size a} (a : Fin 1) (b : Fin 128) (hb : q + b.val < 512) :
    View.ld X (Rect.unit (s := S1x512) ![0, q] S1x128.size inb) (ix2 a b) = X (ix2 0 ⟨q + b.val, hb⟩) := by
  pointwise

theorem drop_one {e : EltTy} (Y : Vec Ideal S1x128x128 e) (h : S1x128x128.ShapeCasts S128x128) (a b : Fin 128) :
    shapeCast S128x128 Y h (ix2 a b) = Y (ix3 0 a b) := by
  pointwise

theorem drop_band {e : EltTy} (Y : Vec Ideal S1x128x256 e) (h : S1x128x256.ShapeCasts S128x256) (a : Fin 128) (b : Fin 256) :
    shapeCast S128x256 Y h (ix2 a b) = Y (ix3 0 a b) := by
  pointwise

theorem drop_mem {e : EltTy} (Y : Vec Ideal S1x256x128 e) (h : S1x256x128.ShapeCasts S256x128) (a : Fin 256) (b : Fin 128) :
    shapeCast S256x128 Y h (ix2 a b) = Y (ix3 0 a b) := by
  pointwise

theorem ldG_at {e : EltTy} {X : Vec Ideal S4x128x128 e} {g : ℕ} {inb : ∀ a, ![g, 0, 0] a + S1x128x128.size a ≤ S4x128x128.size a}
    {h : S1x128x128.ShapeCasts S128x128} (a b : Fin 128) (hg : g < 4) :
    shapeCast S128x128 (View.ld X (Rect.unit (s := S4x128x128) ![g, 0, 0] S1x128x128.size inb)) h (ix2 a b) = X (ix3 ⟨g, hg⟩ a b) := by
  refine (drop_one _ h a b).trans ?_
  pointwise

variable {m : (ℓ : Loc nD τ sig) → Buf (Elt Ideal) ℓ} {c : Dev nD} {A : Args} {t : Fin cfg0.N}

/-- The mixers' output on the point's tokens. -/
def out (A : Args) (t : Fin cfg0.N) (y : S256x1024.Idx) : Elt Ideal .f32 := A.ycat (batch t) (row t (y 0)) (y 1)

theorem put128 {r q : ℕ} {inb : ∀ a, ![r, q] a + S128x128.size a ≤ S256x1024.size a} {W : B128} {w : Blk} (hW : Holds W w)
    (hr : r + 128 ≤ 256) (hq : q + 128 ≤ 1024)
    (hw : ∀ i j : Fin 128, w i j = A.ycat (batch t) (row t ⟨r + i.val, by omega⟩) ⟨q + j.val, by omega⟩) (x : S128x128.Idx) :
    W x = out A t ((Rect.unit (s := S256x1024) ![r, q] S128x128.size inb).emb x) := by
  obtain ⟨i, j, rfl⟩ : ∃ (i j : Fin 128), x = ix2 i j := ⟨x 0, x 1, eq_ix2 x⟩
  refine (hW i j).trans ((hw i j).trans ?_)
  rw [show (Rect.unit (s := S256x1024) ![r, q] S128x128.size inb).emb (ix2 i j) = ix2 ⟨r + i.val, by omega⟩ ⟨q + j.val, by omega⟩ by blk_ext []]
  rfl

theorem put256 {q : ℕ} {inb : ∀ a, ![0, q] a + S256x128.size a ≤ S256x1024.size a} {W : T128} {w : Fin 256 → Fin 128 → EReal} (hW : Holds W w)
    (hq : q + 128 ≤ 1024) (hw : ∀ (i : Fin 256) (j : Fin 128), w i j = A.ycat (batch t) (row t i) ⟨q + j.val, by omega⟩) (x : S256x128.Idx) :
    W x = out A t ((Rect.unit (s := S256x1024) ![0, q] S256x128.size inb).emb x) := by
  obtain ⟨i, j, rfl⟩ : ∃ (i : Fin 256) (j : Fin 128), x = ix2 i j := ⟨x 0, x 1, eq_ix2 x⟩
  refine (hW i j).trans ((hw i j).trans ?_)
  rw [show (Rect.unit (s := S256x1024) ![0, q] S256x128.size inb).emb (ix2 i j) = ix2 i ⟨q + j.val, by omega⟩ by blk_ext []]
  rfl

/-- The three parts of the output, by their columns. -/
theorem ya_col (s : Fin 2) (g : Fin 4) (i j : Fin 128) : A.ya (batch t) (block t s) g i j
    = A.ycat (batch t) (row t ⟨s.val * 128 + i.val, by omega⟩) ⟨g.val * 128 + j.val, by omega⟩ := by
  rw [Args.ycat, dif_pos (by show g.val * 128 + j.val < 512; omega)]
  congr 1 <;> (ext; simp [block, row]; try omega)

theorem yw_col (s : Fin 2) (g : Fin 2) (i j : Fin 128) : A.yw (batch t) (block t s) ⟨g.val * 2 + (hd j).val, by omega⟩ i (inHd j)
    = A.ycat (batch t) (row t ⟨s.val * 128 + i.val, by omega⟩) ⟨(512 + g.val * 128) + j.val, by omega⟩ := by
  rw [Args.ycat, dif_neg (by show ¬(512 + g.val * 128) + j.val < 512; omega), dif_pos (by show (512 + g.val * 128) + j.val < 768; omega)]
  congr 1 <;> (ext; simp [block, row, hd, inHd]; try omega)

theorem yc_col (g : Fin 2) (i : Fin 256) (j : Fin 128) : A.yc (batch t) (row t i) ⟨g.val * 2 + (hd j).val, by omega⟩ (inHd j)
    = A.ycat (batch t) (row t i) ⟨(768 + g.val * 128) + j.val, by omega⟩ := by
  rw [Args.ycat, dif_neg (by show ¬(768 + g.val * 128) + j.val < 512; omega), dif_neg (by show ¬(768 + g.val * 128) + j.val < 768; omega)]
  congr 1 <;> (ext; simp [hd, inHd]; try omega)

variable (P : At m c A t) (s : Fin 2)
include P

section Gate

variable (g : Fin 4) {r q : ℕ} {inb : ∀ a, ![r, q] a + S128x128.size a ≤ S256x1024.size a} {h : S128x128.ShapeCasts S128x128}
  {inr : ∀ a, ![0, q] a + S1x128.size a ≤ S1x512.size a} {ing : ∀ a, ![q, 0, 0] a + S1x128x128.size a ≤ S4x128x128.size a} {h' : S1x128x128.ShapeCasts S128x128}

theorem u_tile (hr : r = s.val * 128) (hq : q = g.val * 128) :
    Holds (shapeCast S128x128 (View.ld (iblk m c 0 t) (Rect.unit (s := S256x1024) ![r, q] S128x128.size inb)) h) fun i j => A.uv (batch t) (tok (block t s) i) (lo (ch g j)) := by
  intro a b
  refine (ldT_at a b (by omega) (by omega)).trans ((P.uv _ _).trans ?_)
  subst hr hq
  dsimp only
  rw [← row_prow]; rfl

theorem v_tile (hr : r = s.val * 128) (hq : q = 512 + g.val * 128) :
    Holds (shapeCast S128x128 (View.ld (iblk m c 0 t) (Rect.unit (s := S256x1024) ![r, q] S128x128.size inb)) h) fun i j => A.uv (batch t) (tok (block t s) i) (hi (ch g j)) := by
  intro a b
  refine (ldT_at a b (by omega) (by omega)).trans ((P.uv _ _).trans ?_)
  subst hr hq
  dsimp only
  rw [← row_prow]
  congr 1; ext; simp [hi, ch]; omega

theorem gam_tile (hq : q = g.val * 128) : Holds (View.ld (iblk m c 8 t) (Rect.unit (s := S1x512) ![0, q] S1x128.size inr)) fun _ j => A.vg (ch g j) := by
  intro a b
  refine (ldR_at a b (by omega)).trans ((P.vg _ _).trans ?_)
  subst hq; rfl

theorem bet_tile (hq : q = g.val * 128) : Holds (View.ld (iblk m c 9 t) (Rect.unit (s := S1x512) ![0, q] S1x128.size inr)) fun _ j => A.vb (ch g j) := by
  intro a b
  refine (ldR_at a b (by omega)).trans ((P.vb _ _).trans ?_)
  subst hq; rfl

theorem w_tile (hq : q = g.val) : Holds (shapeCast S128x128 (View.ld (iblk m c 10 t) (Rect.unit (s := S4x128x128) ![q, 0, 0] S1x128x128.size ing)) h') (A.w g) := by
  intro a b
  refine (ldG_at a b (by omega)).trans ((P.w _ _ _).trans ?_)
  subst hq; rfl

theorem bc_tile (hq : q = g.val) : Holds (shapeCast S128x128 (View.ld (iblk m c 11 t) (Rect.unit (s := S4x128x128) ![q, 0, 0] S1x128x128.size ing)) h') fun i _ => A.bs g i := by
  intro a b
  refine (ldG_at a b (by omega)).trans ((P.bc _ _ _).trans ?_)
  subst hq; rfl

end Gate

section Window

variable {r q : ℕ} {o : Fin 3 → ℕ} {inb : ∀ a, o a + S1x128x128.size a ≤ S1x2048x768.size a} {h : S1x128x128.ShapeCasts S128x128}
  {inB : ∀ a, ![q, 0, 0] a + S1x128x256.size a ≤ S4x128x256.size a} {h' : S1x128x256.ShapeCasts S128x256}

theorem qkv_tile (ho : o = ![0, r, q]) (hr : r + 128 ≤ 2048) (hq : q + 128 ≤ 768) :
    Holds (shapeCast S128x128 (View.ld (iblk m c 2 t) (Rect.unit (s := S1x2048x768) o S1x128x128.size inb)) h)
      fun i j => A.qkv (batch t) ⟨r + i.val, by omega⟩ ⟨q + j.val, by omega⟩ := by
  subst ho
  intro a b
  dsimp only
  rw [← P.qkv 0]
  refine (drop_one _ h a b).trans ?_
  pointwise

theorem bias_tile (g : Fin 4) (hq : q = g.val) :
    Holds (shapeCast S128x256 (View.ld (iblk m c 6 t) (Rect.unit (s := S4x128x256) ![q, 0, 0] S1x128x256.size inB)) h') (A.bias g) := by
  subst hq
  intro a b
  rw [← P.bias]
  refine (drop_band _ h' a b).trans ?_
  pointwise

end Window

section Cross

variable {r q : ℕ} {o : Fin 3 → ℕ} {inb : ∀ a, o a + S1x256x128.size a ≤ S1x2048x768.size a} {h : S1x256x128.ShapeCasts S256x128}
  {inB : ∀ a, ![0, 0, q] a + S1x256x128.size a ≤ S1x256x512.size a}

theorem cq_tile (ho : o = ![0, t.val % 8 * 256, q]) (hq : q + 128 ≤ 768) :
    Holds (shapeCast S256x128 (View.ld (iblk m c 2 t) (Rect.unit (s := S1x2048x768) o S1x256x128.size inb)) h)
      fun i j => A.qkv (batch t) (row t i) ⟨q + j.val, by omega⟩ := by
  subst ho
  intro a b
  dsimp only
  rw [← P.qkv 0]
  refine (drop_mem _ h a b).trans ?_
  pointwise
  rfl

theorem mkv_tile (hq : q + 128 ≤ 512) :
    Holds (shapeCast S256x128 (View.ld (iblk m c 3 t) (Rect.unit (s := S1x256x512) ![0, 0, q] S1x256x128.size inB)) h)
      fun i j => A.mkv (batch t) i ⟨q + j.val, by omega⟩ := by
  intro a b
  dsimp only
  rw [← P.mkv 0]
  refine (drop_mem _ h a b).trans ?_
  pointwise

end Cross

omit P

/-- The window attention on a pair of heads, out of the loads. -/
theorem window_pair (b : Fin 2) (n : Fin 16) (g : Fin 2) {Q : H128} {KD VD : K128} {B0 B1 FA : W256} {s0 s1 : Elt Ideal .f32}
    (hQ : Holds Q fun i j => A.qkv b (tok n i) ⟨g.val * 128 + j.val, by omega⟩)
    (hKD : Holds KD fun j c => A.k b (band n j) g (inHd c)) (hVD : Holds VD fun j c => A.v b (band n j) g (inHd c))
    (h0 : Holds B0 (A.bias ⟨g.val * 2, by omega⟩)) (h1 : Holds B1 (A.bias ⟨g.val * 2 + 1, by omega⟩))
    (e0 : s0 = A.sink ⟨g.val * 2, by omega⟩) (e1 : s1 = A.sink ⟨g.val * 2 + 1, by omega⟩) (hf : Holds FA fun _ => Args.first n) :
    Holds (wpair Q KD VD B0 B1 s0 s1 FA) fun i c => A.yw b n ⟨g.val * 2 + (hd c).val, by omega⟩ i (inHd c) := by
  intro i c
  refine (wpair_holds (k := fun j d => A.k b (band n j) g d) (v := fun j d => A.v b (band n j) g d) (b := fun h => A.bias ⟨g.val * 2 + h.val, by omega⟩)
    (s := fun h => A.sink ⟨g.val * 2 + h.val, by omega⟩) hQ hKD hVD h0 h1 e0 e1 hf i c).trans ?_
  have ek : Args.kvh ⟨g.val * 2 + (hd c).val, by omega⟩ = g := Fin.ext (by simp [Args.kvh, hd]; omega)
  have eq : ∀ d, A.q b (tok n i) ⟨g.val * 2 + (hd c).val, by omega⟩ d = A.qkv b (tok n i) ⟨g.val * 128 + (ofHd (hd c) d).val, by omega⟩ := by
    intro d
    rw [Args.q]
    congr 1; ext; simp [ofHd]; ring
  dsimp only
  rw [Args.yw, ek]
  unfold Args.logit
  rw [ek, funext eq]

/-- The band of keys, or of values, on a head. -/
theorem band_dup (b : Fin 2) (n : Fin 16) (o : ℕ) (ho : o + 128 ≤ 768) {K0 K1 : H128}
    (h0 : Holds K0 fun i j => A.qkv b ⟨(n.val - 1) * 128 + i.val, by omega⟩ ⟨o + j.val, by omega⟩)
    (h1 : Holds K1 fun i j => A.qkv b ⟨n.val * 128 + i.val, by omega⟩ ⟨o + j.val, by omega⟩) :
    Holds (wdup0 (wband K0 K1)) (fun j c => A.qkv b (band n j) ⟨o + ((0 : Fin 2).val * 64 + (inHd c).val), by omega⟩)
    ∧ Holds (wdup1 (wband K0 K1)) (fun j c => A.qkv b (band n j) ⟨o + ((1 : Fin 2).val * 64 + (inHd c).val), by omega⟩) := by
  constructor
  · intro j c
    refine (wdup0_holds (wband_holds h0 h1) j c).trans ?_
    dsimp only
    unfold band
    by_cases h : j.val < 128
    · simp only [dif_pos h]; rfl
    · simp only [dif_neg h]; rfl
  · intro j c
    refine (wdup1_holds (wband_holds h0 h1) j c).trans ?_
    dsimp only
    unfold band
    by_cases h : j.val < 128
    · simp only [dif_pos h]; rfl
    · simp only [dif_neg h]; rfl

/-- The memory attention on a pair of heads, out of the loads. -/
theorem cross_pair (b : Fin 2) (g : Fin 2) {Q K V : K128} (hQ : Holds Q fun i j => A.qkv b (row t i) ⟨(512 + g.val * 128) + j.val, by omega⟩)
    (hK : Holds K fun i j => A.mkv b i ⟨g.val * 128 + j.val, by omega⟩) (hV : Holds V fun i j => A.mkv b i ⟨(256 + g.val * 128) + j.val, by omega⟩) :
    Holds (cpair Q K V) fun i c => A.yc b (row t i) ⟨g.val * 2 + (hd c).val, by omega⟩ (inHd c) := by
  intro i c
  refine (cpair_holds hQ hK hV i c).trans ?_
  have eq : ∀ d, A.cq b (row t i) ⟨g.val * 2 + (hd c).val, by omega⟩ d = A.qkv b (row t i) ⟨(512 + g.val * 128) + (ofHd (hd c) d).val, by omega⟩ := by
    intro d
    rw [Args.cq]
    congr 1; ext; simp [ofHd]; ring
  have ek : ∀ j d, A.mkey b j ⟨g.val * 2 + (hd c).val, by omega⟩ d = A.mkv b j ⟨g.val * 128 + (ofHd (hd c) d).val, by omega⟩ := by
    intro j d
    rw [Args.mkey]
    congr 1; ext; simp [ofHd]; ring
  have ev : ∀ j, A.mval b j ⟨g.val * 2 + (hd c).val, by omega⟩ (inHd c) = A.mkv b j ⟨(256 + g.val * 128) + c.val, by omega⟩ := by
    intro j
    rw [Args.mval]
    congr 1; ext; simp [hd, inHd]; omega
  dsimp only
  rw [Args.yc, funext eq, funext fun j => funext (ek j), funext ev]

/-- Where a point's loads start. -/
theorem offs : ∀ t : Fin cfg0.N, k0_off1 (grid0.coords t) 0#32 = ![0, (t.val % 8 * 2 + (0 : Fin 2).val - 1) * 128, 256]
    ∧ k0_off1 (grid0.coords t) 1#32 = ![0, (t.val % 8 * 2 + (1 : Fin 2).val - 1) * 128, 256]
    ∧ k0_off2 (grid0.coords t) 0#32 = ![0, (t.val % 8 * 2 + (0 : Fin 2).val) * 128, 256]
    ∧ k0_off2 (grid0.coords t) 1#32 = ![0, (t.val % 8 * 2 + (1 : Fin 2).val) * 128, 256]
    ∧ k0_off3 (grid0.coords t) 0#32 = ![0, (t.val % 8 * 2 + (0 : Fin 2).val - 1) * 128, 384]
    ∧ k0_off3 (grid0.coords t) 1#32 = ![0, (t.val % 8 * 2 + (1 : Fin 2).val - 1) * 128, 384]
    ∧ k0_off4 (grid0.coords t) 0#32 = ![0, (t.val % 8 * 2 + (0 : Fin 2).val) * 128, 384]
    ∧ k0_off4 (grid0.coords t) 1#32 = ![0, (t.val % 8 * 2 + (1 : Fin 2).val) * 128, 384]
    ∧ k0_off5 (grid0.coords t) 0#32 = ![0, (t.val % 8 * 2 + (0 : Fin 2).val) * 128, (0 : Fin 2).val * 128]
    ∧ k0_off5 (grid0.coords t) 1#32 = ![0, (t.val % 8 * 2 + (1 : Fin 2).val) * 128, (0 : Fin 2).val * 128]
    ∧ k0_off6 (grid0.coords t) 0#32 = ![0, (t.val % 8 * 2 + (0 : Fin 2).val) * 128, (1 : Fin 2).val * 128]
    ∧ k0_off6 (grid0.coords t) 1#32 = ![0, (t.val % 8 * 2 + (1 : Fin 2).val) * 128, (1 : Fin 2).val * 128]
    ∧ k0_off7 (grid0.coords t) = ![0, t.val % 8 * 256, 512 + (0 : Fin 2).val * 128]
    ∧ k0_off8 (grid0.coords t) = ![0, t.val % 8 * 256, 512 + (1 : Fin 2).val * 128] := by
  decide +kernel

end Cert.Out

end
-- ==== Proof.Out.KernelOut.lean ====
/- A grid point's block of the gradient of `x`, at any input. -/
module

public import proofs.«01_k».proof.Proof.Out.Pieces

@[expose] public section

set_option maxRecDepth 16384
set_option maxHeartbeats 2000000

noncomputable section

namespace Cert.Out

open Idealize.ShloMosaic Idealize.ShloMosaic.TcCoe Idealize.SL.Sem
open Cert.MixFwdIdeal Cert.MixFwdIdeal.Gen

variable {m : (ℓ : Loc nD τ sig) → Buf (Elt Ideal) ℓ} {c : Dev nD} {A : Args} {t : Fin cfg0.N}

/-- Whether a block is the sequence's first one. -/
theorem first_word (s : Fin 2) : ∀ t : Fin cfg0.N, Scalar.cmpi .eq (Scalar.addi (Scalar.muli (BitVec.ofNat 32 (grid0.coords t 1)) 2#32) (BitVec.ofNat 32 s.val)) 0#32
    = if (block t s).val = 0 then 1#1 else 0#1 := by
  revert s
  decide +kernel

theorem col_word : ∀ j : Fin 256, IntOp.cmpi .slt (BitVec.ofNat 32 j.val) 128#32 = if j.val < 128 then 1#1 else 0#1 := by
  decide +kernel

/-- The mask of the keys before the sequence. -/
theorem first_holds (s : Fin 2) {n : BitVec 32} (hn : n = Scalar.addi (Scalar.muli (BitVec.ofNat 32 (grid0.coords t 1)) 2#32) (BitVec.ofNat 32 s.val)) :
    Holds (k0_pay38 (F := Ideal) n) fun _ => Args.first (block t s) := by
  subst hn
  intro i j
  pointwise [k0_pay38]
  rw [first_word, col_word, named_neg, Args.first]
  by_cases h : j.val < 128 <;> by_cases h' : (block t s).val = 0 <;> simp [h, h', Scalar.select, IntOp.andi]

variable (P : At m c A t)
include P

theorem gate_piece (s : Fin 2) (g : Fin 4) {r0 q0 q1 q3 : ℕ} {inb : ∀ a, ![r0, q0] a + S128x128.size a ≤ S256x1024.size a} {iu} {iv} {ig} {ib} {iw} {ic} {h h' h1 h2 h3}
    (hr0 : r0 = s.val * 128) (hq0 : q0 = g.val * 128) (hq1 : q1 = 512 + g.val * 128) (hq3 : q3 = g.val) (x : S128x128.Idx) :
    shapeCast S128x128 (kgate (shapeCast S128x128 (View.ld (iblk m c 0 t) (Rect.unit (s := S256x1024) ![r0, q0] S128x128.size iu)) h)
      (shapeCast S128x128 (View.ld (iblk m c 0 t) (Rect.unit (s := S256x1024) ![r0, q1] S128x128.size iv)) h')
      (View.ld (iblk m c 8 t) (Rect.unit (s := S1x512) ![0, q0] S1x128.size ig)) (View.ld (iblk m c 9 t) (Rect.unit (s := S1x512) ![0, q0] S1x128.size ib))
      (shapeCast S128x128 (View.ld (iblk m c 10 t) (Rect.unit (s := S4x128x128) ![q3, 0, 0] S1x128x128.size iw)) h1)
      (shapeCast S128x128 (View.ld (iblk m c 11 t) (Rect.unit (s := S4x128x128) ![q3, 0, 0] S1x128x128.size ic)) h2)) h3 x
    = out A t ((Rect.unit (s := S256x1024) ![r0, q0] S128x128.size inb).emb x) := by
  subst hr0 hq0
  exact put128 (same128 (kgate_holds (u_tile P s g rfl rfl) (v_tile P s g rfl hq1) (gam_tile P g rfl) (bet_tile P g rfl) (w_tile P g hq3) (bc_tile P g hq3)))
    (by omega) (by omega) (ya_col s g) x

omit P in
theorem qkv_in {r q : ℕ} {o : Fin 3 → ℕ} (ho : o = ![0, r, q]) (hr : r + 128 ≤ 2048) (hq : q + 128 ≤ 768) (a : Fin 3) :
    o a + S1x128x128.size a ≤ S1x2048x768.size a := by
  subst ho
  fin_cases a <;> simp [S1x128x128, S1x2048x768] <;> omega

/-- A tile of the queries, keys and values, out of the load itself and out of what it reads. -/
theorem tile_raw {M : Memref sig .tc .vmem S1x2048x768 .bf16} {hM : M.IsWhole} {r q : ℕ} {o : Fin 3 → ℕ}
    (ho : o = ![0, r, q]) (hr : r + 128 ≤ 2048) (hq : q + 128 ≤ 768) :
    Holds (shapeCast S128x128 (View.readAt (Elt Ideal) M.view (Rect.unit (s := S1x2048x768) o S1x128x128.size (qkv_in ho hr hq)).toLoadRect (hM.unread (iblk m c 2 t)))
      shapeCasts_S1x128x128_S128x128) fun i j => A.qkv (batch t) ⟨r + i.val, by omega⟩ ⟨q + j.val, by omega⟩ := by
  rw [read_at]
  exact qkv_tile P ho hr hq

theorem tile_read {r q : ℕ} {o : Fin 3 → ℕ} (ho : o = ![0, r, q]) (hr : r + 128 ≤ 2048) (hq : q + 128 ≤ 768) :
    Holds (shapeCast S128x128 (View.ld (iblk m c 2 t) (Rect.unit (s := S1x2048x768) o S1x128x128.size (qkv_in ho hr hq))) shapeCasts_S1x128x128_S128x128)
      fun i j => A.qkv (batch t) ⟨r + i.val, by omega⟩ ⟨q + j.val, by omega⟩ :=
  qkv_tile P ho hr hq

/-- A head's sink. -/
theorem sink_at {q : ℕ} (hq : q < 4) {inb : ∀ a, ![q] a + S1.size a ≤ S4.size a} {x : S1.Idx} :
    View.ld (iblk m c 7 t) (Rect.unit (s := S4) ![q] S1.size inb) x = A.sink ⟨q, hq⟩ := by
  rw [← P.sink]
  obtain ⟨a, rfl⟩ : ∃ a : Fin 1, x = ix1 a := ⟨x 0, eq_ix1 x⟩
  pointwise

/-- The point's block of the gradient. -/
theorem dxo_point (r : Fin 256) (j : Fin 1024) : (outsAt0 m c t.val t.isLt).2.2.1 (ix2 r j) = A.dxo (batch t) (row t r) j := by
  have ht := point_lt t
  obtain c0 | c0 : t.val % 16 = 0 ∨ ¬t.val % 16 = 0 := Decidable.em _
  on_goal 1 => rw [outsAt0_A m c t c0]
  on_goal 2 => rw [outsAt0_B m c t c0]
  all_goals
    frame_open
    rw [View.read_writes_junk_eq_canon]
    simp (disch := decide) only [↓ View.readCov_skip, ↓ View.readCov_cons_toLoadRect, ↓ View.readCov_fill, read_at]
    rw [View.canon_cons_unit_lit _ _ _ (by decide)]
    refine (kdxo_holds (g := A.g2) (x := fun r j => A.x (batch t) (row t r) j) (t := fun r j => A.tgt (batch t) (row t r) j)
      (kout_holds (y := fun r c => A.ycat (batch t) (row t r) c) (z := fun r c => A.z (batch t) (row t r) c) (w := A.wo) ?_ ?_ ?_) ?_ ?_ ?_ r j).trans ?_
    case refine_2 =>
      intro r q
      clear c0
      obtain ⟨o10, o11, o20, o21, o30, o31, o40, o41, o50, o51, o60, o61, o7, o8⟩ := offs t
      rw [View.readCov_eq_canon']
      refine (View.canon_append_of_piecesOf (Val := Elt Ideal) (s := S256x1024) (e := .f32) (out A t) [] [_, _, _, _, _, _, _, _, _, _, _, _, _, _]
        ⟨?_, ?_, ?_, ?_, ?_, ?_, ?_, ?_, ?_, ?_, ?_, ?_, ?_, ?_, trivial⟩ _ (View.cover_of_tiledBy (Val := Elt Ideal) (s := S256x1024) (e := .f32) _ S128x128.size ?_ _)).trans ?_
      case refine_15 => sl_kernel_rfl
      case refine_14 => exact gate_piece (inb := by decide) P 0 0 rfl rfl rfl rfl
      case refine_13 => exact gate_piece (inb := by decide) P 0 1 rfl rfl rfl rfl
      case refine_12 => exact gate_piece (inb := by decide) P 0 2 rfl rfl rfl rfl
      case refine_11 => exact gate_piece (inb := by decide) P 0 3 rfl rfl rfl rfl
      case refine_8 => exact gate_piece (inb := by decide) P 1 0 rfl rfl rfl rfl
      case refine_7 => exact gate_piece (inb := by decide) P 1 1 rfl rfl rfl rfl
      case refine_6 => exact gate_piece (inb := by decide) P 1 2 rfl rfl rfl rfl
      case refine_5 => exact gate_piece (inb := by decide) P 1 3 rfl rfl rfl rfl
      case refine_10 =>
        refine put128 (inb := by decide) (same128 (window_pair (batch t) (block t 0) 0 ?_ ?_ ?_ ?_ ?_ ?_ ?_ ?_)) (by omega) (by omega) (yw_col 0 0)
        · first | exact tile_read P o50 (by omega) (by omega) | exact tile_raw P o50 (by omega) (by omega)
        · first
          | refine Eq.mp (congrArg (fun X => Holds X _) ?_) (band_dup (batch t) (block t 0) 256 (by omega) (tile_read P o10 (by omega) (by omega)) (tile_read P o20 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_raw P (M := ms0_2 t) (hM := hs0_2 t) o10 (by omega) (by omega)) (tile_raw P (M := ms0_2 t) (hM := hs0_2 t) o20 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_raw P (M := ms0_2 t) (hM := hs0_2 t) o10 (by omega) (by omega)) (tile_read P o20 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_read P o10 (by omega) (by omega)) (tile_raw P (M := ms0_2 t) (hM := hs0_2 t) o20 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_read P o10 (by omega) (by omega)) (tile_read P o20 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · first
          | refine Eq.mp (congrArg (fun X => Holds X _) ?_) (band_dup (batch t) (block t 0) 384 (by omega) (tile_read P o30 (by omega) (by omega)) (tile_read P o40 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_raw P (M := ms0_2 t) (hM := hs0_2 t) o30 (by omega) (by omega)) (tile_raw P (M := ms0_2 t) (hM := hs0_2 t) o40 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_raw P (M := ms0_2 t) (hM := hs0_2 t) o30 (by omega) (by omega)) (tile_read P o40 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_read P o30 (by omega) (by omega)) (tile_raw P (M := ms0_2 t) (hM := hs0_2 t) o40 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_read P o30 (by omega) (by omega)) (tile_read P o40 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · exact bias_tile P _ rfl
        · exact bias_tile P _ rfl
        · exact sink_at P (by omega)
        · exact sink_at P (by omega)
        · exact first_holds 0 rfl
      case refine_9 =>
        refine put128 (inb := by decide) (same128 (window_pair (batch t) (block t 0) 1 ?_ ?_ ?_ ?_ ?_ ?_ ?_ ?_)) (by omega) (by omega) (yw_col 0 1)
        · first | exact tile_read P o60 (by omega) (by omega) | exact tile_raw P o60 (by omega) (by omega)
        · first
          | refine Eq.mp (congrArg (fun X => Holds X _) ?_) (band_dup (batch t) (block t 0) 256 (by omega) (tile_read P o10 (by omega) (by omega)) (tile_read P o20 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_raw P (M := ms0_2 t) (hM := hs0_2 t) o10 (by omega) (by omega)) (tile_raw P (M := ms0_2 t) (hM := hs0_2 t) o20 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_raw P (M := ms0_2 t) (hM := hs0_2 t) o10 (by omega) (by omega)) (tile_read P o20 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_read P o10 (by omega) (by omega)) (tile_raw P (M := ms0_2 t) (hM := hs0_2 t) o20 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 256 (by omega) (tile_read P o10 (by omega) (by omega)) (tile_read P o20 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · first
          | refine Eq.mp (congrArg (fun X => Holds X _) ?_) (band_dup (batch t) (block t 0) 384 (by omega) (tile_read P o30 (by omega) (by omega)) (tile_read P o40 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_raw P (M := ms0_2 t) (hM := hs0_2 t) o30 (by omega) (by omega)) (tile_raw P (M := ms0_2 t) (hM := hs0_2 t) o40 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_raw P (M := ms0_2 t) (hM := hs0_2 t) o30 (by omega) (by omega)) (tile_read P o40 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_read P o30 (by omega) (by omega)) (tile_raw P (M := ms0_2 t) (hM := hs0_2 t) o40 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 0) 384 (by omega) (tile_read P o30 (by omega) (by omega)) (tile_read P o40 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · exact bias_tile P _ rfl
        · exact bias_tile P _ rfl
        · exact sink_at P (by omega)
        · exact sink_at P (by omega)
        · exact first_holds 0 rfl
      case refine_4 =>
        refine put128 (inb := by decide) (same128 (window_pair (batch t) (block t 1) 0 ?_ ?_ ?_ ?_ ?_ ?_ ?_ ?_)) (by omega) (by omega) (yw_col 1 0)
        · first | exact tile_read P o51 (by omega) (by omega) | exact tile_raw P o51 (by omega) (by omega)
        · first
          | refine Eq.mp (congrArg (fun X => Holds X _) ?_) (band_dup (batch t) (block t 1) 256 (by omega) (tile_read P o11 (by omega) (by omega)) (tile_read P o21 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_raw P (M := ms0_2 t) (hM := hs0_2 t) o11 (by omega) (by omega)) (tile_raw P (M := ms0_2 t) (hM := hs0_2 t) o21 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_raw P (M := ms0_2 t) (hM := hs0_2 t) o11 (by omega) (by omega)) (tile_read P o21 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_read P o11 (by omega) (by omega)) (tile_raw P (M := ms0_2 t) (hM := hs0_2 t) o21 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_read P o11 (by omega) (by omega)) (tile_read P o21 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · first
          | refine Eq.mp (congrArg (fun X => Holds X _) ?_) (band_dup (batch t) (block t 1) 384 (by omega) (tile_read P o31 (by omega) (by omega)) (tile_read P o41 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_raw P (M := ms0_2 t) (hM := hs0_2 t) o31 (by omega) (by omega)) (tile_raw P (M := ms0_2 t) (hM := hs0_2 t) o41 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_raw P (M := ms0_2 t) (hM := hs0_2 t) o31 (by omega) (by omega)) (tile_read P o41 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_read P o31 (by omega) (by omega)) (tile_raw P (M := ms0_2 t) (hM := hs0_2 t) o41 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_read P o31 (by omega) (by omega)) (tile_read P o41 (by omega) (by omega))).1
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · exact bias_tile P _ rfl
        · exact bias_tile P _ rfl
        · exact sink_at P (by omega)
        · exact sink_at P (by omega)
        · exact first_holds 1 rfl
      case refine_3 =>
        refine put128 (inb := by decide) (same128 (window_pair (batch t) (block t 1) 1 ?_ ?_ ?_ ?_ ?_ ?_ ?_ ?_)) (by omega) (by omega) (yw_col 1 1)
        · first | exact tile_read P o61 (by omega) (by omega) | exact tile_raw P o61 (by omega) (by omega)
        · first
          | refine Eq.mp (congrArg (fun X => Holds X _) ?_) (band_dup (batch t) (block t 1) 256 (by omega) (tile_read P o11 (by omega) (by omega)) (tile_read P o21 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_raw P (M := ms0_2 t) (hM := hs0_2 t) o11 (by omega) (by omega)) (tile_raw P (M := ms0_2 t) (hM := hs0_2 t) o21 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_raw P (M := ms0_2 t) (hM := hs0_2 t) o11 (by omega) (by omega)) (tile_read P o21 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_read P o11 (by omega) (by omega)) (tile_raw P (M := ms0_2 t) (hM := hs0_2 t) o21 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 256 (by omega) (tile_read P o11 (by omega) (by omega)) (tile_read P o21 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · first
          | refine Eq.mp (congrArg (fun X => Holds X _) ?_) (band_dup (batch t) (block t 1) 384 (by omega) (tile_read P o31 (by omega) (by omega)) (tile_read P o41 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_raw P (M := ms0_2 t) (hM := hs0_2 t) o31 (by omega) (by omega)) (tile_raw P (M := ms0_2 t) (hM := hs0_2 t) o41 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_raw P (M := ms0_2 t) (hM := hs0_2 t) o31 (by omega) (by omega)) (tile_read P o41 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_read P o31 (by omega) (by omega)) (tile_raw P (M := ms0_2 t) (hM := hs0_2 t) o41 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            done
          | refine Eq.mp (congrArg (fun X => Holds X _) ?_) (band_dup (batch t) (block t 1) 384 (by omega) (tile_read P o31 (by omega) (by omega)) (tile_read P o41 (by omega) (by omega))).2
            dsimp only [lowT, wdup0, wdup1, wroll, wband, k0_pay28, k0_pay29, k0_pay30, k0_pay31, k0_pay32, k0_pay33, k0_pay34, k0_pay35, k0_pay36, k0_pay37, k0_pay75, k0_pay76, k0_pay77, k0_pay78, k0_pay79, k0_pay80, k0_pay81, k0_pay82, k0_pay83, k0_pay84, k0_pay85, k0_pay86]
            rfl
        · exact bias_tile P _ rfl
        · exact bias_tile P _ rfl
        · exact sink_at P (by omega)
        · exact sink_at P (by omega)
        · exact first_holds 1 rfl
      case refine_2 =>
        exact put256 (inb := by decide) (same256 (cross_pair (Q := shapeCast S256x128 _ _) (K := shapeCast S256x128 _ _) (V := shapeCast S256x128 _ _) (batch t) 0 (cq_tile P (offs t).2.2.2.2.2.2.2.2.2.2.2.2.1 (by omega)) (mkv_tile P (by omega)) (mkv_tile P (by omega)))) (by omega) (yc_col 0)
      case refine_1 =>
        exact put256 (inb := by decide) (same256 (cross_pair (Q := shapeCast S256x128 _ _) (K := shapeCast S256x128 _ _) (V := shapeCast S256x128 _ _) (batch t) 1 (cq_tile P (offs t).2.2.2.2.2.2.2.2.2.2.2.2.2 (by omega)) (mkv_tile P (by omega)) (mkv_tile P (by omega)))) (by omega) (yc_col 1)
      case refine_16 => exact (congrArg (out A t) (a₂ := ix2 r q) (by funext a; fin_cases a <;> (apply Fin.ext; simp [LoadRect.idx]; try omega))).trans rfl
    case refine_4 => intro a b; obtain rfl : a = 0 := Subsingleton.elim _ _; dsimp only; rw [← P.g2 0 b]; pointwise
    case refine_1 => intro a b; dsimp only; rw [← P.z a b]; pointwise
    case refine_3 => intro a b; rw [← P.wo a b]; pointwise
    case refine_5 => intro a b; dsimp only; rw [← P.x a b]; pointwise
    case refine_6 => intro a b; dsimp only; rw [← P.tgt a b]; pointwise
    case refine_7 => rfl

end Cert.Out

end
-- ==== Proof.Out.Gather.lean ====
/- Rows of a table read at an array of indices. -/
module

public import Idealize.ShloMosaic.Lib.ValueIdxCore

@[expose] public section

namespace Cert.Out

open Idealize.ShloMosaic Idealize.ShloMosaic.ValueIdx

/-- The dimension numbers of such a read: whole rows of an operand `[N, D]` at indices `[R, C, 1]`. -/
abbrev rowDims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Its entry: the row at the index, read signed and clamped. -/
theorem gather_rows {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (i : Fin R) (j : Fin C) (k : Fin D) :
    Host.gather (rowDims N D R C wf) x idx (ix3 i j k) = x (ix2 ⟨min (idx (ix3 i j 0)).toInt.toNat (N - 1), by omega⟩ k) := by
  unfold Host.gather
  congr 1
  funext a
  refine Fin.ext ?_
  show (rowDims N D R C wf).start _ idx a + (rowDims N D R C wf).batchCoord _ a + (rowDims N D R C wf).offCoord _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 i j k) ⟨List.idxOf (0 : Fin 2) (rowDims N D R C wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬(1 : Fin 2) ∈ (rowDims N D R C wf).startIndexMap from fun h => absurd (congrArg Fin.val (List.mem_singleton.mp h)) Nat.one_ne_zero)]
    simp only [Nat.zero_add, Nat.add_zero]
    unfold GatherDims.offCoord
    rw [dif_pos (show (1 : Fin 2) ∈ (rowDims N D R C wf).sKept from (GatherDims.mem_sKept _ _).mpr ⟨fun h => absurd (congrArg Fin.val (List.mem_singleton.mp h)) Nat.one_ne_zero, List.not_mem_nil⟩)]
    rfl

end Cert.Out
-- ==== Proof.Out.Entry.lean ====
/- What the blocks hold at a grid point, out of the step's arguments. -/
module

public import proofs.«01_k».proof.Proof.Out.Point
public import proofs.«01_k».proof.Proof.Out.Gather

@[expose] public section

set_option maxRecDepth 16384
set_option maxHeartbeats 1000000

noncomputable section

namespace Cert.Out

open Idealize.ShloMosaic Idealize.ShloMosaic.TcCoe Idealize.SL.Sem
open Cert.MixFwdIdeal Cert.MixFwdIdeal.Gen

variable (m : (ℓ : Loc nD τ sig) → Buf (Elt Ideal) ℓ) (c : Dev nD)

theorem idx : ∀ t : Fin grid0.N, win0_0.index t = ![t.val / 8 * 8 + t.val % 8, 0] ∧ win0_1.index t = ![t.val / 8 * 8 + t.val % 8, 0]
    ∧ win0_2.index t = ![t.val / 8, 0, 0] ∧ win0_3.index t = ![t.val / 8, 0, 0] ∧ win0_4.index t = ![t.val / 8 * 8 + t.val % 8, 0]
    ∧ win0_5.index t = ![t.val / 8 * 8 + t.val % 8, 0] ∧ win0_6.index t = ![0, 0, 0] ∧ win0_7.index t = ![0] ∧ win0_8.index t = ![0, 0] ∧ win0_9.index t = ![0, 0]
    ∧ win0_10.index t = ![0, 0, 0] ∧ win0_11.index t = ![0, 0, 0] ∧ win0_12.index t = ![0, 0] ∧ win0_13.index t = ![0, 0] := by
  decide +kernel

variable (t : Fin cfg0.N)

theorem entry_uv (r : Fin 256) (q : Fin 1024) : iblk m c 0 t (ix2 r q) = (args m c).uv (batch t) (row t r) q := by
  change _ = m ((c : Thread nD τ).loc main_arg0) (ix3 (batch t) (row t r) q)
  blk_simp [iblk]
  simp only [V, hostOps0, hostOps0_1, hostOps0_2, hostOps0_3, hostOps0_4, List.flatten_cons, List.flatten_nil, List.cons_append, List.nil_append, List.append_nil]
  entry_read; pointwise; blk_ext [idx t, row, batch]

theorem entry_z (r : Fin 256) (q : Fin 1024) : iblk m c 1 t (ix2 r q) = (args m c).z (batch t) (row t r) q := by
  change _ = m ((c : Thread nD τ).loc main_arg1) (ix3 (batch t) (row t r) q)
  blk_simp [iblk]
  simp only [V, hostOps0, hostOps0_1, hostOps0_2, hostOps0_3, hostOps0_4, List.flatten_cons, List.flatten_nil, List.cons_append, List.nil_append, List.append_nil]
  entry_read; pointwise; blk_ext [idx t, row, batch]

theorem entry_qkv (a : Fin 1) (r : Fin 2048) (q : Fin 768) : iblk m c 2 t (ix3 a r q) = (args m c).qkv (batch t) r q := by
  change _ = m ((c : Thread nD τ).loc main_arg2) (ix3 (batch t) r q)
  blk_simp [iblk]
  simp only [V, hostOps0, hostOps0_1, hostOps0_2, hostOps0_3, hostOps0_4, List.flatten_cons, List.flatten_nil, List.cons_append, List.nil_append, List.append_nil]
  entry_read; pointwise; blk_ext [idx t, batch]

theorem entry_mkv (a : Fin 1) (r : Fin 256) (q : Fin 512) : iblk m c 3 t (ix3 a r q) = (args m c).mkv (batch t) r q := by
  change _ = m ((c : Thread nD τ).loc main_arg3) (ix3 (batch t) r q)
  blk_simp [iblk]
  simp only [V, hostOps0, hostOps0_1, hostOps0_2, hostOps0_3, hostOps0_4, List.flatten_cons, List.flatten_nil, List.cons_append, List.nil_append, List.append_nil]
  entry_read; pointwise; blk_ext [idx t, batch]

theorem entry_x (r : Fin 256) (q : Fin 1024) : iblk m c 4 t (ix2 r q) = (args m c).x (batch t) (row t r) q := by
  change _ = m ((c : Thread nD τ).loc main_arg4) (ix3 (batch t) (row t r) q)
  blk_simp [iblk]
  simp only [V, hostOps0, hostOps0_1, hostOps0_2, hostOps0_3, hostOps0_4, List.flatten_cons, List.flatten_nil, List.cons_append, List.nil_append, List.append_nil]
  entry_read; pointwise; blk_ext [idx t, row, batch]

theorem entry_tgt (r : Fin 256) (q : Fin 1024) : iblk m c 5 t (ix2 r q) = (args m c).tgt (batch t) (row t r) q := by
  change _ = m ((c : Thread nD τ).loc main_arg5) (ix3 (batch t) (row t r) q)
  blk_simp [iblk]
  simp only [V, hostOps0, hostOps0_1, hostOps0_2, hostOps0_3, hostOps0_4, List.flatten_cons, List.flatten_nil, List.cons_append, List.nil_append, List.append_nil]
  entry_read; pointwise; blk_ext [idx t, row, batch]

theorem entry_sink (h : Fin 4) : iblk m c 7 t (ix1 h) = (args m c).sink h := by
  change _ = m ((c : Thread nD τ).loc main_arg10) (ix2 0 h)
  blk_simp [iblk]
  simp only [V, hostOps0, hostOps0_1, hostOps0_2, hostOps0_3, hostOps0_4, List.flatten_cons, List.flatten_nil, List.cons_append, List.nil_append, List.append_nil]
  entry_read; pointwise; blk_ext [idx t]

theorem entry_vg (a : Fin 1) (q : Fin 512) : iblk m c 8 t (ix2 a q) = (args m c).vg q := by
  change _ = m ((c : Thread nD τ).loc main_arg6) (ix2 0 q)
  obtain rfl : a = 0 := Subsingleton.elim _ _
  blk_ext [iblk, V, idx t]

theorem entry_vb (a : Fin 1) (q : Fin 512) : iblk m c 9 t (ix2 a q) = (args m c).vb q := by
  change _ = m ((c : Thread nD τ).loc main_arg7) (ix2 0 q)
  obtain rfl : a = 0 := Subsingleton.elim _ _
  blk_ext [iblk, V, idx t]

theorem entry_g2 (a : Fin 1) (q : Fin 1024) : iblk m c 12 t (ix2 a q) = (args m c).g2 q := by
  change _ = m ((c : Thread nD τ).loc main_arg12) (ix2 0 q)
  obtain rfl : a = 0 := Subsingleton.elim _ _
  blk_ext [iblk, V, idx t]

theorem entry_bc (g : Fin 4) (i j : Fin 128) : iblk m c 11 t (ix3 g i j) = (args m c).bs g i := by
  change _ = m ((c : Thread nD τ).loc main_arg9) (ix3 0 g i)
  blk_simp [iblk]
  simp only [V, hostOps0, hostOps0_1, hostOps0_2, hostOps0_3, hostOps0_4, List.flatten_cons, List.flatten_nil, List.cons_append, List.nil_append, List.append_nil]
  entry_read; pointwise; blk_ext [idx t]

theorem entry_wo (q j : Fin 1024) : iblk m c 13 t (ix2 q j) = (args m c).wo q j := by
  change _ = m ((c : Thread nD τ).loc main_arg13) (ix3 0 q j)
  blk_simp [iblk]
  simp only [V, hostOps0, hostOps0_1, hostOps0_2, hostOps0_3, hostOps0_4, List.flatten_cons, List.flatten_nil, List.cons_append, List.nil_append, List.append_nil]
  entry_read; pointwise; blk_ext [idx t]

/-- The mask keeps the entries not above the diagonal. -/
theorem tril_word (x : EReal) (i j : Fin 128) : Scalar.select (IntOp.cmpi .sge (IntOp.addi (BitVec.ofNat 32 i.val) 0#32) (BitVec.ofNat 32 j.val)) x 0
    = x * if j ≤ i then 1 else 0 := by
  rw [show IntOp.addi (BitVec.ofNat 32 i.val) 0#32 = BitVec.ofNat 32 i.val from BitVec.add_zero _,
    WordCmp.cmpi_sge_ofNat (by omega) (by omega)]
  by_cases h : j ≤ i <;> simp [h, Scalar.select]

theorem entry_w (g : Fin 4) (i j : Fin 128) : iblk m c 10 t (ix3 g i j) = (args m c).w g i j := by
  have e : (win0_10.blk t).view.emb (ix3 g i j) = ix3 g i j := by blk_ext [idx t]
  blk_simp [iblk]
  refine (congrArg _ e).trans ?_
  simp only [V, hostOps0, hostOps0_1, hostOps0_2, hostOps0_3, hostOps0_4, List.flatten_cons, List.flatten_nil, List.cons_append, List.nil_append, List.append_nil]
  entry_read
  simp -implicitDefEqProofs only [StableHlo.TRef.toBuf, StableHlo.TRef.ofBuf, cast_cast, cast_eq]
  pointwise
  exact tril_word _ i j

/-- The window and the distances in it, as words. -/
theorem window_word : ∀ (i : Fin 128) (j : Fin 256), IntOp.andi
    (IntOp.cmpi .sge (IntOp.subi (IntOp.addi (BitVec.ofNat 32 i.val) 128#32) (BitVec.ofNat 32 j.val)) 0#32)
    (IntOp.cmpi .slt (IntOp.subi (IntOp.addi (BitVec.ofNat 32 i.val) 128#32) (BitVec.ofNat 32 j.val)) 128#32)
      = if i.val < j.val ∧ j.val ≤ i.val + 128 then 1#1 else 0#1 := by
  decide +kernel

theorem dist_word : ∀ (i : Fin 128) (j : Fin 256), IntOp.maxsi (IntOp.subi (IntOp.addi (BitVec.ofNat 32 i.val) 128#32) (BitVec.ofNat 32 j.val)) 0#32
    = BitVec.ofNat 32 (i.val + 128 - j.val) := by
  decide +kernel

theorem wrap256 : ∀ n : Fin 256, (Scalar.select (IntOp.cmpi .slt (BitVec.ofNat 32 n.val) 0#32) (IntOp.addi (BitVec.ofNat 32 n.val) 256#32)
    (BitVec.ofNat 32 n.val)).toInt.toNat = n.val := by
  decide +kernel

theorem wrap32 : ∀ n : Fin 32, (Scalar.select (IntOp.cmpi .slt (BitVec.ofNat 32 n.val) 0#32) (IntOp.addi (BitVec.ofNat 32 n.val) 32#32)
    (BitVec.ofNat 32 n.val)).toInt.toNat = n.val := by
  decide +kernel

theorem bucket_word : ∀ k : Fin 256, Cert.MixFwdIdeal.lit0 (S256.rowMajor (ix1 k)) = BitVec.ofNat 32 (bucketN k.val) := by
  decide +kernel

/-- The indices wrapped: a negative one counts from the table's end. -/
def wrapped (D : IVec S128x256 32) (n : BitVec 32) : IVec S128x256x1 32 := broadcastInDim S128x256x1 ![0, 1] bcast_S128x256_S128x256x1_0_1
  (select (cmpi .slt D (broadcastInDim S128x256 ![] bcast_S_S128x256 (constantI S_ 32 0#32))) (addi D (broadcastInDim S128x256 ![] bcast_S_S128x256 (constantI S_ 32 n))) D)

theorem wrapped_at (D : IVec S128x256 32) (n : BitVec 32) (i : Fin 128) (j : Fin 256) : wrapped D n (ix3 i j 0)
    = Scalar.select (IntOp.cmpi .slt (D (ix2 i j)) 0#32) (IntOp.addi (D (ix2 i j)) n) (D (ix2 i j)) := by
  pointwise [wrapped]

/-- The bucket of a distance, read out of the table of buckets. -/
theorem bucket_read (D : IVec S128x256 32) (i : Fin 128) (j : Fin 256) (k : Fin 256) (hk : D (ix2 i j) = BitVec.ofNat 32 k.val) :
    Host.gather gather_S256_S128x256x1_S128x256_n_0_n_n_0_2_1 (fun i => Cert.MixFwdIdeal.lit0 (S256.rowMajor i)) (wrapped D 256#32) (ix2 i j)
      = BitVec.ofNat 32 (bucketN k.val) := by
  refine (ValueIdx.gather_take_apply (N := 256) (R := 128) (C := 256) (by decide) gather_S256_S128x256x1_S128x256_n_0_n_n_0_2_1_wf _ _ (ix2 i j)).trans ?_
  have e : (ValueIdx.takeIdx (ix2 i j) : S128x256x1.Idx) = ix3 i j 0 := by
    funext b
    match b with
    | ⟨0, _⟩ => rfl
    | ⟨1, _⟩ => rfl
    | ⟨2, _⟩ => rfl
  refine Eq.trans ?_ (bucket_word k)
  have e' : (wrapped D 256#32 (ValueIdx.takeIdx (ix2 i j))).toInt.toNat = k.val := by rw [e, wrapped_at, hk, wrap256]
  refine congrArg (fun x : Fin 256 => Cert.MixFwdIdeal.lit0 (S256.rowMajor (ix1 x))) (Fin.ext ?_)
  show min (wrapped D 256#32 (ValueIdx.takeIdx (ix2 i j))).toInt.toNat (256 - 1) = k.val
  rw [e']; omega

/-- A row of the table of biases at a bucket. -/
theorem bias_read (T : FVec Ideal S32x4 .f32) (B : IVec S128x256 32) (i : Fin 128) (j : Fin 256) (h : Fin 4) (k : Fin 32)
    (hk : B (ix2 i j) = BitVec.ofNat 32 k.val) :
    Host.gather gather_S32x4_S128x256x1_S128x256x4_2_0_n_n_0_2_14 T (wrapped B 32#32) (ix3 i j h) = T (ix2 k h) := by
  refine (gather_rows (N := 32) (D := 4) (R := 128) (C := 256) (by decide) gather_S32x4_S128x256x1_S128x256x4_2_0_n_n_0_2_14_wf T _ i j h).trans ?_
  refine congrArg (fun x : Fin 32 => T (ix2 x h)) (Fin.ext ?_)
  show min (wrapped B 32#32 (ix3 i j 0)).toInt.toNat (32 - 1) = k.val
  rw [wrapped_at, hk, wrap32]; omega

theorem neg_inf : Ideal.ofBits FTy.f32 4286578688#32 = (⊥ : EReal) := by
  simp [Ideal.ofBits, Ideal.ieee]

theorem entry_bias (h : Fin 4) (i : Fin 128) (j : Fin 256) : iblk m c 6 t (ix3 h i j) = (args m c).bias h i j := by
  have e : (win0_6.blk t).view.emb (ix3 h i j) = ix3 h i j := by blk_ext [idx t]
  blk_simp [iblk]
  refine (congrArg _ e).trans ?_
  simp only [V, hostOps0, hostOps0_1, hostOps0_2, hostOps0_3, hostOps0_4, List.flatten_cons, List.flatten_nil, List.cons_append, List.nil_append, List.append_nil]
  entry_read
  simp -implicitDefEqProofs only [StableHlo.TRef.toBuf, StableHlo.TRef.ofBuf, cast_cast, cast_eq]
  pointwise
  rw [window_word, Args.bias]
  split
  · refine bias_read _ _ i j h (bucket (i.val + 128 - j.val)) (bucket_read _ i j ⟨i.val + 128 - j.val, by omega⟩ ?_)
    refine Eq.trans ?_ (dist_word i j)
    pointwise
  · exact neg_inf

theorem at_point : At m c (args m c) t where
  uv := entry_uv m c t
  z := entry_z m c t
  qkv := entry_qkv m c t
  mkv := entry_mkv m c t
  x := entry_x m c t
  tgt := entry_tgt m c t
  bias := entry_bias m c t
  sink := entry_sink m c t
  vg := entry_vg m c t
  vb := entry_vb m c t
  w := entry_w m c t
  bc := entry_bc m c t
  g2 := entry_g2 m c t
  wo := entry_wo m c t

end Cert.Out

end
-- ==== Proof.Out.Flat.lean ====
/- The gradient over the flattened tokens. -/
module

public import proofs.«01_k».proof.Proof.Out.Spec

@[expose] public section

noncomputable section

namespace Cert.Out

/-- The gradient at row `r` of the two sequences laid one after the other. -/
def Args.flat (A : Args) (r : Fin 4096) (j : Fin 1024) : EReal :=
  A.dxo ⟨r.val / 2048, by omega⟩ ⟨r.val % 2048, by omega⟩ j

end Cert.Out

end
-- ==== Proof.Out.Outputs.lean ====
/- The kernel's gradient of `x`, as an array: each block at its own point. -/
module

public import proofs.«01_k».proof.Proof.Out.KernelOut
public import proofs.«01_k».proof.Proof.Out.Entry
public import proofs.«01_k».proof.Proof.Out.Flat

@[expose] public section

set_option maxRecDepth 16384

noncomputable section

namespace Cert.Out

open Idealize.ShloMosaic Idealize.ShloMosaic.TcCoe Idealize.SL.Sem
open Cert.MixFwdIdeal Cert.MixFwdIdeal.Gen

variable (m : (ℓ : Loc nD τ sig) → Buf (Elt Ideal) ℓ) (c : Dev nD)

theorem idx_out : ∀ t : Fin grid0.N, win0_16.index t = ![t.val / 8 * 8 + t.val % 8, 0] := by
  decide +kernel

/-- The result over the flattened tokens. -/
def flat (A : Args) (i : S4096x1024.Idx) : EReal := A.flat (i 0) (i 1)

theorem kernel_dxo : (dats m 0 c).arrAt 16 cfg0.N = flat (args m c) := by
  refine (dats m 0 c).arrAt_eq_of_covers 16 _ (by decide +kernel) fun t hf y => ?_
  obtain ⟨r, x, rfl⟩ : ∃ (r : Fin 256) (x : Fin 1024), y = ix2 r x := ⟨y 0, y 1, eq_ix2 y⟩
  have lt := point_lt t
  have e : ((View.whole main_v48_2).slice (win0_16.rect t)).emb (ix2 r x) = ix2 ⟨(t.val / 8 * 8 + t.val % 8) * 256 + r.val, by omega⟩ x := by
    blk_ext [idx_out t]
  blk_simp
  rw [after0_16]
  refine Eq.trans ?_ (congrArg (flat (args m c)) e).symm
  change _ = (args m c).dxo ⟨((t.val / 8 * 8 + t.val % 8) * 256 + r.val) / 2048, _⟩ ⟨((t.val / 8 * 8 + t.val % 8) * 256 + r.val) % 2048, _⟩ x
  have eb : (⟨((t.val / 8 * 8 + t.val % 8) * 256 + r.val) / 2048, by omega⟩ : Fin 2) = batch t := Fin.ext (by simp [batch]; omega)
  have er : (⟨((t.val / 8 * 8 + t.val % 8) * 256 + r.val) % 2048, by omega⟩ : Fin 2048) = row t r := Fin.ext (by simp [row]; omega)
  rw [eb, er]
  exact dxo_point (at_point m c t) r x

end Cert.Out

end
-- ==== Proof.Out.Finite.lean ====
/- What the attention's precondition says: the arrays its softmaxes read hold real numbers. -/
module

public import proofs.«01_k».proof.Pre_attn_finite
public import proofs.«01_k».proof.Proof.Mix.Finite

@[expose] public section

set_option maxRecDepth 16384

noncomputable section

namespace Cert.Out

open Idealize.ShloMosaic Cert.Pre_attn_finite

instance attn_facts : Cert.Pre_attn_finite.Facts := by
  constructor <;> decide +kernel

variable {a0 a1 : FVec Ideal S2x2048x1024 .f32} {a2 : FVec Ideal S2x2048x768 .f32} {a3 : FVec Ideal S2x256x512 .f32} {a4 a5 : FVec Ideal S2x2048x1024 .f32}
  {a6 a7 : FVec Ideal S1x512 .f32} {a8 : FVec Ideal S1x4x128x128 .f32} {a9 : FVec Ideal S1x4x128 .f32} {a10 : FVec Ideal S1x4 .f32}
  {a11 : FVec Ideal S32x4 .f32} {a12 : FVec Ideal S1x1024 .f32} {a13 : FVec Ideal S1x1024x1024 .f32}

theorem real_of_attn (e : Cert.Pre_attn_finite.fn a0 a1 a2 a3 a4 a5 a6 a7 a8 a9 a10 a11 a12 a13 = fun _ => 1#1) :
    (∀ i, a2 i = ((EReal.toReal (a2 i) : ℝ) : EReal)) ∧ (∀ i, a3 i = ((EReal.toReal (a3 i) : ℝ) : EReal))
    ∧ (∀ i, a10 i = ((EReal.toReal (a10 i) : ℝ) : EReal)) ∧ (∀ i, a11 i = ((EReal.toReal (a11 i) : ℝ) : EReal)) := by
  have h := congrFun e (fun a => nomatch a)
  dsimp only [fn, fn_part1] at h
  obtain ⟨h, h11⟩ := Cert.Mix.and_one h
  obtain ⟨h, h10⟩ := Cert.Mix.and_one h
  obtain ⟨h, h3⟩ := Cert.Mix.and_one h
  obtain ⟨h, h2⟩ := Cert.Mix.and_one h
  exact ⟨Cert.Mix.real_of_all _ h2, Cert.Mix.real_of_all _ h3, Cert.Mix.real_of_all _ h10, Cert.Mix.real_of_all _ h11⟩

end Cert.Out

end
-- ==== Proof.Out.Average.lean ====
/- Weighted averages with the division before the product and after it: the same where the logits are below infinity. -/
module

public import proofs.«01_k».proof.Proof.Out.Spec

@[expose] public section

noncomputable section

namespace Cert.Out

open Idealize.ShloMosaic

theorem word_bot : (Ideal.ofBits .f32 0xFF800000#32 : EReal) = ⊥ := by
  simp [Ideal.ofBits, Ideal.ieee]

/-- A quotient is the dividend times the inverse, where the divisor is not zero. -/
theorem div_mul {p s : EReal} (hs : s ≠ 0) : Ideal.div p s = p * Ideal.div 1 s := by
  simp only [Ideal.div, if_neg hs, one_mul]

theorem exp_nonneg (x : EReal) : 0 ≤ Ideal.exp x := by
  induction x using EReal.rec with
  | bot => exact le_rfl
  | top => exact le_top
  | coe x => rw [Ideal.exp_coe]; exact EReal.coe_nonneg.2 (Real.exp_pos x).le

theorem exp_pos {x : ℝ} : 0 < Ideal.exp (x : EReal) := by
  rw [Ideal.exp_coe]; exact EReal.coe_pos.2 (Real.exp_pos x)

theorem exp_bot (m : EReal) : Ideal.exp (⊥ - m) = 0 := by
  rw [sub_eq_add_neg, EReal.bot_add]; rfl

/-- A maximum over a set that is indexed. -/
theorem fold_eq {ι : Type} {n : ℕ} {s : Finset ι} {f : ι → EReal} {z : Fin n → EReal} {b : EReal} (h1 : ∀ i ∈ s, ∃ j, f i = z j)
    (h2 : ∀ j, ∃ i ∈ s, f i = z j) : s.fold max b f = Finset.univ.fold max b z := by
  refine le_antisymm ((Finset.fold_max_le _).2 ⟨(Finset.le_fold_max _).2 (.inl le_rfl), fun i hi => ?_⟩)
    ((Finset.fold_max_le _).2 ⟨(Finset.le_fold_max _).2 (.inl le_rfl), fun j _ => ?_⟩)
  · obtain ⟨j, e⟩ := h1 i hi
    exact (Finset.le_fold_max _).2 (.inr ⟨j, Finset.mem_univ _, e.le⟩)
  · obtain ⟨i, hi, e⟩ := h2 j
    exact (Finset.le_fold_max _).2 (.inr ⟨i, hi, e.ge⟩)

theorem top_lt {n : ℕ} {z : Fin n → EReal} (hz : ∀ j, z j ≠ ⊤) : top z < ⊤ := by
  refine (Finset.fold_max_lt _).2 ⟨?_, fun j _ => lt_top_iff_ne_top.2 (hz j)⟩
  rw [word_bot]; exact bot_lt_top

theorem sink_den {z : Fin 256 → EReal} {s : EReal} {r : ℝ} (hz : ∀ j, z j ≠ ⊤) (hs : s = (r : EReal)) :
    (∑ i, Ideal.exp (z i - max (top z) s)) + Ideal.exp (s - max (top z) s) ≠ 0 := by
  obtain ⟨m, hm⟩ : ∃ m : ℝ, max (top z) s = (m : EReal) := by
    refine ⟨_, (EReal.coe_toReal (max_lt (top_lt hz) ?_).ne ?_).symm⟩
    · rw [hs]; exact EReal.coe_lt_top r
    · exact (lt_of_lt_of_le (hs ▸ EReal.bot_lt_coe r) (le_max_right _ _)).ne'
  rw [hm]
  have h : 0 < Ideal.exp (s - (m : EReal)) := by rw [hs, ← EReal.coe_sub]; exact exp_pos
  exact (lt_of_lt_of_le h (le_add_of_nonneg_left (Finset.sum_nonneg fun i _ => exp_nonneg _))).ne'

theorem sink_avg {z : Fin 256 → EReal} {s : EReal} {r : ℝ} (hz : ∀ j, z j ≠ ⊤) (hs : s = (r : EReal)) (v : Fin 256 → EReal) :
    ∑ j, Ideal.div (Ideal.exp (z j - max (top z) s)) ((∑ i, Ideal.exp (z i - max (top z) s)) + Ideal.exp (s - max (top z) s)) * v j = sinkAvg z s v := by
  exact Finset.sum_congr rfl fun j _ => by rw [div_mul (sink_den hz hs)]

theorem soft_avg {z : Fin 256 → EReal} {x : Fin 256 → ℝ} (hz : ∀ j, z j = (x j : EReal)) (v : Fin 256 → EReal) :
    ∑ j, Ideal.div (Ideal.exp (z j - top z)) (∑ i, Ideal.exp (z i - top z)) * v j = softAvg z v := by
  obtain ⟨m, hm⟩ : ∃ m : ℝ, top z = (m : EReal) := by
    refine ⟨_, (EReal.coe_toReal (top_lt fun j => ?_).ne ?_).symm⟩
    · rw [hz]; exact EReal.coe_ne_top _
    · refine (lt_of_lt_of_le (b := z 0) ?_ ((Finset.le_fold_max _).2 (.inr ⟨0, Finset.mem_univ _, le_rfl⟩))).ne'
      rw [hz]; exact EReal.bot_lt_coe _
  have h : (∑ i, Ideal.exp (z i - top z)) ≠ 0 := by
    refine (lt_of_lt_of_le (b := Ideal.exp (z 0 - top z)) ?_ (Finset.single_le_sum (f := fun i => Ideal.exp (z i - top z)) (fun i _ => exp_nonneg _) (Finset.mem_univ 0))).ne'
    rw [hm, hz, ← EReal.coe_sub]; exact exp_pos
  exact Finset.sum_congr rfl fun j _ => by rw [div_mul h]

end Cert.Out

end
-- ==== Proof.Out.Reference.lean ====
/- The reference's arrays at a point: what its arguments hold, and the three outputs side by side. -/
module

public import proofs.«01_k».proof.Proof.Out.Average
public import proofs.«01_k».proof.Proof.Gen.OutGradIdeal.Run

@[expose] public section

noncomputable section

namespace Cert.Out.Ref

open Idealize.ShloMosaic Cert.OutGradIdeal Cert.OutGradIdeal.Gen Cert.OutGradIdeal.Value

/-- What the reference's arguments hold. -/
structure Reads (A : Args) (V : Valuation τ sig (Elt Ideal)) : Prop where
  uv : ∀ b t c, (V (Proc.devRef .tc main_arg0) : FVec Ideal S2x2048x1024 .f32) (ix3 b t c) = A.uv b t c
  z : ∀ b t c, (V (Proc.devRef .tc main_arg1) : FVec Ideal S2x2048x1024 .f32) (ix3 b t c) = A.z b t c
  qkv : ∀ b t c, (V (Proc.devRef .tc main_arg2) : FVec Ideal S2x2048x768 .f32) (ix3 b t c) = A.qkv b t c
  mkv : ∀ b t c, (V (Proc.devRef .tc main_arg3) : FVec Ideal S2x256x512 .f32) (ix3 b t c) = A.mkv b t c
  x : ∀ b t c, (V (Proc.devRef .tc main_arg4) : FVec Ideal S2x2048x1024 .f32) (ix3 b t c) = A.x b t c
  tgt : ∀ b t c, (V (Proc.devRef .tc main_arg5) : FVec Ideal S2x2048x1024 .f32) (ix3 b t c) = A.tgt b t c
  vg : ∀ c, (V (Proc.devRef .tc main_arg6) : FVec Ideal S1x512 .f32) (ix2 0 c) = A.vg c
  vb : ∀ c, (V (Proc.devRef .tc main_arg7) : FVec Ideal S1x512 .f32) (ix2 0 c) = A.vb c
  ws : ∀ g i j, (V (Proc.devRef .tc main_arg8) : FVec Ideal S1x4x128x128 .f32) (ix4 0 g i j) = A.ws g i j
  bs : ∀ g i, (V (Proc.devRef .tc main_arg9) : FVec Ideal S1x4x128 .f32) (ix3 0 g i) = A.bs g i
  sink : ∀ h, (V (Proc.devRef .tc main_arg10) : FVec Ideal S1x4 .f32) (ix2 0 h) = A.sink h
  rel : ∀ n h, (V (Proc.devRef .tc main_arg11) : FVec Ideal S32x4 .f32) (ix2 n h) = A.rel n h
  g2 : ∀ c, (V (Proc.devRef .tc main_arg12) : FVec Ideal S1x1024 .f32) (ix2 0 c) = A.g2 c
  wo : ∀ c j, (V (Proc.devRef .tc main_arg13) : FVec Ideal S1x1024x1024 .f32) (ix3 0 c j) = A.wo c j

/-- The three outputs side by side, at a channel. -/
theorem cat_at (X : FVec Ideal S2x2048x512 .f32) (Y Z : FVec Ideal S2x2048x256 .f32)
    (b : Fin 2) (t : Fin 2048) (c : Fin 1024) :
    concatenate S2x2048x1024 2 [⟨S2x2048x512, X⟩, ⟨S2x2048x256, Y⟩, ⟨S2x2048x256, Z⟩] concatenates_S2x2048x512_S2x2048x256_S2x2048x256_S2x2048x1024_d2 (ix3 b t c)
      = if h : c.val < 512 then X (ix3 b t ⟨c.val, h⟩) else if h' : c.val - 512 < 256 then Y (ix3 b t ⟨c.val - 512, h'⟩) else Z (ix3 b t ⟨c.val - 512 - 256, by omega⟩) := by
  pointwise

/-- The first of the three outputs side by side: the gate's. -/
def gateOut (V : Valuation τ sig (Elt Ideal)) : FVec Ideal S2x2048x512 .f32 :=
  (mulf (mulf (res_main_v0 V) (mulf (broadcastInDim S2x2048x512 ![] bcast_S_S2x2048x512 (constant S_ .f32 0x3F000000#32)) (addf (broadcastInDim S2x2048x512 ![] bcast_S_S2x2048x512 (constant S_ .f32 0x3F800000#32)) (Host.tanh (mulf (broadcastInDim S2x2048x512 ![] bcast_S_S2x2048x512 (constant S_ .f32 0x3F4C422A#32)) (addf (res_main_v0 V) (mulf (broadcastInDim S2x2048x512 ![] bcast_S_S2x2048x512 (Host.divf (constant S_ .f32 0x472EAB00#32) (constant S_ .f32 0x49742400#32))) (mulf (mulf (res_main_v0 V) (res_main_v0 V)) (res_main_v0 V))))))))) (shapeCast _ (addf (transpose S2x16x128x4x128 [1, 2, 4, 0, 3] (Host.dotGeneral dot_S2x16x128x4x128_S4x128x128_S4x2x16x128x128_2_2_014_1_3_0 none (shapeCast _ (addf (mulf (mulf (subf (res_main_v38 V) (broadcastInDim S2x2048x4x128 ![0, 1, 2, 3] bcast_S2x2048x4x1_S2x2048x4x128_0_1_2_3 (res_main_v42 V))) (broadcastInDim S2x2048x4x128 ![0, 1, 2, 3] bcast_S2x2048x4x1_S2x2048x4x128_0_1_2_3 (Host.rsqrt (addf (Host.divf (broadcastInDim S2x2048x4x1 ![0, 1, 2] bcast_S2x2048x4_S2x2048x4x1_0_1_2 (Host.reduceAdd (mulf (res_main_v44 V) (res_main_v44 V)) (constant S_ .f32 0x00000000#32) reducesTo_S2x2048x4x128_S2x2048x4_d3 h_S_)) (broadcastInDim S2x2048x4x1 ![] bcast_S_S2x2048x4x1 (constant S_ .f32 0x43000000#32))) (broadcastInDim S2x2048x4x1 ![] bcast_S_S2x2048x4x1 (constant S_ .f32 0x358637BD#32)))))) (broadcastInDim S2x2048x4x128 ![0, 1, 2, 3] bcast_S1x1x4x128_S2x2048x4x128_0_1_2_3 (broadcastInDim S1x1x4x128 ![2, 3] bcast_S4x128_S1x1x4x128_2_3 (shapeCast _ (shapeCast _ (V (Proc.devRef .tc main_arg6)) shapeCasts_S1x512_S512) shapeCasts_S512_S4x128)))) (broadcastInDim S2x2048x4x128 ![0, 1, 2, 3] bcast_S1x1x4x128_S2x2048x4x128_0_1_2_3 (broadcastInDim S1x1x4x128 ![2, 3] bcast_S4x128_S1x1x4x128_2_3 (shapeCast _ (shapeCast _ (V (Proc.devRef .tc main_arg7)) shapeCasts_S1x512_S512) shapeCasts_S512_S4x128)))) shapeCasts_S2x2048x4x128_S2x16x128x4x128) (mulf (shapeCast _ (V (Proc.devRef .tc main_arg8)) shapeCasts_S1x4x128x128_S4x128x128) (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S4x2x16x128x128_S2x16x128x4x128_1_2_4_0_3) (broadcastInDim S2x16x128x4x128 ![0, 1, 2, 3, 4] bcast_S1x1x128x4x1_S2x16x128x4x128_0_1_2_3_4 (broadcastInDim S1x1x128x4x1 ![2, 3] bcast_S128x4_S1x1x128x4x1_2_3 (transpose S128x4 [1, 0] (shapeCast _ (V (Proc.devRef .tc main_arg9)) shapeCasts_S1x4x128_S4x128) transposes_S4x128_S128x4_1_0)))) shapeCasts_S2x16x128x4x128_S2x2048x512))

/-- The second: the window attention's. -/
def winOut (V : Valuation τ sig (Elt Ideal)) : FVec Ideal S2x2048x256 .f32 :=
  (shapeCast _ (transpose S2x16x128x2x2x64 [0, 1, 5, 2, 4, 3] (Host.dotGeneral dot_S2x16x256x2x64_S2x16x2x2x128x256_S2x16x2x64x2x128_2_5_4_34_013_012 none (concatenate S2x16x256x2x64 2 [⟨S2x16x128x2x64, (concatenate S2x16x128x2x64 1 [⟨S2x1x128x2x64, (broadcastInDim S2x1x128x2x64 ![] bcast_S_S2x1x128x2x64 (constant S_ .f32 0x00000000#32))⟩, ⟨S2x15x128x2x64, (extractStridedSlice S2x15x128x2x64 ![0, 0, 0, 0, 0] (res_main_v90 V) slices_S2x16x128x2x64_S2x15x128x2x64_0_0_0_0_0)⟩] concatenates_S2x1x128x2x64_S2x15x128x2x64_S2x16x128x2x64_d1)⟩, ⟨S2x16x128x2x64, (res_main_v90 V)⟩] concatenates_S2x16x128x2x64_S2x16x128x2x64_S2x16x256x2x64_d2) (Host.divf (res_main_v123 V) (broadcastInDim S2x16x2x2x128x256 ![0, 1, 2, 3, 4, 5] bcast_S2x16x2x2x128x1_S2x16x2x2x128x256_0_1_2_3_4_5 (addf (broadcastInDim S2x16x2x2x128x1 ![0, 1, 2, 3, 4] bcast_S2x16x2x2x128_S2x16x2x2x128x1_0_1_2_3_4 (Host.reduceAdd (res_main_v123 V) (constant S_ .f32 0x00000000#32) reducesTo_S2x16x2x2x128x256_S2x16x2x2x128_d5 h_S_)) (Host.exp (subf (broadcastInDim S2x16x2x2x128x1 ![0, 1, 2, 3, 4, 5] bcast_S1x1x2x2x1x1_S2x16x2x2x128x1_0_1_2_3_4_5 (res_main_v116 V)) (res_main_v120 V))))))) transposes_S2x16x2x64x2x128_S2x16x128x2x2x64_0_1_5_2_4_3) shapeCasts_S2x16x128x2x2x64_S2x2048x256)

/-- The third: the memory attention's. -/
def memOut (V : Valuation τ sig (Elt Ideal)) : FVec Ideal S2x2048x256 .f32 :=
  (shapeCast _ (transpose S2x2048x4x64 [0, 3, 1, 2] (Host.dotGeneral (φ₁ := .f32) dot_S2x256x4x64_S2x4x2048x256_S2x4x64x2048_1_3_3_2_02_01 none (shapeCast _ (extractStridedSlice S2x256x256 ![0, 0, 256] (V (Proc.devRef .tc main_arg3)) slices_S2x256x512_S2x256x256_0_0_256) shapeCasts_S2x256x256_S2x256x4x64) (Host.divf (res_main_v149 V) (broadcastInDim S2x4x2048x256 ![0, 1, 2, 3] bcast_S2x4x2048x1_S2x4x2048x256_0_1_2_3 (broadcastInDim S2x4x2048x1 ![0, 1, 2] bcast_S2x4x2048_S2x4x2048x1_0_1_2 (Host.reduceAdd (res_main_v149 V) (constant S_ .f32 0x00000000#32) reducesTo_S2x4x2048x256_S2x4x2048_d3 h_S_))))) transposes_S2x4x64x2048_S2x2048x4x64_0_3_1_2) shapeCasts_S2x2048x4x64_S2x2048x256)

theorem v157_eq (V : Valuation τ sig (Elt Ideal)) : res_main_v157 V = concatenate S2x2048x1024 2 [⟨S2x2048x512, gateOut V⟩, ⟨S2x2048x256, winOut V⟩, ⟨S2x2048x256, memOut V⟩]
    concatenates_S2x2048x512_S2x2048x256_S2x2048x256_S2x2048x1024_d2 := rfl

theorem v157_at (V : Valuation τ sig (Elt Ideal)) (b : Fin 2) (t : Fin 2048) (c : Fin 1024) : res_main_v157 V (ix3 b t c)
    = if h : c.val < 512 then gateOut V (ix3 b t ⟨c.val, h⟩) else if h' : c.val - 512 < 256 then winOut V (ix3 b t ⟨c.val - 512, h'⟩) else memOut V (ix3 b t ⟨c.val - 512 - 256, by omega⟩) := by
  rw [v157_eq]; exact cat_at ..

end Cert.Out.Ref

end
-- ==== Proof.Out.RefGate.lean ====
/- The gate in the reference. -/
module

public import proofs.«01_k».proof.Proof.Out.Reference
public import proofs.«01_k».proof.Proof.Mix.Reference

@[expose] public section

noncomputable section

namespace Cert.Out.Ref

open Idealize.ShloMosaic Cert.OutGradIdeal Cert.OutGradIdeal.Gen Cert.OutGradIdeal.Value

/-- The reference's form of the activation. -/
theorem gel_ref (x : EReal) :
    x * (half * (1 + Ideal.tanh (gC * (x + Ideal.div (Ideal.ofBits .f32 0x472EAB00#32) (Ideal.ofBits .f32 0x49742400#32) * (x * x * x))))) = gel x := by
  rw [Cert.Mix.coeff, show (((Cert.Mix.gA : ℝ)) : EReal) = gA from rfl, gel]
  simp only [mul_assoc, mul_left_comm, mul_comm]

theorem tok_div (t : Fin 2048) : tok ⟨t.val / 128, by omega⟩ ⟨t.val % 128, by omega⟩ = t := Fin.ext (by simp only [tok]; omega)
theorem ch_div (c : Fin 512) : ch ⟨c.val / 128, by omega⟩ ⟨c.val % 128, by omega⟩ = c := Fin.ext (by simp only [ch]; omega)

/-- The lower part of the weights, as the reference selects it. -/
theorem tril (i k : Fin 128) (x w : EReal) :
    Scalar.select (IntOp.cmpi .sge (IntOp.addi (BitVec.ofNat 32 i.val) 0#32) (BitVec.ofNat 32 k.val)) (x * w) 0 = w * (if k ≤ i then 1 else 0) * x := by
  rw [show IntOp.addi (BitVec.ofNat 32 i.val) 0#32 = BitVec.ofNat 32 i.val from BitVec.add_zero _, WordCmp.cmpi_sge_ofNat (by omega) (by omega)]
  by_cases h : k ≤ i <;> simp [h, Scalar.select, mul_comm]

variable {A : Args} {V : Valuation τ sig (Elt Ideal)} (R : Reads A V) (b : Fin 2) (t : Fin 2048) (g : Fin 4) (j : Fin 128)

include R

theorem v0_at (c : Fin 512) : res_main_v0 V (ix3 b t c) = A.uv b t (lo c) := by
  pointwise [res_main_v0]
  exact R.uv ..

theorem v1_at (c : Fin 512) : res_main_v1 V (ix3 b t c) = A.uv b t (hi c) := by
  pointwise [res_main_v1]
  exact R.uv ..

/-- A row of the activated second half. -/
abbrev row (A : Args) (b : Fin 2) (t : Fin 2048) (g : Fin 4) (j : Fin 128) : EReal := gel (A.uv b t (hi (ch g j)))

theorem v38_at : res_main_v38 V (ix4 b t g j) = row A b t g j := by
  pointwise [res_main_v38]
  simp only [v1_at R]
  exact gel_ref _

theorem v42_at (z : Fin 1) : res_main_v42 V (ix4 b t g z) = mean (row A b t g) := by
  pointwise [res_main_v42]
  simp only [v38_at R]
  rfl

theorem v44_at : res_main_v44 V (ix4 b t g j) = cen (row A b t g) j := by
  pointwise [res_main_v44]
  simp only [v38_at R, v42_at R]
  rfl

theorem gate_at (c : Fin 512) : gateOut V (ix3 b t c) = A.ya b ⟨t.val / 128, by omega⟩ ⟨c.val / 128, by omega⟩ ⟨t.val % 128, by omega⟩ ⟨c.val % 128, by omega⟩ := by
  pointwise [gateOut]
  simp only [v0_at R, v38_at R, v42_at R, v44_at R, R.vg, R.vb, R.ws, R.bs]
  refine (congrArg₂ (fun x y : EReal => x * y) (gel_ref (A.uv b t (lo c))) (rfl : _ = _)).trans ?_
  simp only [Args.ya, gate, tok_div, ch_div]
  refine congrArg (fun s => gel (A.uv b t (lo c)) * (s + A.bs ⟨c.val / 128, by omega⟩ ⟨t.val % 128, by omega⟩)) (Finset.sum_congr rfl fun k _ => ?_)
  exact tril ⟨t.val % 128, by omega⟩ k (nrm (row A b (tok ⟨t.val / 128, by omega⟩ k) ⟨c.val / 128, by omega⟩) ⟨c.val % 128, by omega⟩ * A.vg c + A.vb c)
    (A.ws ⟨c.val / 128, by omega⟩ ⟨t.val % 128, by omega⟩ k)

end Cert.Out.Ref

end
-- ==== Proof.Out.RefReal.lean ====
/- The scores over finite arguments are real, and the logits below infinity. -/
module

public import proofs.«01_k».proof.Proof.Out.Reference
public import proofs.«01_k».proof.Proof.Mix.Cross

@[expose] public section

noncomputable section

namespace Cert.Out

open Idealize.ShloMosaic

/-- The arguments of the two attentions are finite. -/
structure Args.Real (A : Args) : Prop where
  qkv : ∀ b t c, ∃ r : ℝ, A.qkv b t c = (r : EReal)
  mkv : ∀ b t c, ∃ r : ℝ, A.mkv b t c = (r : EReal)
  sink : ∀ h, ∃ r : ℝ, A.sink h = (r : EReal)
  rel : ∀ n h, ∃ r : ℝ, A.rel n h = (r : EReal)

theorem score_real {n : ℕ} {q : Fin 64 → EReal} {k : Fin n → Fin 64 → EReal} (hq : ∀ d, ∃ r : ℝ, q d = (r : EReal))
    (hk : ∀ j d, ∃ r : ℝ, k j d = (r : EReal)) (j : Fin n) : ∃ r : ℝ, score q k j = (r : EReal) := by
  choose q' hq using hq
  choose k' hk using hk
  refine ⟨(∑ d, q' d * k' j d) * (1 / 8), ?_⟩
  rw [score, eighth, Cert.Mix.word_8th]
  simp only [hq, hk, ← EReal.coe_mul, ← Cert.Mix.coe_sum]

variable {A : Args} (F : A.Real) (b : Fin 2)

include F

theorem Args.Real.logit (n : Fin 16) (h : Fin 4) (i : Fin 128) (j : Fin 256) : A.logit b n h i j ≠ ⊤ := by
  obtain ⟨s, hs⟩ := score_real (q := A.q b (tok n i) h) (k := fun j => A.k b (band n j) (kvh h)) (fun d => F.qkv ..) (fun j d => F.qkv ..) j
  obtain ⟨r, hr⟩ := F.rel (bucket (i.val + 128 - j.val)) h
  rw [Args.logit, hs, Args.bias, Args.first, hr]
  split_ifs
  · rw [EReal.add_bot]; exact bot_ne_top
  · rw [add_zero, ← EReal.coe_add]; exact EReal.coe_ne_top _
  · rw [EReal.add_bot]; exact bot_ne_top
  · rw [EReal.add_bot, EReal.bot_add]; exact bot_ne_top

theorem Args.Real.cross (t : Fin 2048) (h : Fin 4) : ∃ x : Fin 256 → ℝ, ∀ j, score (A.cq b t h) (fun j => A.mkey b j h) j = (x j : EReal) := by
  have := score_real (q := A.cq b t h) (k := fun j => A.mkey b j h) (fun d => F.qkv ..) (fun j d => F.mkv ..)
  choose x hx using this
  exact ⟨x, hx⟩

end Cert.Out

end
-- ==== Proof.Out.RefCross.lean ====
/- The attention over the memory in the reference. -/
module

public import proofs.«01_k».proof.Proof.Out.RefReal

@[expose] public section

noncomputable section

namespace Cert.Out.Ref

open Idealize.ShloMosaic Cert.OutGradIdeal Cert.OutGradIdeal.Gen Cert.OutGradIdeal.Value

/-- The largest over the last of four axes. -/
theorem hostMax_4_3 (x : FVec Ideal S2x4x2048x256 .f32) (b : Fin 2) (h : Fin 4) (t : Fin 2048) :
    Host.reduce FloatOps.maximumf x (constant S_ .f32 0xFF800000#32) reducesTo_S2x4x2048x256_S2x4x2048_d3 h_S_ (ix3 b h t) = top fun j => x (ix4 b h t j) := by
  pointwise
  rfl

/-- A row of exponentials, shifted by the larger of two numbers. -/
theorem shifted (z : FVec Ideal S_ .f32) (x : FVec Ideal S2x4x2048x256 .f32) (y : FVec Ideal S2x4x2048 .f32) (b : Fin 2) (h : Fin 4) (t : Fin 2048) (m : Fin 256) :
    Host.exp (subf x (broadcastInDim S2x4x2048x256 ![0, 1, 2, 3] bcast_S2x4x2048x1_S2x4x2048x256_0_1_2_3
      (broadcastInDim S2x4x2048x1 ![0, 1, 2] bcast_S2x4x2048_S2x4x2048x1_0_1_2
        (maximumf (broadcastInDim S2x4x2048 ![] bcast_S_S2x4x2048 z) y)))) (ix4 b h t m)
      = Ideal.exp (x (ix4 b h t m) - max (z ix0) (y (ix3 b h t))) := by
  pointwise

/-- The weights' average of the memory's values. -/
theorem averaged (M : FVec Ideal S2x256x512 .f32) (W : FVec Ideal S2x4x2048x256 .f32) (b : Fin 2) (t : Fin 2048) (c : Fin 256) :
    (shapeCast S2x2048x256 (transpose S2x2048x4x64 [0, 3, 1, 2] (Host.dotGeneral (φ₁ := .f32) (φ₂ := .f32) dot_S2x256x4x64_S2x4x2048x256_S2x4x64x2048_1_3_3_2_02_01 none (shapeCast S2x256x4x64 (extractStridedSlice S2x256x256 ![0, 0, 256] M slices_S2x256x512_S2x256x256_0_0_256) shapeCasts_S2x256x256_S2x256x4x64) (Host.divf W (broadcastInDim S2x4x2048x256 ![0, 1, 2, 3] bcast_S2x4x2048x1_S2x4x2048x256_0_1_2_3 (broadcastInDim S2x4x2048x1 ![0, 1, 2] bcast_S2x4x2048_S2x4x2048x1_0_1_2 (Host.reduceAdd W (constant S_ .f32 0x00000000#32) reducesTo_S2x4x2048x256_S2x4x2048_d3 h_S_))))) transposes_S2x4x64x2048_S2x2048x4x64_0_3_1_2) shapeCasts_S2x2048x4x64_S2x2048x256 : FVec Ideal S2x2048x256 .f32) (ix3 b t c)
      = ∑ j, M (ix3 b j ⟨256 + c.val, by omega⟩) * Ideal.div (W (ix4 b ⟨c.val / 64, by omega⟩ t j)) (∑ i, W (ix4 b ⟨c.val / 64, by omega⟩ t i)) := by
  pointwise

variable {A : Args} {V : Valuation τ sig (Elt Ideal)} (R : Reads A V) (b : Fin 2) (t : Fin 2048) (h : Fin 4)

include R

theorem v142_at (j : Fin 256) : res_main_v142 V (ix4 b h t j) = score (A.cq b t h) (fun j => A.mkey b j h) j := by
  pointwise [res_main_v142]
  simp only [R.qkv, R.mkv]
  rfl

theorem v149_at (j : Fin 256) : res_main_v149 V (ix4 b h t j)
    = Ideal.exp (score (A.cq b t h) (fun j => A.mkey b j h) j - top (score (A.cq b t h) (fun j => A.mkey b j h))) := by
  refine (shifted (constant S_ .f32 0xFF800000#32) (res_main_v142 V) _ b h t j).trans ?_
  have hz : (constant S_ .f32 0xFF800000#32 : FVec Ideal S_ .f32) ix0 = (⊥ : EReal) := word_bot
  rw [hz, max_eq_right bot_le, hostMax_4_3]
  simp only [v142_at R]

theorem mem_at (F : A.Real) (c : Fin 256) : memOut V (ix3 b t c) = A.yc b t ⟨c.val / 64, by omega⟩ ⟨c.val % 64, by omega⟩ := by
  obtain ⟨x, hx⟩ := F.cross b t ⟨c.val / 64, by omega⟩
  refine (averaged (V (Proc.devRef .tc main_arg3)) (res_main_v149 V) b t c).trans ?_
  rw [Args.yc, ← soft_avg hx]
  simp only [v149_at R, R.mkv]
  refine Finset.sum_congr rfl fun j _ => ?_
  rw [mul_comm]
  refine congrArg (_ * ·) (congrArg (A.mkv b j) (Fin.ext ?_))
  simp only
  omega

end Cert.Out.Ref

end
-- ==== Proof.Out.RefBand.lean ====
/- The window attention's output as two sums, over the block before and over the block itself. -/
module

public import proofs.«01_k».proof.Proof.Out.RefReal

@[expose] public section

noncomputable section

namespace Cert.Out

open Idealize.ShloMosaic

theorem band_lo (n : Fin 16) (j : Fin 256) (h : j.val < 128) : band n j = tok ⟨n.val - 1, by omega⟩ ⟨j.val, h⟩ := Fin.ext (by simp only [band, dif_pos h, tok])
theorem band_hi (n : Fin 16) (j : Fin 256) (h : ¬j.val < 128) : band n j = tok n ⟨j.val - 128, by omega⟩ := Fin.ext (by simp only [band, dif_neg h, tok])

theorem split256 (f : Fin 256 → EReal) : ∑ j, f j = (∑ x : Fin 128, f ⟨x.val, by omega⟩) + ∑ x : Fin 128, f ⟨128 + x.val, by omega⟩ :=
  Fin.sum_univ_add (a := 128) (b := 128) f

/-- A place's weight, divided by the row's sum. -/
def wt (z : Fin 256 → EReal) (s : EReal) (j : Fin 256) : EReal :=
  Ideal.div (Ideal.exp (z j - max (top z) s)) ((∑ p, Ideal.exp (z p - max (top z) s)) + Ideal.exp (s - max (top z) s))

variable {A : Args} (F : A.Real) (b : Fin 2) (n : Fin 16) (h : Fin 4) (i : Fin 128) (d : Fin 64)

include F

theorem yw_split : A.yw b n h i d
    = (∑ x : Fin 128, (if _h : n.val < 1 then 0 else A.v b (tok ⟨n.val - 1, by omega⟩ x) (Args.kvh h) d) * wt (A.logit b n h i) (A.sink h) ⟨x.val, by omega⟩)
      + ∑ x : Fin 128, A.v b (tok n x) (Args.kvh h) d * wt (A.logit b n h i) (A.sink h) ⟨128 + x.val, by omega⟩ := by
  obtain ⟨s, hs⟩ := F.sink h
  have hz : ∀ j, A.logit b n h i j ≠ ⊤ := F.logit b n h i
  rw [Args.yw, ← sink_avg hz hs, split256]
  refine congrArg₂ (fun x y : EReal => x + y) (Finset.sum_congr rfl fun x _ => ?_) (Finset.sum_congr rfl fun x _ => ?_)
  · rw [band_lo n ⟨x.val, by omega⟩ x.isLt, mul_comm]
    by_cases hn : n.val < 1
    · have hb : A.logit b n h i ⟨x.val, by omega⟩ = ⊥ := by
        rw [Args.logit, Args.first, if_pos ⟨x.isLt, by omega⟩, EReal.add_bot]
      rw [dif_pos hn, hb, exp_bot, div_mul (sink_den hz hs), zero_mul, zero_mul, mul_zero]
    · rw [dif_neg hn]; rfl
  · rw [band_hi n ⟨128 + x.val, by omega⟩ (by simp only; omega), mul_comm]
    have e : (⟨128 + x.val - 128, by omega⟩ : Fin 128) = x := Fin.ext (by simp only; omega)
    refine congrArg₂ (fun x y : EReal => x * y) (congrArg (fun q => A.v b (tok n q) (Args.kvh h) d) e) rfl

end Cert.Out

end
-- ==== Proof.Out.Tab.Window0.lean ====
/- The window's table at the rows from 0 on. -/
module

public import proofs.«01_k».proof.Proof.Gen.OutGradIdeal.Run

@[expose] public section

set_option maxRecDepth 65536

noncomputable section

namespace Cert.Out

theorem window_lit_0 : ∀ (i : Fin 32) (j : Fin 256), Cert.OutGradIdeal.lit0t ((0 + i.val) * 256 + j.val)
    = if 0 + i.val < j.val ∧ j.val ≤ 0 + i.val + 128 then 1#1 else 0#1 := by
  decide +kernel

end Cert.Out

end
-- ==== Proof.Out.Tab.Window1.lean ====
/- The window's table at the rows from 32 on. -/
module

public import proofs.«01_k».proof.Proof.Gen.OutGradIdeal.Run

@[expose] public section

set_option maxRecDepth 65536

noncomputable section

namespace Cert.Out

theorem window_lit_1 : ∀ (i : Fin 32) (j : Fin 256), Cert.OutGradIdeal.lit0t ((32 + i.val) * 256 + j.val)
    = if 32 + i.val < j.val ∧ j.val ≤ 32 + i.val + 128 then 1#1 else 0#1 := by
  decide +kernel

end Cert.Out

end
-- ==== Proof.Out.Tab.Window2.lean ====
/- The window's table at the rows from 64 on. -/
module

public import proofs.«01_k».proof.Proof.Gen.OutGradIdeal.Run

@[expose] public section

set_option maxRecDepth 65536

noncomputable section

namespace Cert.Out

theorem window_lit_2 : ∀ (i : Fin 32) (j : Fin 256), Cert.OutGradIdeal.lit0t ((64 + i.val) * 256 + j.val)
    = if 64 + i.val < j.val ∧ j.val ≤ 64 + i.val + 128 then 1#1 else 0#1 := by
  decide +kernel

end Cert.Out

end
-- ==== Proof.Out.Tab.Window3.lean ====
/- The window's table at the rows from 96 on. -/
module

public import proofs.«01_k».proof.Proof.Gen.OutGradIdeal.Run

@[expose] public section

set_option maxRecDepth 65536

noncomputable section

namespace Cert.Out

theorem window_lit_3 : ∀ (i : Fin 32) (j : Fin 256), Cert.OutGradIdeal.lit0t ((96 + i.val) * 256 + j.val)
    = if 96 + i.val < j.val ∧ j.val ≤ 96 + i.val + 128 then 1#1 else 0#1 := by
  decide +kernel

end Cert.Out

end
-- ==== Proof.Out.Tab.Bucket0.lean ====
/- The table of buckets at the rows from 0 on, at the distances inside the window. -/
module

public import proofs.«01_k».proof.Proof.Gen.OutGradIdeal.Run
public import proofs.«01_k».proof.Proof.Out.Spec

@[expose] public section

set_option maxRecDepth 65536

noncomputable section

namespace Cert.Out

theorem bucket_lit_0 : ∀ (i : Fin 32) (d : Fin 128), Cert.OutGradIdeal.lit2t ((0 + i.val) * 256 + (0 + i.val + 128 - d.val))
    = BitVec.ofNat 32 (bucketN d.val) := by
  decide +kernel

end Cert.Out

end
-- ==== Proof.Out.Tab.Bucket1.lean ====
/- The table of buckets at the rows from 32 on, at the distances inside the window. -/
module

public import proofs.«01_k».proof.Proof.Gen.OutGradIdeal.Run
public import proofs.«01_k».proof.Proof.Out.Spec

@[expose] public section

set_option maxRecDepth 65536

noncomputable section

namespace Cert.Out

theorem bucket_lit_1 : ∀ (i : Fin 32) (d : Fin 128), Cert.OutGradIdeal.lit2t ((32 + i.val) * 256 + (32 + i.val + 128 - d.val))
    = BitVec.ofNat 32 (bucketN d.val) := by
  decide +kernel

end Cert.Out

end
-- ==== Proof.Out.Tab.Bucket2.lean ====
/- The table of buckets at the rows from 64 on, at the distances inside the window. -/
module

public import proofs.«01_k».proof.Proof.Gen.OutGradIdeal.Run
public import proofs.«01_k».proof.Proof.Out.Spec

@[expose] public section

set_option maxRecDepth 65536

noncomputable section

namespace Cert.Out

theorem bucket_lit_2 : ∀ (i : Fin 32) (d : Fin 128), Cert.OutGradIdeal.lit2t ((64 + i.val) * 256 + (64 + i.val + 128 - d.val))
    = BitVec.ofNat 32 (bucketN d.val) := by
  decide +kernel

end Cert.Out

end
-- ==== Proof.Out.Tab.Bucket3.lean ====
/- The table of buckets at the rows from 96 on, at the distances inside the window. -/
module

public import proofs.«01_k».proof.Proof.Gen.OutGradIdeal.Run
public import proofs.«01_k».proof.Proof.Out.Spec

@[expose] public section

set_option maxRecDepth 65536

noncomputable section

namespace Cert.Out

theorem bucket_lit_3 : ∀ (i : Fin 32) (d : Fin 128), Cert.OutGradIdeal.lit2t ((96 + i.val) * 256 + (96 + i.val + 128 - d.val))
    = BitVec.ofNat 32 (bucketN d.val) := by
  decide +kernel

end Cert.Out

end
-- ==== Proof.Out.Tables.lean ====
/- The reference's tables — the window, the first block's mask and the buckets of the distances — as formulas. -/
module

public import proofs.«01_k».proof.Proof.Out.Tab.Window0
public import proofs.«01_k».proof.Proof.Out.Tab.Window1
public import proofs.«01_k».proof.Proof.Out.Tab.Window2
public import proofs.«01_k».proof.Proof.Out.Tab.Window3
public import proofs.«01_k».proof.Proof.Out.Tab.Bucket0
public import proofs.«01_k».proof.Proof.Out.Tab.Bucket1
public import proofs.«01_k».proof.Proof.Out.Tab.Bucket2
public import proofs.«01_k».proof.Proof.Out.Tab.Bucket3

@[expose] public section

set_option maxRecDepth 65536

noncomputable section

namespace Cert.Out

theorem window_lit (i : Fin 128) (j : Fin 256) : Cert.OutGradIdeal.lit0t (i.val * 256 + j.val)
    = if i.val < j.val ∧ j.val ≤ i.val + 128 then 1#1 else 0#1 := by
  have hi := i.isLt
  have k : ∀ b : ℕ, b ≤ i.val → i.val < b + 32 → ∃ i' : Fin 32, b + i'.val = i.val := fun b h0 h1 => ⟨⟨i.val - b, by omega⟩, by simp only; omega⟩
  rcases (by omega : i.val < 32 ∨ 32 ≤ i.val ∧ i.val < 64 ∨ 64 ≤ i.val ∧ i.val < 96 ∨ 96 ≤ i.val) with h | h | h | h
  · obtain ⟨i', e⟩ := k 0 (by omega) (by omega)
    simpa only [e] using window_lit_0 i' j
  · obtain ⟨i', e⟩ := k 32 (by omega) (by omega)
    simpa only [e] using window_lit_1 i' j
  · obtain ⟨i', e⟩ := k 64 (by omega) (by omega)
    simpa only [e] using window_lit_2 i' j
  · obtain ⟨i', e⟩ := k 96 (by omega) (by omega)
    simpa only [e] using window_lit_3 i' j

theorem bucket_lit_at (i d : Fin 128) : Cert.OutGradIdeal.lit2t (i.val * 256 + (i.val + 128 - d.val)) = BitVec.ofNat 32 (bucketN d.val) := by
  have hi := i.isLt
  have k : ∀ b : ℕ, b ≤ i.val → i.val < b + 32 → ∃ i' : Fin 32, b + i'.val = i.val := fun b h0 h1 => ⟨⟨i.val - b, by omega⟩, by simp only; omega⟩
  rcases (by omega : i.val < 32 ∨ 32 ≤ i.val ∧ i.val < 64 ∨ 64 ≤ i.val ∧ i.val < 96 ∨ 96 ≤ i.val) with h | h | h | h
  · obtain ⟨i', e⟩ := k 0 (by omega) (by omega)
    simpa only [e] using bucket_lit_0 i' d
  · obtain ⟨i', e⟩ := k 32 (by omega) (by omega)
    simpa only [e] using bucket_lit_1 i' d
  · obtain ⟨i', e⟩ := k 64 (by omega) (by omega)
    simpa only [e] using bucket_lit_2 i' d
  · obtain ⟨i', e⟩ := k 96 (by omega) (by omega)
    simpa only [e] using bucket_lit_3 i' d

theorem bucket_lit (i : Fin 128) (j : Fin 256) (h0 : i.val < j.val) (h1 : j.val ≤ i.val + 128) : Cert.OutGradIdeal.lit2t (i.val * 256 + j.val)
    = BitVec.ofNat 32 (bucketN (i.val + 128 - j.val)) := by
  rw [← bucket_lit_at i ⟨i.val + 128 - j.val, by omega⟩]
  congr 2
  simp only
  omega

theorem first_lit : ∀ (n : Fin 16) (j : Fin 256), Cert.OutGradIdeal.lit1t (n.val * 256 + j.val)
    = if j.val < 128 ∧ n.val = 0 then 0#1 else 1#1 := by
  decide +kernel

end Cert.Out

end
-- ==== Proof.Out.RefTables.lean ====
/- The reference's tables at a pair of places, and the bias that they pick. -/
module

public import proofs.«01_k».proof.Proof.Out.RefReal
public import proofs.«01_k».proof.Proof.Out.Gather
public import proofs.«01_k».proof.Proof.Out.Tables

@[expose] public section

noncomputable section

namespace Cert.Out.Ref

open Idealize.ShloMosaic Cert.OutGradIdeal Cert.OutGradIdeal.Gen Cert.OutGradIdeal.Value

/-- The bias at a pair of places, as a head's array of them. -/
def relAt (V : Valuation τ sig (Elt Ideal)) : FVec Ideal S128x256x4 .f32 :=
  Host.gather gather_S32x4_S128x256x1_S128x256x4_2_0_n_n_0_2_14 (V (Proc.devRef .tc main_arg11)) (broadcastInDim S128x256x1 ![0, 1] bcast_S128x256_S128x256x1_0_1 (select (constantI S128x256 1 0#1) (addi (res_main_c_1 V) (broadcastInDim S128x256 ![] bcast_S_S128x256 (constantI S_ 32 32#32))) (res_main_c_1 V)))

theorem lit0_val (x : Fin 32768) : lit0 x = lit0t x.val := by cases x; with_reducible rfl
theorem lit1_val (x : Fin 4096) : lit1 x = lit1t x.val := by cases x; with_reducible rfl
theorem lit2_val (x : Fin 32768) : lit2 x = lit2t x.val := by cases x; with_reducible rfl

theorem pair_val (i : Fin 128) (j : Fin 256) : (S128x256.rowMajor (ix2 i j)).val = i.val * 256 + j.val := by
  rw [Shape.rowMajor_val_two]; rfl

theorem triple_val (n : Fin 16) (z : Fin 1) (j : Fin 256) : (S16x1x256.rowMajor (ix3 n z j)).val = n.val * 256 + j.val := by
  rw [Shape.rowMajor_val_three]
  show (n.val * 1 + z.val) * 256 + j.val = _
  omega

theorem window_at (i : Fin 128) (j : Fin 256) : lit0 (S128x256.rowMajor (ix2 i j)) = if i.val < j.val ∧ j.val ≤ i.val + 128 then 1#1 else 0#1 :=
  ((lit0_val _).trans (congrArg lit0t (pair_val i j))).trans (window_lit i j)

theorem bucket_at (i : Fin 128) (j : Fin 256) (h0 : i.val < j.val) (h1 : j.val ≤ i.val + 128) :
    lit2 (S128x256.rowMajor (ix2 i j)) = BitVec.ofNat 32 (bucketN (i.val + 128 - j.val)) :=
  ((lit2_val _).trans (congrArg lit2t (pair_val i j))).trans (bucket_lit i j h0 h1)

theorem first_at (n : Fin 16) (j : Fin 256) (z : Fin 1) : lit1 (S16x1x256.rowMajor (ix3 n z j)) = if j.val < 128 ∧ n.val = 0 then 0#1 else 1#1 :=
  ((lit1_val _).trans (congrArg lit1t (triple_val n z j))).trans (first_lit n j)

/-- A row of the table that a small index picks. -/
theorem picked (T : FVec Ideal S32x4 .f32) (I : IVec S128x256 32) (i : Fin 128) (j : Fin 256) (h : Fin 4) (d : ℕ) (hd : d < 32) (hI : I (ix2 i j) = BitVec.ofNat 32 d) :
    Host.gather gather_S32x4_S128x256x1_S128x256x4_2_0_n_n_0_2_14 T (broadcastInDim S128x256x1 ![0, 1] bcast_S128x256_S128x256x1_0_1 (select (constantI S128x256 1 0#1) (addi I (broadcastInDim S128x256 ![] bcast_S_S128x256 (constantI S_ 32 32#32))) I)) (ix3 i j h)
      = T (ix2 ⟨d, hd⟩ h) := by
  refine (Cert.Out.gather_rows (N := 32) (D := 4) (R := 128) (C := 256) (by decide) _ _ _ i j h).trans ?_
  have e : (broadcastInDim S128x256x1 ![0, 1] bcast_S128x256_S128x256x1_0_1 (select (constantI S128x256 1 0#1) (addi I (broadcastInDim S128x256 ![] bcast_S_S128x256 (constantI S_ 32 32#32))) I)) (ValueIdx.ix3 i j 0) = BitVec.ofNat 32 d := by
    refine Eq.trans ?_ hI
    pointwise
  refine congrArg T (congrArg (fun q => ix2 q h) (Fin.ext ?_))
  show min (BitVec.toInt (_ : BitVec 32)).toNat 31 = d
  rw [e]
  exact (by decide : ∀ d : Fin 32, min (BitVec.ofNat 32 d.val).toInt.toNat 31 = d.val) ⟨d, hd⟩

variable {A : Args} {V : Valuation τ sig (Elt Ideal)} (R : Reads A V) (b : Fin 2) (n : Fin 16) (i : Fin 128) (j : Fin 256)

include R

theorem rel_at (h0 : i.val < j.val) (h1 : j.val ≤ i.val + 128) (h : Fin 4) : relAt V (ix3 i j h) = A.rel (bucket (i.val + 128 - j.val)) h := by
  exact (picked (V (Proc.devRef .tc main_arg11)) (res_main_c_1 V) i j h _ (bucketN_lt _) (bucket_at i j h0 h1)).trans (R.rel _ h)

end Cert.Out.Ref

end
-- ==== Proof.Out.RefLogits.lean ====
/- Entries of the reference's window attention, over any arrays: the masked logits, a row's largest and a row's sum. -/
module

public import proofs.«01_k».proof.Proof.Out.Reference
public import proofs.«01_k».proof.Proof.Common.Sums

@[expose] public section

noncomputable section

namespace Cert.Out.Ref

open Idealize.ShloMosaic Cert.OutGradIdeal Cert.OutGradIdeal.Gen Cert.OutGradIdeal.Value

/-- The sum over the last of six axes. -/
theorem hostSum_6_5 {a b c d e n : ℕ} (h : (⟨6, ![a, b, c, d, e, n]⟩ : Shape).ReducesTo [5] ⟨5, ![a, b, c, d, e]⟩)
    (x : (⟨6, ![a, b, c, d, e, n]⟩ : Shape).Idx → EReal) (z : EReal) (i0 : Fin a) (i1 : Fin b) (i2 : Fin c) (i3 : Fin d) (i4 : Fin e) :
    Ideal.hostReduceAdd h x z (ix5 i0 i1 i2 i3 i4) = z + ∑ p : Fin n, x (ix6 i0 i1 i2 i3 i4 p) := by
  refine Cert.Common.hostSum_of_fiber h x z _ (fun p => ix6 i0 i1 i2 i3 i4 p) (fun k l e => congrFun e 5) ?_
  intro k
  constructor
  · intro e
    exact ⟨k 5, by
      rw [show i0 = k 0 from (congrFun e 0).symm, show i1 = k 1 from (congrFun e 1).symm, show i2 = k 2 from (congrFun e 2).symm,
        show i3 = k 3 from (congrFun e 3).symm, show i4 = k 4 from (congrFun e 4).symm]
      exact (ValueIdx.eq_ix6 k).symm⟩
  · rintro ⟨k, rfl⟩
    funext b
    match b with
    | ⟨0, _⟩ => rfl
    | ⟨1, _⟩ => rfl
    | ⟨2, _⟩ => rfl
    | ⟨3, _⟩ => rfl
    | ⟨4, _⟩ => rfl

/-- The masked logits, of the masks, the keys, the queries and the bias. -/
def logitsOf (L0 : IVec S128x256 1) (L1 : IVec S16x1x256 1) (K : FVec Ideal S2x16x128x2x64 .f32) (Q : FVec Ideal S2x2048x768 .f32)
    (G : FVec Ideal S128x256x4 .f32) : FVec Ideal S2x16x2x2x128x256 .f32 :=
  select (broadcastInDim S2x16x2x2x128x256 ![0, 1, 2, 3, 4, 5] bcast_S1x16x1x1x128x256_S2x16x2x2x128x256_0_1_2_3_4_5 (broadcastInDim S1x16x1x1x128x256 ![1, 4, 5] bcast_S16x128x256_S1x16x1x1x128x256_1_4_5 (andi (broadcastInDim S16x128x256 ![0, 1, 2] bcast_S1x128x256_S16x128x256_0_1_2 (broadcastInDim S1x128x256 ![1, 2] bcast_S128x256_S1x128x256_1_2 L0)) (broadcastInDim S16x128x256 ![0, 1, 2] bcast_S16x1x256_S16x128x256_0_1_2 L1)))) (addf (mulf (transpose S2x16x2x2x128x256 [0, 1, 2, 5, 4, 3] (Host.dotGeneral (φ₁ := .f32) (φ₂ := .f32) dot_S2x16x256x2x64_S2x16x128x2x2x64_S2x16x2x256x128x2_4_5_2_24_013_013 none (concatenate S2x16x256x2x64 2 [⟨S2x16x128x2x64, (concatenate S2x16x128x2x64 1 [⟨S2x1x128x2x64, (broadcastInDim S2x1x128x2x64 ![] bcast_S_S2x1x128x2x64 (constant S_ .f32 0x00000000#32))⟩, ⟨S2x15x128x2x64, (extractStridedSlice S2x15x128x2x64 ![0, 0, 0, 0, 0] K slices_S2x16x128x2x64_S2x15x128x2x64_0_0_0_0_0)⟩] concatenates_S2x1x128x2x64_S2x15x128x2x64_S2x16x128x2x64_d1)⟩, ⟨S2x16x128x2x64, K⟩] concatenates_S2x16x128x2x64_S2x16x128x2x64_S2x16x256x2x64_d2) (shapeCast S2x16x128x2x2x64 (shapeCast S2x2048x4x64 (extractStridedSlice S2x2048x256 ![0, 0, 0] Q slices_S2x2048x768_S2x2048x256_0_0_0) shapeCasts_S2x2048x256_S2x2048x4x64) shapeCasts_S2x2048x4x64_S2x16x128x2x2x64)) transposes_S2x16x2x256x128x2_S2x16x2x2x128x256_0_1_2_5_4_3) (broadcastInDim S2x16x2x2x128x256 ![] bcast_S_S2x16x2x2x128x256 (constant S_ .f32 0x3E000000#32))) (broadcastInDim S2x16x2x2x128x256 ![0, 1, 2, 3, 4, 5] bcast_S1x1x2x2x128x256_S2x16x2x2x128x256_0_1_2_3_4_5 (broadcastInDim S1x1x2x2x128x256 ![2, 3, 4, 5] bcast_S2x2x128x256_S1x1x2x2x128x256_2_3_4_5 (shapeCast S2x2x128x256 (transpose S4x128x256 [2, 0, 1] G transposes_S128x256x4_S4x128x256_2_0_1) shapeCasts_S4x128x256_S2x2x128x256)))) (broadcastInDim S2x16x2x2x128x256 ![] bcast_S_S2x16x2x2x128x256 (id (constant S_ .f32 0xFF800000#32)))

variable (b : Fin 2) (n : Fin 16) (i : Fin 128) (j : Fin 256)

/-- The masked logits' entry, where the mask and the bias are known. -/
theorem logits (L0 : IVec S128x256 1) (L1 : IVec S16x1x256 1) (K : FVec Ideal S2x16x128x2x64 .f32) (Q : FVec Ideal S2x2048x768 .f32)
    (G : FVec Ideal S128x256x4 .f32) (e f : Fin 2) {w0 w1 : BitVec 1} (h0 : L0 (ix2 i j) = w0) (h1 : L1 (ix3 n 0 j) = w1) :
    logitsOf L0 L1 K Q G (ix6 b n e f i j)
      = Scalar.select (IntOp.andi w0 w1)
        ((∑ x : Fin 64, (if h : j.val < 128 then if h' : n.val < 1 then 0 else K (ix5 b ⟨n.val - 1, by omega⟩ ⟨j.val, h⟩ e x) else K (ix5 b n ⟨j.val - 128, by omega⟩ e x))
          * Q (ix3 b ⟨n.val * 128 + i.val, by omega⟩ ⟨e.val * 128 + f.val * 64 + x.val, by omega⟩)) * Ideal.ofBits .f32 0x3E000000#32 + G (ix3 i j ⟨e.val * 2 + f.val, by omega⟩))
        (Ideal.ofBits .f32 0xFF800000#32) := by
  subst h0 h1
  pointwise [logitsOf]
  rfl

/-- The row's largest, and the sink. -/
theorem hostMax_6_5 (x : FVec Ideal S2x16x2x2x128x256 .f32) (e f : Fin 2) :
    Host.reduce FloatOps.maximumf x (constant S_ .f32 0xFF800000#32) reducesTo_S2x16x2x2x128x256_S2x16x2x2x128_d5 h_S_ (ix5 b n e f i) = top fun j => x (ix6 b n e f i j) := by
  pointwise
  refine fold_eq (fun k hk => ?_) (fun j => ⟨ix6 b n e f i j, ?_, rfl⟩)
  · have e' := (Finset.mem_filter.1 hk).2
    refine ⟨k 5, ?_⟩
    rw [show b = k 0 from (congrFun e' 0).symm, show n = k 1 from (congrFun e' 1).symm, show e = k 2 from (congrFun e' 2).symm,
      show f = k 3 from (congrFun e' 3).symm, show i = k 4 from (congrFun e' 4).symm]
    exact congrArg x (ValueIdx.eq_ix6 k)
  · refine Finset.mem_filter.2 ⟨Finset.mem_univ _, ?_⟩
    funext a
    match a with
    | ⟨0, _⟩ => rfl
    | ⟨1, _⟩ => rfl
    | ⟨2, _⟩ => rfl
    | ⟨3, _⟩ => rfl
    | ⟨4, _⟩ => rfl

theorem largest (x : FVec Ideal S2x16x2x2x128 .f32) (y : FVec Ideal S1x1x2x2x1x1 .f32) (e f : Fin 2) (z : Fin 1) :
    maximumf (broadcastInDim S2x16x2x2x128x1 ![0, 1, 2, 3, 4] bcast_S2x16x2x2x128_S2x16x2x2x128x1_0_1_2_3_4 x) (broadcastInDim S2x16x2x2x128x1 ![0, 1, 2, 3, 4, 5] bcast_S1x1x2x2x1x1_S2x16x2x2x128x1_0_1_2_3_4_5 y) (ix6 b n e f i z)
      = max (x (ix5 b n e f i)) (y (ix6 0 0 e f 0 0)) := by
  pointwise

/-- The weights' average of the band's values, of the values, the exponentials, the sinks and the rows' largest. -/
def winOf (Vv : FVec Ideal S2x16x128x2x64 .f32) (W : FVec Ideal S2x16x2x2x128x256 .f32) (S : FVec Ideal S1x1x2x2x1x1 .f32) (Z : FVec Ideal S2x16x2x2x128x1 .f32) :
    FVec Ideal S2x2048x256 .f32 :=
  (shapeCast _ (transpose S2x16x128x2x2x64 [0, 1, 5, 2, 4, 3] (Host.dotGeneral (φ₁ := .f32) (φ₂ := .f32) dot_S2x16x256x2x64_S2x16x2x2x128x256_S2x16x2x64x2x128_2_5_4_34_013_012 none (concatenate S2x16x256x2x64 2 [⟨S2x16x128x2x64, (concatenate S2x16x128x2x64 1 [⟨S2x1x128x2x64, (broadcastInDim S2x1x128x2x64 ![] bcast_S_S2x1x128x2x64 (constant S_ .f32 0x00000000#32))⟩, ⟨S2x15x128x2x64, (extractStridedSlice S2x15x128x2x64 ![0, 0, 0, 0, 0] Vv slices_S2x16x128x2x64_S2x15x128x2x64_0_0_0_0_0)⟩] concatenates_S2x1x128x2x64_S2x15x128x2x64_S2x16x128x2x64_d1)⟩, ⟨S2x16x128x2x64, Vv⟩] concatenates_S2x16x128x2x64_S2x16x128x2x64_S2x16x256x2x64_d2) (Host.divf W (broadcastInDim S2x16x2x2x128x256 ![0, 1, 2, 3, 4, 5] bcast_S2x16x2x2x128x1_S2x16x2x2x128x256_0_1_2_3_4_5 (addf (broadcastInDim S2x16x2x2x128x1 ![0, 1, 2, 3, 4] bcast_S2x16x2x2x128_S2x16x2x2x128x1_0_1_2_3_4 (Host.reduceAdd W (constant S_ .f32 0x00000000#32) reducesTo_S2x16x2x2x128x256_S2x16x2x2x128_d5 h_S_)) (Host.exp (subf (broadcastInDim S2x16x2x2x128x1 ![0, 1, 2, 3, 4, 5] bcast_S1x1x2x2x1x1_S2x16x2x2x128x1_0_1_2_3_4_5 S) Z)))))) transposes_S2x16x2x64x2x128_S2x16x128x2x2x64_0_1_5_2_4_3) shapeCasts_S2x16x128x2x2x64_S2x2048x256)

theorem winOf_at (Vv : FVec Ideal S2x16x128x2x64 .f32) (W : FVec Ideal S2x16x2x2x128x256 .f32) (S : FVec Ideal S1x1x2x2x1x1 .f32) (Z : FVec Ideal S2x16x2x2x128x1 .f32)
    (t : Fin 2048) (c : Fin 256) {e f : Fin 2} {n : Fin 16} {i : Fin 128} {d : Fin 64} (he : e = ⟨c.val / 128, by omega⟩) (hf : f = ⟨c.val / 64 % 2, by omega⟩)
    (hn : n = ⟨t.val / 128, by omega⟩) (hi : i = ⟨t.val % 128, by omega⟩) (hd : d = ⟨c.val % 64, by omega⟩) : winOf Vv W S Z (ix3 b t c)
      = (∑ x : Fin 128, (if h : n.val < 1 then 0 else Vv (ix5 b ⟨n.val - 1, by omega⟩ x e d))
          * Ideal.div (W (ix6 b n e f i ⟨x.val, by omega⟩)) ((∑ p, W (ix6 b n e f i p)) + Ideal.exp (S (ix6 0 0 e f 0 0) - Z (ix6 b n e f i 0))))
        + ∑ x : Fin 128, Vv (ix5 b n x e d)
          * Ideal.div (W (ix6 b n e f i ⟨128 + x.val, by omega⟩)) ((∑ p, W (ix6 b n e f i p)) + Ideal.exp (S (ix6 0 0 e f 0 0) - Z (ix6 b n e f i 0))) := by
  subst he hf hn hi hd
  pointwise [winOf]
  simp only [hostSum_6_5, zero_add]

end Cert.Out.Ref

end
-- ==== Proof.Out.RefWindow.lean ====
/- The attention over the window in the reference: the masked logits, their row's largest, the weights and the average. -/
module

public import proofs.«01_k».proof.Proof.Out.RefBand
public import proofs.«01_k».proof.Proof.Out.RefTables
public import proofs.«01_k».proof.Proof.Out.RefLogits

@[expose] public section

noncomputable section

namespace Cert.Out.Ref

open Idealize.ShloMosaic Cert.OutGradIdeal Cert.OutGradIdeal.Gen Cert.OutGradIdeal.Value

variable {A : Args} {V : Valuation τ sig (Elt Ideal)} (R : Reads A V) (b : Fin 2) (n : Fin 16) (i : Fin 128) (j : Fin 256)

include R

theorem v84_at (i : Fin 128) (e : Fin 2) (d : Fin 64) : res_main_v84 V (ix5 b n i e d) = A.k b (tok n i) e d := by
  pointwise [res_main_v84]
  exact R.qkv ..

theorem v90_at (i : Fin 128) (e : Fin 2) (d : Fin 64) : res_main_v90 V (ix5 b n i e d) = A.v b (tok n i) e d := by
  pointwise [res_main_v90]
  exact R.qkv ..

/-- The head of queries that is `f` of the two at head `e` of keys. -/
def hd (e f : Fin 2) : Fin 4 := ⟨e.val * 2 + f.val, by omega⟩

omit R in
theorem kvh_hd (e f : Fin 2) : Args.kvh (hd e f) = e := Fin.ext (by simp only [Args.kvh, hd]; omega)

theorem v116_at (e f : Fin 2) (z0 z1 z2 z3 : Fin 1) : res_main_v116 V (ix6 z0 z1 e f z2 z3) = A.sink (hd e f) := by
  pointwise [res_main_v116]
  exact R.sink ..

omit R in
theorem v115_eq : res_main_v115 V = logitsOf (fun i => lit0 (S128x256.rowMajor i)) (fun i => lit1 (S16x1x256.rowMajor i)) (res_main_v84 V) (V (Proc.devRef .tc main_arg2)) (relAt V) := rfl

theorem v115_at (e f : Fin 2) : res_main_v115 V (ix6 b n e f i j) = A.logit b n (hd e f) i j := by
  rw [v115_eq]
  refine (logits b n i j _ _ _ _ _ e f (window_at i j) (first_at n j 0)).trans ?_
  simp only [v84_at R, R.qkv]
  rw [Args.logit, Args.bias, Args.first]
  by_cases hw : i.val < j.val ∧ j.val ≤ i.val + 128
  swap
  · rw [if_neg hw, if_neg hw, EReal.add_bot, EReal.bot_add]
    exact (if_neg (by by_cases hf : j.val < 128 ∧ n.val = 0 <;> simp [hf, IntOp.andi])).trans word_bot
  by_cases hf : j.val < 128 ∧ n.val = 0
  · rw [if_pos hf, if_pos hf, EReal.add_bot]
    exact (if_neg (by simp [hw, IntOp.andi])).trans word_bot
  rw [if_pos hw, if_pos hw, if_neg hf, if_neg hf, add_zero]
  refine (if_pos (by simp [IntOp.andi])).trans (congrArg₂ (fun x y : EReal => x + y) ?_ (rel_at R i j hw.1 hw.2 _))
  rw [score, kvh_hd]
  refine congrArg₂ (fun x y : EReal => x * y) (Finset.sum_congr rfl fun d _ => ?_) rfl
  rw [mul_comm]
  refine congrArg₂ (fun x y : EReal => x * y) (congrArg (A.qkv b _) (Fin.ext ?_)) ?_
  · simp only [hd]; omega
  by_cases hj : j.val < 128
  · rw [dif_pos hj, dif_neg (by omega), band_lo n j hj]
  · rw [dif_neg hj, band_hi n j hj]

theorem v120_at (e f : Fin 2) (z : Fin 1) : res_main_v120 V (ix6 b n e f i z) = max (top (A.logit b n (hd e f) i)) (A.sink (hd e f)) := by
  refine (largest b n i _ (res_main_v116 V) e f z).trans ?_
  rw [v116_at R, hostMax_6_5]
  simp only [v115_at R]

theorem v123_at (e f : Fin 2) : res_main_v123 V (ix6 b n e f i j)
    = Ideal.exp (A.logit b n (hd e f) i j - max (top (A.logit b n (hd e f) i)) (A.sink (hd e f))) := by
  pointwise [res_main_v123]
  rw [v115_at R, v120_at R]

omit R in
theorem win_eq : winOut V = winOf (res_main_v90 V) (res_main_v123 V) (res_main_v116 V) (res_main_v120 V) := rfl

theorem win_at (F : A.Real) (t : Fin 2048) (c : Fin 256) :
    winOut V (ix3 b t c) = A.yw b ⟨t.val / 128, by omega⟩ ⟨c.val / 64, by omega⟩ ⟨t.val % 128, by omega⟩ ⟨c.val % 64, by omega⟩ := by
  have hh : hd ⟨c.val / 128, by omega⟩ ⟨c.val / 64 % 2, by omega⟩ = ⟨c.val / 64, by omega⟩ := Fin.ext (by simp only [hd]; omega)
  rw [win_eq, winOf_at b _ _ _ _ t c rfl rfl rfl rfl rfl, yw_split F, ← hh, kvh_hd]
  simp only [v90_at R, v123_at R, v116_at R, v120_at R]
  rfl

end Cert.Out.Ref

end
-- ==== Proof.Out.RefOut.lean ====
/- The reference's gradient at a point, from the three outputs side by side. -/
module

public import proofs.«01_k».proof.Proof.Out.RefGate
public import proofs.«01_k».proof.Proof.Out.RefCross
public import proofs.«01_k».proof.Proof.Out.RefWindow
public import proofs.«01_k».proof.Proof.Out.Flat

@[expose] public section

noncomputable section

namespace Cert.Out.Ref

open Idealize.ShloMosaic Cert.OutGradIdeal Cert.OutGradIdeal.Gen Cert.OutGradIdeal.Value

variable {A : Args} {V : Valuation τ sig (Elt Ideal)} (R : Reads A V) (F : A.Real) (b : Fin 2) (t : Fin 2048)

include R F

theorem ycat_at (c : Fin 1024) : res_main_v157 V (ix3 b t c) = A.ycat b t c := by
  rw [v157_at, Args.ycat]
  by_cases h : c.val < 512
  · rw [dif_pos h, dif_pos h]
    exact gate_at R b t ⟨c.val, h⟩
  · rw [dif_neg h, dif_neg h]
    by_cases h' : c.val < 768
    · rw [dif_pos h', dif_pos (by omega), win_at R b F]
      exact congrArg (A.yw b _ _ _) (Fin.ext (by simp only; omega))
    · rw [dif_neg h', dif_neg (by omega), mem_at R b t F]
      exact congrArg₂ (A.yc b t) (Fin.ext (by simp only; omega)) (Fin.ext (by simp only; omega))

theorem o_at (j : Fin 1024) : res_main_v161 V (ix3 b t j) = A.o b t j := by
  pointwise [res_main_v161]
  simp only [ycat_at R F, R.z, R.wo]
  rfl

theorem err_at (j : Fin 1024) : res_main_v177 V (ix3 b t j) = A.err b t j := by
  pointwise [res_main_v177]
  simp only [o_at R F, R.x, R.tgt, R.g2]
  rfl

omit R F in
theorem scale (e : EReal) : Ideal.div (Ideal.ofBits .f32 0x3F000000#32) (Ideal.ofBits .f32 0x44800000#32)
    * (Ideal.ofBits .f32 0x40000000#32 * e) = e * Ideal.ofBits .f32 0x3A800000#32 := by
  have h1 : (Ideal.ofBits .f32 0x3F000000#32 : EReal) = ((1 / 2 : ℝ) : EReal) := by simp [Ideal.ofBits, Ideal.ieee, -EReal.coe_mul]; norm_num
  have h3 : (Ideal.ofBits .f32 0x44800000#32 : EReal) = ((1024 : ℝ) : EReal) := by simp [Ideal.ofBits, Ideal.ieee, -EReal.coe_mul]; norm_num
  have h4 : (Ideal.ofBits .f32 0x40000000#32 : EReal) = ((2 : ℝ) : EReal) := by simp [Ideal.ofBits, Ideal.ieee, -EReal.coe_mul]; norm_num
  have h5 : (Ideal.ofBits .f32 0x3A800000#32 : EReal) = ((1 / 1024 : ℝ) : EReal) := by simp [Ideal.ofBits, Ideal.ieee, -EReal.coe_mul]; norm_num
  rw [h1, h3, h4, h5, Ideal.div_coe (by norm_num), ← mul_assoc, ← EReal.coe_mul, ← EReal.coe_mul, mul_comm]
  congr 2
  norm_num

/-- The reference's result. -/
theorem dxo_eq : (shapeCast S4096x1024 (mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (res_main_v177 V))) shapeCasts_S2x2048x1024_S4096x1024 : FVec Ideal S4096x1024 .f32)
    = fun i => A.flat (i 0) (i 1) := by
  funext i
  obtain ⟨r, j, rfl⟩ : ∃ (r : Fin 4096) (j : Fin 1024), i = ix2 r j := ⟨i 0, i 1, eq_ix2 i⟩
  pointwise
  simp only [err_at R F]
  exact scale _

end Cert.Out.Ref

end
-- ==== Proof.Out.Claim.lean ====
/- The mixing step's forward call: its frames and its gradient of `x`. -/
module

public import proofs.«01_k».proof.Defs
public import proofs.«01_k».proof.Proof.Out.Outputs
public import proofs.«01_k».proof.Proof.Out.Finite
public import proofs.«01_k».proof.Proof.Out.RefOut
public import proofs.«01_k».proof.Proof.Gen.MixFwd.Frame

@[expose] public section

set_option maxRecDepth 16384

noncomputable section

namespace Cert.Out

open Idealize.ShloMosaic Idealize.ShloMosaic.TcCoe Idealize.SL.Sem

/-- Under the precondition what the softmaxes read is real. -/
theorem real (m : (ℓ : Loc MixFwdIdeal.nD MixFwdIdeal.τ MixFwdIdeal.sig) → Buf (Elt Ideal) ℓ) (h : Pre_MixFwdIdeal_attn_finite m)
    (c : Dev MixFwdIdeal.nD) : (args m c).Real := by
  obtain ⟨h2, h3, h10, h11⟩ := real_of_attn (h c)
  exact ⟨fun _ _ _ => ⟨_, h2 _⟩, fun _ _ _ => ⟨_, h3 _⟩, fun _ => ⟨_, h10 _⟩, fun _ _ => ⟨_, h11 _⟩⟩

theorem frame_kernel : Cert.quiescent_MixFwd := fun m ρ _ => Cert.MixFwd.Gen.frame m ρ

theorem frame_ideal : Cert.quiescent_MixFwdIdeal := fun m ρ _ => Cert.MixFwdIdeal.Gen.frame m ρ

theorem frame_ideal_attn : Cert.quiescent_MixFwdIdeal_pre_attn_finite := fun m ρ _ => Cert.MixFwdIdeal.Gen.frame m ρ

theorem frame_reference : Cert.quiescent_OutGradIdeal := by
  intro m g _
  exact (θ_run Cert.OutGradIdeal.defs _ _).mono (fun r h => ⟨fun c => (h c).2, sem_eq_zero_of_no_sems (by decide) r.2⟩)
    (Cert.OutGradIdeal.Value.run m g)

theorem frame_reference_attn : Cert.quiescent_OutGradIdeal_pre_attn_finite := fun m g _ => frame_reference m g trivial

theorem preserves : Cert.preserves_MixFwd_MixFwdIdeal :=
  ⟨IdealRules.named_const.statement MixFwdIdeal.κ "gelu_a" .f32 0x3D372713#32 _ rfl,
    IdealRules.named_const.statement MixFwdIdeal.κ "neg" .f32 0xF149F2CA#32 _ rfl⟩

/-- Kernel and derivative of the forward lines compute the same gradient where what the softmaxes read is real. -/
theorem algebraic : Cert.algebraic_MixFwdIdeal_OutGradIdeal_pre_attn_finite := by
  intro m g m' g' hpre hagree
  refine ⟨fun c => flat (args m c), (θ_run _ _ _).mono (fun r h c => ?_) (Cert.MixFwdIdeal.Value.run_blocks m g),
    (θ_run _ _ _).mono (fun r h c => ?_) (Cert.OutGradIdeal.Value.run m' g')⟩
  · obtain ⟨-, -, h2, -, -, -, hargs⟩ := h c
    exact ⟨h2.trans (kernel_dxo m c), hargs⟩
  · obtain ⟨e0, e1, e2, e3, e4, e5, e6, e7, e8, e9, e10, e11, e12, e13⟩ := hagree c
    have R : Ref.Reads (args m c) (StableHlo.launchContents m' c) :=
      ⟨fun _ _ _ => congrFun e0 _, fun _ _ _ => congrFun e1 _, fun _ _ _ => congrFun e2 _, fun _ _ _ => congrFun e3 _, fun _ _ _ => congrFun e4 _,
        fun _ _ _ => congrFun e5 _, fun _ => congrFun e6 _, fun _ => congrFun e7 _, fun _ _ _ => congrFun e8 _, fun _ _ => congrFun e9 _,
        fun _ => congrFun e10 _, fun _ _ => congrFun e11 _, fun _ => congrFun e12 _, fun _ _ => congrFun e13 _⟩
    obtain ⟨h0, hargs⟩ := h c
    exact ⟨h0.trans (Ref.dxo_eq R (real m hpre c)), hargs⟩

end Cert.Out

end
-- ==== Proof.Fwd.Spec.lean ====
/- One entry of a norm's projection: a row of 1024 features, normed and scaled, against a column of the weight. -/
module

public import Idealize.ShloMosaic.Lib.Pointwise
public import Idealize.ShloMosaic.PureOps.Ideal.Laws

@[expose] public section

set_option maxRecDepth 16384

noncomputable section

namespace Cert.Fwd

open Idealize.ShloMosaic

/-- A row `x` over its root mean square, times the gain `g`, against the column `w`. -/
def proj (x g w : Fin 1024 → EReal) : EReal :=
  ∑ k, x k * Ideal.rsqrt (Ideal.div (∑ j, x j * x j) (Ideal.ofBits .f32 0x44800000#32) + Ideal.ofBits .f32 0x358637BD#32) * g k * w k

/-- Row `r` of the two memories laid one after the other, projected to column `n`. -/
def mem (x : (⟨3, ![2, 256, 1024]⟩ : Shape).Idx → EReal) (g : (⟨2, ![1, 1024]⟩ : Shape).Idx → EReal) (w : (⟨3, ![1, 1024, 512]⟩ : Shape).Idx → EReal)
    (r n : Fin 512) : EReal :=
  proj (fun k => x (ix3 (⟨r.val / 256, by omega⟩ : Fin 2) (⟨r.val % 256, by omega⟩ : Fin 256) k)) (fun k => g (ix2 0 k)) fun k => w (ix3 0 k n)

/-- Row `r` of the two sequences laid one after the other, projected to column `n`. -/
def seq (x : (⟨3, ![2, 2048, 1024]⟩ : Shape).Idx → EReal) (g : (⟨2, ![1, 1024]⟩ : Shape).Idx → EReal) (w : (⟨3, ![1, 1024, 2816]⟩ : Shape).Idx → EReal)
    (r : Fin 4096) (n : Fin 2816) : EReal :=
  proj (fun k => x (ix3 (⟨r.val / 2048, by omega⟩ : Fin 2) (⟨r.val % 2048, by omega⟩ : Fin 2048) k)) (fun k => g (ix2 0 k)) fun k => w (ix3 0 k n)

/-- The projection's `n` columns from `o` on. -/
def part (o n : ℕ) (h : o + n ≤ 2816) (x : (⟨3, ![2, 2048, 1024]⟩ : Shape).Idx → EReal) (g : (⟨2, ![1, 1024]⟩ : Shape).Idx → EReal)
    (w : (⟨3, ![1, 1024, 2816]⟩ : Shape).Idx → EReal) (i : (⟨2, ![4096, n]⟩ : Shape).Idx) : EReal :=
  seq x g w (i 0) ⟨(i 1).val + o, by have : (i 1).val < n := (i 1).isLt; omega⟩

end Cert.Fwd

end
-- ==== Proof.Fwd.MemKernel.lean ====
/- The memory's projection as the kernel's one grid point computes it. -/
module

public import proofs.«01_k».proof.Proof.Gen.MemFwdIdeal.Value
public import proofs.«01_k».proof.Proof.Fwd.Spec
public import Idealize.ShloMosaic.Lib.Pipeline.ValueKit

@[expose] public section

set_option maxRecDepth 16384

noncomputable section

namespace Cert.Fwd.Mem

open Idealize.ShloMosaic Idealize.ShloMosaic.TcCoe Idealize.SL.Sem
open Cert.MemFwdIdeal Cert.MemFwdIdeal.Gen

variable (m : (ℓ : Loc nD τ sig) → Buf (Elt Ideal) ℓ) (c : Dev nD)

theorem idx : ∀ t : Fin grid0.N, win0_0.index t = ![0, 0] ∧ win0_1.index t = ![0, 0] ∧ win0_2.index t = ![0, 0] ∧ win0_3.index t = ![0, 0] := by
  decide +kernel

theorem read_x (t : Fin cfg0.N) (r : Fin 512) (k : Fin 1024) :
    iblk m c 0 t (ix2 r k) = m ((c : Thread nD τ).loc main_arg0) (ix3 (⟨r.val / 256, by omega⟩ : Fin 2) (⟨r.val % 256, by omega⟩ : Fin 256) k) := by
  blk_simp [iblk]; entry_read; pointwise; blk_ext [idx t]

theorem read_g (t : Fin cfg0.N) (a : Fin 1) (k : Fin 1024) : iblk m c 1 t (ix2 a k) = m ((c : Thread nD τ).loc main_arg1) (ix2 0 k) := by
  blk_ext [iblk, V, idx t]

theorem read_w (t : Fin cfg0.N) (k : Fin 1024) (n : Fin 512) : iblk m c 2 t (ix2 k n) = m ((c : Thread nD τ).loc main_arg2) (ix3 0 k n) := by
  blk_simp [iblk]; entry_read; pointwise; blk_ext [idx t]

/-- The kernel's result. -/
theorem kernel_mem : (dats m 0 c).arrAt 3 cfg0.N = fun i : S512x512.Idx =>
    mem (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  obtain ⟨r, n, rfl⟩ : ∃ (r n : Fin 512), y = ix2 r n := ⟨y 0, y 1, eq_ix2 y⟩
  have e : ((View.whole main_v3).slice (win0_3.rect t)).emb (ix2 r n) = ix2 r n := by
    blk_ext [idx t]
  blk_simp
  rw [after0_3]
  frame_out
  pointwise [k0_pay1]
  rw [e]
  simp only [read_x, read_g, read_w]
  rfl

end Cert.Fwd.Mem

end
-- ==== Proof.Fwd.MemReference.lean ====
/- The memory's projection as the plain lines compute it. -/
module

public import proofs.«01_k».proof.Proof.Gen.MemKvIdeal.Run
public import proofs.«01_k».proof.Proof.Fwd.Spec

@[expose] public section

set_option maxRecDepth 16384

noncomputable section

namespace Cert.Fwd.Mem

open Idealize.ShloMosaic Idealize.ShloMosaic.TcCoe Idealize.SL.Sem
open Cert.MemKvIdeal Cert.MemKvIdeal.Gen

variable (x : FVec Ideal S2x256x1024 .f32) (g : FVec Ideal S1x1024 .f32) (w : FVec Ideal S1x1024x512 .f32)

/-- The normed and scaled tokens as the reference's operations compute them. -/
def normed : FVec Ideal S2x256x1024 .f32 :=
  mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast S1024 g shapeCasts_S1x1024_S1024)))

theorem reference_mem : (truncf .bf16 (shapeCast S512x512 (Host.dotGeneral dot_S2x256x1024_S1024x512_S2x256x512_2_0_01_1_n_n none (normed x g) (shapeCast S1024x512 w shapeCasts_S1x1024x512_S1024x512)) shapeCasts_S2x256x512_S512x512) bitsLt_bf16_f32 : FVec Ideal S512x512 .bf16)
    = fun i => mem x g w (i 0) (i 1) := by
  funext i
  obtain ⟨r, n, rfl⟩ : ∃ (r n : Fin 512), i = ix2 r n := ⟨i 0, i 1, eq_ix2 i⟩
  pointwise [normed]
  rfl

end Cert.Fwd.Mem

end
-- ==== Proof.Fwd.MemClaim.lean ====
/- The claims about the memory's projection. -/
module

public import proofs.«01_k».proof.Defs
public import proofs.«01_k».proof.Proof.Gen.MemFwd.Frame
public import proofs.«01_k».proof.Proof.Fwd.MemKernel
public import proofs.«01_k».proof.Proof.Fwd.MemReference
public import Idealize.ShloMosaic.Lib.Claim

@[expose] public section

noncomputable section

namespace Cert.Fwd.Mem

open Idealize.ShloMosaic Idealize.SL.Sem

theorem frame_kernel : Cert.quiescent_MemFwd := fun m ρ _ => Cert.MemFwd.Gen.frame m ρ

theorem frame_ideal : Cert.quiescent_MemFwdIdeal := fun m ρ _ => Cert.MemFwdIdeal.Gen.frame m ρ

theorem frame_reference : Cert.quiescent_MemKvIdeal := by
  intro m g _
  exact (θ_run Cert.MemKvIdeal.defs _ _).mono
    (fun r h => ⟨fun c => (h c).2, sem_eq_zero_of_no_sems (by decide) r.2⟩) (Cert.MemKvIdeal.Value.run m g)

/-- Kernel and reference compute the same projection of the memory, on all extended reals. -/
theorem algebraic : Cert.algebraic_MemFwdIdeal_MemKvIdeal := by
  intro m g m' g' _ hagree
  refine ⟨fun c i => mem (m (c.tc.loc MemFwdIdeal.main_arg0)) (m (c.tc.loc MemFwdIdeal.main_arg1)) (m (c.tc.loc MemFwdIdeal.main_arg2)) (i 0) (i 1),
    (θ_run _ _ _).mono (fun r h c => ?_) (Cert.MemFwdIdeal.Value.run_blocks m g),
    (θ_run _ _ _).mono (fun r h c => ?_) (Cert.MemKvIdeal.Value.run m' g')⟩
  · exact ⟨(h c).1.trans (kernel_mem m c), (h c).2⟩
  · obtain ⟨e0, e1, e2⟩ := hagree c
    refine ⟨(h c).1.trans ((reference_mem _ _ _).trans ?_), (h c).2⟩
    rw [e0, e1, e2]
    rfl

end Cert.Fwd.Mem

end
-- ==== Proof.Fwd.InKernel.lean ====
/- The input projection as the kernel's eight grid points compute it, 512 rows at each. -/
module

public import proofs.«01_k».proof.Proof.Gen.InFwdIdeal.Value
public import proofs.«01_k».proof.Proof.Fwd.Spec
public import Idealize.ShloMosaic.Lib.Pipeline.ValueKit

@[expose] public section

set_option maxRecDepth 16384

noncomputable section

namespace Cert.Fwd.In

open Idealize.ShloMosaic Idealize.ShloMosaic.TcCoe Idealize.SL.Sem
open Cert.InFwdIdeal Cert.InFwdIdeal.Gen

variable (m : (ℓ : Loc nD τ sig) → Buf (Elt Ideal) ℓ) (c : Dev nD)

theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := by
  decide +kernel

theorem point_lt (t : Fin cfg0.N) : t.val < 8 := t.isLt

/-- Row `s` of a point, among all rows. -/
def row (t : Fin cfg0.N) (s : Fin 512) : Fin 4096 := ⟨t.val * 512 + s.val, by have := point_lt t; omega⟩

theorem read_x (t : Fin cfg0.N) (s : Fin 512) (k : Fin 1024) : iblk m c 0 t (ix2 s k)
    = m ((c : Thread nD τ).loc main_arg0) (ix3 (⟨(row t s).val / 2048, by omega⟩ : Fin 2) (⟨(row t s).val % 2048, by omega⟩ : Fin 2048) k) := by
  blk_simp [iblk]; entry_read; pointwise; blk_ext [idx t, row]

theorem read_g (t : Fin cfg0.N) (a : Fin 1) (k : Fin 1024) : iblk m c 1 t (ix2 a k) = m ((c : Thread nD τ).loc main_arg1) (ix2 0 k) := by
  blk_ext [iblk, V, idx t]

theorem read_w (t : Fin cfg0.N) (n : Fin 2816) (k : Fin 1024) : iblk m c 2 t (ix2 n k) = m ((c : Thread nD τ).loc main_arg2) (ix3 0 k n) := by
  blk_simp [iblk]; entry_read; pointwise; blk_ext [idx t]

/-- The inputs u and v of the spatial gating. -/
theorem kernel_uv : (dats m 0 c).arrAt 3 cfg0.N
    = part 0 1024 (by decide) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨s, n, rfl⟩ : ∃ (s : Fin 512) (n : Fin 1024), y = ix2 s n := ⟨y 0, y 1, eq_ix2 y⟩
  have e : ((View.whole main_v4_0).slice (win0_3.rect t)).emb (ix2 s n) = ix2 (row t s) n := by
    blk_ext [idx t, row]
  blk_simp
  rw [after0_3]
  refine Eq.trans ?_ (congrArg (part 0 1024 _ _ _ _) e).symm
  change _ = seq _ _ _ (row t s) ⟨n.val + 0, _⟩
  frame_out
  pointwise [k0_pay1, k0_pay2]
  simp only [read_x, read_g, read_w]
  rfl

/-- The queries, keys and values. -/
theorem kernel_qkv : (dats m 0 c).arrAt 4 cfg0.N
    = part 1024 768 (by decide) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨s, n, rfl⟩ : ∃ (s : Fin 512) (n : Fin 768), y = ix2 s n := ⟨y 0, y 1, eq_ix2 y⟩
  have e : ((View.whole main_v4_1).slice (win0_4.rect t)).emb (ix2 s n) = ix2 (row t s) n := by
    blk_ext [idx t, row]
  blk_simp
  rw [after0_4]
  refine Eq.trans ?_ (congrArg (part 1024 768 _ _ _ _) e).symm
  change _ = seq _ _ _ (row t s) ⟨n.val + 1024, _⟩
  frame_out
  pointwise [k0_pay1, k0_pay3]
  simp only [read_x, read_g, read_w, Nat.add_comm 1024]
  rfl

/-- The inputs z of the output's gate. -/
theorem kernel_z : (dats m 0 c).arrAt 5 cfg0.N
    = part 1792 1024 (by decide) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨s, n, rfl⟩ : ∃ (s : Fin 512) (n : Fin 1024), y = ix2 s n := ⟨y 0, y 1, eq_ix2 y⟩
  have e : ((View.whole main_v4_2).slice (win0_5.rect t)).emb (ix2 s n) = ix2 (row t s) n := by
    blk_ext [idx t, row]
  blk_simp
  rw [after0_5]
  refine Eq.trans ?_ (congrArg (part 1792 1024 _ _ _ _) e).symm
  change _ = seq _ _ _ (row t s) ⟨n.val + 1792, _⟩
  frame_out
  pointwise [k0_pay1, k0_pay4]
  simp only [read_x, read_g, read_w, Nat.add_comm 1792]
  rfl

end Cert.Fwd.In

end
-- ==== Proof.Fwd.InReference.lean ====
/- The input projection as the plain lines compute it. -/
module

public import proofs.«01_k».proof.Proof.Gen.InProjIdeal.Run
public import proofs.«01_k».proof.Proof.Fwd.Spec

@[expose] public section

set_option maxRecDepth 16384

noncomputable section

namespace Cert.Fwd.In

open Idealize.ShloMosaic Idealize.ShloMosaic.TcCoe Idealize.SL.Sem
open Cert.InProjIdeal Cert.InProjIdeal.Gen

variable (x : FVec Ideal S2x2048x1024 .f32) (g : FVec Ideal S1x1024 .f32) (w : FVec Ideal S1x1024x2816 .f32)

/-- All columns of the projection, as the reference's operations compute them. -/
def projected : FVec Ideal S2x2048x2816 .f32 :=
  Host.dotGeneral dot_S2x2048x1024_S1024x2816_S2x2048x2816_2_0_01_1_n_n none (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast S1024 g shapeCasts_S1x1024_S1024)))) (shapeCast S1024x2816 w shapeCasts_S1x1024x2816_S1024x2816)

theorem projected_at (b : Fin 2) (t : Fin 2048) (n : Fin 2816) : projected x g w (ix3 b t n)
    = proj (fun k => x (ix3 b t k)) (fun k => g (ix2 0 k)) fun k => w (ix3 0 k n) := by
  pointwise [projected]
  rfl

theorem reference_uv : (shapeCast S4096x1024 (extractStridedSlice S2x2048x1024 ![0, 0, 0] (projected x g w) slices_S2x2048x2816_S2x2048x1024_0_0_0) shapeCasts_S2x2048x1024_S4096x1024 : FVec Ideal S4096x1024 .f32)
    = part 0 1024 (by decide) x g w := by
  funext i
  obtain ⟨r, n, rfl⟩ : ∃ (r : Fin 4096) (n : Fin 1024), i = ix2 r n := ⟨i 0, i 1, eq_ix2 i⟩
  have h := projected_at x g w
  generalize projected x g w = P at h ⊢
  pointwise
  rw [h]
  rfl

theorem reference_qkv : (truncf .bf16 (shapeCast S4096x768 (extractStridedSlice S2x2048x768 ![0, 0, 1024] (projected x g w) slices_S2x2048x2816_S2x2048x768_0_0_1024) shapeCasts_S2x2048x768_S4096x768) bitsLt_bf16_f32 : FVec Ideal S4096x768 .bf16)
    = part 1024 768 (by decide) x g w := by
  funext i
  obtain ⟨r, n, rfl⟩ : ∃ (r : Fin 4096) (n : Fin 768), i = ix2 r n := ⟨i 0, i 1, eq_ix2 i⟩
  have h := projected_at x g w
  generalize projected x g w = P at h ⊢
  pointwise
  simp only [h, Nat.add_comm 1024]
  rfl

theorem reference_z : (shapeCast S4096x1024 (extractStridedSlice S2x2048x1024 ![0, 0, 1792] (projected x g w) slices_S2x2048x2816_S2x2048x1024_0_0_1792) shapeCasts_S2x2048x1024_S4096x1024 : FVec Ideal S4096x1024 .f32)
    = part 1792 1024 (by decide) x g w := by
  funext i
  obtain ⟨r, n, rfl⟩ : ∃ (r : Fin 4096) (n : Fin 1024), i = ix2 r n := ⟨i 0, i 1, eq_ix2 i⟩
  have h := projected_at x g w
  generalize projected x g w = P at h ⊢
  pointwise
  simp only [h, Nat.add_comm 1792]
  rfl

end Cert.Fwd.In

end
-- ==== Proof.Fwd.InClaim.lean ====
/- The claims about the input projection. -/
module

public import proofs.«01_k».proof.Defs
public import proofs.«01_k».proof.Proof.Gen.InFwd.Frame
public import proofs.«01_k».proof.Proof.Fwd.InKernel
public import proofs.«01_k».proof.Proof.Fwd.InReference
public import Idealize.ShloMosaic.Lib.Claim

@[expose] public section

noncomputable section

namespace Cert.Fwd.In

open Idealize.ShloMosaic Idealize.SL.Sem

theorem frame_kernel : Cert.quiescent_InFwd := fun m ρ _ => Cert.InFwd.Gen.frame m ρ

theorem frame_ideal : Cert.quiescent_InFwdIdeal := fun m ρ _ => Cert.InFwdIdeal.Gen.frame m ρ

theorem frame_reference : Cert.quiescent_InProjIdeal := by
  intro m g _
  exact (θ_run Cert.InProjIdeal.defs _ _).mono
    (fun r h => ⟨fun c => (h c).2.2.2, sem_eq_zero_of_no_sems (by decide) r.2⟩) (Cert.InProjIdeal.Value.run m g)

/-- Kernel and reference compute the same three parts of the projection, on all extended reals. -/
theorem algebraic : Cert.algebraic_InFwdIdeal_InProjIdeal := by
  intro m g m' g' _ hagree
  refine ⟨fun c => part 0 1024 (by decide) (m (c.tc.loc InFwdIdeal.main_arg0)) (m (c.tc.loc InFwdIdeal.main_arg1)) (m (c.tc.loc InFwdIdeal.main_arg2)),
    fun c => part 1024 768 (by decide) (m (c.tc.loc InFwdIdeal.main_arg0)) (m (c.tc.loc InFwdIdeal.main_arg1)) (m (c.tc.loc InFwdIdeal.main_arg2)),
    fun c => part 1792 1024 (by decide) (m (c.tc.loc InFwdIdeal.main_arg0)) (m (c.tc.loc InFwdIdeal.main_arg1)) (m (c.tc.loc InFwdIdeal.main_arg2)),
    (θ_run _ _ _).mono (fun r h c => ?_) (Cert.InFwdIdeal.Value.run_blocks m g),
    (θ_run _ _ _).mono (fun r h c => ?_) (Cert.InProjIdeal.Value.run m' g')⟩
  · exact ⟨(h c).1.trans (kernel_uv m c), (h c).2.1.trans (kernel_qkv m c), (h c).2.2.1.trans (kernel_z m c), (h c).2.2.2⟩
  · obtain ⟨e0, e1, e2⟩ := hagree c
    refine ⟨(h c).1.trans ((reference_uv _ _ _).trans ?_), (h c).2.1.trans ((reference_qkv _ _ _).trans ?_),
      (h c).2.2.1.trans ((reference_z _ _ _).trans ?_), (h c).2.2.2⟩ <;> rw [e0, e1, e2]

end Cert.Fwd.In

end
-- ==== Proof.lean ====
module

public import proofs.«01_k».proof.Defs
public import proofs.«01_k».proof.Proof.Gen.MemBwd.Frame
public import proofs.«01_k».proof.Proof.Gen.MemBwdIdeal.Value
public import proofs.«01_k».proof.Proof.Gen.MemGradIdeal.Run
public import proofs.«01_k».proof.Proof.Mem.Claim
public import proofs.«01_k».proof.Proof.Gen.MixBwd.Frame
public import proofs.«01_k».proof.Proof.Gen.MixBwdIdeal.Value
public import proofs.«01_k».proof.Proof.Gen.MixGradIdeal.Run
public import proofs.«01_k».proof.Proof.Mix.Claim
public import proofs.«01_k».proof.Proof.Gen.InBwd.Frame
public import proofs.«01_k».proof.Proof.Gen.InBwdIdeal.Value
public import proofs.«01_k».proof.Proof.Gen.InGradIdeal.Run
public import proofs.«01_k».proof.Proof.In.Claim
public import proofs.«01_k».proof.Proof.Gen.MixFwd.Frame
public import proofs.«01_k».proof.Proof.Gen.MixFwdIdeal.Value
public import proofs.«01_k».proof.Proof.Gen.OutGradIdeal.Run
public import proofs.«01_k».proof.Proof.Out.Claim
public import proofs.«01_k».proof.Proof.Gen.MemFwd.Frame
public import proofs.«01_k».proof.Proof.Gen.MemFwdIdeal.Value
public import proofs.«01_k».proof.Proof.Gen.MemKvIdeal.Run
public import proofs.«01_k».proof.Proof.Fwd.MemClaim
public import proofs.«01_k».proof.Proof.Gen.InFwd.Frame
public import proofs.«01_k».proof.Proof.Gen.InFwdIdeal.Value
public import proofs.«01_k».proof.Proof.Gen.InProjIdeal.Run
public import proofs.«01_k».proof.Proof.Fwd.InClaim

@[expose] public section

noncomputable section

namespace Cert.Proof

theorem claim : Cert.Claim := ⟨Cert.MemBwd.Gen.facts, Cert.MemBwdIdeal.Gen.facts, Cert.MemGradIdeal.Gen.facts,
  Cert.MixBwd.Gen.facts, Cert.MixBwdIdeal.Gen.facts, Cert.MixGradIdeal.Gen.facts,
  Cert.InBwd.Gen.facts, Cert.InBwdIdeal.Gen.facts, Cert.InGradIdeal.Gen.facts,
  Cert.MixFwd.Gen.facts, Cert.MixFwdIdeal.Gen.facts, Cert.OutGradIdeal.Gen.facts,
  Cert.MemFwd.Gen.facts, Cert.MemFwdIdeal.Gen.facts, Cert.MemKvIdeal.Gen.facts,
  Cert.InFwd.Gen.facts, Cert.InFwdIdeal.Gen.facts, Cert.InProjIdeal.Gen.facts, Cert.Mix.finite_facts, Cert.Out.attn_facts,
  Cert.Mem.frame_kernel, Cert.Mem.frame_ideal, Cert.Mem.frame_reference, Cert.Mix.frame_kernel, Cert.Mix.frame_ideal,
  Cert.Mix.frame_ideal_finite, Cert.Mix.frame_reference, Cert.Mix.frame_reference_finite,
  Cert.In.frame_kernel, Cert.In.frame_ideal, Cert.In.frame_reference,
  Cert.Out.frame_kernel, Cert.Out.frame_ideal, Cert.Out.frame_ideal_attn, Cert.Out.frame_reference, Cert.Out.frame_reference_attn,
  Cert.Fwd.Mem.frame_kernel, Cert.Fwd.Mem.frame_ideal, Cert.Fwd.Mem.frame_reference,
  Cert.Fwd.In.frame_kernel, Cert.Fwd.In.frame_ideal, Cert.Fwd.In.frame_reference,
  trivial, Cert.Mem.algebraic, Cert.Mix.preserves, Cert.Mix.algebraic, trivial, Cert.In.algebraic,
  Cert.Out.preserves, Cert.Out.algebraic, trivial, Cert.Fwd.Mem.algebraic, trivial, Cert.Fwd.In.algebraic⟩

end Cert.Proof

end
